-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v55) = v3 c
          ∧ r.2.mem ((c.tc : Thread Cert.ReferenceIdeal.nD Cert.ReferenceIdeal.τ).loc Cert.ReferenceIdeal.main_v58) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_v38) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v46) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v66) = v0 c
          ∧ r.2.mem ((c.tc : Thread Cert.Reference5Ideal.nD Cert.Reference5Ideal.τ).loc Cert.Reference5Ideal.main_v68) = v1 c
          ∧ r.2.mem ((c.tc : Thread Cert.Reference5Ideal.nD Cert.Reference5Ideal.τ).loc Cert.Reference5Ideal.main_v70) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v13_0)) (v1 : (c : Dev Cert.Kernel6Ideal.nD) → Buf (Elt Ideal) ((c.tc : Thread Cert.Kernel6Ideal.nD Cert.Kernel6Ideal.τ).loc Cert.Kernel6Ideal.main_v13_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13_0) = v0 c
          ∧ r.2.mem ((c.tc : Thread Cert.Kernel6Ideal.nD Cert.Kernel6Ideal.τ).loc Cert.Kernel6Ideal.main_v13_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v50) = v0 c
          ∧ r.2.mem ((c.tc : Thread Cert.Reference6Ideal.nD Cert.Reference6Ideal.τ).loc Cert.Reference6Ideal.main_v51) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_v13) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v67) = v0 c
          ∧ r.2.mem ((c.tc : Thread Cert.Reference8Ideal.nD Cert.Reference8Ideal.τ).loc Cert.Reference8Ideal.main_v70) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v8_0)) (v1 : (c : Dev Cert.Kernel9Ideal.nD) → Buf (Elt Ideal) ((c.tc : Thread Cert.Kernel9Ideal.nD Cert.Kernel9Ideal.τ).loc Cert.Kernel9Ideal.main_v8_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8_0) = v0 c
          ∧ r.2.mem ((c.tc : Thread Cert.Kernel9Ideal.nD Cert.Kernel9Ideal.τ).loc Cert.Kernel9Ideal.main_v8_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v37) = v0 c
          ∧ r.2.mem ((c.tc : Thread Cert.Reference9Ideal.nD Cert.Reference9Ideal.τ).loc Cert.Reference9Ideal.main_v38) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_v5) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0))

def preserves_Kernel11_Kernel11Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
-- ==== Kernel.lean ====
abbrev S8192x2048 : Shape := ⟨2, ![8192, 2048]⟩
abbrev S1x2048x11008 : Shape := ⟨3, ![1, 2048, 11008]⟩
abbrev S1x5504x2048 : Shape := ⟨3, ![1, 5504, 2048]⟩
abbrev S1x3x5504 : Shape := ⟨3, ![1, 3, 5504]⟩
abbrev S1x5504 : Shape := ⟨2, ![1, 5504]⟩
abbrev S2048x11008 : Shape := ⟨2, ![2048, 11008]⟩
abbrev S5504x2048 : Shape := ⟨2, ![5504, 2048]⟩
abbrev S3x5504 : Shape := ⟨2, ![3, 5504]⟩
abbrev S_ : Shape := ⟨0, ![]⟩
abbrev S3x5632 : Shape := ⟨2, ![3, 5632]⟩
abbrev S1x5632 : Shape := ⟨2, ![1, 5632]⟩
abbrev S8192x5632 : Shape := ⟨2, ![8192, 5632]⟩
abbrev S4x2x5632 : Shape := ⟨3, ![4, 2, 5632]⟩
abbrev S2048x5632 : Shape := ⟨2, ![2048, 5632]⟩
abbrev S5632x2048 : Shape := ⟨2, ![5632, 2048]⟩
abbrev S2048x2048 : Shape := ⟨2, ![2048, 2048]⟩
abbrev S2048x512 : Shape := ⟨2, ![2048, 512]⟩
abbrev S512x2048 : Shape := ⟨2, ![512, 2048]⟩
abbrev S3x512 : Shape := ⟨2, ![3, 512]⟩
abbrev S1x512 : Shape := ⟨2, ![1, 512]⟩
abbrev S1x2x512 : Shape := ⟨3, ![1, 2, 512]⟩
abbrev S8x512 : Shape := ⟨2, ![8, 512]⟩
abbrev S2048x384 : Shape := ⟨2, ![2048, 384]⟩
abbrev S2048x128 : Shape := ⟨2, ![2048, 128]⟩
abbrev S512x1 : Shape := ⟨2, ![512, 1]⟩
abbrev S8x1 : Shape := ⟨2, ![8, 1]⟩
abbrev S512x512 : Shape := ⟨2, ![512, 512]⟩
abbrev S504x512 : Shape := ⟨2, ![504, 512]⟩
abbrev S2x512 : Shape := ⟨2, ![2, 512]⟩

abbrev nBuf : Space → Nat
  | .hbm => 19
  | .vmem => 23
  | .smem => 0
  | _ => 0

abbrev bufTy : (tb : Table) → Fin (tcTables nBuf tb) → BufTy
  | .hbm, ⟨0, _⟩ => ⟨S8192x2048, .bf16⟩
  | .hbm, ⟨1, _⟩ => ⟨S1x2048x11008, .f32⟩
  | .hbm, ⟨2, _⟩ => ⟨S1x5504x2048, .f32⟩
  | .hbm, ⟨3, _⟩ => ⟨S1x3x5504, .f32⟩
  | .hbm, ⟨4, _⟩ => ⟨S1x5504, .f32⟩
  | .hbm, ⟨5, _⟩ => ⟨S2048x11008, .f32⟩
  | .hbm, ⟨6, _⟩ => ⟨S5504x2048, .f32⟩
  | .hbm, ⟨7, _⟩ => ⟨S3x5504, .f32⟩
  | .hbm, ⟨8, _⟩ => ⟨S_, .i32⟩
  | .hbm, ⟨9, _⟩ => ⟨S_, .f32⟩
  | .hbm, ⟨10, _⟩ => ⟨S3x5632, .f32⟩
  | .hbm, ⟨11, _⟩ => ⟨S_, .i32⟩
  | .hbm, ⟨12, _⟩ => ⟨S_, .f32⟩
  | .hbm, ⟨13, _⟩ => ⟨S1x5632, .f32⟩
  | .hbm, ⟨14, _⟩ => ⟨S8192x5632, .bf16⟩
  | .hbm, ⟨15, _⟩ => ⟨S4x2x5632, .f32⟩
  | .hbm, ⟨16, _⟩ => ⟨S2048x5632, .bf16⟩
  | .hbm, ⟨17, _⟩ => ⟨S2048x5632, .bf16⟩
  | .hbm, ⟨18, _⟩ => ⟨S5632x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S512x2048, .f32⟩
  | .local _ .vmem, ⟨7, _⟩ => ⟨S512x2048, .f32⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S2048x512, .bf16⟩
  | .local _ .vmem, ⟨13, _⟩ => ⟨S2048x512, .bf16⟩
  | .local _ .vmem, ⟨14, _⟩ => ⟨S1x2x512, .f32⟩
  | .local _ .vmem, ⟨15, _⟩ => ⟨S1x2x512, .f32⟩
  | .local _ .vmem, ⟨16, _⟩ => ⟨S2048x512, .bf16⟩
  | .local _ .vmem, ⟨17, _⟩ => ⟨S2048x512, .bf16⟩
  | .local _ .vmem, ⟨18, _⟩ => ⟨S2048x512, .bf16⟩
  | .local _ .vmem, ⟨19, _⟩ => ⟨S2048x512, .bf16⟩
  | .local _ .vmem, ⟨20, _⟩ => ⟨S512x2048, .bf16⟩
  | .local _ .vmem, ⟨21, _⟩ => ⟨S512x2048, .bf16⟩
  | .local _ .vmem, ⟨22, _⟩ => ⟨S8x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![11, 4], ![false, false]⟩

def k0_mult1 (i : grid0.Coords) : BitVec 32 :=
  let c5504_i32 : BitVec 32 := 5504#32
  let c512_i32 : BitVec 32 := 512#32
  let arg0 : BitVec 32 := BitVec.ofNat 32 (i 0).val
  let v0 : BitVec 32 := Scalar.muli c512_i32 arg0
  let v1 : BitVec 32 := Scalar.addi c5504_i32 v0
  let c10496_i32 : BitVec 32 := 10496#32
  let v2 : BitVec 32 := Scalar.minsi v1 c10496_i32
  v2
def k0_cond4 (i : grid0.Coords) : BitVec 1 :=
  let arg1 : BitVec 32 := BitVec.ofNat 32 (i 1).val
  let c1_i32_129 : BitVec 32 := 1#32
  let v314 : BitVec 32 := Scalar.addi arg1 c1_i32_129
  let c1_i32_130 : BitVec 32 := 1#32
  let c0_i32_131 : BitVec 32 := 0#32
  let v315 : BitVec 1 := Scalar.cmpi .eq c1_i32_130 c0_i32_131
  let c1_i32_132 : BitVec 32 := 1#32
  let v316 : BitVec 32 := Scalar.select v315 c1_i32_132 c1_i32_130
  let v317 : BitVec 32 := Scalar.remsi v314 v316
  let c0_i32_134 : BitVec 32 := 0#32
  let v319 : BitVec 1 := Scalar.cmpi .slt v317 c0_i32_134
  let c0_i32_135 : BitVec 32 := 0#32
  let v320 : BitVec 1 := Scalar.cmpi .slt v316 c0_i32_135
  let v321 : BitVec 1 := Scalar.xori v319 v320
  let c0_i32_133 : BitVec 32 := 0#32
  let v318 : BitVec 1 := Scalar.cmpi .ne v317 c0_i32_133
  let v322 : BitVec 1 := Scalar.andi v321 v318
  let v323 : BitVec 32 := Scalar.addi v317 v316
  let v324 : BitVec 32 := Scalar.select v322 v323 v317
  let c0_i32_136 : BitVec 32 := 0#32
  let v325 : BitVec 1 := Scalar.cmpi .eq v324 c0_i32_136
  let v326 : BitVec 32 := Scalar.extui v325
  let c0_i32_137 : BitVec 32 := 0#32
  let v327 : BitVec 1 := Scalar.cmpi .ne v326 c0_i32_137
  v327

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let arg0 : BitVec 32 := BitVec.ofNat 32 (i 0).val
  let c10_i32 : BitVec 32 := 10#32
  let v7 : BitVec 1 := Scalar.cmpi .slt arg0 c10_i32
  let v8 : BitVec 1 := Scalar.andi v6 v7
  let v9 : BitVec 32 := Scalar.extui v8
  let c0_i32_0 : BitVec 32 := 0#32
  let v10 : BitVec 1 := Scalar.cmpi .ne v9 c0_i32_0
  v10

def k0_cond2 (i : grid0.Coords) : BitVec 1 :=
  let arg1 : BitVec 32 := BitVec.ofNat 32 (i 1).val
  let c0_i32_1 : BitVec 32 := 0#32
  let v11 : BitVec 1 := Scalar.cmpi .eq arg1 c0_i32_1
  let arg0 : BitVec 32 := BitVec.ofNat 32 (i 0).val
  let c10_i32_2 : BitVec 32 := 10#32
  let v12 : BitVec 1 := Scalar.cmpi .eq arg0 c10_i32_2
  let v13 : BitVec 1 := Scalar.andi v11 v12
  let v14 : BitVec 32 := Scalar.extui v13
  let c0_i32_3 : BitVec 32 := 0#32
  let v15 : BitVec 1 := Scalar.cmpi .ne v14 c0_i32_3
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli c512_i32 arg0
  let c5504_i32 : BitVec 32 := 5504#32
  let v1 : BitVec 32 := Scalar.addi c5504_i32 v0
  let c10496_i32 : BitVec 32 := 10496#32
  let v2 : BitVec 32 := Scalar.minsi v1 c10496_i32
  let v3 : BitVec 32 := v2
  let c0_i32 : BitVec 32 := 0#32
  let c0_i32_0 : BitVec 32 := 0#32
  ![c0_i32.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S8192x2048 : Shape := ⟨2, ![8192, 2048]⟩
abbrev S1x2048x11008 : Shape := ⟨3, ![1, 2048, 11008]⟩
abbrev S1x5504x2048 : Shape := ⟨3, ![1, 5504, 2048]⟩
abbrev S1x3x5504 : Shape := ⟨3, ![1, 3, 5504]⟩
abbrev S1x5504 : Shape := ⟨2, ![1, 5504]⟩
abbrev S4x2048x2048 : Shape := ⟨3, ![4, 2048, 2048]⟩
abbrev S2048x11008 : Shape := ⟨2, ![2048, 11008]⟩
abbrev S4x2048x11008 : Shape := ⟨3, ![4, 2048, 11008]⟩
abbrev S4x2048x5504 : Shape := ⟨3, ![4, 2048, 5504]⟩
abbrev S_ : Shape := ⟨0, ![]⟩
abbrev S4x2x5504 : Shape := ⟨3, ![4, 2, 5504]⟩
abbrev S4x2050x5504 : Shape := ⟨3, ![4, 2050, 5504]⟩
abbrev S5504 : Shape := ⟨1, ![5504]⟩
abbrev S3x5504 : Shape := ⟨2, ![3, 5504]⟩
abbrev S1x1x5504 : Shape := ⟨3, ![1, 1, 5504]⟩
abbrev S8192x5504 : Shape := ⟨2, ![8192, 5504]⟩
abbrev S2048x5504 : Shape := ⟨2, ![2048, 5504]⟩
abbrev S8192x5632 : Shape := ⟨2, ![8192, 5632]⟩
abbrev S4x2x5632 : Shape := ⟨3, ![4, 2, 5632]⟩
abbrev S2048x5632 : Shape := ⟨2, ![2048, 5632]⟩
abbrev S5504x2048 : Shape := ⟨2, ![5504, 2048]⟩
abbrev S5632x2048 : Shape := ⟨2, ![5632, 2048]⟩

abbrev nBuf : Space → Nat
  | .hbm => 78
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x11008, .f32⟩
  | .hbm, ⟨2, _⟩ => ⟨S1x5504x2048, .f32⟩
  | .hbm, ⟨3, _⟩ => ⟨S1x3x5504, .f32⟩
  | .hbm, ⟨4, _⟩ => ⟨S1x5504, .f32⟩
  | .hbm, ⟨5, _⟩ => ⟨S8192x2048, .f32⟩
  | .hbm, ⟨6, _⟩ => ⟨S4x2048x2048, .f32⟩
  | .hbm, ⟨7, _⟩ => ⟨S2048x11008, .f32⟩
  | .hbm, ⟨8, _⟩ => ⟨S4x2048x11008, .f32⟩
  | .hbm, ⟨9, _⟩ => ⟨S4x2048x5504, .f32⟩
  | .hbm, ⟨10, _⟩ => ⟨S4x2048x5504, .f32⟩
  | .hbm, ⟨11, _⟩ => ⟨S_, .f32⟩
  | .hbm, ⟨12, _⟩ => ⟨S4x2x5504, .f32⟩
  | .hbm, ⟨13, _⟩ => ⟨S4x2050x5504, .f32⟩
  | .hbm, ⟨14, _⟩ => ⟨S5504, .f32⟩
  | .hbm, ⟨15, _⟩ => ⟨S3x5504, .f32⟩
  | .hbm, ⟨16, _⟩ => ⟨S1x5504, .f32⟩
  | .hbm, ⟨17, _⟩ => ⟨S5504, .f32⟩
  | .hbm, ⟨18, _⟩ => ⟨S4x2048x5504, .f32⟩
  | .hbm, ⟨19, _⟩ => ⟨S1x1x5504, .f32⟩
  | .hbm, ⟨20, _⟩ => ⟨S4x2048x5504, .f32⟩
  | .hbm, ⟨21, _⟩ => ⟨S4x2048x5504, .f32⟩
  | .hbm, ⟨22, _⟩ => ⟨S1x1x5504, .f32⟩
  | .hbm, ⟨23, _⟩ => ⟨S4x2048x5504, .f32⟩
  | .hbm, ⟨24, _⟩ => ⟨S4x2048x5504, .f32⟩
  | .hbm, ⟨25, _⟩ => ⟨S3x5504, .f32⟩
  | .hbm, ⟨26, _⟩ => ⟨S1x5504, .f32⟩
  | .hbm, ⟨27, _⟩ => ⟨S5504, .f32⟩
  | .hbm, ⟨28, _⟩ => ⟨S4x2048x5504, .f32⟩
  | .hbm, ⟨29, _⟩ => ⟨S1x1x5504, .f32⟩
  | .hbm, ⟨30, _⟩ => ⟨S4x2048x5504, .f32⟩
  | .hbm, ⟨31, _⟩ => ⟨S4x2048x5504, .f32⟩
  | .hbm, ⟨32, _⟩ => ⟨S4x2048x5504, .f32⟩
  | .hbm, ⟨33, _⟩ => ⟨S3x5504, .f32⟩
  | .hbm, ⟨34, _⟩ => ⟨S1x5504, .f32⟩
  | .hbm, ⟨35, _⟩ => ⟨S5504, .f32⟩
  | .hbm, ⟨36, _⟩ => ⟨S4x2048x5504, .f32⟩
  | .hbm, ⟨37, _⟩ => ⟨S1x1x5504, .f32⟩
  | .hbm, ⟨38, _⟩ => ⟨S4x2048x5504, .f32⟩
  | .hbm, ⟨39, _⟩ => ⟨S4x2048x5504, .f32⟩
  | .hbm, ⟨40, _⟩ => ⟨S4x2048x5504, .f32⟩
  | .hbm, ⟨41, _⟩ => ⟨S_, .f32⟩
  | .hbm, ⟨42, _⟩ => ⟨S4x2048x5504, .f32⟩
  | .hbm, ⟨43, _⟩ => ⟨S4x2048x5504, .f32⟩
  | .hbm, ⟨44, _⟩ => ⟨S_, .f32⟩
  | .hbm, ⟨45, _⟩ => ⟨S4x2048x5504, .f32⟩
  | .hbm, ⟨46, _⟩ => ⟨S4x2048x5504, .f32⟩
  | .hbm, ⟨47, _⟩ => ⟨S4x2048x5504, .f32⟩
  | .hbm, ⟨48, _⟩ => ⟨S_, .f32⟩
  | .hbm, ⟨49, _⟩ => ⟨S4x2048x5504, .f32⟩
  | .hbm, ⟨50, _⟩ => ⟨S4x2048x5504, .f32⟩
  | .hbm, ⟨51, _⟩ => ⟨S4x2048x5504, .f32⟩
  | .hbm, ⟨52, _⟩ => ⟨S4x2048x5504, .f32⟩
  | .hbm, ⟨53, _⟩ => ⟨S8192x5504, .f32⟩
  | .hbm, ⟨54, _⟩ => ⟨S4x2x5504, .f32⟩
  | .hbm, ⟨55, _⟩ => ⟨S2048x11008, .f32⟩
  | .hbm, ⟨56, _⟩ => ⟨S2048x5504, .f32⟩
  | .hbm, ⟨57, _⟩ => ⟨S2048x5504, .f32⟩
  | .hbm, ⟨58, _⟩ => ⟨S_, .i32⟩
  | .hbm, ⟨59, _⟩ => ⟨S_, .f32⟩
  | .hbm, ⟨60, _⟩ => ⟨S8192x5632, .f32⟩
  | .hbm, ⟨61, _⟩ => ⟨S8192x5632, .bf16⟩
  | .hbm, ⟨62, _⟩ => ⟨S_, .i32⟩
  | .hbm, ⟨63, _⟩ => ⟨S_, .f32⟩
  | .hbm, ⟨64, _⟩ => ⟨S4x2x5632, .f32⟩
  | .hbm, ⟨65, _⟩ => ⟨S_, .i32⟩
  | .hbm, ⟨66, _⟩ => ⟨S_, .f32⟩
  | .hbm, ⟨67, _⟩ => ⟨S2048x5632, .f32⟩
  | .hbm, ⟨68, _⟩ => ⟨S2048x5632, .bf16⟩
  | .hbm, ⟨69, _⟩ => ⟨S_, .i32⟩
  | .hbm, ⟨70, _⟩ => ⟨S_, .f32⟩
  | .hbm, ⟨71, _⟩ => ⟨S2048x5632, .f32⟩
  | .hbm, ⟨72, _⟩ => ⟨S2048x5632, .bf16⟩
  | .hbm, ⟨73, _⟩ => ⟨S5504x2048, .f32⟩
  | .hbm, ⟨74, _⟩ => ⟨S_, .i32⟩
  | .hbm, ⟨75, _⟩ => ⟨S_, .f32⟩
  | .hbm, ⟨76, _⟩ => ⟨S5632x2048, .f32⟩
  | .hbm, ⟨77, _⟩ => ⟨S5632x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_0 : Ref sig .tc := ⟨.hbm, 41, rfl⟩
abbrev main_v35 : Ref sig .tc := ⟨.hbm, 42, rfl⟩
abbrev main_v36 : Ref sig .tc := ⟨.hbm, 43, rfl⟩
abbrev main_cst_1 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_2 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_c : Ref sig .tc := ⟨.hbm, 58, rfl⟩
abbrev main_call0_v0 : Ref sig .tc := ⟨.hbm, 59, rfl⟩
abbrev main_v49 : Ref sig .tc := ⟨.hbm, 60, rfl⟩
abbrev main_v50 : Ref sig .tc := ⟨.hbm, 61, rfl⟩
abbrev main_c_3 : Ref sig .tc := ⟨.hbm, 62, rfl⟩
abbrev main_call1_v0 : Ref sig .tc := ⟨.hbm, 63, rfl⟩
abbrev main_v51 : Ref sig .tc := ⟨.hbm, 64, rfl⟩
abbrev main_c_4 : Ref sig .tc := ⟨.hbm, 65, rfl⟩
abbrev main_call2_v0 : Ref sig .tc := ⟨.hbm, 66, rfl⟩
abbrev main_v52 : Ref sig .tc := ⟨.hbm, 67, rfl⟩
abbrev main_v53 : Ref sig .tc := ⟨.hbm, 68, rfl⟩
abbrev main_c_5 : Ref sig .tc := ⟨.hbm, 69, rfl⟩
abbrev main_call3_v0 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c_6 : Ref sig .tc := ⟨.hbm, 74, rfl⟩
abbrev main_call4_v0 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== Kernel2.lean ====
abbrev S8192x5504 : Shape := ⟨2, ![8192, 5504]⟩
abbrev S1x5504x2048 : Shape := ⟨3, ![1, 5504, 2048]⟩
abbrev S8192x2048 : Shape := ⟨2, ![8192, 2048]⟩
abbrev S4x12288 : Shape := ⟨2, ![4, 12288]⟩
abbrev S1x2048 : Shape := ⟨2, ![1, 2048]⟩
abbrev S_ : Shape := ⟨0, ![]⟩
abbrev S8192x5632 : Shape := ⟨2, ![8192, 5632]⟩
abbrev S5504x2048 : Shape := ⟨2, ![5504, 2048]⟩
abbrev S5632x2048 : Shape := ⟨2, ![5632, 2048]⟩
abbrev S8x12288 : Shape := ⟨2, ![8, 12288]⟩
abbrev S512x2816 : Shape := ⟨2, ![512, 2816]⟩
abbrev S2816x2048 : Shape := ⟨2, ![2816, 2048]⟩
abbrev S512x2048 : Shape := ⟨2, ![512, 2048]⟩
abbrev S8x2048 : Shape := ⟨2, ![8, 2048]⟩
abbrev S256x2816 : Shape := ⟨2, ![256, 2816]⟩
abbrev S256x2048 : Shape := ⟨2, ![256, 2048]⟩
abbrev S256 : Shape := ⟨1, ![256]⟩
abbrev S256x1 : Shape := ⟨2, ![256, 1]⟩

abbrev nBuf : Space → Nat
  | .hbm => 18
  | .vmem => 11
  | .smem => 0
  | _ => 0

abbrev bufTy : (tb : Table) → Fin (tcTables nBuf tb) → BufTy
  | .hbm, ⟨0, _⟩ => ⟨S8192x5504, .bf16⟩
  | .hbm, ⟨1, _⟩ => ⟨S1x5504x2048, .f32⟩
  | .hbm, ⟨2, _⟩ => ⟨S8192x2048, .f32⟩
  | .hbm, ⟨3, _⟩ => ⟨S4x12288, .f32⟩
  | .hbm, ⟨4, _⟩ => ⟨S1x2048, .f32⟩
  | .hbm, ⟨5, _⟩ => ⟨S1x2048, .f32⟩
  | .hbm, ⟨6, _⟩ => ⟨S_, .i32⟩
  | .hbm, ⟨7, _⟩ => ⟨S_, .bf16⟩
  | .hbm, ⟨8, _⟩ => ⟨S8192x5632, .bf16⟩
  | .hbm, ⟨9, _⟩ => ⟨S5504x2048, .f32⟩
  | .hbm, ⟨10, _⟩ => ⟨S5504x2048, .bf16⟩
  | .hbm, ⟨11, _⟩ => ⟨S_, .i32⟩
  | .hbm, ⟨12, _⟩ => ⟨S_, .bf16⟩
  | .hbm, ⟨13, _⟩ => ⟨S5632x2048, .bf16⟩
  | .hbm, ⟨14, _⟩ => ⟨S_, .i32⟩
  | .hbm, ⟨15, _⟩ => ⟨S_, .f32⟩
  | .hbm, ⟨16, _⟩ => ⟨S8x12288, .f32⟩
  | .hbm, ⟨17, _⟩ => ⟨S8192x2048, .f32⟩
  | .local _ .vmem, ⟨0, _⟩ => ⟨S512x2816, .bf16⟩
  | .local _ .vmem, ⟨1, _⟩ => ⟨S512x2816, .bf16⟩
  | .local _ .vmem, ⟨2, _⟩ => ⟨S2816x2048, .bf16⟩
  | .local _ .vmem, ⟨3, _⟩ => ⟨S2816x2048, .bf16⟩
  | .local _ .vmem, ⟨4, _⟩ => ⟨S512x2048, .f32⟩
  | .local _ .vmem, ⟨5, _⟩ => ⟨S512x2048, .f32⟩
  | .local _ .vmem, ⟨6, _⟩ => ⟨S8x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S8192x5504, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_c_1 : Ref sig .tc := ⟨.hbm, 14, rfl⟩
abbrev main_call2_v0 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c0_i32_2 : BitVec 32 := 0#32
  let v7 : BitVec 1 := Scalar.cmpi .sgt arg0 c0_i32_2
  let v8 : BitVec 32 := Scalar.extui v7
  let c0_i32_3 : BitVec 32 := 0#32
  let v9 : BitVec 1 := Scalar.cmpi .slt arg0 c0_i32_3
  let v10 : BitVec 32 := Scalar.extui v9
  let v11 : BitVec 32 := Scalar.subi v8 v10
  let c4_i32 : BitVec 32 := 4#32
  let c0_i32_4 : BitVec 32 := 0#32
  let v12 : BitVec 1 := Scalar.cmpi .sgt c4_i32 c0_i32_4
  let v13 : BitVec 32 := Scalar.extui v12
  let c0_i32_5 : BitVec 32 := 0#32
  let v14 : BitVec 1 := Scalar.cmpi .slt c4_i32 c0_i32_5
  let v15 : BitVec 32 := Scalar.extui v14
  let v16 : BitVec 32 := Scalar.subi v13 v15
  let v17 : BitVec 1 := Scalar.cmpi .ne v11 v16
  let v18 : BitVec 32 := Scalar.remsi arg0 c4_i32
  let c0_i32_6 : BitVec 32 := 0#32
  let v19 : BitVec 1 := Scalar.cmpi .ne v18 c0_i32_6
  let v20 : BitVec 1 := Scalar.andi v17 v19
  let v6 : BitVec 32 := Scalar.divsi arg0 c4_i32
  let c1_i32_7 : BitVec 32 := 1#32
  let v21 : BitVec 32 := Scalar.subi v6 c1_i32_7
  let v22 : BitVec 32 := Scalar.select v20 v21 v6
  let v23 : Index := Scalar.indexCast v22
  let c0 : Index := 0#32
  ![v23.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![c0_i32.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S8192x5504 : Shape := ⟨2, ![8192, 5504]⟩
abbrev S1x5504x2048 : Shape := ⟨3, ![1, 5504, 2048]⟩
abbrev S8192x2048 : Shape := ⟨2, ![8192, 2048]⟩
abbrev S4x12288 : Shape := ⟨2, ![4, 12288]⟩
abbrev S1x2048 : Shape := ⟨2, ![1, 2048]⟩
abbrev S4x1x12288 : Shape := ⟨3, ![4, 1, 12288]⟩
abbrev S4x1x2048 : Shape := ⟨3, ![4, 1, 2048]⟩
abbrev S4x2048x5504 : Shape := ⟨3, ![4, 2048, 5504]⟩
abbrev S5504x2048 : Shape := ⟨2, ![5504, 2048]⟩
abbrev S4x2048x2048 : Shape := ⟨3, ![4, 2048, 2048]⟩
abbrev S_ : Shape := ⟨0, ![]⟩
abbrev S2048 : Shape := ⟨1, ![2048]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8192x5504, .bf16⟩
  | .hbm, ⟨1, _⟩ => ⟨S1x5504x2048, .f32⟩
  | .hbm, ⟨2, _⟩ => ⟨S8192x2048, .f32⟩
  | .hbm, ⟨3, _⟩ => ⟨S4x12288, .f32⟩
  | .hbm, ⟨4, _⟩ => ⟨S1x2048, .f32⟩
  | .hbm, ⟨5, _⟩ => ⟨S1x2048, .f32⟩
  | .hbm, ⟨6, _⟩ => ⟨S4x1x12288, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S8192x5504, .f32⟩
  | .hbm, ⟨14, _⟩ => ⟨S4x2048x5504, .f32⟩
  | .hbm, ⟨15, _⟩ => ⟨S5504x2048, .f32⟩
  | .hbm, ⟨16, _⟩ => ⟨S4x2048x2048, .f32⟩
  | .hbm, ⟨17, _⟩ => ⟨S4x2048x2048, .f32⟩
  | .hbm, ⟨18, _⟩ => ⟨S_, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S2048, .f32⟩
  | .hbm, ⟨25, _⟩ => ⟨S2048, .f32⟩
  | .hbm, ⟨26, _⟩ => ⟨S_, .f32⟩
  | .hbm, ⟨27, _⟩ => ⟨S4x2048, .f32⟩
  | .hbm, ⟨28, _⟩ => ⟨S4x2048x1, .f32⟩
  | .hbm, ⟨29, _⟩ => ⟨S_, .f32⟩
  | .hbm, ⟨30, _⟩ => ⟨S4x2048x1, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S_, .f32⟩
  | .hbm, ⟨39, _⟩ => ⟨S4x2048x1, .f32⟩
  | .hbm, ⟨40, _⟩ => ⟨S4x2048x1, .f32⟩
  | .hbm, ⟨41, _⟩ => ⟨S4x2048x2048, .f32⟩
  | .hbm, ⟨42, _⟩ => ⟨S4x2048x2048, .f32⟩
  | .hbm, ⟨43, _⟩ => ⟨S_, .f32⟩
  | .hbm, ⟨44, _⟩ => ⟨S4x2048x1, .f32⟩
  | .hbm, ⟨45, _⟩ => ⟨S4x2048x1, .f32⟩
  | .hbm, ⟨46, _⟩ => ⟨S4x2048x1, .f32⟩
  | .hbm, ⟨47, _⟩ => ⟨S4x2048x2048, .f32⟩
  | .hbm, ⟨48, _⟩ => ⟨S4x2048x2048, .f32⟩
  | .hbm, ⟨49, _⟩ => ⟨S1x1x2048, .f32⟩
  | .hbm, ⟨50, _⟩ => ⟨S4x2048x2048, .f32⟩
  | .hbm, ⟨51, _⟩ => ⟨S4x2048x2048, .f32⟩
  | .hbm, ⟨52, _⟩ => ⟨S1x1x2048, .f32⟩
  | .hbm, ⟨53, _⟩ => ⟨S4x2048x2048, .f32⟩
  | .hbm, ⟨54, _⟩ => ⟨S4x2048x2048, .f32⟩
  | .hbm, ⟨55, _⟩ => ⟨S8192x2048, .f32⟩
  | _, _ => ⟨S8192x5504, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== Kernel3.lean ====
abbrev S4x2048x2048 : Shape := ⟨3, ![4, 2048, 2048]⟩
abbrev S4x12288 : Shape := ⟨2, ![4, 12288]⟩
abbrev S1x2048x7176 : Shape := ⟨3, ![1, 2048, 7176]⟩
abbrev S2048x7176 : Shape := ⟨2, ![2048, 7176]⟩
abbrev S2048x2048 : Shape := ⟨2, ![2048, 2048]⟩
abbrev S2048x5120 : Shape := ⟨2, ![2048, 5120]⟩
abbrev S2048x7168 : Shape := ⟨2, ![2048, 7168]⟩
abbrev S8192x2048 : Shape := ⟨2, ![8192, 2048]⟩
abbrev S_ : Shape := ⟨0, ![]⟩
abbrev S8x12288 : Shape := ⟨2, ![8, 12288]⟩
abbrev S2048x128 : Shape := ⟨2, ![2048, 128]⟩
abbrev S8192x7168 : Shape := ⟨2, ![8192, 7168]⟩
abbrev S8192x128 : Shape := ⟨2, ![8192, 128]⟩
abbrev S1024x2048 : Shape := ⟨2, ![1024, 2048]⟩
abbrev S8x2048 : Shape := ⟨2, ![8, 2048]⟩
abbrev S2048x1792 : Shape := ⟨2, ![2048, 1792]⟩
abbrev S1024x1792 : Shape := ⟨2, ![1024, 1792]⟩
abbrev S1024x128 : Shape := ⟨2, ![1024, 128]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩
abbrev S256x1792 : Shape := ⟨2, ![256, 1792]⟩

abbrev nBuf : Space → Nat
  | .hbm => 15
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S4x12288, .f32⟩
  | .hbm, ⟨2, _⟩ => ⟨S1x2048x7176, .f32⟩
  | .hbm, ⟨3, _⟩ => ⟨S2048x7176, .f32⟩
  | .hbm, ⟨4, _⟩ => ⟨S2048x7176, .bf16⟩
  | .hbm, ⟨5, _⟩ => ⟨S2048x2048, .bf16⟩
  | .hbm, ⟨6, _⟩ => ⟨S2048x5120, .bf16⟩
  | .hbm, ⟨7, _⟩ => ⟨S2048x7168, .bf16⟩
  | .hbm, ⟨8, _⟩ => ⟨S8192x2048, .f32⟩
  | .hbm, ⟨9, _⟩ => ⟨S_, .i32⟩
  | .hbm, ⟨10, _⟩ => ⟨S_, .f32⟩
  | .hbm, ⟨11, _⟩ => ⟨S8x12288, .f32⟩
  | .hbm, ⟨12, _⟩ => ⟨S2048x128, .bf16⟩
  | .hbm, ⟨13, _⟩ => ⟨S8192x7168, .bf16⟩
  | .hbm, ⟨14, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S8x2048, .f32⟩
  | .local _ .vmem, ⟨3, _⟩ => ⟨S8x2048, .f32⟩
  | .local _ .vmem, ⟨4, _⟩ => ⟨S2048x1792, .bf16⟩
  | .local _ .vmem, ⟨5, _⟩ => ⟨S2048x1792, .bf16⟩
  | .local _ .vmem, ⟨6, _⟩ => ⟨S2048x128, .bf16⟩
  | .local _ .vmem, ⟨7, _⟩ => ⟨S1024x1792, .bf16⟩
  | .local _ .vmem, ⟨8, _⟩ => ⟨S1024x1792, .bf16⟩
  | .local _ .vmem, ⟨9, _⟩ => ⟨S1024x128, .f32⟩
  | .local _ .vmem, ⟨10, _⟩ => ⟨S1024x128, .f32⟩
  | .local _ .vmem, ⟨11, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let c0_i32_3 : BitVec 32 := 0#32
  let v7 : BitVec 1 := Scalar.cmpi .sgt arg0 c0_i32_3
  let v8 : BitVec 32 := Scalar.extui v7
  let c0_i32_4 : BitVec 32 := 0#32
  let v9 : BitVec 1 := Scalar.cmpi .slt arg0 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg0 c2_i32
  let c0_i32_7 : BitVec 32 := 0#32
  let v19 : BitVec 1 := Scalar.cmpi .ne v18 c0_i32_7
  let v20 : BitVec 1 := Scalar.andi v17 v19
  let v6 : BitVec 32 := Scalar.divsi arg0 c2_i32
  let c1_i32 : BitVec 32 := 1#32
  let v21 : BitVec 32 := Scalar.subi v6 c1_i32
  let v22 : BitVec 32 := Scalar.select v20 v21 v6
  let v23 : Index := Scalar.indexCast v22
  let c0 : Index := 0#32
  ![v23.toNat, 0]
def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1792 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S4x2048x2048 : Shape := ⟨3, ![4, 2048, 2048]⟩
abbrev S4x12288 : Shape := ⟨2, ![4, 12288]⟩
abbrev S1x2048x7176 : Shape := ⟨3, ![1, 2048, 7176]⟩
abbrev S4x1x12288 : Shape := ⟨3, ![4, 1, 12288]⟩
abbrev S4x1x2048 : Shape := ⟨3, ![4, 1, 2048]⟩
abbrev S_ : Shape := ⟨0, ![]⟩
abbrev S4x2048 : Shape := ⟨2, ![4, 2048]⟩
abbrev S4x2048x1 : Shape := ⟨3, ![4, 2048, 1]⟩
abbrev S2048x7176 : Shape := ⟨2, ![2048, 7176]⟩
abbrev S4x2048x7176 : Shape := ⟨3, ![4, 2048, 7176]⟩
abbrev S8192x7176 : Shape := ⟨2, ![8192, 7176]⟩
abbrev S8192x2048 : Shape := ⟨2, ![8192, 2048]⟩
abbrev S8192x5120 : Shape := ⟨2, ![8192, 5120]⟩
abbrev S8192x7168 : Shape := ⟨2, ![8192, 7168]⟩
abbrev S8192x128 : Shape := ⟨2, ![8192, 128]⟩

abbrev nBuf : Space → Nat
  | .hbm => 48
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x12288, .f32⟩
  | .hbm, ⟨2, _⟩ => ⟨S1x2048x7176, .f32⟩
  | .hbm, ⟨3, _⟩ => ⟨S4x1x12288, .f32⟩
  | .hbm, ⟨4, _⟩ => ⟨S4x1x2048, .f32⟩
  | .hbm, ⟨5, _⟩ => ⟨S4x1x2048, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S_, .f32⟩
  | .hbm, ⟨20, _⟩ => ⟨S4x2048, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S_, .f32⟩
  | .hbm, ⟨28, _⟩ => ⟨S4x2048x1, .f32⟩
  | .hbm, ⟨29, _⟩ => ⟨S4x2048x1, .f32⟩
  | .hbm, ⟨30, _⟩ => ⟨S4x2048x1, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S4x1x2048, .f32⟩
  | .hbm, ⟨35, _⟩ => ⟨S4x1x2048, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | .hbm, ⟨40, _⟩ => ⟨S2048x7176, .f32⟩
  | .hbm, ⟨41, _⟩ => ⟨S4x2048x7176, .f32⟩
  | .hbm, ⟨42, _⟩ => ⟨S8192x7176, .f32⟩
  | .hbm, ⟨43, _⟩ => ⟨S8192x2048, .f32⟩
  | .hbm, ⟨44, _⟩ => ⟨S8192x5120, .f32⟩
  | .hbm, ⟨45, _⟩ => ⟨S8192x7168, .f32⟩
  | .hbm, ⟨46, _⟩ => ⟨S8192x7168, .bf16⟩
  | .hbm, ⟨47, _⟩ => ⟨S8192x128, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]
-- ==== Kernel4.lean ====
abbrev S512x5504 : Shape := ⟨2, ![512, 5504]⟩
abbrev S1x5504x2048 : Shape := ⟨3, ![1, 5504, 2048]⟩
abbrev S512x2048 : Shape := ⟨2, ![512, 2048]⟩
abbrev S128x12288 : Shape := ⟨2, ![128, 12288]⟩
abbrev S1x2048 : Shape := ⟨2, ![1, 2048]⟩
abbrev S_ : Shape := ⟨0, ![]⟩
abbrev S512x5632 : Shape := ⟨2, ![512, 5632]⟩
abbrev S5504x2048 : Shape := ⟨2, ![5504, 2048]⟩
abbrev S5632x2048 : Shape := ⟨2, ![5632, 2048]⟩
abbrev S512x2816 : Shape := ⟨2, ![512, 2816]⟩
abbrev S2816x2048 : Shape := ⟨2, ![2816, 2048]⟩
abbrev S128x2048 : Shape := ⟨2, ![128, 2048]⟩
abbrev S128x2816 : Shape := ⟨2, ![128, 2816]⟩
abbrev S128 : Shape := ⟨1, ![128]⟩
abbrev S128x1 : Shape := ⟨2, ![128, 1]⟩

abbrev nBuf : Space → Nat
  | .hbm => 15
  | .vmem => 9
  | .smem => 0
  | _ => 0

abbrev bufTy : (tb : Table) → Fin (tcTables nBuf tb) → BufTy
  | .hbm, ⟨0, _⟩ => ⟨S512x5504, .bf16⟩
  | .hbm, ⟨1, _⟩ => ⟨S1x5504x2048, .f32⟩
  | .hbm, ⟨2, _⟩ => ⟨S512x2048, .f32⟩
  | .hbm, ⟨3, _⟩ => ⟨S128x12288, .f32⟩
  | .hbm, ⟨4, _⟩ => ⟨S1x2048, .f32⟩
  | .hbm, ⟨5, _⟩ => ⟨S1x2048, .f32⟩
  | .hbm, ⟨6, _⟩ => ⟨S_, .i32⟩
  | .hbm, ⟨7, _⟩ => ⟨S_, .bf16⟩
  | .hbm, ⟨8, _⟩ => ⟨S512x5632, .bf16⟩
  | .hbm, ⟨9, _⟩ => ⟨S5504x2048, .f32⟩
  | .hbm, ⟨10, _⟩ => ⟨S5504x2048, .bf16⟩
  | .hbm, ⟨11, _⟩ => ⟨S_, .i32⟩
  | .hbm, ⟨12, _⟩ => ⟨S_, .bf16⟩
  | .hbm, ⟨13, _⟩ => ⟨S5632x2048, .bf16⟩
  | .hbm, ⟨14, _⟩ => ⟨S512x2048, .f32⟩
  | .local _ .vmem, ⟨0, _⟩ => ⟨S512x2816, .bf16⟩
  | .local _ .vmem, ⟨1, _⟩ => ⟨S512x2816, .bf16⟩
  | .local _ .vmem, ⟨2, _⟩ => ⟨S2816x2048, .bf16⟩
  | .local _ .vmem, ⟨3, _⟩ => ⟨S2816x2048, .bf16⟩
  | .local _ .vmem, ⟨4, _⟩ => ⟨S512x2048, .f32⟩
  | .local _ .vmem, ⟨5, _⟩ => ⟨S128x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | _, _ => ⟨S512x5504, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![c0_i32.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference4Ideal.lean ====
abbrev S512x5504 : Shape := ⟨2, ![512, 5504]⟩
abbrev S1x5504x2048 : Shape := ⟨3, ![1, 5504, 2048]⟩
abbrev S512x2048 : Shape := ⟨2, ![512, 2048]⟩
abbrev S128x12288 : Shape := ⟨2, ![128, 12288]⟩
abbrev S1x2048 : Shape := ⟨2, ![1, 2048]⟩
abbrev S128x1x12288 : Shape := ⟨3, ![128, 1, 12288]⟩
abbrev S128x1x2048 : Shape := ⟨3, ![128, 1, 2048]⟩
abbrev S4x128x5504 : Shape := ⟨3, ![4, 128, 5504]⟩
abbrev S128x4x5504 : Shape := ⟨3, ![128, 4, 5504]⟩
abbrev S5504x2048 : Shape := ⟨2, ![5504, 2048]⟩
abbrev S128x4x2048 : Shape := ⟨3, ![128, 4, 2048]⟩
abbrev S4x128x2048 : Shape := ⟨3, ![4, 128, 2048]⟩
abbrev S_ : Shape := ⟨0, ![]⟩
abbrev S2048 : Shape := ⟨1, ![2048]⟩
abbrev S128x4 : Shape := ⟨2, ![128, 4]⟩
abbrev S128x4x1 : Shape := ⟨3, ![128, 4, 1]⟩
abbrev S1x1x2048 : Shape := ⟨3, ![1, 1, 2048]⟩

abbrev nBuf : Space → Nat
  | .hbm => 59
  | .vmem => 0
  | .smem => 0
  | _ => 0

abbrev bufTy : (tb : Table) → Fin (tcTables nBuf tb) → BufTy
  | .hbm, ⟨0, _⟩ => ⟨S512x5504, .bf16⟩
  | .hbm, ⟨1, _⟩ => ⟨S1x5504x2048, .f32⟩
  | .hbm, ⟨2, _⟩ => ⟨S512x2048, .f32⟩
  | .hbm, ⟨3, _⟩ => ⟨S128x12288, .f32⟩
  | .hbm, ⟨4, _⟩ => ⟨S1x2048, .f32⟩
  | .hbm, ⟨5, _⟩ => ⟨S1x2048, .f32⟩
  | .hbm, ⟨6, _⟩ => ⟨S128x1x12288, .f32⟩
  | .hbm, ⟨7, _⟩ => ⟨S128x1x2048, .f32⟩
  | .hbm, ⟨8, _⟩ => ⟨S128x1x2048, .f32⟩
  | .hbm, ⟨9, _⟩ => ⟨S128x1x2048, .f32⟩
  | .hbm, ⟨10, _⟩ => ⟨S128x1x2048, .f32⟩
  | .hbm, ⟨11, _⟩ => ⟨S128x1x2048, .f32⟩
  | .hbm, ⟨12, _⟩ => ⟨S128x1x2048, .f32⟩
  | .hbm, ⟨13, _⟩ => ⟨S512x5504, .f32⟩
  | .hbm, ⟨14, _⟩ => ⟨S4x128x5504, .f32⟩
  | .hbm, ⟨15, _⟩ => ⟨S128x4x5504, .f32⟩
  | .hbm, ⟨16, _⟩ => ⟨S5504x2048, .f32⟩
  | .hbm, ⟨17, _⟩ => ⟨S128x4x2048, .f32⟩
  | .hbm, ⟨18, _⟩ => ⟨S4x128x2048, .f32⟩
  | .hbm, ⟨19, _⟩ => ⟨S128x4x2048, .f32⟩
  | .hbm, ⟨20, _⟩ => ⟨S_, .f32⟩
  | .hbm, ⟨21, _⟩ => ⟨S128x4x2048, .f32⟩
  | .hbm, ⟨22, _⟩ => ⟨S128x4x2048, .f32⟩
  | .hbm, ⟨23, _⟩ => ⟨S128x4x2048, .f32⟩
  | .hbm, ⟨24, _⟩ => ⟨S128x4x2048, .f32⟩
  | .hbm, ⟨25, _⟩ => ⟨S128x4x2048, .f32⟩
  | .hbm, ⟨26, _⟩ => ⟨S2048, .f32⟩
  | .hbm, ⟨27, _⟩ => ⟨S2048, .f32⟩
  | .hbm, ⟨28, _⟩ => ⟨S_, .f32⟩
  | .hbm, ⟨29, _⟩ => ⟨S128x4, .f32⟩
  | .hbm, ⟨30, _⟩ => ⟨S128x4x1, .f32⟩
  | .hbm, ⟨31, _⟩ => ⟨S_, .f32⟩
  | .hbm, ⟨32, _⟩ => ⟨S128x4x1, .f32⟩
  | .hbm, ⟨33, _⟩ => ⟨S128x4x1, .f32⟩
  | .hbm, ⟨34, _⟩ => ⟨S128x4x2048, .f32⟩
  | .hbm, ⟨35, _⟩ => ⟨S128x4x2048, .f32⟩
  | .hbm, ⟨36, _⟩ => ⟨S128x4x2048, .f32⟩
  | .hbm, ⟨37, _⟩ => ⟨S_, .f32⟩
  | .hbm, ⟨38, _⟩ => ⟨S128x4, .f32⟩
  | .hbm, ⟨39, _⟩ => ⟨S128x4x1, .f32⟩
  | .hbm, ⟨40, _⟩ => ⟨S_, .f32⟩
  | .hbm, ⟨41, _⟩ => ⟨S128x4x1, .f32⟩
  | .hbm, ⟨42, _⟩ => ⟨S128x4x1, .f32⟩
  | .hbm, ⟨43, _⟩ => ⟨S128x4x2048, .f32⟩
  | .hbm, ⟨44, _⟩ => ⟨S128x4x2048, .f32⟩
  | .hbm, ⟨45, _⟩ => ⟨S_, .f32⟩
  | .hbm, ⟨46, _⟩ => ⟨S128x4x1, .f32⟩
  | .hbm, ⟨47, _⟩ => ⟨S128x4x1, .f32⟩
  | .hbm, ⟨48, _⟩ => ⟨S128x4x1, .f32⟩
  | .hbm, ⟨49, _⟩ => ⟨S128x4x2048, .f32⟩
  | .hbm, ⟨50, _⟩ => ⟨S128x4x2048, .f32⟩
  | .hbm, ⟨51, _⟩ => ⟨S1x1x2048, .f32⟩
  | .hbm, ⟨52, _⟩ => ⟨S128x4x2048, .f32⟩
  | .hbm, ⟨53, _⟩ => ⟨S128x4x2048, .f32⟩
  | .hbm, ⟨54, _⟩ => ⟨S1x1x2048, .f32⟩
  | .hbm, ⟨55, _⟩ => ⟨S128x4x2048, .f32⟩
  | .hbm, ⟨56, _⟩ => ⟨S128x4x2048, .f32⟩
  | .hbm, ⟨57, _⟩ => ⟨S4x128x2048, .f32⟩
  | .hbm, ⟨58, _⟩ => ⟨S512x2048, .f32⟩
  | _, _ => ⟨S512x5504, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]
-- ==== Kernel5.lean ====
abbrev S8192x2048 : Shape := ⟨2, ![8192, 2048]⟩
abbrev S1x2048x2048 : Shape := ⟨3, ![1, 2048, 2048]⟩
abbrev S4x2048x2048 : Shape := ⟨3, ![4, 2048, 2048]⟩
abbrev S4x12288 : Shape := ⟨2, ![4, 12288]⟩
abbrev S1x2048 : Shape := ⟨2, ![1, 2048]⟩
abbrev S2048x2048 : Shape := ⟨2, ![2048, 2048]⟩
abbrev S_ : Shape := ⟨0, ![]⟩
abbrev S8x12288 : Shape := ⟨2, ![8, 12288]⟩
abbrev S512x2048 : Shape := ⟨2, ![512, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩

abbrev nBuf : Space → Nat
  | .hbm => 14
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S4x2048x2048, .f32⟩
  | .hbm, ⟨3, _⟩ => ⟨S4x12288, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S8192x2048, .f32⟩
  | .hbm, ⟨8, _⟩ => ⟨S_, .i32⟩
  | .hbm, ⟨9, _⟩ => ⟨S_, .f32⟩
  | .hbm, ⟨10, _⟩ => ⟨S8x12288, .f32⟩
  | .hbm, ⟨11, _⟩ => ⟨S8192x2048, .f32⟩
  | .hbm, ⟨12, _⟩ => ⟨S8192x2048, .bf16⟩
  | .hbm, ⟨13, _⟩ => ⟨S2048x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .f32⟩
  | .local _ .vmem, ⟨3, _⟩ => ⟨S512x2048, .f32⟩
  | .local _ .vmem, ⟨4, _⟩ => ⟨S512x2048, .f32⟩
  | .local _ .vmem, ⟨5, _⟩ => ⟨S8x2048, .f32⟩
  | .local _ .vmem, ⟨6, _⟩ => ⟨S1x2048, .f32⟩
  | .local _ .vmem, ⟨7, _⟩ => ⟨S1x2048, .f32⟩
  | .local _ .vmem, ⟨8, _⟩ => ⟨S8x2048, .f32⟩
  | .local _ .vmem, ⟨9, _⟩ => ⟨S8x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S2048x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg0 : BitVec 32 := BitVec.ofNat 32 (i 0).val
  let c0_i32_4 : BitVec 32 := 0#32
  let v9 : BitVec 1 := Scalar.cmpi .sgt arg0 c0_i32_4
  let v10 : BitVec 32 := Scalar.extui v9
  let c0_i32_5 : BitVec 32 := 0#32
  let v11 : BitVec 1 := Scalar.cmpi .slt arg0 c0_i32_5
  let v12 : BitVec 32 := Scalar.extui v11
  let v13 : BitVec 32 := Scalar.subi v10 v12
  let c4_i32 : BitVec 32 := 4#32
  let c0_i32_6 : BitVec 32 := 0#32
  let v14 : BitVec 1 := Scalar.cmpi .sgt c4_i32 c0_i32_6
  let v15 : BitVec 32 := Scalar.extui v14
  let c0_i32_7 : BitVec 32 := 0#32
  let v16 : BitVec 1 := Scalar.cmpi .slt c4_i32 c0_i32_7
  let v17 : BitVec 32 := Scalar.extui v16
  let v18 : BitVec 32 := Scalar.subi v15 v17
  let v19 : BitVec 1 := Scalar.cmpi .ne v13 v18
  let v20 : BitVec 32 := Scalar.remsi arg0 c4_i32
  let c0_i32_8 : BitVec 32 := 0#32
  let v21 : BitVec 1 := Scalar.cmpi .ne v20 c0_i32_8
  let v22 : BitVec 1 := Scalar.andi v19 v21
  let v8 : BitVec 32 := Scalar.divsi arg0 c4_i32
  let c1_i32 : BitVec 32 := 1#32
  let v23 : BitVec 32 := Scalar.subi v8 c1_i32
  let v24 : BitVec 32 := Scalar.select v22 v23 v8
  let v25 : Index := Scalar.indexCast v24
  let c0 : Index := 0#32
  ![v25.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![c0_i32.toNat, c4_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference5Ideal.lean ====
abbrev S8192x2048 : Shape := ⟨2, ![8192, 2048]⟩
abbrev S1x2048x2048 : Shape := ⟨3, ![1, 2048, 2048]⟩
abbrev S4x2048x2048 : Shape := ⟨3, ![4, 2048, 2048]⟩
abbrev S4x12288 : Shape := ⟨2, ![4, 12288]⟩
abbrev S1x2048 : Shape := ⟨2, ![1, 2048]⟩
abbrev S4x1x12288 : Shape := ⟨3, ![4, 1, 12288]⟩
abbrev S4x1x2048 : Shape := ⟨3, ![4, 1, 2048]⟩
abbrev S2048x2048 : Shape := ⟨2, ![2048, 2048]⟩
abbrev S_ : Shape := ⟨0, ![]⟩
abbrev S2048 : Shape := ⟨1, ![2048]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 89
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S4x2048x2048, .f32⟩
  | .hbm, ⟨3, _⟩ => ⟨S4x12288, .f32⟩
  | .hbm, ⟨4, _⟩ => ⟨S1x2048, .f32⟩
  | .hbm, ⟨5, _⟩ => ⟨S1x2048, .f32⟩
  | .hbm, ⟨6, _⟩ => ⟨S4x1x12288, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S8192x2048, .f32⟩
  | .hbm, ⟨14, _⟩ => ⟨S4x2048x2048, .f32⟩
  | .hbm, ⟨15, _⟩ => ⟨S2048x2048, .f32⟩
  | .hbm, ⟨16, _⟩ => ⟨S4x2048x2048, .f32⟩
  | .hbm, ⟨17, _⟩ => ⟨S_, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S2048, .f32⟩
  | .hbm, ⟨24, _⟩ => ⟨S2048, .f32⟩
  | .hbm, ⟨25, _⟩ => ⟨S_, .f32⟩
  | .hbm, ⟨26, _⟩ => ⟨S4x2048, .f32⟩
  | .hbm, ⟨27, _⟩ => ⟨S4x2048x1, .f32⟩
  | .hbm, ⟨28, _⟩ => ⟨S_, .f32⟩
  | .hbm, ⟨29, _⟩ => ⟨S4x2048x1, .f32⟩
  | .hbm, ⟨30, _⟩ => ⟨S4x2048x1, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S_, .f32⟩
  | .hbm, ⟨35, _⟩ => ⟨S4x2048, .f32⟩
  | .hbm, ⟨36, _⟩ => ⟨S4x2048x1, .f32⟩
  | .hbm, ⟨37, _⟩ => ⟨S_, .f32⟩
  | .hbm, ⟨38, _⟩ => ⟨S4x2048x1, .f32⟩
  | .hbm, ⟨39, _⟩ => ⟨S4x2048x1, .f32⟩
  | .hbm, ⟨40, _⟩ => ⟨S4x2048x2048, .f32⟩
  | .hbm, ⟨41, _⟩ => ⟨S4x2048x2048, .f32⟩
  | .hbm, ⟨42, _⟩ => ⟨S_, .f32⟩
  | .hbm, ⟨43, _⟩ => ⟨S4x2048x1, .f32⟩
  | .hbm, ⟨44, _⟩ => ⟨S4x2048x1, .f32⟩
  | .hbm, ⟨45, _⟩ => ⟨S4x2048x1, .f32⟩
  | .hbm, ⟨46, _⟩ => ⟨S4x2048x2048, .f32⟩
  | .hbm, ⟨47, _⟩ => ⟨S4x2048x2048, .f32⟩
  | .hbm, ⟨48, _⟩ => ⟨S1x1x2048, .f32⟩
  | .hbm, ⟨49, _⟩ => ⟨S4x2048x2048, .f32⟩
  | .hbm, ⟨50, _⟩ => ⟨S4x2048x2048, .f32⟩
  | .hbm, ⟨51, _⟩ => ⟨S1x1x2048, .f32⟩
  | .hbm, ⟨52, _⟩ => ⟨S4x2048x2048, .f32⟩
  | .hbm, ⟨53, _⟩ => ⟨S4x2048x2048, .f32⟩
  | .hbm, ⟨54, _⟩ => ⟨S_, .f32⟩
  | .hbm, ⟨55, _⟩ => ⟨S4x2048, .f32⟩
  | .hbm, ⟨56, _⟩ => ⟨S4x2048x1, .f32⟩
  | .hbm, ⟨57, _⟩ => ⟨S_, .f32⟩
  | .hbm, ⟨58, _⟩ => ⟨S4x2048x1, .f32⟩
  | .hbm, ⟨59, _⟩ => ⟨S4x2048x1, .f32⟩
  | .hbm, ⟨60, _⟩ => ⟨S4x2048x2048, .f32⟩
  | .hbm, ⟨61, _⟩ => ⟨S4x2048x2048, .f32⟩
  | .hbm, ⟨62, _⟩ => ⟨S4x2048x2048, .f32⟩
  | .hbm, ⟨63, _⟩ => ⟨S_, .f32⟩
  | .hbm, ⟨64, _⟩ => ⟨S4x2048, .f32⟩
  | .hbm, ⟨65, _⟩ => ⟨S4x2048x1, .f32⟩
  | .hbm, ⟨66, _⟩ => ⟨S_, .f32⟩
  | .hbm, ⟨67, _⟩ => ⟨S4x2048x1, .f32⟩
  | .hbm, ⟨68, _⟩ => ⟨S4x2048x1, .f32⟩
  | .hbm, ⟨69, _⟩ => ⟨S4x2048x2048, .f32⟩
  | .hbm, ⟨70, _⟩ => ⟨S4x2048x2048, .f32⟩
  | .hbm, ⟨71, _⟩ => ⟨S_, .f32⟩
  | .hbm, ⟨72, _⟩ => ⟨S4x2048x1, .f32⟩
  | .hbm, ⟨73, _⟩ => ⟨S4x2048x1, .f32⟩
  | .hbm, ⟨74, _⟩ => ⟨S4x2048x1, .f32⟩
  | .hbm, ⟨75, _⟩ => ⟨S4x2048x2048, .f32⟩
  | .hbm, ⟨76, _⟩ => ⟨S4x2048x2048, .f32⟩
  | .hbm, ⟨77, _⟩ => ⟨S_, .f32⟩
  | .hbm, ⟨78, _⟩ => ⟨S4x1x2048, .f32⟩
  | .hbm, ⟨79, _⟩ => ⟨S4x1x2048, .f32⟩
  | .hbm, ⟨80, _⟩ => ⟨S4x2048x2048, .f32⟩
  | .hbm, ⟨81, _⟩ => ⟨S4x2048x2048, .f32⟩
  | .hbm, ⟨82, _⟩ => ⟨S4x2048x2048, .f32⟩
  | .hbm, ⟨83, _⟩ => ⟨S4x2048x2048, .f32⟩
  | .hbm, ⟨84, _⟩ => ⟨S8192x2048, .f32⟩
  | .hbm, ⟨85, _⟩ => ⟨S8192x2048, .f32⟩
  | .hbm, ⟨86, _⟩ => ⟨S8192x2048, .bf16⟩
  | .hbm, ⟨87, _⟩ => ⟨S2048x2048, .f32⟩
  | .hbm, ⟨88, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_9 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== Kernel6.lean ====
abbrev S512x2048 : Shape := ⟨2, ![512, 2048]⟩
abbrev S1x2048x11008 : Shape := ⟨3, ![1, 2048, 11008]⟩
abbrev S1x3x5504 : Shape := ⟨3, ![1, 3, 5504]⟩
abbrev S1x5504 : Shape := ⟨2, ![1, 5504]⟩
abbrev S1x128x2x5504 : Shape := ⟨4, ![1, 128, 2, 5504]⟩
abbrev S2048x11008 : Shape := ⟨2, ![2048, 11008]⟩
abbrev S2048x5504 : Shape := ⟨2, ![2048, 5504]⟩
abbrev S_ : Shape := ⟨0, ![]⟩
abbrev S2048x5632 : Shape := ⟨2, ![2048, 5632]⟩
abbrev S3x5504 : Shape := ⟨2, ![3, 5504]⟩
abbrev S3x5632 : Shape := ⟨2, ![3, 5632]⟩
abbrev S1x5632 : Shape := ⟨2, ![1, 5632]⟩
abbrev S128x2x5504 : Shape := ⟨3, ![128, 2, 5504]⟩
abbrev S2x128x5504 : Shape := ⟨3, ![2, 128, 5504]⟩
abbrev S512x5632 : Shape := ⟨2, ![512, 5632]⟩
abbrev S2x128x5632 : Shape := ⟨3, ![2, 128, 5632]⟩
abbrev S2048x512 : Shape := ⟨2, ![2048, 512]⟩
abbrev S3x512 : Shape := ⟨2, ![3, 512]⟩
abbrev S1x512 : Shape := ⟨2, ![1, 512]⟩
abbrev S2x128x512 : Shape := ⟨3, ![2, 128, 512]⟩
abbrev S512x512 : Shape := ⟨2, ![512, 512]⟩
abbrev S768x512 : Shape := ⟨2, ![768, 512]⟩
abbrev S256x512 : Shape := ⟨2, ![256, 512]⟩
abbrev S128x2048 : Shape := ⟨2, ![128, 2048]⟩
abbrev S128x512 : Shape := ⟨2, ![128, 512]⟩

abbrev nBuf : Space → Nat
  | .hbm => 28
  | .vmem => 16
  | .smem => 0
  | _ => 0

abbrev bufTy : (tb : Table) → Fin (tcTables nBuf tb) → BufTy
  | .hbm, ⟨0, _⟩ => ⟨S512x2048, .bf16⟩
  | .hbm, ⟨1, _⟩ => ⟨S1x2048x11008, .f32⟩
  | .hbm, ⟨2, _⟩ => ⟨S1x3x5504, .f32⟩
  | .hbm, ⟨3, _⟩ => ⟨S1x5504, .f32⟩
  | .hbm, ⟨4, _⟩ => ⟨S1x128x2x5504, .f32⟩
  | .hbm, ⟨5, _⟩ => ⟨S2048x11008, .f32⟩
  | .hbm, ⟨6, _⟩ => ⟨S2048x5504, .f32⟩
  | .hbm, ⟨7, _⟩ => ⟨S2048x5504, .bf16⟩
  | .hbm, ⟨8, _⟩ => ⟨S_, .i32⟩
  | .hbm, ⟨9, _⟩ => ⟨S_, .bf16⟩
  | .hbm, ⟨10, _⟩ => ⟨S2048x5632, .bf16⟩
  | .hbm, ⟨11, _⟩ => ⟨S2048x11008, .f32⟩
  | .hbm, ⟨12, _⟩ => ⟨S2048x5504, .f32⟩
  | .hbm, ⟨13, _⟩ => ⟨S2048x5504, .bf16⟩
  | .hbm, ⟨14, _⟩ => ⟨S_, .i32⟩
  | .hbm, ⟨15, _⟩ => ⟨S_, .bf16⟩
  | .hbm, ⟨16, _⟩ => ⟨S2048x5632, .bf16⟩
  | .hbm, ⟨17, _⟩ => ⟨S3x5504, .f32⟩
  | .hbm, ⟨18, _⟩ => ⟨S_, .i32⟩
  | .hbm, ⟨19, _⟩ => ⟨S_, .f32⟩
  | .hbm, ⟨20, _⟩ => ⟨S3x5632, .f32⟩
  | .hbm, ⟨21, _⟩ => ⟨S_, .i32⟩
  | .hbm, ⟨22, _⟩ => ⟨S_, .f32⟩
  | .hbm, ⟨23, _⟩ => ⟨S1x5632, .f32⟩
  | .hbm, ⟨24, _⟩ => ⟨S128x2x5504, .f32⟩
  | .hbm, ⟨25, _⟩ => ⟨S2x128x5504, .f32⟩
  | .hbm, ⟨26, _⟩ => ⟨S512x5632, .bf16⟩
  | .hbm, ⟨27, _⟩ => ⟨S2x128x5632, .f32⟩
  | .local _ .vmem, ⟨0, _⟩ => ⟨S512x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S3x512, .f32⟩
  | .local _ .vmem, ⟨6, _⟩ => ⟨S3x512, .f32⟩
  | .local _ .vmem, ⟨7, _⟩ => ⟨S1x512, .f32⟩
  | .local _ .vmem, ⟨8, _⟩ => ⟨S1x512, .f32⟩
  | .local _ .vmem, ⟨9, _⟩ => ⟨S2x128x512, .f32⟩
  | .local _ .vmem, ⟨10, _⟩ => ⟨S2x128x512, .f32⟩
  | .local _ .vmem, ⟨11, _⟩ => ⟨S512x512, .bf16⟩
  | .local _ .vmem, ⟨12, _⟩ => ⟨S512x512, .bf16⟩
  | .local _ .vmem, ⟨13, _⟩ => ⟨S2x128x512, .f32⟩
  | .local _ .vmem, ⟨14, _⟩ => ⟨S2x128x512, .f32⟩
  | .local _ .vmem, ⟨15, _⟩ => ⟨S768x512, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_call2_v0 : Ref sig .tc := ⟨.hbm, 19, rfl⟩
abbrev main_v9 : Ref sig .tc := ⟨.hbm, 20, rfl⟩
abbrev main_c_2 : Ref sig .tc := ⟨.hbm, 21, rfl⟩
abbrev main_call3_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference6Ideal.lean ====
abbrev S512x2048 : Shape := ⟨2, ![512, 2048]⟩
abbrev S1x2048x11008 : Shape := ⟨3, ![1, 2048, 11008]⟩
abbrev S1x3x5504 : Shape := ⟨3, ![1, 3, 5504]⟩
abbrev S1x5504 : Shape := ⟨2, ![1, 5504]⟩
abbrev S1x128x2x5504 : Shape := ⟨4, ![1, 128, 2, 5504]⟩
abbrev S4x128x2048 : Shape := ⟨3, ![4, 128, 2048]⟩
abbrev S128x4x2048 : Shape := ⟨3, ![128, 4, 2048]⟩
abbrev S2048x11008 : Shape := ⟨2, ![2048, 11008]⟩
abbrev S128x4x11008 : Shape := ⟨3, ![128, 4, 11008]⟩
abbrev S128x4x5504 : Shape := ⟨3, ![128, 4, 5504]⟩
abbrev S128x2x5504 : Shape := ⟨3, ![128, 2, 5504]⟩
abbrev S128x6x5504 : Shape := ⟨3, ![128, 6, 5504]⟩
abbrev S5504 : Shape := ⟨1, ![5504]⟩
abbrev S3x5504 : Shape := ⟨2, ![3, 5504]⟩
abbrev S1x1x5504 : Shape := ⟨3, ![1, 1, 5504]⟩
abbrev S_ : Shape := ⟨0, ![]⟩
abbrev S4x128x5504 : Shape := ⟨3, ![4, 128, 5504]⟩
abbrev S512x5504 : Shape := ⟨2, ![512, 5504]⟩
abbrev S2x128x5504 : Shape := ⟨3, ![2, 128, 5504]⟩
abbrev S512x5632 : Shape := ⟨2, ![512, 5632]⟩
abbrev S2x128x5632 : Shape := ⟨3, ![2, 128, 5632]⟩

abbrev nBuf : Space → Nat
  | .hbm => 64
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S1x2048x11008, .f32⟩
  | .hbm, ⟨2, _⟩ => ⟨S1x3x5504, .f32⟩
  | .hbm, ⟨3, _⟩ => ⟨S1x5504, .f32⟩
  | .hbm, ⟨4, _⟩ => ⟨S1x128x2x5504, .f32⟩
  | .hbm, ⟨5, _⟩ => ⟨S512x2048, .f32⟩
  | .hbm, ⟨6, _⟩ => ⟨S4x128x2048, .f32⟩
  | .hbm, ⟨7, _⟩ => ⟨S128x4x2048, .f32⟩
  | .hbm, ⟨8, _⟩ => ⟨S2048x11008, .f32⟩
  | .hbm, ⟨9, _⟩ => ⟨S128x4x11008, .f32⟩
  | .hbm, ⟨10, _⟩ => ⟨S128x4x5504, .f32⟩
  | .hbm, ⟨11, _⟩ => ⟨S128x4x5504, .f32⟩
  | .hbm, ⟨12, _⟩ => ⟨S128x2x5504, .f32⟩
  | .hbm, ⟨13, _⟩ => ⟨S128x6x5504, .f32⟩
  | .hbm, ⟨14, _⟩ => ⟨S5504, .f32⟩
  | .hbm, ⟨15, _⟩ => ⟨S3x5504, .f32⟩
  | .hbm, ⟨16, _⟩ => ⟨S1x5504, .f32⟩
  | .hbm, ⟨17, _⟩ => ⟨S5504, .f32⟩
  | .hbm, ⟨18, _⟩ => ⟨S128x4x5504, .f32⟩
  | .hbm, ⟨19, _⟩ => ⟨S1x1x5504, .f32⟩
  | .hbm, ⟨20, _⟩ => ⟨S128x4x5504, .f32⟩
  | .hbm, ⟨21, _⟩ => ⟨S128x4x5504, .f32⟩
  | .hbm, ⟨22, _⟩ => ⟨S1x1x5504, .f32⟩
  | .hbm, ⟨23, _⟩ => ⟨S128x4x5504, .f32⟩
  | .hbm, ⟨24, _⟩ => ⟨S128x4x5504, .f32⟩
  | .hbm, ⟨25, _⟩ => ⟨S3x5504, .f32⟩
  | .hbm, ⟨26, _⟩ => ⟨S1x5504, .f32⟩
  | .hbm, ⟨27, _⟩ => ⟨S5504, .f32⟩
  | .hbm, ⟨28, _⟩ => ⟨S128x4x5504, .f32⟩
  | .hbm, ⟨29, _⟩ => ⟨S1x1x5504, .f32⟩
  | .hbm, ⟨30, _⟩ => ⟨S128x4x5504, .f32⟩
  | .hbm, ⟨31, _⟩ => ⟨S128x4x5504, .f32⟩
  | .hbm, ⟨32, _⟩ => ⟨S128x4x5504, .f32⟩
  | .hbm, ⟨33, _⟩ => ⟨S3x5504, .f32⟩
  | .hbm, ⟨34, _⟩ => ⟨S1x5504, .f32⟩
  | .hbm, ⟨35, _⟩ => ⟨S5504, .f32⟩
  | .hbm, ⟨36, _⟩ => ⟨S128x4x5504, .f32⟩
  | .hbm, ⟨37, _⟩ => ⟨S1x1x5504, .f32⟩
  | .hbm, ⟨38, _⟩ => ⟨S128x4x5504, .f32⟩
  | .hbm, ⟨39, _⟩ => ⟨S128x4x5504, .f32⟩
  | .hbm, ⟨40, _⟩ => ⟨S128x4x5504, .f32⟩
  | .hbm, ⟨41, _⟩ => ⟨S_, .f32⟩
  | .hbm, ⟨42, _⟩ => ⟨S128x4x5504, .f32⟩
  | .hbm, ⟨43, _⟩ => ⟨S128x4x5504, .f32⟩
  | .hbm, ⟨44, _⟩ => ⟨S_, .f32⟩
  | .hbm, ⟨45, _⟩ => ⟨S128x4x5504, .f32⟩
  | .hbm, ⟨46, _⟩ => ⟨S128x4x5504, .f32⟩
  | .hbm, ⟨47, _⟩ => ⟨S128x4x5504, .f32⟩
  | .hbm, ⟨48, _⟩ => ⟨S_, .f32⟩
  | .hbm, ⟨49, _⟩ => ⟨S128x4x5504, .f32⟩
  | .hbm, ⟨50, _⟩ => ⟨S128x4x5504, .f32⟩
  | .hbm, ⟨51, _⟩ => ⟨S128x4x5504, .f32⟩
  | .hbm, ⟨52, _⟩ => ⟨S128x4x5504, .f32⟩
  | .hbm, ⟨53, _⟩ => ⟨S4x128x5504, .f32⟩
  | .hbm, ⟨54, _⟩ => ⟨S512x5504, .f32⟩
  | .hbm, ⟨55, _⟩ => ⟨S128x2x5504, .f32⟩
  | .hbm, ⟨56, _⟩ => ⟨S2x128x5504, .f32⟩
  | .hbm, ⟨57, _⟩ => ⟨S_, .i32⟩
  | .hbm, ⟨58, _⟩ => ⟨S_, .f32⟩
  | .hbm, ⟨59, _⟩ => ⟨S512x5632, .f32⟩
  | .hbm, ⟨60, _⟩ => ⟨S512x5632, .bf16⟩
  | .hbm, ⟨61, _⟩ => ⟨S_, .i32⟩
  | .hbm, ⟨62, _⟩ => ⟨S_, .f32⟩
  | .hbm, ⟨63, _⟩ => ⟨S2x128x5632, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst : Ref sig .tc := ⟨.hbm, 41, rfl⟩
abbrev main_v36 : Ref sig .tc := ⟨.hbm, 42, rfl⟩
abbrev main_v37 : Ref sig .tc := ⟨.hbm, 43, rfl⟩
abbrev main_cst_0 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_1 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_c : Ref sig .tc := ⟨.hbm, 57, rfl⟩
abbrev main_call0_v0 : Ref sig .tc := ⟨.hbm, 58, rfl⟩
abbrev main_v49 : Ref sig .tc := ⟨.hbm, 59, rfl⟩
abbrev main_v50 : Ref sig .tc := ⟨.hbm, 60, rfl⟩
abbrev main_c_2 : Ref sig .tc := ⟨.hbm, 61, rfl⟩
abbrev main_call1_v0 : Ref sig .tc := ⟨.hbm, 62, rfl⟩
abbrev main_v51 : Ref sig .tc := ⟨.hbm, 63, rfl⟩

abbrev nD : Nat := 1
abbrev τ : Topo := Topo.v7x

variable {F : FTy → Type} [FloatOps F]
-- ==== Kernel7.lean ====
abbrev S4x2048 : Shape := ⟨2, ![4, 2048]⟩
abbrev S128x2048 : Shape := ⟨2, ![128, 2048]⟩
abbrev S1x2048x12288 : Shape := ⟨3, ![1, 2048, 12288]⟩
abbrev S1x12288 : Shape := ⟨2, ![1, 12288]⟩
abbrev S_ : Shape := ⟨0, ![]⟩
abbrev S8x2048 : Shape := ⟨2, ![8, 2048]⟩
abbrev S2048x12288 : Shape := ⟨2, ![2048, 12288]⟩
abbrev S8x12288 : Shape := ⟨2, ![8, 12288]⟩
abbrev S128x12288 : Shape := ⟨2, ![128, 12288]⟩
abbrev S2048x1024 : Shape := ⟨2, ![2048, 1024]⟩
abbrev S1x1024 : Shape := ⟨2, ![1, 1024]⟩
abbrev S8x1024 : Shape := ⟨2, ![8, 1024]⟩
abbrev S128x1024 : Shape := ⟨2, ![128, 1024]⟩

abbrev nBuf : Space → Nat
  | .hbm => 10
  | .vmem => 10
  | .smem => 0
  | _ => 0

abbrev bufTy : (tb : Table) → Fin (tcTables nBuf tb) → BufTy
  | .hbm, ⟨0, _⟩ => ⟨S4x2048, .f32⟩
  | .hbm, ⟨1, _⟩ => ⟨S128x2048, .f32⟩
  | .hbm, ⟨2, _⟩ => ⟨S1x2048x12288, .f32⟩
  | .hbm, ⟨3, _⟩ => ⟨S1x12288, .f32⟩
  | .hbm, ⟨4, _⟩ => ⟨S_, .i32⟩
  | .hbm, ⟨5, _⟩ => ⟨S_, .f32⟩
  | .hbm, ⟨6, _⟩ => ⟨S8x2048, .f32⟩
  | .hbm, ⟨7, _⟩ => ⟨S2048x12288, .f32⟩
  | .hbm, ⟨8, _⟩ => ⟨S8x12288, .f32⟩
  | .hbm, ⟨9, _⟩ => ⟨S128x12288, .f32⟩
  | .local _ .vmem, ⟨0, _⟩ => ⟨S8x2048, .f32⟩
  | .local _ .vmem, ⟨1, _⟩ => ⟨S128x2048, .f32⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1x1024, .f32⟩
  | .local _ .vmem, ⟨6, _⟩ => ⟨S8x1024, .f32⟩
  | .local _ .vmem, ⟨7, _⟩ => ⟨S8x1024, .f32⟩
  | .local _ .vmem, ⟨8, _⟩ => ⟨S128x1024, .f32⟩
  | .local _ .vmem, ⟨9, _⟩ => ⟨S128x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S4x2048 : Shape := ⟨2, ![4, 2048]⟩
abbrev S128x2048 : Shape := ⟨2, ![128, 2048]⟩
abbrev S1x2048x12288 : Shape := ⟨3, ![1, 2048, 12288]⟩
abbrev S1x12288 : Shape := ⟨2, ![1, 12288]⟩
abbrev S_ : Shape := ⟨0, ![]⟩
abbrev S2048x12288 : Shape := ⟨2, ![2048, 12288]⟩
abbrev S4x12288 : Shape := ⟨2, ![4, 12288]⟩
abbrev S12288 : Shape := ⟨1, ![12288]⟩
abbrev S128x12288 : Shape := ⟨2, ![128, 12288]⟩
abbrev S8x12288 : Shape := ⟨2, ![8, 12288]⟩

abbrev nBuf : Space → Nat
  | .hbm => 36
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S128x2048, .f32⟩
  | .hbm, ⟨2, _⟩ => ⟨S1x2048x12288, .f32⟩
  | .hbm, ⟨3, _⟩ => ⟨S1x12288, .f32⟩
  | .hbm, ⟨4, _⟩ => ⟨S4x2048, .f32⟩
  | .hbm, ⟨5, _⟩ => ⟨S4x2048, .f32⟩
  | .hbm, ⟨6, _⟩ => ⟨S_, .f32⟩
  | .hbm, ⟨7, _⟩ => ⟨S4x2048, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S2048x12288, .f32⟩
  | .hbm, ⟨14, _⟩ => ⟨S4x12288, .f32⟩
  | .hbm, ⟨15, _⟩ => ⟨S12288, .f32⟩
  | .hbm, ⟨16, _⟩ => ⟨S1x12288, .f32⟩
  | .hbm, ⟨17, _⟩ => ⟨S4x12288, .f32⟩
  | .hbm, ⟨18, _⟩ => ⟨S4x12288, .f32⟩
  | .hbm, ⟨19, _⟩ => ⟨S128x2048, .f32⟩
  | .hbm, ⟨20, _⟩ => ⟨S128x2048, .f32⟩
  | .hbm, ⟨21, _⟩ => ⟨S_, .f32⟩
  | .hbm, ⟨22, _⟩ => ⟨S128x2048, .f32⟩
  | .hbm, ⟨23, _⟩ => ⟨S128x2048, .f32⟩
  | .hbm, ⟨24, _⟩ => ⟨S_, .f32⟩
  | .hbm, ⟨25, _⟩ => ⟨S128x2048, .f32⟩
  | .hbm, ⟨26, _⟩ => ⟨S128x2048, .f32⟩
  | .hbm, ⟨27, _⟩ => ⟨S128x2048, .f32⟩
  | .hbm, ⟨28, _⟩ => ⟨S2048x12288, .f32⟩
  | .hbm, ⟨29, _⟩ => ⟨S128x12288, .f32⟩
  | .hbm, ⟨30, _⟩ => ⟨S12288, .f32⟩
  | .hbm, ⟨31, _⟩ => ⟨S1x12288, .f32⟩
  | .hbm, ⟨32, _⟩ => ⟨S128x12288, .f32⟩
  | .hbm, ⟨33, _⟩ => ⟨S128x12288, .f32⟩
  | .hbm, ⟨34, _⟩ => ⟨S4x12288, .f32⟩
  | .hbm, ⟨35, _⟩ => ⟨S8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩

abbrev nD : Nat := 1
abbrev τ : Topo := Topo.v7x

variable {F : FTy → Type} [FloatOps F]
-- ==== Kernel8.lean ====
abbrev S512x2048 : Shape := ⟨2, ![512, 2048]⟩
abbrev S1x2048x2048 : Shape := ⟨3, ![1, 2048, 2048]⟩
abbrev S128x4x2048 : Shape := ⟨3, ![128, 4, 2048]⟩
abbrev S128x12288 : Shape := ⟨2, ![128, 12288]⟩
abbrev S1x2048 : Shape := ⟨2, ![1, 2048]⟩
abbrev S2048x2048 : Shape := ⟨2, ![2048, 2048]⟩
abbrev S4x128x2048 : Shape := ⟨3, ![4, 128, 2048]⟩
abbrev S128x2048 : Shape := ⟨2, ![128, 2048]⟩
abbrev S128 : Shape := ⟨1, ![128]⟩
abbrev S128x1 : Shape := ⟨2, ![128, 1]⟩

abbrev nBuf : Space → Nat
  | .hbm => 12
  | .vmem => 10
  | .smem => 0
  | _ => 0

abbrev bufTy : (tb : Table) → Fin (tcTables nBuf tb) → BufTy
  | .hbm, ⟨0, _⟩ => ⟨S512x2048, .f32⟩
  | .hbm, ⟨1, _⟩ => ⟨S1x2048x2048, .f32⟩
  | .hbm, ⟨2, _⟩ => ⟨S128x4x2048, .f32⟩
  | .hbm, ⟨3, _⟩ => ⟨S128x12288, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .hbm, ⟨8, _⟩ => ⟨S4x128x2048, .f32⟩
  | .hbm, ⟨9, _⟩ => ⟨S512x2048, .f32⟩
  | .hbm, ⟨10, _⟩ => ⟨S512x2048, .f32⟩
  | .hbm, ⟨11, _⟩ => ⟨S512x2048, .bf16⟩
  | .local _ .vmem, ⟨0, _⟩ => ⟨S512x2048, .f32⟩
  | .local _ .vmem, ⟨1, _⟩ => ⟨S2048x2048, .bf16⟩
  | .local _ .vmem, ⟨2, _⟩ => ⟨S512x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S128x2048, .f32⟩
  | .local _ .vmem, ⟨7, _⟩ => ⟨S128x2048, .f32⟩
  | .local _ .vmem, ⟨8, _⟩ => ⟨S512x2048, .f32⟩
  | .local _ .vmem, ⟨9, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![c0_i32.toNat, c4_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== Reference8Ideal.lean ====
abbrev S512x2048 : Shape := ⟨2, ![512, 2048]⟩
abbrev S1x2048x2048 : Shape := ⟨3, ![1, 2048, 2048]⟩
abbrev S128x4x2048 : Shape := ⟨3, ![128, 4, 2048]⟩
abbrev S128x12288 : Shape := ⟨2, ![128, 12288]⟩
abbrev S1x2048 : Shape := ⟨2, ![1, 2048]⟩
abbrev S128x1x12288 : Shape := ⟨3, ![128, 1, 12288]⟩
abbrev S128x1x2048 : Shape := ⟨3, ![128, 1, 2048]⟩
abbrev S4x128x2048 : Shape := ⟨3, ![4, 128, 2048]⟩
abbrev S2048x2048 : Shape := ⟨2, ![2048, 2048]⟩
abbrev S_ : Shape := ⟨0, ![]⟩
abbrev S2048 : Shape := ⟨1, ![2048]⟩
abbrev S128x4 : Shape := ⟨2, ![128, 4]⟩
abbrev S128x4x1 : Shape := ⟨3, ![128, 4, 1]⟩
abbrev S1x1x2048 : Shape := ⟨3, ![1, 1, 2048]⟩

abbrev nBuf : Space → Nat
  | .hbm => 89
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S1x2048x2048, .f32⟩
  | .hbm, ⟨2, _⟩ => ⟨S128x4x2048, .f32⟩
  | .hbm, ⟨3, _⟩ => ⟨S128x12288, .f32⟩
  | .hbm, ⟨4, _⟩ => ⟨S1x2048, .f32⟩
  | .hbm, ⟨5, _⟩ => ⟨S1x2048, .f32⟩
  | .hbm, ⟨6, _⟩ => ⟨S128x1x12288, .f32⟩
  | .hbm, ⟨7, _⟩ => ⟨S128x1x2048, .f32⟩
  | .hbm, ⟨8, _⟩ => ⟨S128x1x2048, .f32⟩
  | .hbm, ⟨9, _⟩ => ⟨S128x1x2048, .f32⟩
  | .hbm, ⟨10, _⟩ => ⟨S128x1x2048, .f32⟩
  | .hbm, ⟨11, _⟩ => ⟨S128x1x2048, .f32⟩
  | .hbm, ⟨12, _⟩ => ⟨S128x1x2048, .f32⟩
  | .hbm, ⟨13, _⟩ => ⟨S4x128x2048, .f32⟩
  | .hbm, ⟨14, _⟩ => ⟨S128x4x2048, .f32⟩
  | .hbm, ⟨15, _⟩ => ⟨S2048x2048, .f32⟩
  | .hbm, ⟨16, _⟩ => ⟨S128x4x2048, .f32⟩
  | .hbm, ⟨17, _⟩ => ⟨S_, .f32⟩
  | .hbm, ⟨18, _⟩ => ⟨S128x4x2048, .f32⟩
  | .hbm, ⟨19, _⟩ => ⟨S128x4x2048, .f32⟩
  | .hbm, ⟨20, _⟩ => ⟨S128x4x2048, .f32⟩
  | .hbm, ⟨21, _⟩ => ⟨S128x4x2048, .f32⟩
  | .hbm, ⟨22, _⟩ => ⟨S128x4x2048, .f32⟩
  | .hbm, ⟨23, _⟩ => ⟨S2048, .f32⟩
  | .hbm, ⟨24, _⟩ => ⟨S2048, .f32⟩
  | .hbm, ⟨25, _⟩ => ⟨S_, .f32⟩
  | .hbm, ⟨26, _⟩ => ⟨S128x4, .f32⟩
  | .hbm, ⟨27, _⟩ => ⟨S128x4x1, .f32⟩
  | .hbm, ⟨28, _⟩ => ⟨S_, .f32⟩
  | .hbm, ⟨29, _⟩ => ⟨S128x4x1, .f32⟩
  | .hbm, ⟨30, _⟩ => ⟨S128x4x1, .f32⟩
  | .hbm, ⟨31, _⟩ => ⟨S128x4x2048, .f32⟩
  | .hbm, ⟨32, _⟩ => ⟨S128x4x2048, .f32⟩
  | .hbm, ⟨33, _⟩ => ⟨S128x4x2048, .f32⟩
  | .hbm, ⟨34, _⟩ => ⟨S_, .f32⟩
  | .hbm, ⟨35, _⟩ => ⟨S128x4, .f32⟩
  | .hbm, ⟨36, _⟩ => ⟨S128x4x1, .f32⟩
  | .hbm, ⟨37, _⟩ => ⟨S_, .f32⟩
  | .hbm, ⟨38, _⟩ => ⟨S128x4x1, .f32⟩
  | .hbm, ⟨39, _⟩ => ⟨S128x4x1, .f32⟩
  | .hbm, ⟨40, _⟩ => ⟨S128x4x2048, .f32⟩
  | .hbm, ⟨41, _⟩ => ⟨S128x4x2048, .f32⟩
  | .hbm, ⟨42, _⟩ => ⟨S_, .f32⟩
  | .hbm, ⟨43, _⟩ => ⟨S128x4x1, .f32⟩
  | .hbm, ⟨44, _⟩ => ⟨S128x4x1, .f32⟩
  | .hbm, ⟨45, _⟩ => ⟨S128x4x1, .f32⟩
  | .hbm, ⟨46, _⟩ => ⟨S128x4x2048, .f32⟩
  | .hbm, ⟨47, _⟩ => ⟨S128x4x2048, .f32⟩
  | .hbm, ⟨48, _⟩ => ⟨S1x1x2048, .f32⟩
  | .hbm, ⟨49, _⟩ => ⟨S128x4x2048, .f32⟩
  | .hbm, ⟨50, _⟩ => ⟨S128x4x2048, .f32⟩
  | .hbm, ⟨51, _⟩ => ⟨S1x1x2048, .f32⟩
  | .hbm, ⟨52, _⟩ => ⟨S128x4x2048, .f32⟩
  | .hbm, ⟨53, _⟩ => ⟨S128x4x2048, .f32⟩
  | .hbm, ⟨54, _⟩ => ⟨S_, .f32⟩
  | .hbm, ⟨55, _⟩ => ⟨S128x4, .f32⟩
  | .hbm, ⟨56, _⟩ => ⟨S128x4x1, .f32⟩
  | .hbm, ⟨57, _⟩ => ⟨S_, .f32⟩
  | .hbm, ⟨58, _⟩ => ⟨S128x4x1, .f32⟩
  | .hbm, ⟨59, _⟩ => ⟨S128x4x1, .f32⟩
  | .hbm, ⟨60, _⟩ => ⟨S128x4x2048, .f32⟩
  | .hbm, ⟨61, _⟩ => ⟨S128x4x2048, .f32⟩
  | .hbm, ⟨62, _⟩ => ⟨S128x4x2048, .f32⟩
  | .hbm, ⟨63, _⟩ => ⟨S_, .f32⟩
  | .hbm, ⟨64, _⟩ => ⟨S128x4, .f32⟩
  | .hbm, ⟨65, _⟩ => ⟨S128x4x1, .f32⟩
  | .hbm, ⟨66, _⟩ => ⟨S_, .f32⟩
  | .hbm, ⟨67, _⟩ => ⟨S128x4x1, .f32⟩
  | .hbm, ⟨68, _⟩ => ⟨S128x4x1, .f32⟩
  | .hbm, ⟨69, _⟩ => ⟨S128x4x2048, .f32⟩
  | .hbm, ⟨70, _⟩ => ⟨S128x4x2048, .f32⟩
  | .hbm, ⟨71, _⟩ => ⟨S_, .f32⟩
  | .hbm, ⟨72, _⟩ => ⟨S128x4x1, .f32⟩
  | .hbm, ⟨73, _⟩ => ⟨S128x4x1, .f32⟩
  | .hbm, ⟨74, _⟩ => ⟨S128x4x1, .f32⟩
  | .hbm, ⟨75, _⟩ => ⟨S128x4x2048, .f32⟩
  | .hbm, ⟨76, _⟩ => ⟨S128x4x2048, .f32⟩
  | .hbm, ⟨77, _⟩ => ⟨S_, .f32⟩
  | .hbm, ⟨78, _⟩ => ⟨S128x1x2048, .f32⟩
  | .hbm, ⟨79, _⟩ => ⟨S128x1x2048, .f32⟩
  | .hbm, ⟨80, _⟩ => ⟨S128x4x2048, .f32⟩
  | .hbm, ⟨81, _⟩ => ⟨S128x4x2048, .f32⟩
  | .hbm, ⟨82, _⟩ => ⟨S128x4x2048, .f32⟩
  | .hbm, ⟨83, _⟩ => ⟨S128x4x2048, .f32⟩
  | .hbm, ⟨84, _⟩ => ⟨S4x128x2048, .f32⟩
  | .hbm, ⟨85, _⟩ => ⟨S512x2048, .f32⟩
  | .hbm, ⟨86, _⟩ => ⟨S4x128x2048, .f32⟩
  | .hbm, ⟨87, _⟩ => ⟨S512x2048, .f32⟩
  | .hbm, ⟨88, _⟩ => ⟨S512x2048, .bf16⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_9 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== Kernel9.lean ====
abbrev S128x4x2048 : Shape := ⟨3, ![128, 4, 2048]⟩
abbrev S128x12288 : Shape := ⟨2, ![128, 12288]⟩
abbrev S1x2048x7176 : Shape := ⟨3, ![1, 2048, 7176]⟩
abbrev S2048x7176 : Shape := ⟨2, ![2048, 7176]⟩
abbrev S2048x2048 : Shape := ⟨2, ![2048, 2048]⟩
abbrev S2048x5120 : Shape := ⟨2, ![2048, 5120]⟩
abbrev S2048x7168 : Shape := ⟨2, ![2048, 7168]⟩
abbrev S4x128x2048 : Shape := ⟨3, ![4, 128, 2048]⟩
abbrev S512x2048 : Shape := ⟨2, ![512, 2048]⟩
abbrev S2048x128 : Shape := ⟨2, ![2048, 128]⟩
abbrev S512x7168 : Shape := ⟨2, ![512, 7168]⟩
abbrev S512x128 : Shape := ⟨2, ![512, 128]⟩
abbrev S128x2048 : Shape := ⟨2, ![128, 2048]⟩
abbrev S2048x1792 : Shape := ⟨2, ![2048, 1792]⟩
abbrev S512x1792 : Shape := ⟨2, ![512, 1792]⟩
abbrev S128 : Shape := ⟨1, ![128]⟩
abbrev S128x1 : Shape := ⟨2, ![128, 1]⟩
abbrev S128x128 : Shape := ⟨2, ![128, 128]⟩
abbrev S128x1792 : Shape := ⟨2, ![128, 1792]⟩

abbrev nBuf : Space → Nat
  | .hbm => 13
  | .vmem => 10
  | .smem => 0
  | _ => 0

abbrev bufTy : (tb : Table) → Fin (tcTables nBuf tb) → BufTy
  | .hbm, ⟨0, _⟩ => ⟨S128x4x2048, .f32⟩
  | .hbm, ⟨1, _⟩ => ⟨S128x12288, .f32⟩
  | .hbm, ⟨2, _⟩ => ⟨S1x2048x7176, .f32⟩
  | .hbm, ⟨3, _⟩ => ⟨S2048x7176, .f32⟩
  | .hbm, ⟨4, _⟩ => ⟨S2048x7176, .bf16⟩
  | .hbm, ⟨5, _⟩ => ⟨S2048x2048, .bf16⟩
  | .hbm, ⟨6, _⟩ => ⟨S2048x5120, .bf16⟩
  | .hbm, ⟨7, _⟩ => ⟨S2048x7168, .bf16⟩
  | .hbm, ⟨8, _⟩ => ⟨S4x128x2048, .f32⟩
  | .hbm, ⟨9, _⟩ => ⟨S512x2048, .f32⟩
  | .hbm, ⟨10, _⟩ => ⟨S2048x128, .bf16⟩
  | .hbm, ⟨11, _⟩ => ⟨S512x7168, .f32⟩
  | .hbm, ⟨12, _⟩ => ⟨S512x128, .f32⟩
  | .local _ .vmem, ⟨0, _⟩ => ⟨S512x2048, .f32⟩
  | .local _ .vmem, ⟨1, _⟩ => ⟨S128x2048, .f32⟩
  | .local _ .vmem, ⟨2, _⟩ => ⟨S128x2048, .f32⟩
  | .local _ .vmem, ⟨3, _⟩ => ⟨S2048x1792, .bf16⟩
  | .local _ .vmem, ⟨4, _⟩ => ⟨S2048x1792, .bf16⟩
  | .local _ .vmem, ⟨5, _⟩ => ⟨S2048x128, .bf16⟩
  | .local _ .vmem, ⟨6, _⟩ => ⟨S512x1792, .f32⟩
  | .local _ .vmem, ⟨7, _⟩ => ⟨S512x1792, .f32⟩
  | .local _ .vmem, ⟨8, _⟩ => ⟨S512x128, .f32⟩
  | .local _ .vmem, ⟨9, _⟩ => ⟨S512x2048, .bf16⟩
  | _, _ => ⟨S128x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference9Ideal.lean ====
abbrev S128x4x2048 : Shape := ⟨3, ![128, 4, 2048]⟩
abbrev S128x12288 : Shape := ⟨2, ![128, 12288]⟩
abbrev S1x2048x7176 : Shape := ⟨3, ![1, 2048, 7176]⟩
abbrev S128x1x12288 : Shape := ⟨3, ![128, 1, 12288]⟩
abbrev S128x1x2048 : Shape := ⟨3, ![128, 1, 2048]⟩
abbrev S_ : Shape := ⟨0, ![]⟩
abbrev S128x4 : Shape := ⟨2, ![128, 4]⟩
abbrev S128x4x1 : Shape := ⟨3, ![128, 4, 1]⟩
abbrev S2048x7176 : Shape := ⟨2, ![2048, 7176]⟩
abbrev S128x4x7176 : Shape := ⟨3, ![128, 4, 7176]⟩
abbrev S4x128x7176 : Shape := ⟨3, ![4, 128, 7176]⟩
abbrev S512x7176 : Shape := ⟨2, ![512, 7176]⟩
abbrev S512x2048 : Shape := ⟨2, ![512, 2048]⟩
abbrev S512x5120 : Shape := ⟨2, ![512, 5120]⟩
abbrev S512x7168 : Shape := ⟨2, ![512, 7168]⟩
abbrev S512x128 : Shape := ⟨2, ![512, 128]⟩

abbrev nBuf : Space → Nat
  | .hbm => 48
  | .vmem => 0
  | .smem => 0
  | _ => 0

abbrev bufTy : (tb : Table) → Fin (tcTables nBuf tb) → BufTy
  | .hbm, ⟨0, _⟩ => ⟨S128x4x2048, .f32⟩
  | .hbm, ⟨1, _⟩ => ⟨S128x12288, .f32⟩
  | .hbm, ⟨2, _⟩ => ⟨S1x2048x7176, .f32⟩
  | .hbm, ⟨3, _⟩ => ⟨S128x1x12288, .f32⟩
  | .hbm, ⟨4, _⟩ => ⟨S128x1x2048, .f32⟩
  | .hbm, ⟨5, _⟩ => ⟨S128x1x2048, .f32⟩
  | .hbm, ⟨6, _⟩ => ⟨S128x1x2048, .f32⟩
  | .hbm, ⟨7, _⟩ => ⟨S128x1x2048, .f32⟩
  | .hbm, ⟨8, _⟩ => ⟨S128x1x2048, .f32⟩
  | .hbm, ⟨9, _⟩ => ⟨S128x1x2048, .f32⟩
  | .hbm, ⟨10, _⟩ => ⟨S_, .f32⟩
  | .hbm, ⟨11, _⟩ => ⟨S128x4, .f32⟩
  | .hbm, ⟨12, _⟩ => ⟨S128x4x1, .f32⟩
  | .hbm, ⟨13, _⟩ => ⟨S_, .f32⟩
  | .hbm, ⟨14, _⟩ => ⟨S128x4x1, .f32⟩
  | .hbm, ⟨15, _⟩ => ⟨S128x4x1, .f32⟩
  | .hbm, ⟨16, _⟩ => ⟨S128x4x2048, .f32⟩
  | .hbm, ⟨17, _⟩ => ⟨S128x4x2048, .f32⟩
  | .hbm, ⟨18, _⟩ => ⟨S128x4x2048, .f32⟩
  | .hbm, ⟨19, _⟩ => ⟨S_, .f32⟩
  | .hbm, ⟨20, _⟩ => ⟨S128x4, .f32⟩
  | .hbm, ⟨21, _⟩ => ⟨S128x4x1, .f32⟩
  | .hbm, ⟨22, _⟩ => ⟨S_, .f32⟩
  | .hbm, ⟨23, _⟩ => ⟨S128x4x1, .f32⟩
  | .hbm, ⟨24, _⟩ => ⟨S128x4x1, .f32⟩
  | .hbm, ⟨25, _⟩ => ⟨S128x4x2048, .f32⟩
  | .hbm, ⟨26, _⟩ => ⟨S128x4x2048, .f32⟩
  | .hbm, ⟨27, _⟩ => ⟨S_, .f32⟩
  | .hbm, ⟨28, _⟩ => ⟨S128x4x1, .f32⟩
  | .hbm, ⟨29, _⟩ => ⟨S128x4x1, .f32⟩
  | .hbm, ⟨30, _⟩ => ⟨S128x4x1, .f32⟩
  | .hbm, ⟨31, _⟩ => ⟨S128x4x2048, .f32⟩
  | .hbm, ⟨32, _⟩ => ⟨S128x4x2048, .f32⟩
  | .hbm, ⟨33, _⟩ => ⟨S_, .f32⟩
  | .hbm, ⟨34, _⟩ => ⟨S128x1x2048, .f32⟩
  | .hbm, ⟨35, _⟩ => ⟨S128x1x2048, .f32⟩
  | .hbm, ⟨36, _⟩ => ⟨S128x4x2048, .f32⟩
  | .hbm, ⟨37, _⟩ => ⟨S128x4x2048, .f32⟩
  | .hbm, ⟨38, _⟩ => ⟨S128x4x2048, .f32⟩
  | .hbm, ⟨39, _⟩ => ⟨S128x4x2048, .f32⟩
  | .hbm, ⟨40, _⟩ => ⟨S2048x7176, .f32⟩
  | .hbm, ⟨41, _⟩ => ⟨S128x4x7176, .f32⟩
  | .hbm, ⟨42, _⟩ => ⟨S4x128x7176, .f32⟩
  | .hbm, ⟨43, _⟩ => ⟨S512x7176, .f32⟩
  | .hbm, ⟨44, _⟩ => ⟨S512x2048, .f32⟩
  | .hbm, ⟨45, _⟩ => ⟨S512x5120, .f32⟩
  | .hbm, ⟨46, _⟩ => ⟨S512x7168, .f32⟩
  | .hbm, ⟨47, _⟩ => ⟨S512x128, .f32⟩
  | _, _ => ⟨S128x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]
-- ==== Kernel10.lean ====
abbrev S1x2048x7176 : Shape := ⟨3, ![1, 2048, 7176]⟩
abbrev S2048x7176 : Shape := ⟨2, ![2048, 7176]⟩
abbrev S7176x2048 : Shape := ⟨2, ![7176, 2048]⟩
abbrev S2048x7168 : Shape := ⟨2, ![2048, 7168]⟩
abbrev S2048x128 : Shape := ⟨2, ![2048, 128]⟩
abbrev S1024x2048 : Shape := ⟨2, ![1024, 2048]⟩
abbrev S128x2048 : Shape := ⟨2, ![128, 2048]⟩
abbrev S2048x1024 : Shape := ⟨2, ![2048, 1024]⟩
abbrev S256x2048 : Shape := ⟨2, ![256, 2048]⟩
abbrev S2048x256 : Shape := ⟨2, ![2048, 256]⟩

abbrev nBuf : Space → Nat
  | .hbm => 5
  | .vmem => 8
  | .smem => 0
  | _ => 0

abbrev bufTy : (tb : Table) → Fin (tcTables nBuf tb) → BufTy
  | .hbm, ⟨0, _⟩ => ⟨S1x2048x7176, .f32⟩
  | .hbm, ⟨1, _⟩ => ⟨S2048x7176, .f32⟩
  | .hbm, ⟨2, _⟩ => ⟨S7176x2048, .f32⟩
  | .hbm, ⟨3, _⟩ => ⟨S2048x7168, .bf16⟩
  | .hbm, ⟨4, _⟩ => ⟨S2048x128, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S128x2048, .f32⟩
  | .local _ .vmem, ⟨5, _⟩ => ⟨S2048x1024, .bf16⟩
  | .local _ .vmem, ⟨6, _⟩ => ⟨S2048x1024, .bf16⟩
  | .local _ .vmem, ⟨7, _⟩ => ⟨S2048x128, .bf16⟩
  | _, _ => ⟨S1x2048x7176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![7], ![false]⟩

def k0_mult1 (i : grid0.Coords) : BitVec 32 :=
  let arg0 : BitVec 32 := BitVec.ofNat 32 (i 0).val
  let c2_i32 : BitVec 32 := 2#32
  let v0 : BitVec 32 := Scalar.maxsi arg0 c2_i32
  let c1024_i32 : BitVec 32 := 1024#32
  let v1 : BitVec 32 := Scalar.muli v0 c1024_i32
  let c8_i32 : BitVec 32 := 8#32
  let v2 : BitVec 32 := Scalar.addi v1 c8_i32
  v2
def k0_cond2 (i : grid0.Coords) : BitVec 1 :=
  let arg0 : BitVec 32 := BitVec.ofNat 32 (i 0).val
  let c2_i32 : BitVec 32 := 2#32
  let v3 : BitVec 1 := Scalar.cmpi .slt arg0 c2_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32_2 : BitVec 32 := 2#32
  let v6 : BitVec 1 := Scalar.cmpi .sge arg0 c2_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.maxsi arg0 c2_i32
  let c1024_i32 : BitVec 32 := 1024#32
  let v1 : BitVec 32 := Scalar.muli v0 c1024_i32
  let c8_i32 : BitVec 32 := 8#32
  let v2 : BitVec 32 := Scalar.addi v1 c8_i32
  let v3 : BitVec 32 := v2
  let c0_i32 : BitVec 32 := 0#32
  let c0_i32_0 : BitVec 32 := 0#32
  ![v3.toNat, c0_i32.toNat]

def cc0_transform_2 (i : grid0.Coords) : Fin 2 → Nat :=
  let arg0 : BitVec 32 := BitVec.ofNat 32 (i 0).val
  let c16_i32 : BitVec 32 := 16#32
  let c0_i32 : BitVec 32 := 0#32
  let c0_i32_0 : BitVec 32 := 0#32
  ![c16_i32.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference10Ideal.lean ====
abbrev S1x2048x7176 : Shape := ⟨3, ![1, 2048, 7176]⟩
abbrev S2048x7176 : Shape := ⟨2, ![2048, 7176]⟩
abbrev S2048x2048 : Shape := ⟨2, ![2048, 2048]⟩
abbrev S2048x5120 : Shape := ⟨2, ![2048, 5120]⟩
abbrev S2048x7168 : Shape := ⟨2, ![2048, 7168]⟩
abbrev S2048x128 : Shape := ⟨2, ![2048, 128]⟩

abbrev nBuf : Space → Nat
  | .hbm => 7
  | .vmem => 0
  | .smem => 0
  | _ => 0

abbrev bufTy : (tb : Table) → Fin (tcTables nBuf tb) → BufTy
  | .hbm, ⟨0, _⟩ => ⟨S1x2048x7176, .f32⟩
  | .hbm, ⟨1, _⟩ => ⟨S2048x7176, .f32⟩
  | .hbm, ⟨2, _⟩ => ⟨S2048x7176, .bf16⟩
  | .hbm, ⟨3, _⟩ => ⟨S2048x2048, .bf16⟩
  | .hbm, ⟨4, _⟩ => ⟨S2048x5120, .bf16⟩
  | .hbm, ⟨5, _⟩ => ⟨S2048x7168, .bf16⟩
  | .hbm, ⟨6, _⟩ => ⟨S2048x128, .bf16⟩
  | _, _ => ⟨S1x2048x7176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩

abbrev nD : Nat := 1
abbrev τ : Topo := Topo.v7x

variable {F : FTy → Type} [FloatOps F]
-- ==== Kernel11.lean ====
abbrev S512x7168 : Shape := ⟨2, ![512, 7168]⟩
abbrev S512x128 : Shape := ⟨2, ![512, 128]⟩
abbrev S1x2x4 : Shape := ⟨3, ![1, 2, 4]⟩
abbrev S2x1024 : Shape := ⟨2, ![2, 1024]⟩
abbrev S1x1024 : Shape := ⟨2, ![1, 1024]⟩
abbrev S1x128x4x128x256 : Shape := ⟨5, ![1, 128, 4, 128, 256]⟩
abbrev S1x128x4x128 : Shape := ⟨4, ![1, 128, 4, 128]⟩
abbrev S1x128x4 : Shape := ⟨3, ![1, 128, 4]⟩
abbrev S1x128x8x128x128 : Shape := ⟨5, ![1, 128, 8, 128, 128]⟩
abbrev S128x96 : Shape := ⟨2, ![128, 96]⟩
abbrev S5x32x32 : Shape := ⟨3, ![5, 32, 32]⟩
abbrev S2x4 : Shape := ⟨2, ![2, 4]⟩
abbrev S1x8 : Shape := ⟨2, ![1, 8]⟩
abbrev S_ : Shape := ⟨0, ![]⟩
abbrev S1x128 : Shape := ⟨2, ![1, 128]⟩
abbrev S4x128x7168 : Shape := ⟨3, ![4, 128, 7168]⟩
abbrev S4x128x128 : Shape := ⟨3, ![4, 128, 128]⟩
abbrev S4x128x2048 : Shape := ⟨3, ![4, 128, 2048]⟩
abbrev S4x8x7168 : Shape := ⟨3, ![4, 8, 7168]⟩
abbrev S4x8x128 : Shape := ⟨3, ![4, 8, 128]⟩
abbrev S1x8x4x128x256 : Shape := ⟨5, ![1, 8, 4, 128, 256]⟩
abbrev S1x8x4x128 : Shape := ⟨4, ![1, 8, 4, 128]⟩
abbrev S1x8x8x128x128 : Shape := ⟨5, ![1, 8, 8, 128, 128]⟩
abbrev S4x8x2048 : Shape := ⟨3, ![4, 8, 2048]⟩
abbrev S128x1024 : Shape := ⟨2, ![128, 1024]⟩
abbrev S32x128 : Shape := ⟨2, ![32, 128]⟩
abbrev S1x32x32 : Shape := ⟨3, ![1, 32, 32]⟩
abbrev S32x32 : Shape := ⟨2, ![32, 32]⟩
abbrev S32x1 : Shape := ⟨2, ![32, 1]⟩
abbrev S1x32 : Shape := ⟨2, ![1, 32]⟩
abbrev S128x32 : Shape := ⟨2, ![128, 32]⟩
abbrev S1x8x4 : Shape := ⟨3, ![1, 8, 4]⟩
abbrev S8x4 : Shape := ⟨2, ![8, 4]⟩
abbrev S4x8x256 : Shape := ⟨3, ![4, 8, 256]⟩
abbrev S32x256 : Shape := ⟨2, ![32, 256]⟩
abbrev S32 : Shape := ⟨1, ![32]⟩
abbrev S1x1 : Shape := ⟨2, ![1, 1]⟩
abbrev S1x1x1x128x256 : Shape := ⟨5, ![1, 1, 1, 128, 256]⟩
abbrev S128x256 : Shape := ⟨2, ![128, 256]⟩
abbrev S1x1x1x128 : Shape := ⟨4, ![1, 1, 1, 128]⟩
abbrev S1x256 : Shape := ⟨2, ![1, 256]⟩
abbrev S128 : Shape := ⟨1, ![128]⟩
abbrev S1x4 : Shape := ⟨2, ![1, 4]⟩
abbrev S1x1x4 : Shape := ⟨3, ![1, 1, 4]⟩
abbrev S4x8x1024 : Shape := ⟨3, ![4, 8, 1024]⟩
abbrev S32x1024 : Shape := ⟨2, ![32, 1024]⟩
abbrev S96x1024 : Shape := ⟨2, ![96, 1024]⟩
abbrev S8x128 : Shape := ⟨2, ![8, 128]⟩
abbrev S128x8 : Shape := ⟨2, ![128, 8]⟩
abbrev S1x1x1x128x128 : Shape := ⟨5, ![1, 1, 1, 128, 128]⟩
abbrev S128x128 : Shape := ⟨2, ![128, 128]⟩
abbrev S128x1 : Shape := ⟨2, ![128, 1]⟩

abbrev nBuf : Space → Nat
  | .hbm => 24
  | .vmem => 27
  | .smem => 0
  | _ => 0

abbrev bufTy : (tb : Table) → Fin (tcTables nBuf tb) → BufTy
  | .hbm, ⟨0, _⟩ => ⟨S512x7168, .f32⟩
  | .hbm, ⟨1, _⟩ => ⟨S512x128, .f32⟩
  | .hbm, ⟨2, _⟩ => ⟨S1x2x4, .f32⟩
  | .hbm, ⟨3, _⟩ => ⟨S2x1024, .f32⟩
  | .hbm, ⟨4, _⟩ => ⟨S1x1024, .f32⟩
  | .hbm, ⟨5, _⟩ => ⟨S1x1024, .f32⟩
  | .hbm, ⟨6, _⟩ => ⟨S1x128x4x128x256, .f32⟩
  | .hbm, ⟨7, _⟩ => ⟨S1x128x4x128, .f32⟩
  | .hbm, ⟨8, _⟩ => ⟨S1x128x4, .f32⟩
  | .hbm, ⟨9, _⟩ => ⟨S1x128x8x128x128, .f32⟩
  | .hbm, ⟨10, _⟩ => ⟨S128x96, .bf16⟩
  | .hbm, ⟨11, _⟩ => ⟨S5x32x32, .f32⟩
  | .hbm, ⟨12, _⟩ => ⟨S2x4, .f32⟩
  | .hbm, ⟨13, _⟩ => ⟨S1x8, .f32⟩
  | .hbm, ⟨14, _⟩ => ⟨S_, .i32⟩
  | .hbm, ⟨15, _⟩ => ⟨S_, .f32⟩
  | .hbm, ⟨16, _⟩ => ⟨S1x128, .f32⟩
  | .hbm, ⟨17, _⟩ => ⟨S4x128x7168, .f32⟩
  | .hbm, ⟨18, _⟩ => ⟨S4x128x128, .f32⟩
  | .hbm, ⟨19, _⟩ => ⟨S4x128x2048, .f32⟩
  | .hbm, ⟨20, _⟩ => ⟨S1x128x4x128x256, .f32⟩
  | .hbm, ⟨21, _⟩ => ⟨S1x128x4x128, .f32⟩
  | .hbm, ⟨22, _⟩ => ⟨S1x128x4, .f32⟩
  | .hbm, ⟨23, _⟩ => ⟨S1x128x8x128x128, .f32⟩
  | .local _ .vmem, ⟨0, _⟩ => ⟨S4x8x7168, .f32⟩
  | .local _ .vmem, ⟨1, _⟩ => ⟨S4x8x7168, .f32⟩
  | .local _ .vmem, ⟨2, _⟩ => ⟨S4x8x128, .f32⟩
  | .local _ .vmem, ⟨3, _⟩ => ⟨S4x8x128, .f32⟩
  | .local _ .vmem, ⟨4, _⟩ => ⟨S1x128, .f32⟩
  | .local _ .vmem, ⟨5, _⟩ => ⟨S2x1024, .f32⟩
  | .local _ .vmem, ⟨6, _⟩ => ⟨S1x1024, .f32⟩
  | .local _ .vmem, ⟨7, _⟩ => ⟨S1x1024, .f32⟩
  | .local _ .vmem, ⟨8, _⟩ => ⟨S128x96, .bf16⟩
  | .local _ .vmem, ⟨9, _⟩ => ⟨S5x32x32, .f32⟩
  | .local _ .vmem, ⟨10, _⟩ => ⟨S1x8x4x128x256, .f32⟩
  | .local _ .vmem, ⟨11, _⟩ => ⟨S1x8x4x128x256, .f32⟩
  | .local _ .vmem, ⟨12, _⟩ => ⟨S1x8x4x128, .f32⟩
  | .local _ .vmem, ⟨13, _⟩ => ⟨S1x8x4x128, .f32⟩
  | .local _ .vmem, ⟨14, _⟩ => ⟨S1x128x4, .f32⟩
  | .local _ .vmem, ⟨15, _⟩ => ⟨S1x8x8x128x128, .f32⟩
  | .local _ .vmem, ⟨16, _⟩ => ⟨S1x8x8x128x128, .f32⟩
  | .local _ .vmem, ⟨17, _⟩ => ⟨S4x8x2048, .f32⟩
  | .local _ .vmem, ⟨18, _⟩ => ⟨S4x8x2048, .f32⟩
  | .local _ .vmem, ⟨19, _⟩ => ⟨S1x8x4x128x256, .f32⟩
  | .local _ .vmem, ⟨20, _⟩ => ⟨S1x8x4x128x256, .f32⟩
  | .local _ .vmem, ⟨21, _⟩ => ⟨S1x8x4x128, .f32⟩
  | .local _ .vmem, ⟨22, _⟩ => ⟨S1x8x4x128, .f32⟩
  | .local _ .vmem, ⟨23, _⟩ => ⟨S1x128x4, .f32⟩
  | .local _ .vmem, ⟨24, _⟩ => ⟨S1x8x8x128x128, .f32⟩
  | .local _ .vmem, ⟨25, _⟩ => ⟨S1x8x8x128x128, .f32⟩
  | .local _ .vmem, ⟨26, _⟩ => ⟨S128x1024, .f32⟩
  | _, _ => ⟨S512x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_v5_3 : Ref sig .tc := ⟨.hbm, 22, rfl⟩
abbrev main_v5_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let c0_26 : Index := 0#32
  let arg0 : BitVec 32 := BitVec.ofNat 32 (i 0).val
  let c8_i32 : BitVec 32 := 8#32
  let v3 : BitVec 32 := Scalar.muli arg0 c8_i32
  let v70 : Index := Scalar.indexCast v3
  let c0_27 : Index := 0#32
  ![0, v70.toNat, 0]
def k0_off2 (i : grid0.Coords) (c0_i32_1352 : BitVec 32) : Fin 3 → Nat :=
  let c0_1353 : Index := 0#32
  let arg0 : BitVec 32 := BitVec.ofNat 32 (i 0).val
  let c8_i32 : BitVec 32 := 8#32
  let v3 : BitVec 32 := Scalar.muli arg0 c8_i32
  let v2674 : BitVec 32 := Scalar.addi v3 c0_i32_1352
  let v2675 : Index := Scalar.indexCast v2674
  let c0_1354 : Index := 0#32
  ![0, v2675.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 2 → Memref sig .tc .vmem S4x8x7168 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x96 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5x32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x8x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x4x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x8x8x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x8x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x4x128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x4x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x128x4 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x8x8x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Proof.Whole.lean ====
/-
  Accesses over a whole buffer: what a load reads, and what a buffer reads as after a store. Read by the runs of the calls.
-/
module

public import Idealize.ShloMosaic.Lib.Pipeline.FrameBody
public import Idealize.ShloMosaic.Lib.Pipeline.Value
public import Idealize.ShloMosaic.Lib.Tactic

@[expose] public section

noncomputable section

namespace Cert.Proof

open Idealize.ShloMosaic Idealize.ShloMosaic.TcCoe Idealize.SL.Sem

variable {sig : RefSig}

/-- A load of a whole buffer reads its contents. -/
theorem readAt_whole {Val : EltTy → Type} {sp : Space} {S : Shape} {e : EltTy} (v : View sig .tc sp S e) (f : v.ty.Contents Val)
    {off : Fin S.rank → Nat} (h : off = fun _ => 0) (inb : ∀ a, off a + S.size a ≤ S.size a) :
    v.readAt Val (Rect.unit off S.size inb).toLoadRect f = v.read Val f := by
  rw [View.readAt_eq_ld, View.ld_unit_zero h]

/-- After a store over a whole buffer it reads as what was stored. -/
theorem read_store_whole {Val : EltTy → Type} [∀ e, Nonempty (Val e)] {sp : Space} {S : Shape} {e : EltTy} (v : View sig .tc sp S e) (f : v.ty.Contents Val)
    {off : Fin S.rank → Nat} (h : off = fun _ => 0) (inb : ∀ a, off a + S.size a ≤ S.size a) (w : S.Idx → Val e) (L) :
    v.read Val (v.writes Val f (⟨Rect.unit off S.size inb, w⟩ :: L)) = w := by
  rw [View.read_writes_eq_canon _ _ _ (fun y => ⟨_, List.mem_cons_self, ?_⟩), View.canon_cons_unit_zero h]
  subst h
  show y ∈ (Rect.unit _ S.size inb).set
  exact Rect.mem_set_unit.mpr fun a => ⟨Nat.zero_le _, by simpa using (y a).isLt⟩

/-- The zero offsets of a rank-two access. -/
theorem zero2 : (![0, 0] : Fin 2 → Nat) = fun _ => 0 := by funext a; fin_cases a <;> rfl

/-- A load of a buffer last stored whole reads the stored contents at the rectangle. -/
theorem readCov_whole {Val : EltTy → Type} [∀ e, Nonempty (Val e)] {sp : Space} {S : Shape} {e : EltTy} (v : View sig .tc sp S e)
    {off : Fin S.rank → Nat} (h : off = fun _ => 0) (inb : ∀ a, off a + S.size a ≤ S.size a) (w : S.Idx → Val e) (L) (r : Rect S) :
    v.readCov (⟨Rect.unit off S.size inb, w⟩ :: L) r.toLoadRect = View.ld w r := by
  rw [View.readCov_eq_canon', View.canon_cons_unit_zero h]

/-- The zero offsets of a rank-three access. -/
theorem zero3 : (![0, 0, 0] : Fin 3 → Nat) = fun _ => 0 := by funext a; fin_cases a <;> rfl

end Cert.Proof

end
-- ==== Proof.Up.Part1.lean ====
/-
  The first stretch of the up-projection's body: at the first point of a row of the grid the three weight blocks are
  cast (and, in the last row, masked) into their output buffers; the carried rows are zeroed; the first rows of the
  activations and the cast weights are loaded and multiplied.
-/
module

public import proofs.«01_k».proof.Proof.Whole
public import proofs.«01_k».proof.Proof.Gen.KernelIdeal
public import proofs.«01_k».proof.Proof.Gen.KernelIdeal.Skeleton
public import proofs.«01_k».proof.Proof.Gen.KernelIdeal.Frame
public import Idealize.ShloMosaic.Lib.Pipeline.Frame
public import Idealize.ShloMosaic.Lib.Pipeline.FrameBody
public import Idealize.ShloMosaic.Lib.Pipeline.Value
public import Idealize.ShloMosaic.Lib.Tactic

@[expose] public section

set_option maxRecDepth 16384

noncomputable section

namespace Cert.Proof.Up

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The scratch that carries rows from one stretch of the sequence to the next. -/
abbrev scM : Memref sig .tc .vmem S8x512 .f32 := Memref.whole cc0_scratch0

/-- The first 512 rows of the activations. -/
abbrev rA0 : Rect S2048x2048 := Rect.unit (s := S2048x2048) ![0, 0] S512x2048.size inb_S2048x2048_S512x2048_0_0
/-- The right 384 columns of a weight block. -/
abbrev rU : Rect S2048x512 := Rect.unit (s := S2048x512) ![0, 128] S2048x384.size inb_S2048x512_S2048x384_0_128

/-- The test at the head of a tile of the sequence: each tile is a whole sequence, so it always holds. -/
theorem starts (i : grid0.Coords) :
    Scalar.cmpi .ne (Scalar.extui (Scalar.cmpi .eq (Scalar.select
      (Scalar.andi (Scalar.xori (Scalar.cmpi .slt (Scalar.remsi (BitVec.ofNat 32 (i 1).val) 1#32) 0#32) 0#1)
        (Scalar.cmpi .ne (Scalar.remsi (BitVec.ofNat 32 (i 1).val) 1#32) 0#32))
      (Scalar.addi (Scalar.remsi (BitVec.ofNat 32 (i 1).val) 1#32) 1#32)
      (Scalar.remsi (BitVec.ofNat 32 (i 1).val) 1#32)) 0#32) : BitVec 32) 0#32 = 1#1 := by
  generalize i 1 = k
  revert k
  decide +kernel

/-- A first point of a row at which the weights are cast as they stand. -/
theorem part1_plain (c : Dev nD) (i : grid0.Coords) (h1 : k0_cond1 i = 1#1) (h2 : ¬ k0_cond2 i = 1#1)
    (arg2 : Memref sig .tc .vmem S2048x2048 .bf16) (harg2 : arg2.IsWhole) (arg3 : Memref sig .tc .vmem S2048x512 .f32) (harg3 : arg3.IsWhole) (arg4 : Memref sig .tc .vmem S2048x512 .f32) (harg4 : arg4.IsWhole) (arg5 : Memref sig .tc .vmem S512x2048 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S2048x512 .bf16) (harg8 : arg8.IsWhole) (arg9 : Memref sig .tc .vmem S1x2x512 .f32) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole)
    (X0 : S2048x2048.Idx → Elt F .bf16) (X1 X2 : S2048x512.Idx → Elt F .f32) (X3 : S512x2048.Idx → Elt F .f32)
    (K : (Σ' (arg1 : BitVec 32) (v29 : IVec S8x1 32) (v30 : Vec F S512x2048 .bf16), FVec F S512x512 .f32) → sProp 𝕄) :
    iprop(owns (c : Thread nD τ) arg2 fullShare X0 ∗ owns (c : Thread nD τ) arg3 fullShare X1 ∗ owns (c : Thread nD τ) arg4 fullShare X2 ∗ owns (c : Thread nD τ) arg5 fullShare X3
        ∗ (∃ d, owns (c : Thread nD τ) arg10 fullShare d) ∗ (∃ d, owns (c : Thread nD τ) arg11 fullShare d) ∗ (∃ d, owns (c : Thread nD τ) arg12 fullShare d) ∗ (∃ d, owns (c : Thread nD τ) scM fullShare d)
        ∗ (iprop(owns (c : Thread nD τ) arg2 fullShare X0 ∗ owns (c : Thread nD τ) arg3 fullShare X1 ∗ owns (c : Thread nD τ) arg4 fullShare X2 ∗ owns (c : Thread nD τ) arg5 fullShare X3
            ∗ owns (c : Thread nD τ) arg10 fullShare (k0_pay3 X1) ∗ owns (c : Thread nD τ) arg11 fullShare (k0_pay4 X2) ∗ owns (c : Thread nD τ) arg12 fullShare (k0_pay5 X3) ∗ owns (c : Thread nD τ) scM fullShare (k0_pay9 (F := F)))
          -∗ K ⟨BitVec.ofNat 32 (i 1).val, iota .tc S8x1 32 [0] iota_S8x1_d0_w32, View.ld X0 rA0, k0_pay10 (View.ld X0 rA0) (k0_pay3 X1)⟩))
      ⊢ wp frame (wpE (defs₀ (F := F)) Variants.none c none) Set.univ
          (k0_part1 i arg2 harg2 arg3 harg3 arg4 harg4 arg5 harg5 arg6 harg6 arg7 harg7 arg8 harg8 arg9 harg9 arg10 harg10 arg11 harg11 arg12 harg12 scM (Memref.isWhole_whole _)) K := by
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%d10, %f10, -, H10⟩, ⟨%d11, %f11, -, H11⟩, ⟨%d12, %f12, -, H12⟩, ⟨%d13, %f13, -, H13⟩, Hk⟩
  subst hf2 hf3 hf4 hf5
  sl_exec
  sl_unfold_run_names
  rw [dif_pos (starts i)]
  simp only [View.readCov_cons_toLoadRect, readAt_whole (S := S2048x512) _ _ zero2, readAt_whole (S := S512x2048) _ _ zero2, View.readAt_eq_ld]
  rw [wp_ret]; imodintro
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H10]
  · iexists _; isplitr; swap; · iexact H10
    ipureintro; exact read_store_whole _ _ zero2 _ _ _
  isplitl [H11]
  · iexists _; isplitr; swap; · iexact H11
    ipureintro; exact read_store_whole _ _ zero2 _ _ _
  isplitl [H12]
  · iexists _; isplitr; swap; · iexact H12
    ipureintro; exact read_store_whole _ _ zero2 _ _ _
  iexists _; isplitr; swap; · iexact H13
  ipureintro; exact read_store_whole _ _ zero2 _ _ _

/-- The first point of the last row, at which the weights are masked to the columns inside the layer. -/
theorem part1_edge (c : Dev nD) (i : grid0.Coords) (h1 : ¬ k0_cond1 i = 1#1) (h2 : k0_cond2 i = 1#1)
    (arg2 : Memref sig .tc .vmem S2048x2048 .bf16) (harg2 : arg2.IsWhole) (arg3 : Memref sig .tc .vmem S2048x512 .f32) (harg3 : arg3.IsWhole) (arg4 : Memref sig .tc .vmem S2048x512 .f32) (harg4 : arg4.IsWhole) (arg5 : Memref sig .tc .vmem S512x2048 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S2048x512 .bf16) (harg8 : arg8.IsWhole) (arg9 : Memref sig .tc .vmem S1x2x512 .f32) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole)
    (X0 : S2048x2048.Idx → Elt F .bf16) (X1 X2 : S2048x512.Idx → Elt F .f32) (X3 : S512x2048.Idx → Elt F .f32)
    (K : (Σ' (arg1 : BitVec 32) (v29 : IVec S8x1 32) (v30 : Vec F S512x2048 .bf16), FVec F S512x512 .f32) → sProp 𝕄) :
    iprop(owns (c : Thread nD τ) arg2 fullShare X0 ∗ owns (c : Thread nD τ) arg3 fullShare X1 ∗ owns (c : Thread nD τ) arg4 fullShare X2 ∗ owns (c : Thread nD τ) arg5 fullShare X3
        ∗ (∃ d, owns (c : Thread nD τ) arg10 fullShare d) ∗ (∃ d, owns (c : Thread nD τ) arg11 fullShare d) ∗ (∃ d, owns (c : Thread nD τ) arg12 fullShare d) ∗ (∃ d, owns (c : Thread nD τ) scM fullShare d)
        ∗ (iprop(owns (c : Thread nD τ) arg2 fullShare X0 ∗ owns (c : Thread nD τ) arg3 fullShare X1 ∗ owns (c : Thread nD τ) arg4 fullShare X2 ∗ owns (c : Thread nD τ) arg5 fullShare X3
            ∗ owns (c : Thread nD τ) arg10 fullShare (k0_pay6 i X1) ∗ owns (c : Thread nD τ) arg11 fullShare (k0_pay7 i (View.ld X2 rU)) ∗ owns (c : Thread nD τ) arg12 fullShare (k0_pay8 i X3) ∗ owns (c : Thread nD τ) scM fullShare (k0_pay9 (F := F)))
          -∗ K ⟨BitVec.ofNat 32 (i 1).val, iota .tc S8x1 32 [0] iota_S8x1_d0_w32, View.ld X0 rA0, k0_pay10 (View.ld X0 rA0) (k0_pay6 i X1)⟩))
      ⊢ wp frame (wpE (defs₀ (F := F)) Variants.none c none) Set.univ
          (k0_part1 i arg2 harg2 arg3 harg3 arg4 harg4 arg5 harg5 arg6 harg6 arg7 harg7 arg8 harg8 arg9 harg9 arg10 harg10 arg11 harg11 arg12 harg12 scM (Memref.isWhole_whole _)) K := by
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%d10, %f10, -, H10⟩, ⟨%d11, %f11, -, H11⟩, ⟨%d12, %f12, -, H12⟩, ⟨%d13, %f13, -, H13⟩, Hk⟩
  subst hf2 hf3 hf4 hf5
  sl_exec
  sl_unfold_run_names
  rw [dif_pos (starts i)]
  simp only [View.readCov_cons_toLoadRect, readAt_whole (S := S2048x512) _ _ zero2, readAt_whole (S := S512x2048) _ _ zero2, View.readAt_eq_ld]
  rw [wp_ret]; imodintro
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H10]
  · iexists _; isplitr; swap; · iexact H10
    ipureintro; exact read_store_whole _ _ zero2 _ _ _
  isplitl [H11]
  · iexists _; isplitr; swap; · iexact H11
    ipureintro; exact read_store_whole _ _ zero2 _ _ _
  isplitl [H12]
  · iexists _; isplitr; swap; · iexact H12
    ipureintro; exact read_store_whole _ _ zero2 _ _ _
  iexists _; isplitr; swap; · iexact H13
  ipureintro; exact read_store_whole _ _ zero2 _ _ _

/-- A later point of a row: the cast weights are left as found. -/
theorem part1_later (c : Dev nD) (i : grid0.Coords) (h1 : ¬ k0_cond1 i = 1#1) (h2 : ¬ k0_cond2 i = 1#1)
    (arg2 : Memref sig .tc .vmem S2048x2048 .bf16) (harg2 : arg2.IsWhole) (arg3 : Memref sig .tc .vmem S2048x512 .f32) (harg3 : arg3.IsWhole) (arg4 : Memref sig .tc .vmem S2048x512 .f32) (harg4 : arg4.IsWhole) (arg5 : Memref sig .tc .vmem S512x2048 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S2048x512 .bf16) (harg8 : arg8.IsWhole) (arg9 : Memref sig .tc .vmem S1x2x512 .f32) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole)
    (X0 : S2048x2048.Idx → Elt F .bf16) (X1 X2 : S2048x512.Idx → Elt F .f32) (X3 : S512x2048.Idx → Elt F .f32)
    (W10 W11 : S2048x512.Idx → Elt F .bf16) (W12 : S512x2048.Idx → Elt F .bf16)
    (K : (Σ' (arg1 : BitVec 32) (v29 : IVec S8x1 32) (v30 : Vec F S512x2048 .bf16), FVec F S512x512 .f32) → sProp 𝕄) :
    iprop(owns (c : Thread nD τ) arg2 fullShare X0 ∗ owns (c : Thread nD τ) arg3 fullShare X1 ∗ owns (c : Thread nD τ) arg4 fullShare X2 ∗ owns (c : Thread nD τ) arg5 fullShare X3
        ∗ owns (c : Thread nD τ) arg10 fullShare W10 ∗ owns (c : Thread nD τ) arg11 fullShare W11 ∗ owns (c : Thread nD τ) arg12 fullShare W12 ∗ (∃ d, owns (c : Thread nD τ) scM fullShare d)
        ∗ (iprop(owns (c : Thread nD τ) arg2 fullShare X0 ∗ owns (c : Thread nD τ) arg3 fullShare X1 ∗ owns (c : Thread nD τ) arg4 fullShare X2 ∗ owns (c : Thread nD τ) arg5 fullShare X3
            ∗ owns (c : Thread nD τ) arg10 fullShare W10 ∗ owns (c : Thread nD τ) arg11 fullShare W11 ∗ owns (c : Thread nD τ) arg12 fullShare W12 ∗ owns (c : Thread nD τ) scM fullShare (k0_pay9 (F := F)))
          -∗ K ⟨BitVec.ofNat 32 (i 1).val, iota .tc S8x1 32 [0] iota_S8x1_d0_w32, View.ld X0 rA0, k0_pay10 (View.ld X0 rA0) W10⟩))
      ⊢ wp frame (wpE (defs₀ (F := F)) Variants.none c none) Set.univ
          (k0_part1 i arg2 harg2 arg3 harg3 arg4 harg4 arg5 harg5 arg6 harg6 arg7 harg7 arg8 harg8 arg9 harg9 arg10 harg10 arg11 harg11 arg12 harg12 scM (Memref.isWhole_whole _)) K := by
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f10, %hf10, H10⟩, ⟨%f11, %hf11, H11⟩, ⟨%f12, %hf12, H12⟩, ⟨%d13, %f13, -, H13⟩, Hk⟩
  subst hf2 hf3 hf4 hf5 hf10 hf11 hf12
  sl_exec
  sl_unfold_run_names
  rw [dif_pos (starts i)]
  simp only [View.readCov_cons_toLoadRect, readAt_whole (S := S2048x512) _ _ zero2, readAt_whole (S := S512x2048) _ _ zero2, View.readAt_eq_ld]
  rw [wp_ret]; imodintro
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  iexists _; isplitr; swap; · iexact H13
  ipureintro; exact read_store_whole _ _ zero2 _ _ _

end Cert.Proof.Up

end
-- ==== Proof.Up.Body.lean ====
/-
  The whole body of the up-projection at a point of the grid, from what its first stretch leaves: four stretches of 512
  rows, each the two products, the convolution over the carried rows and the gated product, then the last two rows kept.
-/
module

public import proofs.«01_k».proof.Proof.Up.Part1

@[expose] public section

set_option maxRecDepth 16384

noncomputable section

namespace Cert.Proof.Up

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The 512 rows of the activations from row `512 k`. -/
abbrev rA1 : Rect S2048x2048 := Rect.unit (s := S2048x2048) ![512, 0] S512x2048.size inb_S2048x2048_S512x2048_512_0
abbrev rA2 : Rect S2048x2048 := Rect.unit (s := S2048x2048) ![1024, 0] S512x2048.size inb_S2048x2048_S512x2048_1024_0
abbrev rA3 : Rect S2048x2048 := Rect.unit (s := S2048x2048) ![1536, 0] S512x2048.size inb_S2048x2048_S512x2048_1536_0
/-- The 512 rows of the gated block from row `512 k`. -/
abbrev rG0 : Rect S2048x512 := Rect.unit (s := S2048x512) ![0, 0] S512x512.size inb_S2048x512_S512x512_0_0
abbrev rG1 : Rect S2048x512 := Rect.unit (s := S2048x512) ![512, 0] S512x512.size inb_S2048x512_S512x512_512_0
abbrev rG2 : Rect S2048x512 := Rect.unit (s := S2048x512) ![1024, 0] S512x512.size inb_S2048x512_S512x512_1024_0
abbrev rG3 : Rect S2048x512 := Rect.unit (s := S2048x512) ![1536, 0] S512x512.size inb_S2048x512_S512x512_1536_0
/-- Rows of the carried block: its last, the one before, and the last two. -/
abbrev rC7 : Rect S8x512 := Rect.unit (s := S8x512) ![7, 0] S1x512.size inb_S8x512_S1x512_7_0
abbrev rC6 : Rect S8x512 := Rect.unit (s := S8x512) ![6, 0] S1x512.size inb_S8x512_S1x512_6_0
abbrev rC67 : Rect S8x512 := Rect.unit (s := S8x512) ![6, 0] S2x512.size inb_S8x512_S2x512_6_0
/-- The convolution's three taps. -/
abbrev rT0 : Rect S3x512 := Rect.unit (s := S3x512) ![0, 0] S1x512.size inb_S3x512_S1x512_0_0
abbrev rT1 : Rect S3x512 := Rect.unit (s := S3x512) ![1, 0] S1x512.size inb_S3x512_S1x512_1_0
abbrev rT2 : Rect S3x512 := Rect.unit (s := S3x512) ![2, 0] S1x512.size inb_S3x512_S1x512_2_0

/-- The row numbers 0 to 7. -/
abbrev rows8 : IVec S8x1 32 := iota .tc S8x1 32 [0] iota_S8x1_d0_w32

/-- A stretch's gated block: from its two products `A` and `U`, the rows `C` carried into it, the taps and the bias. -/
def gated (A U : FVec F S512x512 .f32) (C : S8x512.Idx → Elt F .f32) (X4 : S3x512.Idx → Elt F .f32) (X5 : S1x512.Idx → Elt F .f32) : FVec F S512x512 .bf16 :=
  k0_pay16 A U (k0_pay12 rows8 A (View.ld C rC7)) (k0_pay13 rows8 A (View.ld C rC7) (View.ld C rC6)) (k0_pay15 X5) (View.ld X4 rT0) (View.ld X4 rT1) (View.ld X4 rT2)

/-- The product of a stretch's rows with a weight block. -/
def prodOf (X0 : S2048x2048.Idx → Elt F .bf16) (W : S2048x512.Idx → Elt F .bf16) : Fin 4 → FVec F S512x512 .f32
  | 0 => k0_pay10 (View.ld X0 rA0) W
  | 1 => k0_pay10 (View.ld X0 rA1) W
  | 2 => k0_pay10 (View.ld X0 rA2) W
  | 3 => k0_pay10 (View.ld X0 rA3) W

/-- The rows carried into a stretch: zeros into the first, the last eight rows of the previous product into the others. -/
def carried (X0 : S2048x2048.Idx → Elt F .bf16) (W : S2048x512.Idx → Elt F .bf16) : Fin 4 → S8x512.Idx → Elt F .f32
  | 0 => k0_pay9 (F := F)
  | 1 => k0_pay14 (prodOf X0 W 0)
  | 2 => k0_pay14 (prodOf X0 W 1)
  | 3 => k0_pay14 (prodOf X0 W 2)

/-- A stretch's gated block from the activations, the two cast weight blocks, the taps and the bias. -/
def stretch (X0 : S2048x2048.Idx → Elt F .bf16) (W10 W11 : S2048x512.Idx → Elt F .bf16) (X4 : S3x512.Idx → Elt F .f32) (X5 : S1x512.Idx → Elt F .f32)
    (k : Fin 4) : FVec F S512x512 .bf16 :=
  gated (prodOf X0 W10 k) (prodOf X0 W11 k) (carried X0 W10 k) X4 X5

/-- The gated block of a point: its four stretches, one under the other. -/
def gBlock (X0 : S2048x2048.Idx → Elt F .bf16) (W10 W11 : S2048x512.Idx → Elt F .bf16) (X4 : S3x512.Idx → Elt F .f32) (X5 : S1x512.Idx → Elt F .f32) :
    S2048x512.Idx → Elt F .bf16 :=
  View.canon [⟨rG3, stretch X0 W10 W11 X4 X5 3⟩, ⟨rG2, stretch X0 W10 W11 X4 X5 2⟩, ⟨rG1, stretch X0 W10 W11 X4 X5 1⟩, ⟨rG0, stretch X0 W10 W11 X4 X5 0⟩]

/-- The kept rows of a point: the last two of the last stretch's product. -/
def tailBlock (X0 : S2048x2048.Idx → Elt F .bf16) (W10 : S2048x512.Idx → Elt F .bf16) : S1x2x512.Idx → Elt F .f32 :=
  k0_pay1 (View.ld (k0_pay14 (prodOf X0 W10 3)) rC67)

/-- The test before the kept rows are stored holds at every point: each tile is a whole sequence. -/
theorem ends (i : grid0.Coords) : k0_cond4 i = 1#1 := by
  unfold k0_cond4
  dsimp only
  generalize i 1 = k
  revert k
  decide +kernel

/-- The four stretches cover the gated block. -/
theorem gCover (w0 w1 w2 w3 : S512x512.Idx → Elt F .bf16) (y : S2048x512.Idx) :
    ∃ p ∈ ([⟨rG3, w3⟩, ⟨rG2, w2⟩, ⟨rG1, w1⟩, ⟨rG0, w0⟩] : List (View.Piece (Elt F) S2048x512 .bf16)), y ∈ p.1.set := by
  have h0 : (y 0).val < 2048 := (y 0).isLt
  have h1 : (y 1).val < 512 := (y 1).isLt
  have key : ∀ (o : Nat) (inb), o ≤ (y 0).val → (y 0).val < o + 512 → y ∈ (Rect.unit (s := S2048x512) ![o, 0] S512x512.size inb).set := by
    intro o inb ha hb
    refine Rect.mem_set_unit.mpr fun a => ?_
    fin_cases a
    · exact ⟨ha, hb⟩
    · exact ⟨Nat.zero_le _, by simpa using h1⟩
  by_cases hA : (y 0).val < 512
  · exact ⟨⟨rG0, w0⟩, by simp, key 0 inb_S2048x512_S512x512_0_0 (by omega) (by omega)⟩
  by_cases hB : (y 0).val < 1024
  · exact ⟨⟨rG1, w1⟩, by simp, key 512 inb_S2048x512_S512x512_512_0 (by omega) (by omega)⟩
  by_cases hC : (y 0).val < 1536
  · exact ⟨⟨rG2, w2⟩, by simp, key 1024 inb_S2048x512_S512x512_1024_0 (by omega) (by omega)⟩
  · exact ⟨⟨rG3, w3⟩, by simp, key 1536 inb_S2048x512_S512x512_1536_0 (by omega) (by omega)⟩

/-- The second stretch's operations, as the program groups them, are `gated`. -/
theorem gated1 (x : Vec F S512x2048 .bf16) (W U : S2048x512.Idx → Elt F .bf16) (C : S8x512.Idx → Elt F .f32) (X4 : S3x512.Idx → Elt F .f32) (X5 : S1x512.Idx → Elt F .f32) :
    k0_pay22 (k0_pay17 x W) (k0_pay18 x U) (k0_pay21 rows8 (k0_pay17 x W) (View.ld C rC7) (View.ld C rC6) (k0_pay19 x W) 2#32 X5 (View.ld X4 rT0) (View.ld X4 rT1)) (View.ld X4 rT2)
      = gated (k0_pay10 x W) (k0_pay10 x U) C X4 X5 := rfl

/-- The third stretch's likewise. -/
theorem gated2 (x : Vec F S512x2048 .bf16) (W U : S2048x512.Idx → Elt F .bf16) (C : S8x512.Idx → Elt F .f32) (X4 : S3x512.Idx → Elt F .f32) (X5 : S1x512.Idx → Elt F .f32) :
    k0_pay30 (k0_pay24 x U) (k0_pay29 rows8 (k0_pay23 x W) (View.ld C rC7) (View.ld C rC6) (k0_pay25 x W) (k0_pay26 rows8 x W (View.ld C rC7)) (k0_pay27 rows8) X5 (View.ld X4 rT0) (View.ld X4 rT1) (View.ld X4 rT2))
      = gated (k0_pay10 x W) (k0_pay10 x U) C X4 X5 := rfl

/-- The fourth stretch's likewise. -/
theorem gated3 (x : Vec F S512x2048 .bf16) (W U : S2048x512.Idx → Elt F .bf16) (C : S8x512.Idx → Elt F .f32) (X4 : S3x512.Idx → Elt F .f32) (X5 : S1x512.Idx → Elt F .f32) :
    k0_pay38 (k0_pay31 x W) (k0_pay32 x U) (k0_pay34 rows8 x W (View.ld C rC7)) (k0_pay35 rows8 x W (View.ld C rC7) (View.ld C rC6)) (k0_pay36 x W) X5 (View.ld X4 rT0) (View.ld X4 rT1) (View.ld X4 rT2)
      = gated (k0_pay10 x W) (k0_pay10 x U) C X4 X5 := rfl

/-- Four blocks laid one under the other are the gated block when each is its stretch. -/
theorem gBlock_of (X0 : S2048x2048.Idx → Elt F .bf16) (W10 W11 : S2048x512.Idx → Elt F .bf16) (X4 : S3x512.Idx → Elt F .f32) (X5 : S1x512.Idx → Elt F .f32)
    (w0 w1 w2 w3 : S512x512.Idx → Elt F .bf16) (h0 : w0 = stretch X0 W10 W11 X4 X5 0) (h1 : w1 = stretch X0 W10 W11 X4 X5 1)
    (h2 : w2 = stretch X0 W10 W11 X4 X5 2) (h3 : w3 = stretch X0 W10 W11 X4 X5 3) :
    View.canon ([⟨rG3, w3⟩, ⟨rG2, w2⟩, ⟨rG1, w1⟩, ⟨rG0, w0⟩] : List (View.Piece (Elt F) S2048x512 .bf16)) = gBlock X0 W10 W11 X4 X5 := by
  subst h0 h1 h2 h3; rfl

set_option maxHeartbeats 1000000 in
/-- The body from its first stretch `hp`, which leaves the cast weights at `W10`, `W11`, `W12` and the carried rows zero. -/
theorem body_run (c : Dev nD) (i : grid0.Coords)
    (arg2 : Memref sig .tc .vmem S2048x2048 .bf16) (harg2 : arg2.IsWhole) (arg3 : Memref sig .tc .vmem S2048x512 .f32) (harg3 : arg3.IsWhole) (arg4 : Memref sig .tc .vmem S2048x512 .f32) (harg4 : arg4.IsWhole) (arg5 : Memref sig .tc .vmem S512x2048 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S2048x512 .bf16) (harg8 : arg8.IsWhole) (arg9 : Memref sig .tc .vmem S1x2x512 .f32) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole)
    (X0 : S2048x2048.Idx → Elt F .bf16) (X1 X2 : S2048x512.Idx → Elt F .f32) (X3 : S512x2048.Idx → Elt F .f32) (X4 : S3x512.Idx → Elt F .f32) (X5 : S1x512.Idx → Elt F .f32)
    (W10 W11 : S2048x512.Idx → Elt F .bf16) (W12 : S512x2048.Idx → Elt F .bf16) (P : sProp 𝕄)
    (hp : ∀ K : (Σ' (arg1 : BitVec 32) (v29 : IVec S8x1 32) (v30 : Vec F S512x2048 .bf16), FVec F S512x512 .f32) → sProp 𝕄,
      iprop(P ∗ (iprop(owns (c : Thread nD τ) arg2 fullShare X0 ∗ owns (c : Thread nD τ) arg3 fullShare X1 ∗ owns (c : Thread nD τ) arg4 fullShare X2 ∗ owns (c : Thread nD τ) arg5 fullShare X3
            ∗ owns (c : Thread nD τ) arg10 fullShare W10 ∗ owns (c : Thread nD τ) arg11 fullShare W11 ∗ owns (c : Thread nD τ) arg12 fullShare W12 ∗ owns (c : Thread nD τ) scM fullShare (k0_pay9 (F := F)))
          -∗ K ⟨BitVec.ofNat 32 (i 1).val, rows8, View.ld X0 rA0, k0_pay10 (View.ld X0 rA0) W10⟩))
        ⊢ wp frame (wpE (defs₀ (F := F)) Variants.none c none) Set.univ (k0_part1 i arg2 harg2 arg3 harg3 arg4 harg4 arg5 harg5 arg6 harg6 arg7 harg7 arg8 harg8 arg9 harg9 arg10 harg10 arg11 harg11 arg12 harg12 scM (Memref.isWhole_whole _)) K)
    (Q : PUnit → sProp 𝕄) :
    iprop(P ∗ owns (c : Thread nD τ) arg6 fullShare X4 ∗ owns (c : Thread nD τ) arg7 fullShare X5 ∗ (∃ d, owns (c : Thread nD τ) arg8 fullShare d) ∗ (∃ d, owns (c : Thread nD τ) arg9 fullShare d)
        ∗ (iprop(owns (c : Thread nD τ) arg2 fullShare X0 ∗ owns (c : Thread nD τ) arg3 fullShare X1 ∗ owns (c : Thread nD τ) arg4 fullShare X2 ∗ owns (c : Thread nD τ) arg5 fullShare X3
            ∗ owns (c : Thread nD τ) arg6 fullShare X4 ∗ owns (c : Thread nD τ) arg7 fullShare X5 ∗ owns (c : Thread nD τ) arg8 fullShare (gBlock X0 W10 W11 X4 X5) ∗ owns (c : Thread nD τ) arg9 fullShare (tailBlock X0 W10)
            ∗ owns (c : Thread nD τ) arg10 fullShare W10 ∗ owns (c : Thread nD τ) arg11 fullShare W11 ∗ owns (c : Thread nD τ) arg12 fullShare W12 ∗ (∃ d, owns (c : Thread nD τ) scM fullShare d)) -∗ Q ⟨⟩))
      ⊢ wp frame (wpE (defs₀ (F := F)) Variants.none c none) Set.univ (cc0_up_proj i arg2 harg2 arg3 harg3 arg4 harg4 arg5 harg5 arg6 harg6 arg7 harg7 arg8 harg8 arg9 harg9 arg10 harg10 arg11 harg11 arg12 harg12 scM (Memref.isWhole_whole _)) Q := by
  simp only [cc0_up_proj_eq_skeleton]; unfold cc0_up_proj_skel
  rw [wp_bind]
  iintro ⟨HP, H6, H7, H8, H9, Hk⟩
  iapply (hp _)
  isplitl [HP]; · iexact HP
  iintro ⟨H2, H3, H4, H5, H10, H11, H12, H13⟩
  dsimp only
  have h4 := ends i
  simp only [k0_part2_eq_skeleton, k0_part3_eq_skeleton, k0_part4_eq_skeleton, k0_part5_eq_skeleton, k0_part6_eq_skeleton, k0_part7_eq_skeleton, k0_part8_eq_skeleton]
  unfold k0_part2_skel k0_part3_skel k0_part4_skel k0_part5_skel k0_part6_skel k0_part7_skel k0_part8_skel
  unfold owns
  icases H2 with ⟨%f2, %hf2, H2⟩
  icases H6 with ⟨%f6, %hf6, H6⟩
  icases H7 with ⟨%f7, %hf7, H7⟩
  icases H8 with ⟨%d8, %f8, -, H8⟩
  icases H9 with ⟨%d9, %f9, -, H9⟩
  icases H10 with ⟨%f10, %hf10, H10⟩
  icases H11 with ⟨%f11, %hf11, H11⟩
  icases H13 with ⟨%f13, %hf13, H13⟩
  sl_exec
  sl_unfold_run_names
  subst hf2 hf6 hf7 hf10 hf11
  simp only [readCov_whole (S := S8x512) _ zero2, readAt_whole (S := S2048x512) _ _ zero2, readAt_whole (S := S1x512) _ _ zero2, View.readAt_eq_ld]
  rw [show View.read (Elt F) (View.whole cc0_scratch0) f13 = k0_pay9 (F := F) from hf13]
  rw [wp_ret]; imodintro
  iapply Hk
  isplitl [H2]
  · iexists _; isplitr; swap; · iexact H2
    ipureintro; rfl
  isplitl [H3]; · iexact H3
  isplitl [H4]; · iexact H4
  isplitl [H5]; · iexact H5
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro
    refine (View.read_writes_eq_canon _ _ _ (gCover _ _ _ _)).trans (gBlock_of _ _ _ _ _ _ _ _ _ ?_ ?_ ?_ ?_)
    · rfl
    · exact gated1 _ _ _ _ _ _
    · exact gated2 _ _ _ _ _ _
    · exact gated3 _ _ _ _ _ _
  isplitl [H9]
  · iexists _; isplitr; swap; · iexact H9
    ipureintro
    refine (read_store_whole _ _ zero3 _ _ _).trans ?_
    rfl
  isplitl [H10]
  · iexists _; isplitr; swap; · iexact H10
    ipureintro; rfl
  isplitl [H11]
  · iexists _; isplitr; swap; · iexact H11
    ipureintro; rfl
  isplitl [H12]; · iexact H12
  iexists _, _; isplitr; swap; · iexact H13
  ipureintro; rfl

end Cert.Proof.Up

end
-- ==== Proof.Up.Weights.lean ====
/-
  What the up-projection's weight buffers hold over the grid (eleven rows of four points, a row per block of columns, its
  points the four sequences): the facts of the grid in closed form, and the cast weights a row's first point leaves.
-/
module

public import proofs.«01_k».proof.Proof.Up.Body
public import proofs.«01_k».proof.Proof.Gen.KernelIdeal.Points
public import Idealize.ShloMosaic.Lib.Pointwise

@[expose] public section

set_option maxRecDepth 16384

noncomputable section

namespace Cert.Proof.Up

open Cert.KernelIdeal Cert.KernelIdeal.Gen
open Idealize.ShloMosaic Idealize.ShloMosaic.TcCoe Idealize.ShloMosaic.Tactic

variable {F : FTy → Type} [FloatOps F]

variable (m : (ℓ : Loc nD τ sig) → Buf (Elt F) ℓ)

/-! ## The grid -/

/-- A point's row of the grid: its block of columns. -/
theorem coord0 : ∀ t : Fin cfg0.N, (cfg0.grid.coords t 0).val = t.val / 4 := by decide +kernel
/-- A point's place in its row: its sequence. -/
theorem coord1 : ∀ t : Fin cfg0.N, (cfg0.grid.coords t 1).val = t.val % 4 := by decide +kernel
/-- The weights are cast at the first point of every row but the last, -/
theorem casts_iff : ∀ t : Fin cfg0.N, k0_cond1 (cfg0.grid.coords t) = 1#1 ↔ t.val % 4 = 0 ∧ t.val < 40 := by decide +kernel
/-- and masked and cast at the first point of the last. -/
theorem masks_iff : ∀ t : Fin cfg0.N, k0_cond2 (cfg0.grid.coords t) = 1#1 ↔ t.val % 4 = 0 ∧ 40 ≤ t.val := by decide +kernel
/-- The cast weights' windows are stored into at the first point of a row only. -/
theorem idle8 : ∀ t : Fin cfg0.N, cfg0.idle 8 (cfg0.grid.coords t) = decide (t.val % 4 ≠ 0) := by decide +kernel
theorem idle9 : ∀ t : Fin cfg0.N, cfg0.idle 9 (cfg0.grid.coords t) = decide (t.val % 4 ≠ 0) := by decide +kernel
theorem idle10 : ∀ t : Fin cfg0.N, cfg0.idle 10 (cfg0.grid.coords t) = decide (t.val % 4 ≠ 0) := by decide +kernel
/-- The kept rows are stored at every point. -/
theorem idle7 : ∀ t : Fin cfg0.N, cfg0.idle 7 (cfg0.grid.coords t) = false := by decide +kernel

theorem N_eq : cfg0.N = 44 := by decide

/-- The first point of a point's row. -/
def first (t : Fin cfg0.N) : Fin cfg0.N := ⟨t.val - t.val % 4, Nat.lt_of_le_of_lt (Nat.sub_le _ _) t.isLt⟩

theorem first_val (t : Fin cfg0.N) : (first t).val = t.val - t.val % 4 := rfl
theorem first_of_head (t : Fin cfg0.N) (h : t.val % 4 = 0) : first t = t := Fin.ext (by rw [first_val]; omega)
theorem first_pred (t : Fin cfg0.N) (h : t.val % 4 ≠ 0) :
    first t = first ⟨t.val - 1, Nat.lt_of_le_of_lt (Nat.sub_le _ _) t.isLt⟩ :=
  Fin.ext (by rw [first_val, first_val]; show _ = t.val - 1 - (t.val - 1) % 4; omega)

/-! ## The block of the third weight, which overhangs its array in the last row -/

/-- Its rows inside the array: all but in the last row of the grid, -/
theorem xsize3_full : ∀ t : Fin cfg0.N, t.val < 40 → ∀ a, (cfg0.win 3).xsize (cfg0.grid.coords t) a = (cfg0.win 3).size a := by decide +kernel
/-- where 384 are. -/
theorem xsize3_last0 : ∀ t : Fin cfg0.N, 40 ≤ t.val → (cfg0.win 3).xsize (cfg0.grid.coords t) 0 = 384 := by decide +kernel
theorem xsize3_last1 : ∀ t : Fin cfg0.N, 40 ≤ t.val → (cfg0.win 3).xsize (cfg0.grid.coords t) 1 = 2048 := by decide +kernel

/-- Before the last row the fetched block is the whole buffer. -/
theorem fill3_full (t : Fin cfg0.N) (h : t.val < 40) (d d' : (cfg0.win 3).block.Idx → Elt F (cfg0.win 3).elt) (g) :
    (cfg0.win 3).fill (cfg0.grid.coords t) d g = (cfg0.win 3).fill (cfg0.grid.coords t) d' g := by
  funext j
  have hm : (cfg0.win 3).moved (cfg0.grid.coords t) j = true :=
    ((cfg0.win 3).moved_iff _ j).mpr fun a => by rw [xsize3_full t h a]; exact (j a).isLt
  unfold Pipeline.Window.fill; rw [dif_pos hm, dif_pos hm]

/-- In the last row the rows inside the array are as fetched. -/
theorem fill3_inside (t : Fin cfg0.N) (h : 40 ≤ t.val) (d d' : (cfg0.win 3).block.Idx → Elt F (cfg0.win 3).elt) (g)
    (j : (cfg0.win 3).block.Idx) (hj : (j 0).val < 384) :
    (cfg0.win 3).fill (cfg0.grid.coords t) d g j = (cfg0.win 3).fill (cfg0.grid.coords t) d' g j := by
  have hm : (cfg0.win 3).moved (cfg0.grid.coords t) j = true :=
    ((cfg0.win 3).moved_iff _ j).mpr fun a => by
      fin_cases a
      · exact lt_of_lt_of_eq hj (xsize3_last0 t h).symm
      · exact lt_of_lt_of_eq (show (j 1).val < 2048 from (j 1).isLt) (xsize3_last1 t h).symm
  unfold Pipeline.Window.fill; rw [dif_pos hm, dif_pos hm]

/-- Which rows of a block the mask keeps. -/
theorem keeps (j : Fin 11) (r : Fin 512) :
    Scalar.cmpi .slt (Scalar.addi (Scalar.muli (BitVec.ofNat 32 j.val) 512#32) (BitVec.ofNat 32 r.val)) 5504#32 = 1#1 ↔ j.val * 512 + r.val < 5504 := by
  revert j r; decide +kernel

/-- A choice whose condition fails is its second value. -/
theorem select_off {α : Type} (c : BitVec 1) (h : ¬ c = 1#1) (a b : α) : Scalar.select c a b = b := if_neg h
/-- A choice whose condition holds is its first. -/
theorem select_on {α : Type} (c : BitVec 1) (h : c = 1#1) (a b : α) : Scalar.select c a b = a := if_pos h

/-- The masked cast keeps nothing of the rows outside the array. -/
theorem masked_fill3 (t : Fin cfg0.N) (h : 40 ≤ t.val) (d d' : (cfg0.win 3).block.Idx → Elt F (cfg0.win 3).elt) (g) :
    k0_pay8 (F := F) (cfg0.grid.coords t) ((cfg0.win 3).fill (cfg0.grid.coords t) d g) = k0_pay8 (cfg0.grid.coords t) ((cfg0.win 3).fill (cfg0.grid.coords t) d' g) := by
  funext y
  have hc := coord0 t
  have ht : t.val < 44 := N_eq ▸ t.isLt
  have hf : (y 0).val < 384 → (cfg0.win 3).fill (cfg0.grid.coords t) d g y = (cfg0.win 3).fill (cfg0.grid.coords t) d' g y := fill3_inside t h d d' g y
  have hk := keeps (cfg0.grid.coords t 0) (y 0)
  generalize (cfg0.win 3).fill (cfg0.grid.coords t) d g = X at hf ⊢
  generalize (cfg0.win 3).fill (cfg0.grid.coords t) d' g = X' at hf ⊢
  pointwise [k0_pay8]
  by_cases hy : (y 0).val < 384
  · rw [hf hy]
  · have hn := fun e => hk.mp e
    have hn' : ¬ IntOp.cmpi .slt (IntOp.addi (Scalar.muli (BitVec.ofNat 32 (grid0.coords t 0).val) 512#32) (BitVec.ofNat 32 (y 0).val)) 5504#32 = 1#1 :=
      fun e => by have := hn e; omega
    exact (congrArg _ (select_off _ hn' _ _)).trans (congrArg _ (select_off _ hn' _ _)).symm

/-! ## The cast weights -/

/-- What fills the third weight's buffer where nothing is fetched; nothing kept depends on it. -/
def dflt3 : (cfg0.win 3).block.Idx → Elt F (cfg0.win 3).elt := fun _ => Classical.choice inferInstance

/-- The third weight's buffer. -/
def X3 (c : Dev nD) (t : Fin cfg0.N) : (cfg0.win 3).block.Idx → Elt F (cfg0.win 3).elt :=
  (cfg0.win 3).fill (cfg0.grid.coords t) dflt3 (iblk m c 3 t)

/-- The first weight's block as the first point of its row leaves it, -/
def wa (c : Dev nD) (t : Fin cfg0.N) : S2048x512.Idx → Elt F .bf16 :=
  if (first t).val < 40 then k0_pay3 (X0_1 m c (first t)) else k0_pay6 (cfg0.grid.coords (first t)) (X0_1 m c (first t))
/-- the second's -/
def wu (c : Dev nD) (t : Fin cfg0.N) : S2048x512.Idx → Elt F .bf16 :=
  if (first t).val < 40 then k0_pay4 (iblk m c 2 (first t)) else k0_pay7 (cfg0.grid.coords (first t)) (View.ld (iblk m c 2 (first t) : S2048x512.Idx → Elt F .f32) rU)
/-- and the third's. -/
def wd (c : Dev nD) (t : Fin cfg0.N) : S512x2048.Idx → Elt F .bf16 :=
  if (first t).val < 40 then k0_pay5 (X3 m c (first t)) else k0_pay8 (cfg0.grid.coords (first t)) (X3 m c (first t))

theorem wa_pred (c : Dev nD) (t : Fin cfg0.N) (h : t.val % 4 ≠ 0) : wa m c t = wa m c ⟨t.val - 1, Nat.lt_of_le_of_lt (Nat.sub_le _ _) t.isLt⟩ := by
  unfold wa; rw [first_pred t h]
theorem wu_pred (c : Dev nD) (t : Fin cfg0.N) (h : t.val % 4 ≠ 0) : wu m c t = wu m c ⟨t.val - 1, Nat.lt_of_le_of_lt (Nat.sub_le _ _) t.isLt⟩ := by
  unfold wu; rw [first_pred t h]
theorem wd_pred (c : Dev nD) (t : Fin cfg0.N) (h : t.val % 4 ≠ 0) : wd m c t = wd m c ⟨t.val - 1, Nat.lt_of_le_of_lt (Nat.sub_le _ _) t.isLt⟩ := by
  unfold wd; rw [first_pred t h]

theorem wa_head (c : Dev nD) (t : Fin cfg0.N) (h : t.val % 4 = 0) (h' : t.val < 40) : wa m c t = k0_pay3 (X0_1 m c t) := by
  unfold wa; rw [first_of_head t h, if_pos h']
theorem wu_head (c : Dev nD) (t : Fin cfg0.N) (h : t.val % 4 = 0) (h' : t.val < 40) : wu m c t = k0_pay4 (iblk m c 2 t) := by
  unfold wu; rw [first_of_head t h, if_pos h']
theorem wd_head (c : Dev nD) (t : Fin cfg0.N) (h : t.val % 4 = 0) (h' : t.val < 40) (d) : wd m c t = k0_pay5 ((cfg0.win 3).fill (cfg0.grid.coords t) d (iblk m c 3 t)) := by
  unfold wd X3; rw [first_of_head t h, if_pos h', fill3_full t h' dflt3 d]
theorem wa_last (c : Dev nD) (t : Fin cfg0.N) (h : t.val % 4 = 0) (h' : ¬ t.val < 40) : wa m c t = k0_pay6 (cfg0.grid.coords t) (X0_1 m c t) := by
  unfold wa; rw [first_of_head t h, if_neg h']
theorem wu_last (c : Dev nD) (t : Fin cfg0.N) (h : t.val % 4 = 0) (h' : ¬ t.val < 40) :
    wu m c t = k0_pay7 (cfg0.grid.coords t) (View.ld (iblk m c 2 t : S2048x512.Idx → Elt F .f32) rU) := by
  unfold wu; rw [first_of_head t h, if_neg h']
theorem wd_last (c : Dev nD) (t : Fin cfg0.N) (h : t.val % 4 = 0) (h' : ¬ t.val < 40) (d) :
    wd m c t = k0_pay8 (cfg0.grid.coords t) ((cfg0.win 3).fill (cfg0.grid.coords t) d (iblk m c 3 t)) := by
  unfold wd X3; rw [first_of_head t h, if_neg h', masked_fill3 t (by omega) dflt3 d]

end Cert.Proof.Up

end
-- ==== Proof.Up.Run.lean ====
/-
  The run of the up-projection: what every window's buffer holds at each point of the grid, the body's obligation there,
  and the whole launch from it.
-/
module

public import proofs.«01_k».proof.Proof.Up.Weights
public import Idealize.ShloMosaic.Lib.Pipeline.TableIdle

@[expose] public section

set_option maxRecDepth 16384

noncomputable section

namespace Cert.Proof.Up

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in each window's buffer. -/
def left (c : Dev nD) : (w : Fin cfg0.W) → Fin cfg0.N → (cfg0.win w).block.Idx → Elt F (cfg0.win w).elt
  | ⟨0, _⟩ => fun t => iblk m c 0 t
  | ⟨1, _⟩ => fun t => X0_1 m c t
  | ⟨2, _⟩ => fun t => iblk m c 2 t
  | ⟨3, _⟩ => fun t => X3 m c t
  | ⟨4, _⟩ => fun t => iblk m c 4 t
  | ⟨5, _⟩ => fun t => iblk m c 5 t
  | ⟨6, _⟩ => fun t => gBlock (iblk m c 0 t) (wa m c t) (wu m c t) (iblk m c 4 t) (iblk m c 5 t)
  | ⟨7, _⟩ => fun t => tailBlock (iblk m c 0 t) (wa m c t)
  | ⟨8, _⟩ => fun t => wa m c t
  | ⟨9, _⟩ => fun t => wu m c t
  | ⟨10, _⟩ => fun t => wd m c t
  | ⟨_ + 11, h⟩ => absurd h (Nat.not_lt.2 (Nat.le_add_left _ _))

/-- The launch's data: the arrays as the region finds them, and what the body leaves. -/
def dats (p : Fin 1) (c : Dev nD) : Dat τ (Elt F) Unit ℕ (UR sig nD τ) ℕ (cfgs p) c :=
  match p with
  | ⟨0, _⟩ =>
    { A := fun w => V m c (Pipeline.arrRef spec0 w)
      after := left m c
      Φ := fun _ => Pipeline.ΦA spec0 c
      q := fun w => Pipeline.shareOf spec0 w
      owed := fun _ => 0 }

/-! ## What the body finds -/

theorem A_eq (c : Dev nD) (w : Fin cfg0.W) : (dats m 0 c).A w = V m c (Pipeline.arrRef spec0 w) := rfl
theorem after_eq (c : Dev nD) (w : Fin cfg0.W) (t : Fin cfg0.N) : (dats m 0 c).after w t = left m c w t := rfl
theorem left1 (c : Dev nD) (t : Fin cfg0.N) : left m c 1 t = X0_1 m c t := rfl

theorem before0 (c : Dev nD) (t : Fin cfg0.N) (d) : (dats m 0 c).before 0 t d = iblk m c 0 t := before0_0_of m (dats m 0 c) rfl (fun _ => rfl) t d
theorem before1 (c : Dev nD) (t : Fin cfg0.N) (d) : (dats m 0 c).before 1 t d = X0_1 m c t := by
  exact before0_1_of m (dats m 0 c) (A_eq m c 1) (fun t => (after_eq m c 1 t).trans (left1 m c t)) t d
theorem before2 (c : Dev nD) (t : Fin cfg0.N) (d) : (dats m 0 c).before 2 t d = iblk m c 2 t := before0_2_of m (dats m 0 c) rfl (fun _ => rfl) t d
theorem before4 (c : Dev nD) (t : Fin cfg0.N) (d) : (dats m 0 c).before 4 t d = iblk m c 4 t := before0_4_of m (dats m 0 c) rfl (fun _ => rfl) t d
theorem before5 (c : Dev nD) (t : Fin cfg0.N) (d) : (dats m 0 c).before 5 t d = iblk m c 5 t := before0_5_of m (dats m 0 c) rfl (fun _ => rfl) t d

/-- The third weight's buffer holds the rows of its block inside the array, whatever is in the others. -/
theorem before3 (c : Dev nD) (t : Fin cfg0.N) (d) :
    (dats m 0 c).before 3 t d = (cfg0.win 3).fill (cfg0.grid.coords t) d (iblk m c 3 t) :=
  ((dats m 0 c).before_in_eq_fetched 3 rfl (fun _ => rfl)
      (fun t t' h => funext fun a => congrArg (fun n => Pipeline.Clip.of n ((cfg0.win 3).size a) (S5504x2048.size a)) (congrFun h a))
      (fun t => by
        show (cfg0.win 3).cut (cfg0.grid.coords t) (X3 m c t) = _
        unfold X3; rw [Pipeline.Window.cut_fill]; rfl) t d).trans rfl

/-- The cast weights' buffers are fresh at the first point of a row only. -/
theorem fresh8 (n : ℕ) (h : n ≤ cfg0.N) : cfg0.fresh 8 n = decide (n % 4 = 0) :=
  Pipeline.Cfg.fresh_tab (cfg := cfg0) 8 (fun n => decide (n % 4 = 0)) rfl (by decide +kernel) n h
theorem fresh9 (n : ℕ) (h : n ≤ cfg0.N) : cfg0.fresh 9 n = decide (n % 4 = 0) :=
  Pipeline.Cfg.fresh_tab (cfg := cfg0) 9 (fun n => decide (n % 4 = 0)) rfl (by decide +kernel) n h
theorem fresh10 (n : ℕ) (h : n ≤ cfg0.N) : cfg0.fresh 10 n = decide (n % 4 = 0) :=
  Pipeline.Cfg.fresh_tab (cfg := cfg0) 10 (fun n => decide (n % 4 = 0)) rfl (by decide +kernel) n h

/-- After the first point of a row the cast weights are as it left them. -/
theorem before8 (c : Dev nD) (t : Fin cfg0.N) (h : t.val % 4 ≠ 0) (d) : (dats m 0 c).before 8 t d = wa m c t := by
  rw [(dats m 0 c).before_out_traj 8 rfl (fun _ _ => rfl)
    (fun t _ hi _ => wa_pred m c t (by rw [idle8] at hi; simpa using hi)) t.val t rfl d, fresh8 _ t.isLt.le, if_neg (by simpa using h)]
  exact (wa_pred m c t h).symm
theorem before9 (c : Dev nD) (t : Fin cfg0.N) (h : t.val % 4 ≠ 0) (d) : (dats m 0 c).before 9 t d = wu m c t := by
  rw [(dats m 0 c).before_out_traj 9 rfl (fun _ _ => rfl)
    (fun t _ hi _ => wu_pred m c t (by rw [idle9] at hi; simpa using hi)) t.val t rfl d, fresh9 _ t.isLt.le, if_neg (by simpa using h)]
  exact (wu_pred m c t h).symm
theorem before10 (c : Dev nD) (t : Fin cfg0.N) (h : t.val % 4 ≠ 0) (d) : (dats m 0 c).before 10 t d = wd m c t := by
  rw [(dats m 0 c).before_out_traj 10 rfl (fun _ _ => rfl)
    (fun t _ hi _ => wd_pred m c t (by rw [idle10] at hi; simpa using hi)) t.val t rfl d, fresh10 _ t.isLt.le, if_neg (by simpa using h)]
  exact (wd_pred m c t h).symm

/-! ## What the body hands back -/

/-- A buffer left at what the data say is what the obligation asks of a window stored whole: -/
theorem leaves_of (c : Dev nD) (w : Fin cfg0.W) (t : Fin cfg0.N) (hl : cfg0.loose w = false) (hi : cfg0.idle w (cfg0.grid.coords t) = false ∨ (cfg0.win w).flush t = true
      ∨ ∃ d, (dats m 0 c).before w t d = left m c w t) :
    owns (c : Thread nD τ) ((cfg0.win w).stage (cfg0.slots t w)) fullShare (left m c w t) ⊢ ((dats m 0 c).leaves w t : sProp 𝕄) := by
  unfold Dat.leaves
  rw [hl]
  cases h1 : cfg0.idle w (cfg0.grid.coords t)
  · exact .rfl
  · cases h2 : (cfg0.win w).flush t
    · obtain ⟨d, hd⟩ := (hi.resolve_left (by rw [h1]; decide)).resolve_left (by rw [h2]; decide)
      iintro H; iexists d; rw [hd]; iexact H
    · exact .rfl

/-- The scratch and the generator's register. -/
theorem rest_eq (c : Dev nD) : (Pipeline.ΦA spec0 c : sProp 𝕄) = iprop((∃ d, owns (c : Thread nD τ) scM fullShare d) ∗ ∃ r, prngReg c r) := by
  rw [Pipeline.ΦA, scopedRest0_eq]; simp only [scM, owns_whole]; try rfl

/-! ## The body's obligation -/

/-- The body at a point, from its first stretch: what the windows' buffers and the scratch hold before it and after. -/
theorem body_at (c : Dev nD) (t : Fin cfg0.N) (Xb : (cfg0.win 3).block.Idx → Elt F (cfg0.win 3).elt) (A8 A9 : sProp 𝕄) (A10 : sProp 𝕄)
    (hp : ∀ K : (Σ' (arg1 : BitVec 32) (v29 : IVec S8x1 32) (v30 : Vec F S512x2048 .bf16), FVec F S512x512 .f32) → sProp 𝕄,
      iprop(owns (c : Thread nD τ) (st0_0 t) fullShare (iblk m c 0 t) ∗ owns (c : Thread nD τ) (st0_1 t) fullShare (X0_1 m c t)
          ∗ owns (c : Thread nD τ) (st0_2 t) fullShare (iblk m c 2 t) ∗ owns (c : Thread nD τ) (st0_3 t) fullShare Xb
          ∗ A8 ∗ A9 ∗ A10 ∗ (∃ d, owns (c : Thread nD τ) scM fullShare d)
          ∗ (iprop(owns (c : Thread nD τ) (st0_0 t) fullShare (iblk m c 0 t) ∗ owns (c : Thread nD τ) (st0_1 t) fullShare (X0_1 m c t)
              ∗ owns (c : Thread nD τ) (st0_2 t) fullShare (iblk m c 2 t) ∗ owns (c : Thread nD τ) (st0_3 t) fullShare Xb
              ∗ owns (c : Thread nD τ) (st0_8 t) fullShare (wa m c t) ∗ owns (c : Thread nD τ) (st0_9 t) fullShare (wu m c t)
              ∗ owns (c : Thread nD τ) (st0_10 t) fullShare (wd m c t) ∗ owns (c : Thread nD τ) scM fullShare (k0_pay9 (F := F)))
            -∗ K ⟨BitVec.ofNat 32 (grid0.coords t 1).val, rows8, View.ld (iblk m c 0 t : S2048x2048.Idx → Elt F .bf16) rA0,
                k0_pay10 (View.ld (iblk m c 0 t : S2048x2048.Idx → Elt F .bf16) rA0) (wa m c t)⟩))
        ⊢ wp frame (wpE (defs₀ (F := F)) Variants.none c none) Set.univ
            (k0_part1 (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) scM (Memref.isWhole_whole _)) K)
    (Q : PUnit → sProp 𝕄) :
    iprop(owns (c : Thread nD τ) (st0_0 t) fullShare (iblk m c 0 t) ∗ owns (c : Thread nD τ) (st0_1 t) fullShare (X0_1 m c t)
        ∗ owns (c : Thread nD τ) (st0_2 t) fullShare (iblk m c 2 t) ∗ owns (c : Thread nD τ) (st0_3 t) fullShare Xb
        ∗ A8 ∗ A9 ∗ A10 ∗ (∃ d, owns (c : Thread nD τ) scM fullShare d)
        ∗ owns (c : Thread nD τ) (st0_4 t) fullShare (iblk m c 4 t) ∗ owns (c : Thread nD τ) (st0_5 t) fullShare (iblk m c 5 t)
        ∗ (∃ d, owns (c : Thread nD τ) (st0_6 t) fullShare d) ∗ (∃ d, owns (c : Thread nD τ) (st0_7 t) fullShare d)
        ∗ (iprop(owns (c : Thread nD τ) (st0_0 t) fullShare (iblk m c 0 t) ∗ owns (c : Thread nD τ) (st0_1 t) fullShare (X0_1 m c t)
            ∗ owns (c : Thread nD τ) (st0_2 t) fullShare (iblk m c 2 t) ∗ owns (c : Thread nD τ) (st0_3 t) fullShare Xb
            ∗ owns (c : Thread nD τ) (st0_4 t) fullShare (iblk m c 4 t) ∗ owns (c : Thread nD τ) (st0_5 t) fullShare (iblk m c 5 t)
            ∗ owns (c : Thread nD τ) (st0_6 t) fullShare (left m c 6 t) ∗ owns (c : Thread nD τ) (st0_7 t) fullShare (left m c 7 t)
            ∗ owns (c : Thread nD τ) (st0_8 t) fullShare (left m c 8 t) ∗ owns (c : Thread nD τ) (st0_9 t) fullShare (left m c 9 t)
            ∗ owns (c : Thread nD τ) (st0_10 t) fullShare (left m c 10 t) ∗ (∃ d, owns (c : Thread nD τ) scM fullShare d)) -∗ Q ⟨⟩))
      ⊢ wp frame (wpE (defs₀ (F := F)) Variants.none c none) Set.univ (bodyAt0 (F := F) t) Q := by
  iintro ⟨H0, H1, H2, H3, H8, H9, H10, HS, H4, H5, H6, H7, Hk⟩
  iapply (body_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10))
    (iblk m c 0 t) (X0_1 m c t) (iblk m c 2 t) Xb (iblk m c 4 t) (iblk m c 5 t) (wa m c t) (wu m c t) (wd m c t)
    (iprop(owns (c : Thread nD τ) (st0_0 t) fullShare (iblk m c 0 t) ∗ owns (c : Thread nD τ) (st0_1 t) fullShare (X0_1 m c t)
          ∗ owns (c : Thread nD τ) (st0_2 t) fullShare (iblk m c 2 t) ∗ owns (c : Thread nD τ) (st0_3 t) fullShare Xb
          ∗ A8 ∗ A9 ∗ A10 ∗ (∃ d, owns (c : Thread nD τ) scM fullShare d)))
    (by
      intro K
      iintro ⟨⟨H0, H1, H2, H3, H8, H9, H10, HS⟩, Hk⟩
      iapply (hp K)
      isplitl [H0]; · iexact H0
      isplitl [H1]; · iexact H1
      isplitl [H2]; · iexact H2
      isplitl [H3]; · iexact H3
      isplitl [H8]; · iexact H8
      isplitl [H9]; · iexact H9
      isplitl [H10]; · iexact H10
      isplitl [HS]; · iexact HS
      iexact Hk) Q)
  isplitl [H0 H1 H2 H3 H8 H9 H10 HS]
  · isplitl [H0]; · iexact H0
    isplitl [H1]; · iexact H1
    isplitl [H2]; · iexact H2
    isplitl [H3]; · iexact H3
    isplitl [H8]; · iexact H8
    isplitl [H9]; · iexact H9
    isplitl [H10]; · iexact H10
    iexact HS
  isplitl [H4]; · iexact H4
  isplitl [H5]; · iexact H5
  isplitl [H6]; · iexact H6
  isplitl [H7]; · iexact H7
  iexact Hk

/-- The body's row of the launch is the body at the point. -/
theorem row_eq (t : Fin cfg0.N) : defs₀ (F := F) .tc cfg0.body (cfg0.bodyArgs t (cfg0.slots t)) = bodyAt0 t := by
  unfold defs₀; rw [Defs.onTc_tc]

/-- The input windows with blocks inside their arrays hand back what they held. -/
theorem keeps_in (c : Dev nD) (w : Fin cfg0.W) (t : Fin cfg0.N) (hl : cfg0.loose w = false) (hi : cfg0.idle w (cfg0.grid.coords t) = false) :
    owns (c : Thread nD τ) ((cfg0.win w).stage (cfg0.slots t w)) fullShare (left m c w t) ⊢ ((dats m 0 c).leaves w t : sProp 𝕄) :=
  leaves_of m c w t hl (.inl hi)

/-- A window whose block may overhang hands back its block, whatever is beside it. -/
theorem keeps_loose (c : Dev nD) (w : Fin cfg0.W) (t : Fin cfg0.N) (hl : cfg0.loose w = true) (hi : cfg0.idle w (cfg0.grid.coords t) = false)
    (X : (cfg0.win w).block.Idx → Elt F (cfg0.win w).elt)
    (hX : ∃ d, X = (cfg0.win w).fill (cfg0.grid.coords t) d ((cfg0.win w).cut (cfg0.grid.coords t) (left m c w t))) :
    owns (c : Thread nD τ) ((cfg0.win w).stage (cfg0.slots t w)) fullShare X ⊢ ((dats m 0 c).leaves w t : sProp 𝕄) := by
  obtain ⟨d, rfl⟩ := hX
  unfold Dat.leaves
  rw [hl, hi]
  iintro H; iexists d; iexact H

/-- The body's obligation at a point, the first stretch's cases apart (`hp` of each). -/
theorem obligation_of (c : Dev nD) (t : Fin cfg0.N) (A8 A9 A10 : sProp 𝕄)
    (h8 : iprop(∃ d, owns (c : Thread nD τ) (st0_8 t) fullShare ((dats m 0 c).before 8 t d)) ⊢ A8)
    (h9 : iprop(∃ d, owns (c : Thread nD τ) (st0_9 t) fullShare ((dats m 0 c).before 9 t d)) ⊢ A9)
    (h10 : iprop(∃ d, owns (c : Thread nD τ) (st0_10 t) fullShare ((dats m 0 c).before 10 t d)) ⊢ A10)
    (hp : ∀ (d : (cfg0.win 3).block.Idx → Elt F (cfg0.win 3).elt) (K : (Σ' (arg1 : BitVec 32) (v29 : IVec S8x1 32) (v30 : Vec F S512x2048 .bf16), FVec F S512x512 .f32) → sProp 𝕄),
      iprop(owns (c : Thread nD τ) (st0_0 t) fullShare (iblk m c 0 t) ∗ owns (c : Thread nD τ) (st0_1 t) fullShare (X0_1 m c t)
          ∗ owns (c : Thread nD τ) (st0_2 t) fullShare (iblk m c 2 t) ∗ owns (c : Thread nD τ) (st0_3 t) fullShare ((cfg0.win 3).fill (cfg0.grid.coords t) d (iblk m c 3 t))
          ∗ A8 ∗ A9 ∗ A10 ∗ (∃ d, owns (c : Thread nD τ) scM fullShare d)
          ∗ (iprop(owns (c : Thread nD τ) (st0_0 t) fullShare (iblk m c 0 t) ∗ owns (c : Thread nD τ) (st0_1 t) fullShare (X0_1 m c t)
              ∗ owns (c : Thread nD τ) (st0_2 t) fullShare (iblk m c 2 t) ∗ owns (c : Thread nD τ) (st0_3 t) fullShare ((cfg0.win 3).fill (cfg0.grid.coords t) d (iblk m c 3 t))
              ∗ owns (c : Thread nD τ) (st0_8 t) fullShare (wa m c t) ∗ owns (c : Thread nD τ) (st0_9 t) fullShare (wu m c t)
              ∗ owns (c : Thread nD τ) (st0_10 t) fullShare (wd m c t) ∗ owns (c : Thread nD τ) scM fullShare (k0_pay9 (F := F)))
            -∗ K ⟨BitVec.ofNat 32 (grid0.coords t 1).val, rows8, View.ld (iblk m c 0 t : S2048x2048.Idx → Elt F .bf16) rA0,
                k0_pay10 (View.ld (iblk m c 0 t : S2048x2048.Idx → Elt F .bf16) rA0) (wa m c t)⟩))
        ⊢ wp frame (wpE (defs₀ (F := F)) Variants.none c none) Set.univ
            (k0_part1 (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) scM (Memref.isWhole_whole _)) K) :
    iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d)))
      ⊢ wp frame (wpE (defs₀ (F := F)) Variants.none c none) Set.univ (defs₀ (F := F) .tc cfg0.body (cfg0.bodyArgs t (cfg0.slots t))) fun _ =>
          iprop((dats m 0 c).Φ t.succ ∗ (dats m 0 c).owesAt () t.succ ∗ bigSep Finset.univ fun w : Fin cfg0.W => ((dats m 0 c).leaves w t : sProp 𝕄)) := by
  rw [bigSep_W0, bigSep_W0, row_eq]
  rw [show (dats m 0 c).Φ t.castSucc = _ from rest_eq c, show (dats m 0 c).Φ t.succ = _ from rest_eq c,
    show (dats m 0 c).owesAt () t.succ = (dats m 0 c).owesAt () t.castSucc from rfl]
  iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10⟩
  rw [before0 m c t d0, before1 m c t d1, before2 m c t d2, before3 m c t d3, before4 m c t d4, before5 m c t d5]
  ihave H8' := h8 $$ H8
  ihave H9' := h9 $$ H9
  ihave H10' := h10 $$ H10
  iapply (body_at m c t _ A8 A9 A10 (hp d3) _)
  isplitl [H0]; · iexact H0
  isplitl [H1]; · iexact H1
  isplitl [H2]; · iexact H2
  isplitl [H3]; · iexact H3
  isplitl [H8']; · iexact H8'
  isplitl [H9']; · iexact H9'
  isplitl [H10']; · iexact H10'
  isplitl [HS]; · iexact HS
  isplitl [H4]; · iexact H4
  isplitl [H5]; · iexact H5
  isplitl [H6]; · iexists _; iexact H6
  isplitl [H7]; · iexists _; iexact H7
  iintro ⟨H0, H1, H2, H3, H4, H5, H6, H7, H8, H9, H10, HS⟩
  isplitl [HS HR]
  · isplitl [HS]; · iexact HS
    iexact HR
  isplitl [Ho]; · iexact Ho
  isplitl [H0]; · iapply (keeps_in m c 0 t rfl rfl); iexact H0
  isplitl [H1]; · iapply (keeps_loose m c 1 t rfl rfl _ ⟨X0_1 m c t, ((cfg0.win 1).fill_cut _ _).symm⟩); iexact H1
  isplitl [H2]; · iapply (keeps_in m c 2 t rfl rfl); iexact H2
  isplitl [H3]
  · iapply (keeps_loose m c 3 t rfl rfl _ ⟨d3, by
      show _ = (cfg0.win 3).fill _ d3 ((cfg0.win 3).cut _ (X3 m c t))
      unfold X3; rw [Pipeline.Window.cut_fill]⟩); iexact H3
  isplitl [H4]; · iapply (keeps_in m c 4 t rfl rfl); iexact H4
  isplitl [H5]; · iapply (keeps_in m c 5 t rfl rfl); iexact H5
  isplitl [H6]; · iapply (keeps_in m c 6 t rfl rfl); iexact H6
  isplitl [H7]; · iapply (keeps_in m c 7 t rfl (idle7 t)); iexact H7
  isplitl [H8]; · iapply (leaves_of m c 8 t rfl (by
      by_cases h : t.val % 4 = 0
      · exact .inl (by rw [idle8]; simpa using h)
      · exact .inr (.inr ⟨left m c 8 t, before8 m c t h _⟩))); iexact H8
  isplitl [H9]; · iapply (leaves_of m c 9 t rfl (by
      by_cases h : t.val % 4 = 0
      · exact .inl (by rw [idle9]; simpa using h)
      · exact .inr (.inr ⟨left m c 9 t, before9 m c t h _⟩))); iexact H9
  iapply (leaves_of m c 10 t rfl (by
      by_cases h : t.val % 4 = 0
      · exact .inl (by rw [idle10]; simpa using h)
      · exact .inr (.inr ⟨left m c 10 t, before10 m c t h _⟩))); iexact H10

/-- The body's obligation at every point: the weights are cast at the first point of a row, masked and cast in the last, and
    elsewhere as the row's first point left them. -/
theorem body_obligation (c : Dev nD) : BodyObligationLoose (dats m 0 c) (defs₀ (F := F)) Variants.none () Set.univ := fun t => by
  have any : ∀ (w : Fin cfg0.W), iprop(∃ d, owns (c : Thread nD τ) ((cfg0.win w).stage (cfg0.slots t w)) fullShare ((dats m 0 c).before w t d))
      ⊢ iprop(∃ d, owns (c : Thread nD τ) ((cfg0.win w).stage (cfg0.slots t w)) fullShare d : sProp 𝕄) := by
    intro w; iintro ⟨%d, H⟩; iexists _; iexact H
  by_cases h0 : t.val % 4 = 0
  · by_cases h1 : t.val < 40
    · refine obligation_of m c t _ _ _ (any 8) (any 9) (any 10) fun d K => ?_
      rw [wa_head m c t h0 h1, wu_head m c t h0 h1, wd_head m c t h0 h1 d]
      exact part1_plain c (grid0.coords t) ((casts_iff t).mpr ⟨h0, h1⟩) (fun e => by have := (masks_iff t).mp e; omega)
        (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10))
        _ _ _ _ K
    · refine obligation_of m c t _ _ _ (any 8) (any 9) (any 10) fun d K => ?_
      rw [wa_last m c t h0 h1, wu_last m c t h0 h1, wd_last m c t h0 h1 d]
      exact part1_edge c (grid0.coords t) (fun e => by have := (casts_iff t).mp e; omega) ((masks_iff t).mpr ⟨h0, by omega⟩)
        (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10))
        _ _ _ _ K
  · refine obligation_of m c t (owns (c : Thread nD τ) (st0_8 t) fullShare (wa m c t)) (owns (c : Thread nD τ) (st0_9 t) fullShare (wu m c t))
      (owns (c : Thread nD τ) (st0_10 t) fullShare (wd m c t)) ?_ ?_ ?_ fun d K => ?_
    · iintro ⟨%d, H⟩; rw [before8 m c t h0 d]; iexact H
    · iintro ⟨%d, H⟩; rw [before9 m c t h0 d]; iexact H
    · iintro ⟨%d, H⟩; rw [before10 m c t h0 d]; iexact H
    exact part1_later c (grid0.coords t) (fun e => h0 ((casts_iff t).mp e).1) (fun e => h0 ((masks_iff t).mp e).1)
      (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10))
      _ _ _ _ _ _ _ K

set_option backward.isDefEq.respectTransparency.types false in
/-- The launch: every window's array ends as the run of the grid leaves it, and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_shared cfgs (dats m) 0 launch₀0 defs₀ Variants.none m ρ main (body_obligation m)
    (fun _ _ _ => rfl) (fun _ _ => rfl) (V m) (hmain m Variants.none) (fun _ _ => rfl) (fun _ _ => rfl)
    (Q' := _) (hQ' := fun _ h => h)

/-- The arguments end as they were. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_with_sems (frame_of m ρ (dats m) (fun _ _ => rfl)) (run_main m ρ)

end Cert.Proof.Up

end
-- ==== Proof.Up.Frames.lean ====
/-
  The three programs run and leave their arguments as they were.
-/
module

public import proofs.«01_k».proof.Defs
public import proofs.«01_k».proof.Proof.Gen.Kernel
public import proofs.«01_k».proof.Proof.Gen.ReferenceIdeal.Run
public import proofs.«01_k».proof.Proof.Up.Run

@[expose] public section

noncomputable section

namespace Cert.Proof.Up

open Idealize.ShloMosaic Idealize.SL.Sem

/-- The two printings of the kernel have the same body. -/
theorem bodies_eq : Cert.Kernel.defs₀ (F := Bits) = Cert.KernelIdeal.defs₀ (F := Bits) := by
  unfold Cert.Kernel.defs₀ Cert.KernelIdeal.defs₀
  refine congrArg Defs.onTc (funext fun ℓ => funext fun a => ?_)
  match ℓ, a with
  | ⟨0, _⟩, (t, s) => rfl
  | ⟨_ + 1, h⟩, _ => exact absurd h (Nat.not_lt.2 (Nat.le_add_left _ _))

theorem defs_eq : Cert.Kernel.defs (F := Bits) = Cert.KernelIdeal.defs (F := Bits) :=
  congrArg (Pipeline.defs Cert.KernelIdeal.pcfgs) bodies_eq

/-- The kernel at the bits: the same run, read there. -/
theorem frame_kernel : Cert.quiescent_Kernel := fun m ρ _ => by
  rw [defs_eq]
  exact frame_main (F := Bits) m ρ

/-- The kernel at the ideal instance. -/
theorem frame_kernelIdeal : Cert.quiescent_KernelIdeal := fun m ρ _ => frame_main (F := Ideal) m ρ

/-- The reference leaves its arguments as they were, and declares no semaphore. -/
theorem frame_reference : Cert.quiescent_ReferenceIdeal := fun m ρ _ =>
  (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)

end Cert.Proof.Up

end
-- ==== Proof.Up.Reads.lean ====
/-
  What the up-projection's input windows hold at a point of the grid, read off the arrays the launch is given.
-/
module

public import proofs.«01_k».proof.Proof.Up.Run
public import Idealize.ShloMosaic.Lib.Pipeline.ValueKit

@[expose] public section

set_option maxRecDepth 16384

noncomputable section

namespace Cert.Proof.Up

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-! ## The arrays the launch is given -/

/-- The activations. -/
def argH (c : Dev nD) : S8192x2048.Idx → Elt Ideal .bf16 := m ((c : Thread nD τ).loc main_arg0)
/-- The two weights of the up-projection, side by side. -/
def argU (c : Dev nD) : S1x2048x11008.Idx → Elt Ideal .f32 := m ((c : Thread nD τ).loc main_arg1)
/-- The weight of the down-projection. -/
def argD (c : Dev nD) : S1x5504x2048.Idx → Elt Ideal .f32 := m ((c : Thread nD τ).loc main_arg2)
/-- The taps. -/
def argT (c : Dev nD) : S1x3x5504.Idx → Elt Ideal .f32 := m ((c : Thread nD τ).loc main_arg3)
/-- The bias. -/
def argB (c : Dev nD) : S1x5504.Idx → Elt Ideal .f32 := m ((c : Thread nD τ).loc main_arg4)

/-- The integer zero, converted. -/
theorem zero32 : (FloatOps.sitofp .f32 (0#32 : BitVec 32) : Ideal .f32) = (0 : EReal) := by
  show (((0#32 : BitVec 32).toInt : ℝ) : EReal) = 0
  simp

/-! ## The arrays the launch finds -/

/-- The two weights side by side, without their leading axis. -/
theorem V0 (c : Dev nD) (k : Fin 2048) (f : Fin 11008) : V m c main_v0 (ix2 k f) = argU m c (ix3 0 k f) := by
  have e : V m c main_v0 = shapeCast (α := Elt Ideal .f32) _ (argU m c) shapeCasts_S1x2048x11008_S2048x11008 := by
    simp only [V, hostOps0, hostOps0_1, hostOps0_2, hostOps0_3, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise
/-- The third weight. -/
theorem V1 (c : Dev nD) (f : Fin 5504) (k : Fin 2048) : V m c main_v1 (ix2 f k) = argD m c (ix3 0 f k) := by
  have e : V m c main_v1 = shapeCast (α := Elt Ideal .f32) _ (argD m c) shapeCasts_S1x5504x2048_S5504x2048 := by
    simp only [V, hostOps0, hostOps0_1, hostOps0_2, hostOps0_3, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise
/-- The taps, extended by zeros. -/
theorem V3 (c : Dev nD) (a : Fin 3) (f : Fin 5632) : V m c main_v3 (ix2 a f) = if h : f.val < 5504 then argT m c (ix3 0 a ⟨f.val, h⟩) else (0 : EReal) := by
  have e : V m c main_v3 = pad (α := Elt Ideal .f32) S3x5632 ![0, 0] ![0, 128] ![0, 0] (shapeCast (α := Elt Ideal .f32) _ (argT m c) shapeCasts_S1x3x5504_S3x5504) (sitofp (F := Ideal) .f32 (constantI S_ 32 0#32)) pads_S3x5504_S3x5632_000_01280 h_S_ := by
    simp only [V, hostOps0, hostOps0_1, hostOps0_2, hostOps0_3, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise
  rw [zero32]
/-- The bias, extended by zeros. -/
theorem V4 (c : Dev nD) (a : Fin 1) (f : Fin 5632) : V m c main_v4 (ix2 a f) = if h : f.val < 5504 then argB m c (ix2 0 ⟨f.val, h⟩) else (0 : EReal) := by
  have e : V m c main_v4 = pad (α := Elt Ideal .f32) S1x5632 ![0, 0] ![0, 128] ![0, 0] (argB m c) (sitofp (F := Ideal) .f32 (constantI S_ 32 0#32)) pads_S1x5504_S1x5632_000_01280 h_S_ := by
    simp only [V, hostOps0, hostOps0_1, hostOps0_2, hostOps0_3, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise
  rw [zero32]

/-! ## The blocks -/

/-- The block of each window at a point. -/
theorem widx : ∀ t : Fin cfg0.N, win0_0.index t = ![t.val % 4, 0] ∧ win0_1.index t = ![0, t.val / 4] ∧ win0_3.index t = ![t.val / 4, 0] ∧ win0_4.index t = ![0, t.val / 4] ∧ win0_5.index t = ![0, t.val / 4] ∧ win0_6.index t = ![t.val % 4, t.val / 4] ∧ win0_7.index t = ![t.val % 4, 0, t.val / 4] ∧ win0_8.index t = ![0, t.val / 4] ∧ win0_9.index t = ![0, t.val / 4] ∧ win0_10.index t = ![t.val / 4, 0] := by decide +kernel
/-- The offset of the second weight's block, which the last row of the grid cuts short of the array's end. -/
theorem uoff : ∀ t : Fin cfg0.N, cc0_transform_2 (cfg0.grid.coords t) = ![0, min (5504 + 512 * (t.val / 4)) 10496] := by decide +kernel

/-- The activations' block: one sequence. -/
theorem blk0 (c : Dev nD) (t : Fin cfg0.N) (p k : Fin 2048) (r : Fin 8192) (hr : r.val = 2048 * (t.val % 4) + p.val) :
    iblk m c 0 t (ix2 p k) = argH m c (ix2 r k) := by
  refine Eq.trans ?_ (congrFun (V_main_arg0 m c) (ix2 r k))
  blk_simp [iblk]
  blk_ext [widx t]

/-- The first weight's block: its columns in order. -/
theorem blk1 (c : Dev nD) (t : Fin cfg0.N) (k : Fin 2048) (l : Fin 512) (f : Fin 11008) (hf : f.val = 512 * (t.val / 4) + l.val) :
    X0_1 m c t (ix2 k l) = argU m c (ix3 0 k f) := by
  refine Eq.trans ?_ (V0 m c k f)
  have e : X0_1 m c t (ix2 k l) = (cfg0.win 1).fill (cfg0.grid.coords t) dflt0_1 (iblk m c 1 t) (ix2 k l) := rfl
  rw [e]
  unfold Pipeline.Window.fill
  rw [dif_pos (moved0_1 t _)]
  blk_simp [iblk]
  blk_ext [widx t]

/-- The second weight's block: its columns from the offset the index map gives. -/
theorem blk2 (c : Dev nD) (t : Fin cfg0.N) (k : Fin 2048) (l : Fin 512) (f : Fin 11008) (hf : f.val = min (5504 + 512 * (t.val / 4)) 10496 + l.val) :
    iblk m c 2 t (ix2 k l) = argU m c (ix3 0 k f) := by
  refine Eq.trans ?_ (V0 m c k f)
  have h2 := uoff t
  have he : ∀ a, ((win0_2.blk t).view.emb (ix2 k l) a : Nat) = cc0_transform_2 (cfg0.grid.coords t) a + (ix2 k l) a := fun a =>
    Idealize.ShloMosaic.ValueKit.rect_emb_unit_val _ _ _ _ _
  blk_simp [iblk]
  congr 1
  funext a
  fin_cases a
  · apply Fin.ext
    refine (he 0).trans ?_
    rw [h2]; exact Nat.zero_add _
  · apply Fin.ext
    refine (he 1).trans ?_
    rw [h2]; exact hf.symm

/-- The third weight's block: its rows in order, where the array has them. -/
theorem blk3 (c : Dev nD) (t : Fin cfg0.N) (l : Fin 512) (k : Fin 2048) (f : Fin 5504) (hf : f.val = 512 * (t.val / 4) + l.val) :
    X3 m c t (ix2 l k) = argD m c (ix3 0 f k) := by
  refine Eq.trans ?_ (V1 m c f k)
  have hm : (cfg0.win 3).moved (cfg0.grid.coords t) (ix2 l k) = true := by
    refine ((cfg0.win 3).moved_iff _ _).mpr fun a => ?_
    have hN : t.val < 44 := N_eq ▸ t.isLt
    by_cases h : t.val < 40
    · rw [xsize3_full t h a]; exact ((ix2 l k : (cfg0.win 3).block.Idx) a).isLt
    · fin_cases a
      · exact lt_of_lt_of_eq (show l.val < 384 by omega) (xsize3_last0 t (by omega)).symm
      · exact lt_of_lt_of_eq k.isLt (xsize3_last1 t (by omega)).symm
  unfold X3 Pipeline.Window.fill
  rw [dif_pos hm]
  blk_simp [iblk]
  blk_ext [widx t]

/-- The taps' block. -/
theorem blk4 (c : Dev nD) (t : Fin cfg0.N) (a : Fin 3) (l : Fin 512) (f : Fin 5632) (hf : f.val = 512 * (t.val / 4) + l.val) :
    iblk m c 4 t (ix2 a l) = if h : f.val < 5504 then argT m c (ix3 0 a ⟨f.val, h⟩) else (0 : EReal) := by
  refine Eq.trans ?_ (V3 m c a f)
  blk_simp [iblk]
  blk_ext [widx t]

/-- The bias's block. -/
theorem blk5 (c : Dev nD) (t : Fin cfg0.N) (a : Fin 1) (l : Fin 512) (f : Fin 5632) (hf : f.val = 512 * (t.val / 4) + l.val) :
    iblk m c 5 t (ix2 a l) = if h : f.val < 5504 then argB m c (ix2 0 ⟨f.val, h⟩) else (0 : EReal) := by
  refine Eq.trans ?_ (V4 m c a f)
  blk_simp [iblk]
  blk_ext [widx t]

end Cert.Proof.Up

end
-- ==== Proof.Up.Columns.lean ====
/-
  The three cast weights at coordinates: each is the weight it is cast from, extended by zeros.
-/
module

public import proofs.«01_k».proof.Proof.Up.Reads

@[expose] public section

set_option maxRecDepth 16384

noncomputable section

namespace Cert.Proof.Up

open Cert.KernelIdeal Cert.KernelIdeal.Gen
open Idealize.ShloMosaic Idealize.ShloMosaic.TcCoe Idealize.SL.Sem
open Idealize.ShloMosaic.Pipeline (Dat)

/-- A column of the first weight; zero past its last. -/
def colA (U : S1x2048x11008.Idx → Elt Ideal .f32) (k : Fin 2048) (f : Fin 5632) : EReal :=
  if h : f.val < 5504 then U (ix3 0 k ⟨f.val, by omega⟩) else 0
/-- A column of the second weight; zero past its last. -/
def colU (U : S1x2048x11008.Idx → Elt Ideal .f32) (k : Fin 2048) (f : Fin 5632) : EReal :=
  if h : f.val < 5504 then U (ix3 0 k ⟨5504 + f.val, by omega⟩) else 0
/-- A row of the third weight; zero past its last. -/
def rowD (D : S1x5504x2048.Idx → Elt Ideal .f32) (f : Fin 5632) (k : Fin 2048) : EReal :=
  if h : f.val < 5504 then D (ix3 0 ⟨f.val, h⟩ k) else 0

variable (m : (ℓ : Loc nD τ sig) → Buf (Elt Ideal) ℓ)

theorem first_div (t : Fin cfg0.N) : (first t).val / 4 = t.val / 4 := by rw [first_val]; omega

/-- The first cast weight. -/
theorem wa_at (c : Dev nD) (t : Fin cfg0.N) (k : Fin 2048) (l : Fin 512) (f : Fin 5632) (hf : f.val = 512 * (t.val / 4) + l.val) :
    wa m c t (ix2 k l) = colA (argU m c) k f := by
  have hd := first_div t
  have hN : t.val < 44 := N_eq ▸ t.isLt
  unfold wa colA
  by_cases h : (first t).val < 40
  · rw [if_pos h, dif_pos (by omega)]
    refine Eq.trans ?_ (blk1 m c (first t) k l _ (by show f.val = _; omega))
    generalize X0_1 m c (first t) = X
    pointwise [k0_pay3]
  · rw [if_neg h]
    have hx : ∀ f' : Fin 11008, f'.val = f.val → X0_1 m c (first t) (ix2 k l) = argU m c (ix3 0 k f') := fun f' h' => blk1 m c (first t) k l f' (by omega)
    have hk := keeps (cfg0.grid.coords (first t) 0) l
    replace hk := hk.trans (show _ ↔ f.val < 5504 by rw [coord0, hd]; omega)
    generalize X0_1 m c (first t) = X at hx ⊢
    pointwise [k0_pay6, k0_pay2]
    by_cases hy : f.val < 5504
    · rw [dif_pos hy]
      exact (select_on _ (hk.mpr hy) _ _).trans (hx ⟨f.val, by omega⟩ rfl)
    · rw [dif_neg hy]
      exact (select_off _ (fun e => hy (hk.mp e)) _ _)

/-- The second. -/
theorem wu_at (c : Dev nD) (t : Fin cfg0.N) (k : Fin 2048) (l : Fin 512) (f : Fin 5632) (hf : f.val = 512 * (t.val / 4) + l.val) :
    wu m c t (ix2 k l) = colU (argU m c) k f := by
  have hd := first_div t
  have hN : t.val < 44 := N_eq ▸ t.isLt
  unfold wu colU
  by_cases h : (first t).val < 40
  · rw [if_pos h, dif_pos (by omega)]
    refine Eq.trans ?_ (blk2 m c (first t) k l _ (by show 5504 + f.val = _; omega))
    generalize iblk m c 2 (first t) = X
    pointwise [k0_pay4]
  · rw [if_neg h]
    have hx : ∀ (l' : Fin 512) (f' : Fin 11008), f'.val = 10496 + l'.val → iblk m c 2 (first t) (ix2 k l') = argU m c (ix3 0 k f') :=
      fun l' f' h' => blk2 m c (first t) k l' f' (by have : 40 ≤ (first t).val := by omega
                                                     omega)
    have hk := keeps (cfg0.grid.coords (first t) 0) l
    replace hk := hk.trans (show _ ↔ f.val < 5504 by rw [coord0, hd]; omega)
    generalize iblk m c 2 (first t) = X at hx ⊢
    pointwise [k0_pay7, k0_pay2]
    by_cases hy : f.val < 5504
    · rw [dif_pos hy]
      refine (select_on _ (hk.mpr hy) _ _).trans ?_
      rw [dif_pos (by omega)]
      exact hx _ _ (by show 5504 + f.val = 10496 + (128 + l.val); omega)
    · rw [dif_neg hy]
      exact (select_off _ (fun e => hy (hk.mp e)) _ _)

/-- The third. -/
theorem wd_at (c : Dev nD) (t : Fin cfg0.N) (l : Fin 512) (k : Fin 2048) (f : Fin 5632) (hf : f.val = 512 * (t.val / 4) + l.val) :
    wd m c t (ix2 l k) = rowD (argD m c) f k := by
  have hd := first_div t
  have hN : t.val < 44 := N_eq ▸ t.isLt
  unfold wd rowD
  by_cases h : (first t).val < 40
  · rw [if_pos h, dif_pos (by omega)]
    refine Eq.trans ?_ (blk3 m c (first t) l k _ (by show f.val = _; omega))
    generalize X3 m c (first t) = X
    pointwise [k0_pay5]
  · rw [if_neg h]
    have hx : ∀ f' : Fin 5504, f'.val = f.val → X3 m c (first t) (ix2 l k) = argD m c (ix3 0 f' k) := fun f' h' => blk3 m c (first t) l k f' (by omega)
    have hk := keeps (cfg0.grid.coords (first t) 0) l
    replace hk := hk.trans (show _ ↔ f.val < 5504 by rw [coord0, hd]; omega)
    generalize X3 m c (first t) = X at hx ⊢
    pointwise [k0_pay8]
    by_cases hy : f.val < 5504
    · rw [dif_pos hy]
      exact (select_on _ (hk.mpr hy) _ _).trans (hx ⟨f.val, by omega⟩ rfl)
    · rw [dif_neg hy]
      exact (select_off _ (fun e => hy (hk.mp e)) _ _)

end Cert.Proof.Up

end
-- ==== Proof.Up.Plain.lean ====
/-
  The plain program's results at coordinates.
-/
module

public import proofs.«01_k».proof.Proof.Gen.ReferenceIdeal.Run
public import Idealize.ShloMosaic.Lib.Pointwise
public import Idealize.ShloMosaic.Lib.Pipeline.ValueKit

@[expose] public section

set_option maxRecDepth 16384

noncomputable section

namespace Cert.Proof.Plain

open Cert.ReferenceIdeal Cert.ReferenceIdeal.Gen
open Idealize.ShloMosaic Idealize.ShloMosaic.TcCoe Idealize.SL.Sem

/-- The activations times the two weights side by side. -/
def prod (H : FVec Ideal S8192x2048 .bf16) (U : FVec Ideal S1x2048x11008 .f32) : FVec Ideal S4x2048x11008 .f32 :=
  Host.dotGeneral dot_S4x2048x2048_S2048x11008_S4x2048x11008_2_0_01_1_n_n none (shapeCast _ (extf .f32 H bitsLt_bf16_f32) shapeCasts_S8192x2048_S4x2048x2048) (shapeCast _ U shapeCasts_S1x2048x11008_S2048x11008)

/-- The first half of the product after two rows of zeros. -/
def ext (H : FVec Ideal S8192x2048 .bf16) (U : FVec Ideal S1x2048x11008 .f32) : FVec Ideal S4x2050x5504 .f32 :=
  concatenate S4x2050x5504 1 [⟨S4x2x5504, (broadcastInDim S4x2x5504 ![] bcast_S_S4x2x5504 (constant (F := Ideal) S_ .f32 0x00000000#32))⟩, ⟨S4x2048x5504, (extractStridedSlice S4x2048x5504 ![0, 0, 0] (prod H U) slices_S4x2048x11008_S4x2048x5504_0_0_0)⟩] concatenates_S4x2x5504_S4x2048x5504_S4x2050x5504_d1

/-- The convolution over time. -/
def conv (H : FVec Ideal S8192x2048 .bf16) (U : FVec Ideal S1x2048x11008 .f32) (T : FVec Ideal S1x3x5504 .f32) (B : FVec Ideal S1x5504 .f32) : FVec Ideal S4x2048x5504 .f32 :=
  addf (addf (addf (broadcastInDim S4x2048x5504 ![0, 1, 2] bcast_S1x1x5504_S4x2048x5504_0_1_2 (broadcastInDim S1x1x5504 ![2] bcast_S5504_S1x1x5504_2 (shapeCast _ B shapeCasts_S1x5504_S5504))) (mulf (broadcastInDim S4x2048x5504 ![0, 1, 2] bcast_S1x1x5504_S4x2048x5504_0_1_2 (broadcastInDim S1x1x5504 ![2] bcast_S5504_S1x1x5504_2 (shapeCast _ (extractStridedSlice S1x5504 ![0, 0] (shapeCast _ T shapeCasts_S1x3x5504_S3x5504) slices_S3x5504_S1x5504_0_0) shapeCasts_S1x5504_S5504))) (extractStridedSlice S4x2048x5504 ![0, 0, 0] (ext H U) slices_S4x2050x5504_S4x2048x5504_0_0_0))) (mulf (broadcastInDim S4x2048x5504 ![0, 1, 2] bcast_S1x1x5504_S4x2048x5504_0_1_2 (broadcastInDim S1x1x5504 ![2] bcast_S5504_S1x1x5504_2 (shapeCast _ (extractStridedSlice S1x5504 ![1, 0] (shapeCast _ T shapeCasts_S1x3x5504_S3x5504) slices_S3x5504_S1x5504_1_0) shapeCasts_S1x5504_S5504))) (extractStridedSlice S4x2048x5504 ![0, 1, 0] (ext H U) slices_S4x2050x5504_S4x2048x5504_0_1_0))) (mulf (broadcastInDim S4x2048x5504 ![0, 1, 2] bcast_S1x1x5504_S4x2048x5504_0_1_2 (broadcastInDim S1x1x5504 ![2] bcast_S5504_S1x1x5504_2 (shapeCast _ (extractStridedSlice S1x5504 ![2, 0] (shapeCast _ T shapeCasts_S1x3x5504_S3x5504) slices_S3x5504_S1x5504_2_0) shapeCasts_S1x5504_S5504))) (extractStridedSlice S4x2048x5504 ![0, 2, 0] (ext H U) slices_S4x2050x5504_S4x2048x5504_0_2_0))

/-- The gated product, a row per token. -/
def gate (H : FVec Ideal S8192x2048 .bf16) (U : FVec Ideal S1x2048x11008 .f32) (T : FVec Ideal S1x3x5504 .f32) (B : FVec Ideal S1x5504 .f32) : FVec Ideal S8192x5504 .f32 :=
  shapeCast _ (mulf (mulf (mulf (broadcastInDim S4x2048x5504 ![] bcast_S_S4x2048x5504 (constant (F := Ideal) S_ .f32 0x3F000000#32)) (conv H U T B)) (addf (broadcastInDim S4x2048x5504 ![] bcast_S_S4x2048x5504 (constant (F := Ideal) S_ .f32 0x3F800000#32)) (Host.erf (mulf (conv H U T B) (broadcastInDim S4x2048x5504 ![] bcast_S_S4x2048x5504 (constant (F := Ideal) S_ .f32 0x3F3504F3#32)))))) (extractStridedSlice S4x2048x5504 ![0, 0, 5504] (prod H U) slices_S4x2048x11008_S4x2048x5504_0_0_5504)) shapeCasts_S4x2048x5504_S8192x5504

/-- The first result: the gated product extended by zeros. -/
def out0 (H : FVec Ideal S8192x2048 .bf16) (U : FVec Ideal S1x2048x11008 .f32) (T : FVec Ideal S1x3x5504 .f32) (B : FVec Ideal S1x5504 .f32) : FVec Ideal S8192x5632 .bf16 :=
  truncf .bf16 (pad S8192x5632 ![0, 0] ![0, 128] ![0, 0] (gate H U T B) (sitofp (F := Ideal) .f32 (constantI S_ 32 0#32)) pads_S8192x5504_S8192x5632_000_01280 h_S_) bitsLt_bf16_f32
/-- The second: the last two rows of the first half, extended by zeros. -/
def out1 (H : FVec Ideal S8192x2048 .bf16) (U : FVec Ideal S1x2048x11008 .f32) : FVec Ideal S4x2x5632 .f32 :=
  pad S4x2x5632 ![0, 0, 0] ![0, 0, 128] ![0, 0, 0] (extractStridedSlice S4x2x5504 ![0, 2048, 0] (ext H U) slices_S4x2050x5504_S4x2x5504_0_2048_0) (sitofp (F := Ideal) .f32 (constantI S_ 32 0#32)) pads_S4x2x5504_S4x2x5632_000_000_01280 h_S_
/-- The third: the first weight, extended by zeros. -/
def out2 (U : FVec Ideal S1x2048x11008 .f32) : FVec Ideal S2048x5632 .bf16 :=
  truncf .bf16 (pad S2048x5632 ![0, 0] ![0, 128] ![0, 0] (extractStridedSlice S2048x5504 ![0, 0] (shapeCast _ U shapeCasts_S1x2048x11008_S2048x11008) slices_S2048x11008_S2048x5504_0_0) (sitofp (F := Ideal) .f32 (constantI S_ 32 0#32)) pads_S2048x5504_S2048x5632_000_01280 h_S_) bitsLt_bf16_f32
/-- The fourth: the second. -/
def out3 (U : FVec Ideal S1x2048x11008 .f32) : FVec Ideal S2048x5632 .bf16 :=
  truncf .bf16 (pad S2048x5632 ![0, 0] ![0, 128] ![0, 0] (extractStridedSlice S2048x5504 ![0, 5504] (shapeCast _ U shapeCasts_S1x2048x11008_S2048x11008) slices_S2048x11008_S2048x5504_0_5504) (sitofp (F := Ideal) .f32 (constantI S_ 32 0#32)) pads_S2048x5504_S2048x5632_000_01280 h_S_) bitsLt_bf16_f32
/-- The fifth: the weight of the down-projection, extended by zeros. -/
def out4 (D : FVec Ideal S1x5504x2048 .f32) : FVec Ideal S5632x2048 .bf16 :=
  truncf .bf16 (pad S5632x2048 ![0, 0] ![128, 0] ![0, 0] (shapeCast _ D shapeCasts_S1x5504x2048_S5504x2048) (sitofp (F := Ideal) .f32 (constantI S_ 32 0#32)) pads_S5504x2048_S5632x2048_01280_000 h_S_) bitsLt_bf16_f32

theorem res0 (m : (ℓ : Loc nD τ sig) → Buf (Elt Ideal) ℓ) (c : Dev nD) : Value.res_main_v50 m c
    = out0 (m ((c.tc : Thread nD τ).loc main_arg0)) (m ((c.tc : Thread nD τ).loc main_arg1)) (m ((c.tc : Thread nD τ).loc main_arg3)) (m ((c.tc : Thread nD τ).loc main_arg4)) := by
  unfold Value.res_main_v50; rfl

/-- The integer zero, converted. -/
theorem zero32 : (FloatOps.sitofp .f32 (0#32 : BitVec 32) : Ideal .f32) = (0 : EReal) := by
  show (((0#32 : BitVec 32).toInt : ℝ) : EReal) = 0
  simp

theorem prod_at (H : FVec Ideal S8192x2048 .bf16) (U : FVec Ideal S1x2048x11008 .f32) (s : Fin 4) (p : Fin 2048) (f : Fin 11008) (r : Fin 8192) (hr : r.val = 2048 * s.val + p.val) :
    prod H U (ix3 s p f) = ∑ k : Fin 2048, H (ix2 r k) * U (ix3 0 k f) := by
  have hb : s.val * 2048 + p.val < 8192 := by omega
  have e : r = ⟨s.val * 2048 + p.val, hb⟩ := Fin.ext (by show r.val = s.val * 2048 + p.val; omega)
  subst e
  pointwise [prod]

theorem ext_at (H : FVec Ideal S8192x2048 .bf16) (U : FVec Ideal S1x2048x11008 .f32) (s : Fin 4) (q : Fin 2050) (f : Fin 5504) :
    ext H U (ix3 s q f) = if h : q.val < 2 then (0 : EReal) else prod H U (ix3 s ⟨q.val - 2, by omega⟩ ⟨f.val, by omega⟩) := by
  pointwise [ext]

theorem conv_at (H : FVec Ideal S8192x2048 .bf16) (U : FVec Ideal S1x2048x11008 .f32) (T : FVec Ideal S1x3x5504 .f32) (B : FVec Ideal S1x5504 .f32) (s : Fin 4) (p : Fin 2048) (f : Fin 5504) :
    conv H U T B (ix3 s p f) = ((B (ix2 0 f) + T (ix3 0 0 f) * ext H U (ix3 s ⟨p.val, by omega⟩ f)) + T (ix3 0 1 f) * ext H U (ix3 s ⟨1 + p.val, by omega⟩ f)) + T (ix3 0 2 f) * ext H U (ix3 s ⟨2 + p.val, by omega⟩ f) := by
  pointwise [conv]

/-- The gate of a convolved value `x` and a value `u` of the second half. -/
def gateOf (x u : EReal) : EReal := Ideal.ofBits FTy.f32 1056964608#32 * x * (1 + Ideal.erf (x * Ideal.ofBits FTy.f32 1060439283#32)) * u

theorem out0_at (H : FVec Ideal S8192x2048 .bf16) (U : FVec Ideal S1x2048x11008 .f32) (T : FVec Ideal S1x3x5504 .f32) (B : FVec Ideal S1x5504 .f32) (s : Fin 4) (p : Fin 2048) (f : Fin 5632) (r : Fin 8192) (hr : r.val = 2048 * s.val + p.val) :
    out0 H U T B (ix2 r f) = if h : f.val < 5504 then gateOf (conv H U T B (ix3 s p ⟨f.val, h⟩)) (prod H U (ix3 s p ⟨5504 + f.val, by omega⟩)) else (0 : EReal) := by
  have hs : r.val / 2048 < 4 := by omega
  have hp : r.val % 2048 < 2048 := by omega
  have es : s = ⟨r.val / 2048, hs⟩ := Fin.ext (by show s.val = r.val / 2048; omega)
  have ep : p = ⟨r.val % 2048, hp⟩ := Fin.ext (by show p.val = r.val % 2048; omega)
  subst es ep
  pointwise [out0, gate]
  rw [zero32]
  rfl
theorem out1_at (H : FVec Ideal S8192x2048 .bf16) (U : FVec Ideal S1x2048x11008 .f32) (s : Fin 4) (a : Fin 2) (f : Fin 5632) :
    out1 H U (ix3 s a f) = if h : f.val < 5504 then prod H U (ix3 s ⟨2046 + a.val, by omega⟩ ⟨f.val, by omega⟩) else (0 : EReal) := by
  have he : ∀ f' : Fin 5504, ext H U (ix3 s ⟨2048 + a.val, by omega⟩ f') = prod H U (ix3 s ⟨2046 + a.val, by omega⟩ ⟨f'.val, by omega⟩) := fun f' => by
    rw [ext_at, dif_neg (by show ¬ 2048 + a.val < 2; omega)]
    congr 2
    exact Fin.ext (by show 2048 + a.val - 2 = 2046 + a.val; omega)
  pointwise [out1]
  rw [zero32]
  by_cases h : f.val < 5504
  · rw [dif_pos h, dif_pos h]; exact he _
  · rw [dif_neg h, dif_neg h]
theorem out2_at (U : FVec Ideal S1x2048x11008 .f32) (k : Fin 2048) (f : Fin 5632) : out2 U (ix2 k f) = if h : f.val < 5504 then U (ix3 0 k ⟨f.val, by omega⟩) else (0 : EReal) := by
  pointwise [out2]
  rw [zero32]
theorem out3_at (U : FVec Ideal S1x2048x11008 .f32) (k : Fin 2048) (f : Fin 5632) : out3 U (ix2 k f) = if h : f.val < 5504 then U (ix3 0 k ⟨5504 + f.val, by omega⟩) else (0 : EReal) := by
  pointwise [out3]
  rw [zero32]
theorem out4_at (D : FVec Ideal S1x5504x2048 .f32) (f : Fin 5632) (k : Fin 2048) : out4 D (ix2 f k) = if h : f.val < 5504 then D (ix3 0 ⟨f.val, h⟩ k) else (0 : EReal) := by
  pointwise [out4]
  rw [zero32]

end Cert.Proof.Plain

end
-- ==== Proof.Up.Gate.lean ====
/-
  The gated block and the kept rows of a point at coordinates.
-/
module

public import proofs.«01_k».proof.Proof.Up.Columns
public import proofs.«01_k».proof.Proof.Up.Plain

@[expose] public section

set_option maxRecDepth 16384

noncomputable section

namespace Cert.Proof.Up

open Cert.KernelIdeal Cert.KernelIdeal.Gen
open Idealize.ShloMosaic Idealize.ShloMosaic.TcCoe Idealize.SL.Sem
open Idealize.ShloMosaic.Pipeline (Dat)
open Cert.Proof.Plain (gateOf)

/-- A row of the activations' block times a column of a weight's. -/
def rowOf (X0 : S2048x2048.Idx → Elt Ideal .bf16) (W : S2048x512.Idx → Elt Ideal .bf16) (q : Fin 2048) (l : Fin 512) : EReal :=
  ∑ k : Fin 2048, X0 (ix2 q k) * W (ix2 k l)

/-- The same `n` rows up; zero above the first. -/
def rowUp (X0 : S2048x2048.Idx → Elt Ideal .bf16) (W : S2048x512.Idx → Elt Ideal .bf16) (q : Fin 2048) (n : Nat) (l : Fin 512) : EReal :=
  if q.val < n then 0 else rowOf X0 W ⟨q.val - n, by omega⟩ l

theorem prodOf_at (X0 : S2048x2048.Idx → Elt Ideal .bf16) (W : S2048x512.Idx → Elt Ideal .bf16) (s : Fin 4) (p l : Fin 512) (q : Fin 2048) (hq : q.val = 512 * s.val + p.val) :
    prodOf X0 W s (ix2 p l) = rowOf X0 W q l := by
  unfold rowOf
  fin_cases s
  · pointwise [prodOf, k0_pay10]
    blk_point []
    exact (Nat.zero_add _).symm.trans hq.symm
  · pointwise [prodOf, k0_pay10]
    blk_point []
    exact hq.symm
  · pointwise [prodOf, k0_pay10]
    blk_point []
    exact hq.symm
  · pointwise [prodOf, k0_pay10]
    blk_point []
    exact hq.symm

theorem carried_at (X0 : S2048x2048.Idx → Elt Ideal .bf16) (W : S2048x512.Idx → Elt Ideal .bf16) (s : Fin 4) (a : Fin 8) (l : Fin 512) (n : Nat) (q : Fin 2048) (p : Fin 512)
    (hq : q.val = 512 * s.val + p.val) (hn : a.val + n = 8 + p.val) (hn' : p.val < n) :
    carried X0 W s (ix2 a l) = rowUp X0 W q n l := by
  unfold rowUp
  fin_cases s
  · rw [if_pos (by have : q.val = 512 * 0 + p.val := hq; omega)]
    pointwise [carried, k0_pay9]
  · have hq' : q.val = 512 * 1 + p.val := hq
    rw [if_neg (by omega)]
    pointwise [carried, k0_pay14]
    exact prodOf_at X0 W 0 _ l _ (by show q.val - n = 512 * 0 + (504 + a.val); omega)
  · have hq' : q.val = 512 * 2 + p.val := hq
    rw [if_neg (by omega)]
    pointwise [carried, k0_pay14]
    exact prodOf_at X0 W 1 _ l _ (by show q.val - n = 512 * 1 + (504 + a.val); omega)
  · have hq' : q.val = 512 * 3 + p.val := hq
    rw [if_neg (by omega)]
    pointwise [carried, k0_pay14]
    exact prodOf_at X0 W 2 _ l _ (by show q.val - n = 512 * 2 + (504 + a.val); omega)

/-- The convolved value of a row. -/
def convOf (X0 : S2048x2048.Idx → Elt Ideal .bf16) (W : S2048x512.Idx → Elt Ideal .bf16) (X4 : S3x512.Idx → Elt Ideal .f32) (X5 : S1x512.Idx → Elt Ideal .f32) (q : Fin 2048) (l : Fin 512) : EReal :=
  ((X5 (ix2 0 l) + X4 (ix2 0 l) * rowUp X0 W q 2 l) + X4 (ix2 1 l) * rowUp X0 W q 1 l) + X4 (ix2 2 l) * rowOf X0 W q l

/-- The tests for the first two rows of a stretch. -/
theorem is_row0 : ∀ p : Fin 512, IntOp.cmpi .eq (BitVec.ofNat 32 p.val) 0#32 = 1#1 ↔ p.val = 0 := by decide +kernel
theorem is_row1 : ∀ p : Fin 512, IntOp.cmpi .eq (BitVec.ofNat 32 p.val) 1#32 = 1#1 ↔ p.val = 1 := by decide +kernel

/-- A stretch's gated block. -/
theorem stretch_at (X0 : S2048x2048.Idx → Elt Ideal .bf16) (W10 W11 : S2048x512.Idx → Elt Ideal .bf16) (X4 : S3x512.Idx → Elt Ideal .f32) (X5 : S1x512.Idx → Elt Ideal .f32)
    (s : Fin 4) (p l : Fin 512) (q : Fin 2048) (hq : q.val = 512 * s.val + p.val) :
    stretch X0 W10 W11 X4 X5 s (ix2 p l) = gateOf (convOf X0 W10 X4 X5 q l) (rowOf X0 W11 q l) := by
  have hA := prodOf_at X0 W10 s p l q hq
  have hU := prodOf_at X0 W11 s p l q hq
  have hP : ∀ (p' : Fin 512) (n : Nat), p'.val + n = p.val → prodOf X0 W10 s (ix2 p' l) = rowUp X0 W10 q n l := fun p' n h => by
    unfold rowUp; rw [if_neg (by omega)]
    exact prodOf_at X0 W10 s p' l _ (by show q.val - n = _; omega)
  have hC : ∀ (a : Fin 8) (n : Nat), a.val + n = 8 + p.val → p.val < n → carried X0 W10 s (ix2 a l) = rowUp X0 W10 q n l := fun a n h h' =>
    carried_at X0 W10 s a l n q p hq h h'
  unfold stretch
  generalize prodOf X0 W10 s = A at hA hP ⊢
  generalize prodOf X0 W11 s = U at hU ⊢
  generalize carried X0 W10 s = C at hC ⊢
  pointwise [gated, k0_pay16, k0_pay12, k0_pay13, k0_pay15]
  rw [hA, hU]
  have e2 : (if h : p.val < 8 then
        Scalar.select (IntOp.cmpi CmpIPredicate.eq (BitVec.ofNat 32 p.val) 0#32) (C (ix2 6 l))
          (Scalar.select (IntOp.cmpi CmpIPredicate.eq (BitVec.ofNat 32 p.val) 1#32) (C (ix2 7 l))
            (A (ix2 ⟨(p.val + 512 - 2) % 512, Nat.mod_lt _ (by omega)⟩ l)))
      else A (ix2 ⟨(8 + (p.val - 8) + 512 - 2) % 512, Nat.mod_lt _ (by omega)⟩ l)) = rowUp X0 W10 q 2 l := by
    by_cases h : p.val < 8
    · rw [dif_pos h]
      by_cases h0 : p.val = 0
      · exact (select_on _ ((is_row0 p).mpr h0) _ _).trans (hC 6 2 (by rw [h0]; rfl) (by omega))
      · refine (select_off _ (fun e => h0 ((is_row0 p).mp e)) _ _).trans ?_
        by_cases h1 : p.val = 1
        · exact (select_on _ ((is_row1 p).mpr h1) _ _).trans (hC 7 2 (by rw [h1]; rfl) (by omega))
        · exact (select_off _ (fun e => h1 ((is_row1 p).mp e)) _ _).trans (hP _ 2 (by show (p.val + 512 - 2) % 512 + 2 = p.val; omega))
    · rw [dif_neg h]
      exact hP _ 2 (by show (8 + (p.val - 8) + 512 - 2) % 512 + 2 = p.val; omega)
  have e1 : (if h : p.val < 8 then
        Scalar.select (IntOp.cmpi CmpIPredicate.eq (BitVec.ofNat 32 p.val) 0#32) (C (ix2 7 l))
          (A (ix2 ⟨(p.val + 512 - 1) % 512, Nat.mod_lt _ (by omega)⟩ l))
      else A (ix2 ⟨(8 + (p.val - 8) + 512 - 1) % 512, Nat.mod_lt _ (by omega)⟩ l)) = rowUp X0 W10 q 1 l := by
    by_cases h : p.val < 8
    · rw [dif_pos h]
      by_cases h0 : p.val = 0
      · exact (select_on _ ((is_row0 p).mpr h0) _ _).trans (hC 7 1 (by rw [h0]; rfl) (by omega))
      · exact (select_off _ (fun e => h0 ((is_row0 p).mp e)) _ _).trans (hP _ 1 (by show (p.val + 512 - 1) % 512 + 1 = p.val; omega))
    · rw [dif_neg h]
      exact hP _ 1 (by show (8 + (p.val - 8) + 512 - 1) % 512 + 1 = p.val; omega)
  rw [e2, e1]
  rfl

/-- The whole gated block. -/
theorem gBlock_at (X0 : S2048x2048.Idx → Elt Ideal .bf16) (W10 W11 : S2048x512.Idx → Elt Ideal .bf16) (X4 : S3x512.Idx → Elt Ideal .f32) (X5 : S1x512.Idx → Elt Ideal .f32)
    (q : Fin 2048) (l : Fin 512) :
    gBlock X0 W10 W11 X4 X5 (ix2 q l) = gateOf (convOf X0 W10 X4 X5 q l) (rowOf X0 W11 q l) := by
  unfold gBlock
  have key : ∀ (s : Fin 4) (x : S512x512.Idx), q.val = 512 * s.val + (x 0).val → l.val = (x 1).val →
      stretch X0 W10 W11 X4 X5 s x = gateOf (convOf X0 W10 X4 X5 q l) (rowOf X0 W11 q l) := fun s x h0 h1 => by
    have hx : x = ix2 (x 0) l := by
      funext a
      fin_cases a
      · rfl
      · exact Fin.ext h1.symm
    rw [hx]
    exact stretch_at X0 W10 W11 X4 X5 s (x 0) l q h0
  canon_tiles x h
  · exact key 3 x h0 h1
  · exact key 2 x h0 h1
  · exact key 1 x h0 h1
  · exact key 0 x (h0.trans (Nat.zero_add _).symm) h1

/-- The kept rows. -/
theorem tailBlock_at (X0 : S2048x2048.Idx → Elt Ideal .bf16) (W10 : S2048x512.Idx → Elt Ideal .bf16) (a : Fin 2) (l : Fin 512) :
    tailBlock X0 W10 (ix3 0 a l) = rowOf X0 W10 ⟨2046 + a.val, by omega⟩ l := by
  pointwise [tailBlock, k0_pay1, k0_pay14]
  exact prodOf_at X0 W10 3 _ l _ (by show 2046 + a.val = 512 * 3 + (504 + (6 + a.val)); omega)

end Cert.Proof.Up
end
-- ==== Proof.Up.Final.lean ====
/-
  The results of the up-projection after its run: the plain program's.
-/
module

public import proofs.«01_k».proof.Proof.Up.Gate

@[expose] public section

set_option maxRecDepth 16384

noncomputable section

namespace Cert.Proof.Up

open Cert.KernelIdeal Cert.KernelIdeal.Gen
open Idealize.ShloMosaic Idealize.ShloMosaic.TcCoe Idealize.SL.Sem
open Idealize.ShloMosaic.Pipeline (Dat)
open Cert.Proof.Plain (gateOf)

variable (m : (ℓ : Loc nD τ sig) → Buf (Elt Ideal) ℓ)

/-- A row of a point's activations times a column of the first weight's block: the plain product, zero past the weight's last column. -/
theorem rowA (c : Dev nD) (t : Fin cfg0.N) (q : Fin 2048) (l : Fin 512) (f : Fin 5632) (hf : f.val = 512 * (t.val / 4) + l.val) (s : Fin 4) (hs : s.val = t.val % 4) :
    rowOf (iblk m c 0 t) (wa m c t) q l = if h : f.val < 5504 then Plain.prod (argH m c) (argU m c) (ix3 s q ⟨f.val, by omega⟩) else (0 : EReal) := by
  have hw := fun k => wa_at m c t k l f hf
  have hh := fun k => blk0 m c t q k ⟨2048 * s.val + q.val, by omega⟩ (by show 2048 * s.val + q.val = _; omega)
  unfold rowOf
  by_cases h : f.val < 5504
  · rw [dif_pos h, Plain.prod_at _ _ s q _ ⟨2048 * s.val + q.val, by omega⟩ rfl]
    refine Finset.sum_congr rfl fun k _ => ?_
    rw [hh k, hw k]; unfold colA; rw [dif_pos h]
  · rw [dif_neg h]
    refine Finset.sum_eq_zero fun k _ => ?_
    rw [hw k]; unfold colA; rw [dif_neg h, mul_zero]

/-- The same of the second weight's. -/
theorem rowU (c : Dev nD) (t : Fin cfg0.N) (q : Fin 2048) (l : Fin 512) (f : Fin 5632) (hf : f.val = 512 * (t.val / 4) + l.val) (s : Fin 4) (hs : s.val = t.val % 4) :
    rowOf (iblk m c 0 t) (wu m c t) q l = if h : f.val < 5504 then Plain.prod (argH m c) (argU m c) (ix3 s q ⟨5504 + f.val, by omega⟩) else (0 : EReal) := by
  have hw := fun k => wu_at m c t k l f hf
  have hh := fun k => blk0 m c t q k ⟨2048 * s.val + q.val, by omega⟩ (by show 2048 * s.val + q.val = _; omega)
  unfold rowOf
  by_cases h : f.val < 5504
  · rw [dif_pos h, Plain.prod_at _ _ s q _ ⟨2048 * s.val + q.val, by omega⟩ rfl]
    refine Finset.sum_congr rfl fun k _ => ?_
    rw [hh k, hw k]; unfold colU; rw [dif_pos h]
  · rw [dif_neg h]
    refine Finset.sum_eq_zero fun k _ => ?_
    rw [hw k]; unfold colU; rw [dif_neg h, mul_zero]

/-- A row some rows up is the plain program's extended first half. -/
theorem rowUp_ext (c : Dev nD) (t : Fin cfg0.N) (q : Fin 2048) (l : Fin 512) (f : Fin 5632) (hf : f.val = 512 * (t.val / 4) + l.val) (s : Fin 4) (hs : s.val = t.val % 4)
    (n : Nat) (r : Fin 2050) (hr : r.val + n = 2 + q.val) (hn : n ≤ 2) (h : f.val < 5504) :
    rowUp (iblk m c 0 t) (wa m c t) q n l = Plain.ext (argH m c) (argU m c) (ix3 s r ⟨f.val, h⟩) := by
  rw [Plain.ext_at]
  unfold rowUp
  by_cases h0 : q.val < n
  · rw [if_pos h0, dif_pos (by omega)]
  · rw [if_neg h0, dif_neg (by omega), rowA m c t _ l f hf s hs, dif_pos h]
    congr 2
    exact Fin.ext (by show q.val - n = r.val - 2; omega)

/-- The gated value of a row and a column of a point is the plain program's. -/
theorem gate_eq (c : Dev nD) (t : Fin cfg0.N) (q : Fin 2048) (l : Fin 512) (r : Fin 8192) (f : Fin 5632) (hr : r.val = 2048 * (t.val % 4) + q.val) (hf : f.val = 512 * (t.val / 4) + l.val) :
    gateOf (convOf (iblk m c 0 t) (wa m c t) (iblk m c 4 t) (iblk m c 5 t) q l) (rowOf (iblk m c 0 t) (wu m c t) q l)
      = Plain.out0 (argH m c) (argU m c) (argT m c) (argB m c) (ix2 r f) := by
  have hb : t.val % 4 < 4 := Nat.mod_lt _ (by omega)
  rw [Plain.out0_at _ _ _ _ ⟨t.val % 4, hb⟩ q f r hr, rowU m c t q l f hf ⟨t.val % 4, hb⟩ rfl]
  by_cases h : f.val < 5504
  · rw [dif_pos h, dif_pos h]
    refine congrArg (fun x => gateOf x _) ?_
    rw [Plain.conv_at]
    unfold convOf
    rw [blk5 m c t 0 l f hf, dif_pos h, blk4 m c t 0 l f hf, dif_pos h, blk4 m c t 1 l f hf, dif_pos h, blk4 m c t 2 l f hf, dif_pos h,
      rowUp_ext m c t q l f hf ⟨t.val % 4, hb⟩ rfl 2 ⟨q.val, by omega⟩ (Nat.add_comm _ _) (by omega) h,
      rowUp_ext m c t q l f hf ⟨t.val % 4, hb⟩ rfl 1 ⟨1 + q.val, by omega⟩ (by show 1 + q.val + 1 = 2 + q.val; omega) (by omega) h]
    have e0 : rowOf (iblk m c 0 t) (wa m c t) q l = rowUp (iblk m c 0 t) (wa m c t) q 0 l := by
      unfold rowUp; rw [if_neg (by omega)]; rfl
    rw [e0, rowUp_ext m c t q l f hf ⟨t.val % 4, hb⟩ rfl 0 ⟨2 + q.val, by omega⟩ rfl (by omega) h]
  · rw [dif_neg h, dif_neg h]
    exact mul_zero _

/-- A kept row. -/
theorem tail_row (c : Dev nD) (t : Fin cfg0.N) (q : Fin 2048) (l : Fin 512) (f : Fin 5632) (hf : f.val = 512 * (t.val / 4) + l.val) :
    rowOf (iblk m c 0 t) (wa m c t) q l = if h : f.val < 5504 then Plain.prod (argH m c) (argU m c) (ix3 ⟨t.val % 4, Nat.mod_lt _ (by omega)⟩ q ⟨f.val, by omega⟩) else (0 : EReal) :=
  rowA m c t q l f hf _ rfl

/-- The third result: the first weight. -/
theorem final8 (c : Dev nD) : (dats m 0 c).arrAt 8 (cfgs 0).N = Plain.out2 (argU m c) := by
  refine (dats m 0 c).arrAt_eq_of_covers 8 _ (by decide +kernel) fun t hf y => ?_
  blk_simp
  have hN : t.val < 44 := lt_of_lt_of_eq t.isLt N_eq
  have h0 : (y 0).val < 2048 := (y 0).isLt
  have h1 : (y 1).val < 512 := (y 1).isLt
  have hy : y = ix2 (⟨(y 0).val, h0⟩ : Fin 2048) (⟨(y 1).val, h1⟩ : Fin 512) := by
    funext a; fin_cases a <;> rfl
  have he : (win0_8.blk t).view.emb y = ix2 (⟨(y 0).val, by omega⟩ : Fin 2048) (⟨512 * (t.val / 4) + (y 1).val, by omega⟩ : Fin 5632) := by
    blk_ext [widx t]
  refine Eq.trans ?_ (congrArg _ he.symm)
  refine (congrArg (left m c 8 t) hy).trans ?_
  exact (wa_at m c t _ _ _ rfl).trans (Plain.out2_at _ _ _).symm

/-- The fourth: the second weight. -/
theorem final9 (c : Dev nD) : (dats m 0 c).arrAt 9 (cfgs 0).N = Plain.out3 (argU m c) := by
  refine (dats m 0 c).arrAt_eq_of_covers 9 _ (by decide +kernel) fun t hf y => ?_
  blk_simp
  have hN : t.val < 44 := lt_of_lt_of_eq t.isLt N_eq
  have h0 : (y 0).val < 2048 := (y 0).isLt
  have h1 : (y 1).val < 512 := (y 1).isLt
  have hy : y = ix2 (⟨(y 0).val, h0⟩ : Fin 2048) (⟨(y 1).val, h1⟩ : Fin 512) := by
    funext a; fin_cases a <;> rfl
  have he : (win0_9.blk t).view.emb y = ix2 (⟨(y 0).val, by omega⟩ : Fin 2048) (⟨512 * (t.val / 4) + (y 1).val, by omega⟩ : Fin 5632) := by
    blk_ext [widx t]
  refine Eq.trans ?_ (congrArg _ he.symm)
  refine (congrArg (left m c 9 t) hy).trans ?_
  exact (wu_at m c t _ _ _ rfl).trans (Plain.out3_at _ _ _).symm

/-- The fifth: the third weight. -/
theorem final10 (c : Dev nD) : (dats m 0 c).arrAt 10 (cfgs 0).N = Plain.out4 (argD m c) := by
  refine (dats m 0 c).arrAt_eq_of_covers 10 _ (by decide +kernel) fun t hf y => ?_
  blk_simp
  have hN : t.val < 44 := lt_of_lt_of_eq t.isLt N_eq
  have h0 : (y 0).val < 512 := (y 0).isLt
  have h1 : (y 1).val < 2048 := (y 1).isLt
  have hy : y = ix2 (⟨(y 0).val, h0⟩ : Fin 512) (⟨(y 1).val, h1⟩ : Fin 2048) := by
    funext a; fin_cases a <;> rfl
  have he : (win0_10.blk t).view.emb y = ix2 (⟨512 * (t.val / 4) + (y 0).val, by omega⟩ : Fin 5632) (⟨(y 1).val, by omega⟩ : Fin 2048) := by
    blk_ext [widx t]
  refine Eq.trans ?_ (congrArg _ he.symm)
  refine (congrArg (left m c 10 t) hy).trans ?_
  exact (wd_at m c t _ _ _ rfl).trans (Plain.out4_at _ _ _).symm

/-- What a point leaves of the gated product. -/
theorem left6_at (c : Dev nD) (t : Fin cfg0.N) (q : Fin 2048) (l : Fin 512) (r : Fin 8192) (f : Fin 5632) (hr : r.val = 2048 * (t.val % 4) + q.val) (hf : f.val = 512 * (t.val / 4) + l.val) :
    left m c 6 t (ix2 q l) = Plain.out0 (argH m c) (argU m c) (argT m c) (argB m c) (ix2 r f) :=
  (gBlock_at (iblk m c 0 t) (wa m c t) (wu m c t) (iblk m c 4 t) (iblk m c 5 t) q l).trans (gate_eq m c t q l r f hr hf)

/-- The same at the block's own index and the array's. -/
theorem point6 (c : Dev nD) (t : Fin cfg0.N) (y : S2048x512.Idx) (i : S8192x5632.Idx) (h0 : (i 0).val = 2048 * (t.val % 4) + (y 0).val) (h1 : (i 1).val = 512 * (t.val / 4) + (y 1).val) :
    left m c 6 t y = Plain.out0 (argH m c) (argU m c) (argT m c) (argB m c) i := by
  have hy : y = ix2 (y 0) (y 1) := by funext a; fin_cases a <;> rfl
  have hi : i = ix2 (i 0) (i 1) := by funext a; fin_cases a <;> rfl
  rw [hy, hi]
  exact left6_at m c t (y 0) (y 1) (i 0) (i 1) h0 h1

attribute [local irreducible] gBlock in
/-- The first: the gated product. -/
theorem final6 (c : Dev nD) : (dats m 0 c).arrAt 6 (cfgs 0).N = Plain.out0 (argH m c) (argU m c) (argT m c) (argB m c) := by
  refine (dats m 0 c).arrAt_eq_of_covers 6 _ (by decide +kernel) fun t hf y => ?_
  blk_simp
  refine point6 m c t y _ ?_ ?_
  · blk_simp [widx t]
    omega
  · blk_simp [widx t]
    omega

/-- The second: the kept rows. -/
theorem final7 (c : Dev nD) : (dats m 0 c).arrAt 7 (cfgs 0).N = Plain.out1 (argH m c) (argU m c) := by
  refine (dats m 0 c).arrAt_eq_of_covers 7 _ (by decide +kernel) fun t hf y => ?_
  blk_simp
  have hN : t.val < 44 := lt_of_lt_of_eq t.isLt N_eq
  have h0 : (y 0).val < 1 := (y 0).isLt
  have h1 : (y 1).val < 2 := (y 1).isLt
  have h2 : (y 2).val < 512 := (y 2).isLt
  have hy : y = ix3 (0 : Fin 1) (⟨(y 1).val, h1⟩ : Fin 2) (⟨(y 2).val, h2⟩ : Fin 512) := by
    funext a; fin_cases a
    · exact Fin.ext (by show (y 0).val = 0; omega)
    · rfl
    · rfl
  have he : (win0_7.blk t).view.emb y = ix3 (⟨t.val % 4, by omega⟩ : Fin 4) (⟨(y 1).val, h1⟩ : Fin 2) (⟨512 * (t.val / 4) + (y 2).val, by omega⟩ : Fin 5632) := by
    blk_ext [widx t]
  refine Eq.trans ?_ (congrArg _ he.symm)
  refine (congrArg (left m c 7 t) hy).trans ?_
  refine (tailBlock_at _ _ _ _).trans ((tail_row m c t _ _ _ rfl).trans (Plain.out1_at _ _ _ _ _).symm)

end Cert.Proof.Up

end
-- ==== Proof.Up.Algebraic.lean ====
/-
  The up-projection computes the plain program's five results, over the extended reals.
-/
module

public import proofs.«01_k».proof.Proof.Up.Final
public import proofs.«01_k».proof.Proof.Up.Frames

@[expose] public section

set_option maxRecDepth 16384

noncomputable section

namespace Cert.Proof.Up

open Idealize.ShloMosaic Idealize.SL.Sem

/-- The run of the kernel, its results by name. -/
theorem run_kernel (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v5_0) = Plain.out0 (argH m c) (argU m c) (argT m c) (argB m c)
      ∧ r.2.mem ((c.tc : Thread Cert.KernelIdeal.nD Cert.KernelIdeal.τ).loc Cert.KernelIdeal.main_v5_1) = Plain.out1 (argH m c) (argU m c)
      ∧ r.2.mem ((c.tc : Thread Cert.KernelIdeal.nD Cert.KernelIdeal.τ).loc Cert.KernelIdeal.main_v5_2) = Plain.out2 (argU m c)
      ∧ r.2.mem ((c.tc : Thread Cert.KernelIdeal.nD Cert.KernelIdeal.τ).loc Cert.KernelIdeal.main_v5_3) = Plain.out3 (argU m c)
      ∧ r.2.mem ((c.tc : Thread Cert.KernelIdeal.nD Cert.KernelIdeal.τ).loc Cert.KernelIdeal.main_v5_4) = Plain.out4 (argD m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono (fun r h c => ⟨((h.1 c).1 6).trans (final6 m c), ((h.1 c).1 7).trans (final7 m c), ((h.1 c).1 8).trans (final8 m c),
      ((h.1 c).1 9).trans (final9 m c), ((h.1 c).1 10).trans (final10 m c),
      ((h.1 c).1 0).trans (((dats m 0 c).arrAt_in 0 rfl _).trans (Cert.KernelIdeal.Gen.V_main_arg0 m c)),
      ((h.1 c).2 Cert.KernelIdeal.main_arg1 (Pipeline.mem_restRefs_of Cert.KernelIdeal.main_arg1 (by decide) (by decide))).trans (Cert.KernelIdeal.Gen.V_main_arg1 m c),
      ((h.1 c).2 Cert.KernelIdeal.main_arg2 (Pipeline.mem_restRefs_of Cert.KernelIdeal.main_arg2 (by decide) (by decide))).trans (Cert.KernelIdeal.Gen.V_main_arg2 m c),
      ((h.1 c).2 Cert.KernelIdeal.main_arg3 (Pipeline.mem_restRefs_of Cert.KernelIdeal.main_arg3 (by decide) (by decide))).trans (Cert.KernelIdeal.Gen.V_main_arg3 m c),
      ((h.1 c).2 Cert.KernelIdeal.main_arg4 (Pipeline.mem_restRefs_of Cert.KernelIdeal.main_arg4 (by decide) (by decide))).trans (Cert.KernelIdeal.Gen.V_main_arg4 m c)⟩)
    (run_main (F := Ideal) m g)

theorem algebraic : Cert.algebraic_KernelIdeal_ReferenceIdeal := by
  intro m g m' g' _ hargs
  refine ⟨fun c => Plain.out0 (argH m c) (argU m c) (argT m c) (argB m c), fun c => Plain.out1 (argH m c) (argU m c), fun c => Plain.out2 (argU m c),
    fun c => Plain.out3 (argU m c), fun c => Plain.out4 (argD m c), run_kernel m g, ?_⟩
  refine (θ_run Cert.ReferenceIdeal.defs _ _).mono (fun r h c => ?_) (Cert.ReferenceIdeal.Value.run (F := Ideal) m' g')
  obtain ⟨r0, r1, r2, r3, r4, ra⟩ := h c
  obtain ⟨e0, e1, e2, e3, e4⟩ := hargs c
  have e0' : m' ((c.tc : Thread Cert.ReferenceIdeal.nD Cert.ReferenceIdeal.τ).loc Cert.ReferenceIdeal.main_arg0) = argH m c := e0
  have e1' : m' ((c.tc : Thread Cert.ReferenceIdeal.nD Cert.ReferenceIdeal.τ).loc Cert.ReferenceIdeal.main_arg1) = argU m c := e1
  have e2' : m' ((c.tc : Thread Cert.ReferenceIdeal.nD Cert.ReferenceIdeal.τ).loc Cert.ReferenceIdeal.main_arg2) = argD m c := e2
  have e3' : m' ((c.tc : Thread Cert.ReferenceIdeal.nD Cert.ReferenceIdeal.τ).loc Cert.ReferenceIdeal.main_arg3) = argT m c := e3
  have e4' : m' ((c.tc : Thread Cert.ReferenceIdeal.nD Cert.ReferenceIdeal.τ).loc Cert.ReferenceIdeal.main_arg4) = argB m c := e4
  refine ⟨(r0.trans (Plain.res0 m' c)).trans ?_, Eq.trans (r1.trans (by rfl : _ = Plain.out1 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)))) ?_,
    Eq.trans (r2.trans (by rfl : _ = Plain.out2 (m' ((c.tc : Thread Cert.ReferenceIdeal.nD Cert.ReferenceIdeal.τ).loc Cert.ReferenceIdeal.main_arg1)))) ?_,
    Eq.trans (r3.trans (by rfl : _ = Plain.out3 (m' ((c.tc : Thread Cert.ReferenceIdeal.nD Cert.ReferenceIdeal.τ).loc Cert.ReferenceIdeal.main_arg1)))) ?_,
    Eq.trans (r4.trans (by rfl : _ = Plain.out4 (m' ((c.tc : Thread Cert.ReferenceIdeal.nD Cert.ReferenceIdeal.τ).loc Cert.ReferenceIdeal.main_arg2)))) ?_, ra⟩
  · rw [e0', e1', e3', e4']
  · rw [e0', e1']
  · rw [e1']
  · rw [e1']
  · rw [e2']

end Cert.Proof.Up

end
-- ==== Proof.Down.Frames.lean ====
/-
  The three programs of the down-projection run and leave their arguments as they were.
-/
module

public import proofs.«01_k».proof.Defs
public import proofs.«01_k».proof.Proof.Gen.Kernel2
public import proofs.«01_k».proof.Proof.Gen.Kernel2Ideal.Frame
public import proofs.«01_k».proof.Proof.Gen.Reference2Ideal.Run

@[expose] public section

noncomputable section

namespace Cert.Proof.Down

open Idealize.ShloMosaic Idealize.SL.Sem

/-- The two printings of the kernel have the same body. -/
theorem bodies_eq : Cert.Kernel2.defs₀ (F := Bits) = Cert.Kernel2Ideal.defs₀ (F := Bits) := by
  unfold Cert.Kernel2.defs₀ Cert.Kernel2Ideal.defs₀
  refine congrArg Defs.onTc (funext fun ℓ => funext fun a => ?_)
  match ℓ, a with
  | ⟨0, _⟩, (t, s) => rfl
  | ⟨_ + 1, h⟩, _ => exact absurd h (Nat.not_lt.2 (Nat.le_add_left _ _))

theorem defs_eq : Cert.Kernel2.defs (F := Bits) = Cert.Kernel2Ideal.defs (F := Bits) :=
  congrArg (Pipeline.defs Cert.Kernel2Ideal.pcfgs) bodies_eq

/-- The kernel at the bits: the same run, read there. -/
theorem frame_kernel : Cert.quiescent_Kernel2 := fun m ρ _ => by
  rw [defs_eq]
  exact Cert.Kernel2Ideal.Gen.frame (F := Bits) m ρ

/-- The kernel at the ideal instance. -/
theorem frame_kernelIdeal : Cert.quiescent_Kernel2Ideal := fun m ρ _ => Cert.Kernel2Ideal.Gen.frame (F := Ideal) m ρ

/-- The reference leaves its arguments as they were, and declares no semaphore. -/
theorem frame_reference : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

end Cert.Proof.Down

end
-- ==== Proof.Norm.lean ====
/-
  The layer norm of a row of 2048 values, over the extended reals, and sums cut in two.
-/
module

public import Idealize.ShloMosaic.Lib.Pointwise
public import Idealize.ShloMosaic.PureOps.Ideal
public import Idealize.ShloMosaic.Lib.Pipeline.ValueKit

@[expose] public section

noncomputable section

namespace Cert.Proof.Norm

open Idealize.ShloMosaic

/-- The weight of the residual, as its float word reads. -/
def alpha : EReal := Ideal.ofBits FTy.f32 1066940400#32
/-- The length of a row, as its float word reads. -/
def len : EReal := Ideal.ofBits FTy.f32 1157627904#32
/-- What is added to a variance. -/
def eps : EReal := Ideal.ofBits FTy.f32 925353388#32

/-- The entry `n` of a row less the row's mean. -/
def centred (v : Fin 2048 → EReal) (n : Fin 2048) : EReal := v n - Ideal.div (∑ x, v x) len

/-- The entry `n` of the normalised row. -/
def normed (v : Fin 2048 → EReal) (n : Fin 2048) : EReal :=
  centred v n * Ideal.rsqrt (Ideal.div (∑ x, centred v x * centred v x) len + eps)

/-- The entry `n` of a modulated row: the normalised row, scaled by one more than `sc` and shifted by `sh`. -/
def modulated (v sh sc : Fin 2048 → EReal) (n : Fin 2048) : EReal := normed v n * (1 + sc n) + sh n

/-- The integer zero, converted to a float of any width, is zero. -/
theorem zero_cast (φ : FTy) : (FloatOps.sitofp φ (0#32 : BitVec 32) : Ideal φ) = (0 : EReal) := by
  show (((0#32 : BitVec 32).toInt : ℝ) : EReal) = 0
  simp

/-- A sum cut in two. -/
theorem sum_split {a b n : ℕ} (hn : n = a + b) (f : Fin n → EReal) :
    ∑ k, f k = ∑ k : Fin a, f ⟨k.val, by omega⟩ + ∑ k : Fin b, f ⟨a + k.val, by omega⟩ := by
  subst hn
  exact Fin.sum_univ_add f

/-- A sum whose last terms are zero is the sum of the others. -/
theorem sum_cut {a n : ℕ} (hn : a ≤ n) (f : Fin n → EReal) (hf : ∀ k : Fin n, a ≤ k.val → f k = 0) :
    ∑ k, f k = ∑ k : Fin a, f ⟨k.val, by omega⟩ := by
  rw [sum_split (show n = a + (n - a) by omega) f]
  rw [Finset.sum_eq_zero (s := (Finset.univ : Finset (Fin (n - a)))) fun k _ => hf _ (by show a ≤ a + k.val; omega), add_zero]

/-- A rectangle of a matrix, read at an index of its own. -/
theorem ld_at {e : EltTy} {A B a b : ℕ} (X : (⟨2, ![A, B]⟩ : Shape).Idx → Elt Ideal e) (o : Fin 2 → ℕ) (inb) (p : Fin a) (k : Fin b) (q : Fin A) (l : Fin B)
    (h0 : q.val = o 0 + p.val) (h1 : l.val = o 1 + k.val) :
    View.ld X (Rect.unit (s := ⟨2, ![A, B]⟩) o ![a, b] inb) (ix2 p k) = X (ix2 q l) := by
  refine congrArg X (funext fun d => Fin.ext ?_)
  fin_cases d
  · show o 0 + 1 * p.val = q.val; omega
  · show o 1 + 1 * k.val = l.val; omega

end Cert.Proof.Norm

end
-- ==== Proof.Down.Block.lean ====
/-
  What the down-projection's body leaves in the result's buffer at a point of the grid, from the blocks it reads: at a
  first point the partial product, at a second the normalised rows.
-/
module

public import proofs.«01_k».proof.Proof.Gen.Kernel2Ideal.Value
public import proofs.«01_k».proof.Proof.Norm
public import Idealize.ShloMosaic.Lib.Pipeline.ValueKit

@[expose] public section

set_option maxRecDepth 16384

noncomputable section

namespace Cert.Proof.Down

open Cert.Kernel2Ideal Cert.Kernel2Ideal.Gen Cert.Proof.Norm
open Idealize.ShloMosaic Idealize.ShloMosaic.TcCoe Idealize.SL.Sem
open Idealize.ShloMosaic.Pipeline (Dat)

variable (m : (ℓ : Loc nD τ sig) → Buf (Elt Ideal) ℓ)

/-! ## The payloads at an index -/

/-- The partial product. -/
theorem pay1_at (v6 : S512x2816.Idx → Elt Ideal .bf16) (v8 : S2816x2048.Idx → Elt Ideal .bf16) (p : Fin 512) (n : Fin 2048) :
    k0_pay1 (F := Ideal) v6 v8 (ix2 p n) = ∑ k : Fin 2816, v6 (ix2 p k) * v8 (ix2 k n) := by
  pointwise [k0_pay1]

/-- A row before it is normalised: the residual, plus the gated sum of the two partial products. -/
def rowOf (v24 : S1x2048.Idx → Elt Ideal .f32) (v26 : S256x2816.Idx → Elt Ideal .bf16) (v28 : S2816x2048.Idx → Elt Ideal .bf16)
    (v31 v34 : S256x2048.Idx → Elt Ideal .f32) (p : Fin 256) (n : Fin 2048) : EReal :=
  alpha * v34 (ix2 p n) + v24 (ix2 0 n) * (∑ k : Fin 2816, v26 (ix2 p k) * v28 (ix2 k n) + v31 (ix2 p n))

theorem pay4_at (v24 : S1x2048.Idx → Elt Ideal .f32) (v26 : S256x2816.Idx → Elt Ideal .bf16) (v28 : S2816x2048.Idx → Elt Ideal .bf16)
    (v31 v34 : S256x2048.Idx → Elt Ideal .f32) (p : Fin 256) (n : Fin 2048) :
    k0_pay4 (F := Ideal) v24 v26 v28 v31 v34 (ix2 p n) = centred (rowOf v24 v26 v28 v31 v34 p) n := by
  pointwise [k0_pay4, k0_pay3]
  rfl

theorem pay6_at (v24 : S1x2048.Idx → Elt Ideal .f32) (v26 : S256x2816.Idx → Elt Ideal .bf16) (v28 : S2816x2048.Idx → Elt Ideal .bf16)
    (v31 v34 : S256x2048.Idx → Elt Ideal .f32) (p : Fin 256) (n : Fin 2048) :
    k0_pay6 (F := Ideal) (k0_pay3 v24) v26 v28 v31 v34 (ix2 p n) = centred (rowOf v24 v26 v28 v31 v34 p) n := by
  pointwise [k0_pay6, k0_pay3]
  rfl

/-- The first half of the rows. -/
theorem pay5_at (v24 : S1x2048.Idx → Elt Ideal .f32) (v26 : S256x2816.Idx → Elt Ideal .bf16) (v28 : S2816x2048.Idx → Elt Ideal .bf16)
    (v31 v34 : S256x2048.Idx → Elt Ideal .f32) (v56 v59 : S1x2048.Idx → Elt Ideal .f32) (p : Fin 256) (n : Fin 2048) :
    k0_pay5 (F := Ideal) (k0_pay4 v24 v26 v28 v31 v34) v56 v59 (ix2 p n)
      = normed (rowOf v24 v26 v28 v31 v34 p) n * v56 (ix2 0 n) + v59 (ix2 0 n) := by
  have h := pay4_at v24 v26 v28 v31 v34 p
  generalize k0_pay4 (F := Ideal) v24 v26 v28 v31 v34 = z at h ⊢
  pointwise [k0_pay5]
  simp only [h]
  rfl

/-- The second half. -/
theorem pay2_at (v24 : S1x2048.Idx → Elt Ideal .f32) (v26 : S256x2816.Idx → Elt Ideal .bf16) (v28 : S2816x2048.Idx → Elt Ideal .bf16)
    (v31 v34 : S256x2048.Idx → Elt Ideal .f32) (v56 v59 : S1x2048.Idx → Elt Ideal .f32) (p : Fin 256) (n : Fin 2048) :
    k0_pay2 (F := Ideal) (k0_pay6 (k0_pay3 v24) v26 v28 v31 v34) (k0_pay7 (k0_pay3 v24) v26 v28 v31 v34) v56 v59 (ix2 p n)
      = normed (rowOf v24 v26 v28 v31 v34 p) n * v56 (ix2 0 n) + v59 (ix2 0 n) := by
  have h := pay6_at v24 v26 v28 v31 v34 p
  unfold k0_pay7
  generalize k0_pay6 (F := Ideal) (k0_pay3 v24) v26 v28 v31 v34 = z at h ⊢
  pointwise [k0_pay2]
  simp only [h]
  rfl

/-! ## The blocks at a point -/

/-- The gated product's block. -/
def B0 (c : Dev nD) (t : Fin cfg0.N) : S512x2816.Idx → Elt Ideal .bf16 := iblk m c 0 t
/-- The weight's block. -/
def B1 (c : Dev nD) (t : Fin cfg0.N) : S2816x2048.Idx → Elt Ideal .bf16 := iblk m c 1 t
/-- The residual's block. -/
def B2 (c : Dev nD) (t : Fin cfg0.N) : S512x2048.Idx → Elt Ideal .f32 := iblk m c 2 t
/-- The modulation's block: the gate's columns, a row per sequence. -/
def B3 (c : Dev nD) (t : Fin cfg0.N) : S8x2048.Idx → Elt Ideal .f32 := iblk m c 3 t
/-- The norm's gain. -/
def B4 (c : Dev nD) (t : Fin cfg0.N) : S1x2048.Idx → Elt Ideal .f32 := iblk m c 4 t
/-- The norm's bias. -/
def B5 (c : Dev nD) (t : Fin cfg0.N) : S1x2048.Idx → Elt Ideal .f32 := iblk m c 5 t
/-- What the point leaves in the result's buffer. -/
def L (c : Dev nD) (t : Fin cfg0.N) : S512x2048.Idx → Elt Ideal .f32 := outsAt0 m c t.val t.isLt

/-- The row of the modulation that a point reads: its sequence's. -/
theorem modrow : ∀ t : Fin cfg0.N, k0_off1 (grid0.coords t) = ![t.val / 8, 0] := by decide +kernel

/-- A first point leaves the partial product. -/
theorem left_first (c : Dev nD) (t : Fin cfg0.N) (h0 : t.val % 2 = 0) (p : Fin 512) (n : Fin 2048) :
    L m c t (ix2 p n) = ∑ k : Fin 2816, B0 m c t (ix2 p k) * B1 m c t (ix2 k n) := by
  refine Eq.trans ?_ (pay1_at (B0 m c t) (B1 m c t) p n)
  unfold L B0 B1
  rw [outsAt0_A m c t h0 (by omega)]
  frame_out

/-- The row that a second point normalises, from its blocks and what the point before left. -/
def rowAt (c : Dev nD) (t s : Fin cfg0.N) (g : Fin 8) (q : Fin 512) (n : Fin 2048) : EReal :=
  alpha * B2 m c t (ix2 q n) + B3 m c t (ix2 g n) * (∑ k : Fin 2816, B0 m c t (ix2 q k) * B1 m c t (ix2 k n) + L m c s (ix2 q n))

/-- The rows of half a block are the rows of the block that they are read from. -/
theorem rowOf_eq (c : Dev nD) (t s : Fin cfg0.N) (g : Fin 8) (q : Fin 512) (p : Fin 256)
    (v24 : S1x2048.Idx → Elt Ideal .f32) (v26 : S256x2816.Idx → Elt Ideal .bf16) (v31 v34 : S256x2048.Idx → Elt Ideal .f32)
    (h24 : ∀ n, v24 (ix2 0 n) = B3 m c t (ix2 g n)) (h26 : ∀ k, v26 (ix2 p k) = B0 m c t (ix2 q k))
    (h31 : ∀ n, v31 (ix2 p n) = L m c s (ix2 q n)) (h34 : ∀ n, v34 (ix2 p n) = B2 m c t (ix2 q n)) :
    rowOf v24 v26 (B1 m c t) v31 v34 p = rowAt m c t s g q := by
  funext n
  unfold rowOf rowAt
  rw [h24, h31, h34]
  simp only [h26]

/-- A second point leaves the normalised rows. -/
theorem left_second (c : Dev nD) (t s : Fin cfg0.N) (hk : t.val % 2 = 1) (hs : s.val = t.val - 1) (g : Fin 8) (hg : g.val = t.val / 8) (q : Fin 512) (n : Fin 2048) :
    L m c t (ix2 q n) = normed (rowAt m c t s g q) n * B4 m c t (ix2 0 n) + B5 m c t (ix2 0 n) := by
  have es : s = ⟨t.val - 1, Nat.lt_of_le_of_lt (Nat.sub_le _ _) t.isLt⟩ := Fin.ext hs
  have hoff := modrow t
  unfold L
  rw [outsAt0_B m c t (by omega) hk]
  frame_out
  have e3 : ∀ n', View.ld (iblk m c 3 t) (Rect.unit (k0_off1 (grid0.coords t)) S1x2048.size (k0_off1_inb (grid0.coords t) ((hcond0_1 t).mpr hk))) (ix2 0 n') = B3 m c t (ix2 g n') := fun n' =>
    ld_at (B3 m c t) _ _ 0 n' g n' (by rw [hoff]; exact hg) (by rw [hoff]; exact (Nat.zero_add _).symm)
  canon_tiles x h
  · have hx : x = ix2 (x 0) n := by
      funext a
      fin_cases a
      · rfl
      · exact Fin.ext h1.symm
    rw [hx]
    refine (pay2_at _ _ _ _ _ _ _ (x 0) n).trans ?_
    have hr := rowOf_eq m c t s g q (x 0)
      (View.ld (iblk m c 3 t) (Rect.unit (k0_off1 (grid0.coords t)) S1x2048.size (k0_off1_inb (grid0.coords t) ((hcond0_1 t).mpr hk))))
      (View.ld (iblk m c 0 t) (Rect.unit ![256, 0] S256x2816.size inb_S512x2816_S256x2816_256_0))
      (View.ld (L m c s) (Rect.unit ![256, 0] S256x2048.size inb_S512x2048_S256x2048_256_0))
      (View.ld (iblk m c 2 t) (Rect.unit ![256, 0] S256x2048.size inb_S512x2048_S256x2048_256_0))
      e3 (fun k => ld_at (B0 m c t) _ _ (x 0) k q k h0 (Nat.zero_add _).symm)
      (fun n' => ld_at (L m c s) _ _ (x 0) n' q n' h0 (Nat.zero_add _).symm)
      (fun n' => ld_at (B2 m c t) _ _ (x 0) n' q n' h0 (Nat.zero_add _).symm)
    subst es
    exact congrArg (fun z => normed z n * B4 m c t (ix2 0 n) + B5 m c t (ix2 0 n)) hr
  · have hx : x = ix2 (x 0) n := by
      funext a
      fin_cases a
      · rfl
      · exact Fin.ext h1.symm
    rw [hx]
    refine (pay5_at _ _ _ _ _ _ _ (x 0) n).trans ?_
    have hr := rowOf_eq m c t s g q (x 0)
      (View.ld (iblk m c 3 t) (Rect.unit (k0_off1 (grid0.coords t)) S1x2048.size (k0_off1_inb (grid0.coords t) ((hcond0_1 t).mpr hk))))
      (View.ld (iblk m c 0 t) (Rect.unit ![0, 0] S256x2816.size inb_S512x2816_S256x2816_0_0))
      (View.ld (L m c s) (Rect.unit ![0, 0] S256x2048.size inb_S512x2048_S256x2048_0_0))
      (View.ld (iblk m c 2 t) (Rect.unit ![0, 0] S256x2048.size inb_S512x2048_S256x2048_0_0))
      e3 (fun k => ld_at (B0 m c t) _ _ (x 0) k q k (h0.trans (Nat.zero_add _).symm) (Nat.zero_add _).symm)
      (fun n' => ld_at (L m c s) _ _ (x 0) n' q n' (h0.trans (Nat.zero_add _).symm) (Nat.zero_add _).symm)
      (fun n' => ld_at (B2 m c t) _ _ (x 0) n' q n' (h0.trans (Nat.zero_add _).symm) (Nat.zero_add _).symm)
    subst es
    exact congrArg (fun z => normed z n * B4 m c t (ix2 0 n) + B5 m c t (ix2 0 n)) hr

end Cert.Proof.Down

end
-- ==== Proof.Down.Reads.lean ====
/-
  What the down-projection's input windows hold at a point of the grid, read off the arrays the launch is given.
-/
module

public import proofs.«01_k».proof.Proof.Down.Block

@[expose] public section

set_option maxRecDepth 16384

noncomputable section

namespace Cert.Proof.Down

open Cert.Kernel2Ideal Cert.Kernel2Ideal.Gen Cert.Proof.Norm
open Idealize.ShloMosaic Idealize.ShloMosaic.TcCoe Idealize.SL.Sem
open Idealize.ShloMosaic.Pipeline (Dat)

variable (m : (ℓ : Loc nD τ sig) → Buf (Elt Ideal) ℓ)

/-! ## The arrays the launch is given -/

/-- The gated product. -/
def argG (c : Dev nD) : S8192x5504.Idx → Elt Ideal .bf16 := m ((c : Thread nD τ).loc main_arg0)
/-- The weight. -/
def argW (c : Dev nD) : S1x5504x2048.Idx → Elt Ideal .f32 := m ((c : Thread nD τ).loc main_arg1)
/-- The residual. -/
def argX (c : Dev nD) : S8192x2048.Idx → Elt Ideal .f32 := m ((c : Thread nD τ).loc main_arg2)
/-- The modulation, six stretches of columns. -/
def argM (c : Dev nD) : S4x12288.Idx → Elt Ideal .f32 := m ((c : Thread nD τ).loc main_arg3)
/-- The norm's gain. -/
def argL (c : Dev nD) : S1x2048.Idx → Elt Ideal .f32 := m ((c : Thread nD τ).loc main_arg4)
/-- The norm's bias. -/
def argB (c : Dev nD) : S1x2048.Idx → Elt Ideal .f32 := m ((c : Thread nD τ).loc main_arg5)

/-! ## The arrays the launch finds -/

/-- The gated product, extended by columns of zeros. -/
theorem V0 (c : Dev nD) (r : Fin 8192) (f : Fin 5632) : V m c main_v0 (ix2 r f) = if h : f.val < 5504 then argG m c (ix2 r ⟨f.val, h⟩) else (0 : EReal) := by
  have e : V m c main_v0 = pad (α := Elt Ideal .bf16) S8192x5632 ![0, 0] ![0, 128] ![0, 0] (argG m c) (sitofp (F := Ideal) .bf16 (constantI S_ 32 0#32)) pads_S8192x5504_S8192x5632_000_01280 h_S_ := by
    simp only [V, hostOps0, hostOps0_1, hostOps0_2, hostOps0_3, hostOps0_4, hostOps0_5, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise
  rw [zero_cast]
/-- The weight, extended by rows of zeros. -/
theorem V3 (c : Dev nD) (f : Fin 5632) (n : Fin 2048) : V m c main_v3 (ix2 f n) = if h : f.val < 5504 then argW m c (ix3 0 ⟨f.val, h⟩ n) else (0 : EReal) := by
  have e : V m c main_v3 = pad (α := Elt Ideal .bf16) S5632x2048 ![0, 0] ![128, 0] ![0, 0] (truncf (F := Ideal) .bf16 (shapeCast (α := Elt Ideal .f32) _ (argW m c) shapeCasts_S1x5504x2048_S5504x2048) bitsLt_bf16_f32) (sitofp (F := Ideal) .bf16 (constantI S_ 32 0#32)) pads_S5504x2048_S5632x2048_01280_000 h_S_ := by
    simp only [V, hostOps0, hostOps0_1, hostOps0_2, hostOps0_3, hostOps0_4, hostOps0_5, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise
  rw [zero_cast]
/-- The modulation, its rows extended by zeros. -/
theorem V4 (c : Dev nD) (s : Fin 8) (f : Fin 12288) (h : s.val < 4) : V m c main_v4 (ix2 s f) = argM m c (ix2 ⟨s.val, h⟩ f) := by
  have e : V m c main_v4 = pad (α := Elt Ideal .f32) S8x12288 ![0, 0] ![4, 0] ![0, 0] (argM m c) (sitofp (F := Ideal) .f32 (constantI S_ 32 0#32)) pads_S4x12288_S8x12288_040_000 h_S_ := by
    simp only [V, hostOps0, hostOps0_1, hostOps0_2, hostOps0_3, hostOps0_4, hostOps0_5, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise
  rw [dif_pos h]

/-! ## The blocks -/

/-- The block of each window at a point. -/
theorem widx : ∀ t : Fin cfg0.N, win0_0.index t = ![t.val / 2, t.val % 2] ∧ win0_1.index t = ![t.val % 2, 0] ∧ win0_2.index t = ![t.val / 2, 0] ∧ win0_3.index t = ![0, 5] ∧ win0_4.index t = ![0, 0] ∧ win0_5.index t = ![0, 0] ∧ win0_6.index t = ![t.val / 2, 0] := by decide +kernel

theorem blk0 (c : Dev nD) (t : Fin cfg0.N) (q : Fin 512) (k : Fin 2816) (r : Fin 8192) (f : Fin 5632) (hr : r.val = 512 * (t.val / 2) + q.val) (hf : f.val = 2816 * (t.val % 2) + k.val) :
    B0 m c t (ix2 q k) = if h : f.val < 5504 then argG m c (ix2 r ⟨f.val, h⟩) else (0 : EReal) := by
  refine Eq.trans ?_ (V0 m c r f)
  unfold B0
  blk_simp [iblk]
  blk_ext [widx t]
theorem blk1 (c : Dev nD) (t : Fin cfg0.N) (k : Fin 2816) (n : Fin 2048) (f : Fin 5632) (hf : f.val = 2816 * (t.val % 2) + k.val) :
    B1 m c t (ix2 k n) = if h : f.val < 5504 then argW m c (ix3 0 ⟨f.val, h⟩ n) else (0 : EReal) := by
  refine Eq.trans ?_ (V3 m c f n)
  unfold B1
  blk_simp [iblk]
  blk_ext [widx t]
theorem blk2 (c : Dev nD) (t : Fin cfg0.N) (q : Fin 512) (n : Fin 2048) (r : Fin 8192) (hr : r.val = 512 * (t.val / 2) + q.val) :
    B2 m c t (ix2 q n) = argX m c (ix2 r n) := by
  refine Eq.trans ?_ (congrFun (V_main_arg2 m c) (ix2 r n))
  unfold B2
  blk_simp [iblk]
  blk_ext [widx t]
theorem blk3 (c : Dev nD) (t : Fin cfg0.N) (g : Fin 8) (n : Fin 2048) (s : Fin 4) (hs : s.val = g.val) :
    B3 m c t (ix2 g n) = argM m c (ix2 s ⟨10240 + n.val, by omega⟩) := by
  have hb : g.val < 4 := by omega
  have es : s = ⟨g.val, hb⟩ := Fin.ext hs
  rw [es]
  refine Eq.trans ?_ (V4 m c g ⟨10240 + n.val, by omega⟩ hb)
  unfold B3
  blk_simp [iblk]
  blk_ext [widx t]
theorem blk4 (c : Dev nD) (t : Fin cfg0.N) (n : Fin 2048) : B4 m c t (ix2 0 n) = argL m c (ix2 0 n) := by
  refine Eq.trans ?_ (congrFun (V_main_arg4 m c) (ix2 0 n))
  unfold B4
  blk_simp [iblk]
  blk_ext [widx t]
theorem blk5 (c : Dev nD) (t : Fin cfg0.N) (n : Fin 2048) : B5 m c t (ix2 0 n) = argB m c (ix2 0 n) := by
  refine Eq.trans ?_ (congrFun (V_main_arg5 m c) (ix2 0 n))
  unfold B5
  blk_simp [iblk]
  blk_ext [widx t]

end Cert.Proof.Down

end
-- ==== Proof.Down.Plain.lean ====
/-
  The plain down-projection's result at coordinates.
-/
module

public import proofs.«01_k».proof.Proof.Gen.Reference2Ideal.Run
public import proofs.«01_k».proof.Proof.Norm

@[expose] public section

set_option maxRecDepth 16384

noncomputable section

namespace Cert.Proof.Down.Plain

open Cert.Reference2Ideal Cert.Reference2Ideal.Gen Cert.Proof.Norm
open Idealize.ShloMosaic Idealize.ShloMosaic.TcCoe Idealize.SL.Sem

/-- The rows before the norm: the residual, plus the gated product. -/
def pre (G : FVec Ideal S8192x5504 .bf16) (W : FVec Ideal S1x5504x2048 .f32) (X : FVec Ideal S8192x2048 .f32) (M : FVec Ideal S4x12288 .f32) : FVec Ideal S4x2048x2048 .f32 :=
  addf (mulf (broadcastInDim S4x2048x2048 ![] bcast_S_S4x2048x2048 (constant (F := Ideal) S_ .f32 0x3F9837F0#32)) (shapeCast _ X shapeCasts_S8192x2048_S4x2048x2048)) (mulf (broadcastInDim S4x2048x2048 ![0, 1, 2] bcast_S4x1x2048_S4x2048x2048_0_1_2 (extractStridedSlice S4x1x2048 ![0, 0, 10240] (broadcastInDim S4x1x12288 ![0, 2] bcast_S4x12288_S4x1x12288_0_2 M) slices_S4x1x12288_S4x1x2048_0_0_10240)) (Host.dotGeneral dot_S4x2048x5504_S5504x2048_S4x2048x2048_2_0_01_1_n_n none (shapeCast _ (extf .f32 G bitsLt_bf16_f32) shapeCasts_S8192x5504_S4x2048x5504) (shapeCast _ W shapeCasts_S1x5504x2048_S5504x2048)))

/-- The rows less their means. -/
def cen (P : FVec Ideal S4x2048x2048 .f32) : FVec Ideal S4x2048x2048 .f32 :=
  subf P (broadcastInDim S4x2048x2048 ![0, 1, 2] bcast_S4x2048x1_S4x2048x2048_0_1_2 (Host.divf (broadcastInDim S4x2048x1 ![0, 1] bcast_S4x2048_S4x2048x1_0_1 (Host.reduceAdd P (constant (F := Ideal) S_ .f32 0x00000000#32) reducesTo_S4x2048x2048_S4x2048_d2 h_S_)) (broadcastInDim S4x2048x1 ![] bcast_S_S4x2048x1 (constant (F := Ideal) S_ .f32 0x45000000#32))))

/-- The normalised rows, scaled and shifted. -/
def fin (C : FVec Ideal S4x2048x2048 .f32) (Lg Lb : FVec Ideal S1x2048 .f32) : FVec Ideal S4x2048x2048 .f32 :=
  addf (mulf (mulf C (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf C C) (constant (F := Ideal) S_ .f32 0x00000000#32) reducesTo_S4x2048x2048_S4x2048_d2 h_S_)) (broadcastInDim S4x2048x1 ![] bcast_S_S4x2048x1 (constant (F := Ideal) S_ .f32 0x45000000#32))) (broadcastInDim S4x2048x1 ![] bcast_S_S4x2048x1 (constant (F := Ideal) S_ .f32 0x3727C5AC#32)))))) (broadcastInDim S4x2048x2048 ![0, 1, 2] bcast_S1x1x2048_S4x2048x2048_0_1_2 (broadcastInDim S1x1x2048 ![2] bcast_S2048_S1x1x2048_2 (shapeCast _ Lg shapeCasts_S1x2048_S2048)))) (broadcastInDim S4x2048x2048 ![0, 1, 2] bcast_S1x1x2048_S4x2048x2048_0_1_2 (broadcastInDim S1x1x2048 ![2] bcast_S2048_S1x1x2048_2 (shapeCast _ Lb shapeCasts_S1x2048_S2048)))

/-- The result. -/
def out (G : FVec Ideal S8192x5504 .bf16) (W : FVec Ideal S1x5504x2048 .f32) (X : FVec Ideal S8192x2048 .f32) (M : FVec Ideal S4x12288 .f32) (Lg Lb : FVec Ideal S1x2048 .f32) : FVec Ideal S8192x2048 .f32 :=
  shapeCast _ (fin (cen (pre G W X M)) Lg Lb) shapeCasts_S4x2048x2048_S8192x2048

theorem res (m : (ℓ : Loc nD τ sig) → Buf (Elt Ideal) ℓ) (c : Dev nD) : Value.res_main_v43 m c
    = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Value.res_main_v43; rfl

theorem pre_at (G : FVec Ideal S8192x5504 .bf16) (W : FVec Ideal S1x5504x2048 .f32) (X : FVec Ideal S8192x2048 .f32) (M : FVec Ideal S4x12288 .f32) (s : Fin 4) (p n : Fin 2048) (r : Fin 8192) (hr : r.val = 2048 * s.val + p.val) :
    pre G W X M (ix3 s p n) = alpha * X (ix2 r n) + M (ix2 s ⟨10240 + n.val, by omega⟩) * ∑ k : Fin 5504, G (ix2 r k) * W (ix3 0 k n) := by
  have hb : s.val * 2048 + p.val < 8192 := by omega
  have e : r = ⟨s.val * 2048 + p.val, hb⟩ := Fin.ext (by show r.val = s.val * 2048 + p.val; omega)
  subst e
  pointwise [pre]
  rfl

theorem cen_at (P : FVec Ideal S4x2048x2048 .f32) (s : Fin 4) (p n : Fin 2048) : cen P (ix3 s p n) = centred (fun x => P (ix3 s p x)) n := by
  pointwise [cen]
  rfl

theorem fin_at (C : FVec Ideal S4x2048x2048 .f32) (Lg Lb : FVec Ideal S1x2048 .f32) (v : Fin 2048 → EReal) (s : Fin 4) (p n : Fin 2048) (hC : ∀ x, C (ix3 s p x) = centred v x) :
    fin C Lg Lb (ix3 s p n) = normed v n * Lg (ix2 0 n) + Lb (ix2 0 n) := by
  pointwise [fin]
  simp only [hC]
  rfl

/-- The result at a token's row: the normalised row, scaled and shifted. -/
theorem out_at (G : FVec Ideal S8192x5504 .bf16) (W : FVec Ideal S1x5504x2048 .f32) (X : FVec Ideal S8192x2048 .f32) (M : FVec Ideal S4x12288 .f32) (Lg Lb : FVec Ideal S1x2048 .f32)
    (s : Fin 4) (n : Fin 2048) (r : Fin 8192) (hs : s.val = r.val / 2048) :
    out G W X M Lg Lb (ix2 r n) = normed (fun x => alpha * X (ix2 r x) + M (ix2 s ⟨10240 + x.val, by omega⟩) * ∑ k : Fin 5504, G (ix2 r k) * W (ix3 0 k x)) n * Lg (ix2 0 n) + Lb (ix2 0 n) := by
  have hp : r.val % 2048 < 2048 := by omega
  have hb : r.val / 2048 < 4 := by omega
  have es : s = ⟨r.val / 2048, hb⟩ := Fin.ext hs
  have e : ∀ x, cen (pre G W X M) (ix3 s ⟨r.val % 2048, hp⟩ x) = centred (fun x => alpha * X (ix2 r x) + M (ix2 s ⟨10240 + x.val, by omega⟩) * ∑ k : Fin 5504, G (ix2 r k) * W (ix3 0 k x)) x := fun x => by
    rw [cen_at]
    congr 1
    funext y
    exact pre_at G W X M s ⟨r.val % 2048, hp⟩ y r (by show r.val = 2048 * s.val + r.val % 2048; omega)
  refine Eq.trans ?_ (fin_at _ Lg Lb _ s ⟨r.val % 2048, hp⟩ n e)
  rw [es]
  pointwise [out]

end Cert.Proof.Down.Plain

end
-- ==== Proof.Down.Final.lean ====
/-
  The array the down-projection leaves is the plain program's result.
-/
module

public import proofs.«01_k».proof.Proof.Down.Reads
public import proofs.«01_k».proof.Proof.Down.Plain

@[expose] public section

set_option maxRecDepth 16384

noncomputable section

namespace Cert.Proof.Down

open Cert.Kernel2Ideal Cert.Kernel2Ideal.Gen Cert.Proof.Norm
open Idealize.ShloMosaic Idealize.ShloMosaic.TcCoe Idealize.SL.Sem
open Idealize.ShloMosaic.Pipeline (Dat)

variable (m : (ℓ : Loc nD τ sig) → Buf (Elt Ideal) ℓ)

/-- A term of the product over the extended inner axis: zero past its end. -/
def term (c : Dev nD) (r : Fin 8192) (n : Fin 2048) (f : Fin 5632) : EReal :=
  if h : f.val < 5504 then argG m c (ix2 r ⟨f.val, h⟩) * argW m c (ix3 0 ⟨f.val, h⟩ n) else 0

theorem partial_at (c : Dev nD) (t : Fin cfg0.N) (q : Fin 512) (n : Fin 2048) (r : Fin 8192) (hr : r.val = 512 * (t.val / 2) + q.val) (k : Fin 2816) (f : Fin 5632) (hf : f.val = 2816 * (t.val % 2) + k.val) :
    B0 m c t (ix2 q k) * B1 m c t (ix2 k n) = term m c r n f := by
  rw [blk0 m c t q k r f hr hf, blk1 m c t k n f hf]
  unfold term
  by_cases h : f.val < 5504
  · rw [dif_pos h, dif_pos h, dif_pos h]
  · rw [dif_neg h, dif_neg h, dif_neg h, mul_zero]

/-- The row that a second point normalises is the plain program's. -/
theorem row_eq (c : Dev nD) (t s : Fin cfg0.N) (h1 : t.val % 2 = 1) (hs : s.val = t.val - 1) (g : Fin 8) (hg : g.val = t.val / 8) (b : Fin 4) (hb : b.val = g.val) (q : Fin 512) (r : Fin 8192) (hr : r.val = 512 * (t.val / 2) + q.val) :
    rowAt m c t s g q = fun x => alpha * argX m c (ix2 r x) + argM m c (ix2 b ⟨10240 + x.val, by omega⟩) * ∑ k : Fin 5504, argG m c (ix2 r k) * argW m c (ix3 0 k x) := by
  funext x
  unfold rowAt
  rw [blk2 m c t q x r hr, blk3 m c t g x b hb, left_first m c s (by omega)]
  congr 2
  have e1 : ∀ k : Fin 2816, B0 m c t (ix2 q k) * B1 m c t (ix2 k x) = term m c r x ⟨2816 + k.val, by omega⟩ := fun k =>
    partial_at m c t q x r hr k _ (by rw [h1])
  have e0 : ∀ k : Fin 2816, B0 m c s (ix2 q k) * B1 m c s (ix2 k x) = term m c r x ⟨k.val, by omega⟩ := fun k =>
    partial_at m c s q x r (by omega) k _ (by rw [show s.val % 2 = 0 by omega]; exact (Nat.zero_add _).symm)
  simp only [e1, e0]
  rw [add_comm, ← sum_split (show 5632 = 2816 + 2816 from rfl) (term m c r x), sum_cut (show 5504 ≤ 5632 by decide) (term m c r x)]
  · refine Finset.sum_congr rfl fun k _ => ?_
    unfold term
    rw [dif_pos k.isLt]
  · intro k hk
    unfold term
    rw [dif_neg (by omega)]

/-- A point's row in the buffer is the result's row. -/
theorem point (c : Dev nD) (t : Fin cfg0.N) (h1 : t.val % 2 = 1) (q : Fin 512) (n : Fin 2048) (r : Fin 8192) (h0 : r.val = 512 * (t.val / 2) + q.val) :
    L m c t (ix2 q n) = Plain.out (argG m c) (argW m c) (argX m c) (argM m c) (argL m c) (argB m c) (ix2 r n) := by
  have ht : t.val < 32 := t.isLt
  have hg : t.val / 8 < 8 := by omega
  have hb : t.val / 8 < 4 := by omega
  have hs : t.val - 1 < 32 := by omega
  refine (left_second m c t ⟨t.val - 1, hs⟩ h1 rfl ⟨t.val / 8, hg⟩ rfl q n).trans ?_
  rw [row_eq m c t ⟨t.val - 1, hs⟩ h1 rfl ⟨t.val / 8, hg⟩ rfl ⟨t.val / 8, hb⟩ rfl q r h0, blk4, blk5]
  exact (Plain.out_at (argG m c) (argW m c) (argX m c) (argM m c) (argL m c) (argB m c) ⟨t.val / 8, hb⟩ n r (by show t.val / 8 = r.val / 2048; omega)).symm

/-- The same at the indices of the buffer and of the array. -/
theorem pointAt (c : Dev nD) (t : Fin cfg0.N) (h1 : t.val % 2 = 1) (y : S512x2048.Idx) (i : S8192x2048.Idx) (h0 : (i 0).val = 512 * (t.val / 2) + (y 0).val) (h2 : (i 1).val = (y 1).val) :
    L m c t y = Plain.out (argG m c) (argW m c) (argX m c) (argM m c) (argL m c) (argB m c) i := by
  have hy : y = ix2 (y 0) (y 1) := by funext a; fin_cases a <;> rfl
  have hi : i = ix2 (i 0) (y 1) := by
    funext a
    fin_cases a
    · rfl
    · exact Fin.ext h2
  rw [hy, hi]
  exact point m c t h1 (y 0) (y 1) (i 0) h0

theorem final6 (c : Dev nD) : (dats m 0 c).arrAt 6 cfg0.N = Plain.out (argG m c) (argW m c) (argX m c) (argM m c) (argL m c) (argB m c) := by
  refine (dats m 0 c).arrAt_eq_of_covers 6 _ (by decide +kernel) fun t hf y => ?_
  have h1 := (flush0_6 t).mp hf
  blk_simp
  rw [after0_6]
  refine pointAt m c t h1 y _ ?_ ?_
  · blk_simp [widx t]
    omega
  · blk_simp [widx t]

end Cert.Proof.Down

end
-- ==== Proof.Down.Algebraic.lean ====
/-
  The down-projection with its residual and norm computes the plain program's result, over the extended reals.
-/
module

public import proofs.«01_k».proof.Proof.Down.Final
public import proofs.«01_k».proof.Proof.Down.Frames

@[expose] public section

set_option maxRecDepth 16384

noncomputable section

namespace Cert.Proof.Down

open Idealize.ShloMosaic Idealize.SL.Sem

theorem algebraic : Cert.algebraic_Kernel2Ideal_Reference2Ideal := by
  intro m g m' g' _ hargs
  refine ⟨fun c => Plain.out (argG m c) (argW m c) (argX m c) (argM m c) (argL m c) (argB m c),
    (θ_run Cert.Kernel2Ideal.defs _ _).mono (fun r h c => ⟨(h c).1.trans (final6 m c), (h c).2⟩) (Cert.Kernel2Ideal.Value.run_blocks (F := Ideal) m g), ?_⟩
  refine (θ_run Cert.Reference2Ideal.defs _ _).mono (fun r h c => ?_) (Cert.Reference2Ideal.Value.run (F := Ideal) m' g')
  obtain ⟨r0, ra⟩ := h c
  obtain ⟨e0, e1, e2, e3, e4, e5⟩ := hargs c
  have e0' : m' ((c.tc : Thread Cert.Reference2Ideal.nD Cert.Reference2Ideal.τ).loc Cert.Reference2Ideal.main_arg0) = argG m c := e0
  have e1' : m' ((c.tc : Thread Cert.Reference2Ideal.nD Cert.Reference2Ideal.τ).loc Cert.Reference2Ideal.main_arg1) = argW m c := e1
  have e2' : m' ((c.tc : Thread Cert.Reference2Ideal.nD Cert.Reference2Ideal.τ).loc Cert.Reference2Ideal.main_arg2) = argX m c := e2
  have e3' : m' ((c.tc : Thread Cert.Reference2Ideal.nD Cert.Reference2Ideal.τ).loc Cert.Reference2Ideal.main_arg3) = argM m c := e3
  have e4' : m' ((c.tc : Thread Cert.Reference2Ideal.nD Cert.Reference2Ideal.τ).loc Cert.Reference2Ideal.main_arg4) = argL m c := e4
  have e5' : m' ((c.tc : Thread Cert.Reference2Ideal.nD Cert.Reference2Ideal.τ).loc Cert.Reference2Ideal.main_arg5) = argB m c := e5
  refine ⟨(r0.trans (Plain.res m' c)).trans ?_, ra⟩
  rw [e0', e1', e2', e3', e4', e5']

end Cert.Proof.Down

end
-- ==== Proof.In.Body.lean ====
/-
  The body of the in-projection at a point of the grid. At the first point of a row of the grid the block's rows are
  normalised and modulated a quarter at a time, kept in the scratch, and multiplied with the gates' weight and the first
  block of the main weight; at a later point the kept rows are multiplied with that point's block of the main weight.
-/
module

public import proofs.«01_k».proof.Proof.Whole
public import proofs.«01_k».proof.Proof.Gen.Kernel3Ideal
public import proofs.«01_k».proof.Proof.Gen.Kernel3Ideal.Skeleton
public import proofs.«01_k».proof.Proof.Gen.Kernel3Ideal.Frame
public import Idealize.ShloMosaic.Lib.Pipeline.Frame
public import Idealize.ShloMosaic.Lib.Pipeline.FrameBody
public import Idealize.ShloMosaic.Lib.Pipeline.Value
public import Idealize.ShloMosaic.Lib.Tactic

@[expose] public section

set_option maxRecDepth 16384

noncomputable section

namespace Cert.Proof.In

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The scratch that keeps a block's modulated rows. -/
abbrev scM : Memref sig .tc .vmem S1024x2048 .bf16 := Memref.whole cc0_scratch0

/-- The quarters of a block of rows, -/
abbrev rX0 : Rect S1024x2048 := Rect.unit (s := S1024x2048) ![0, 0] S256x2048.size inb_S1024x2048_S256x2048_0_0
abbrev rX1 : Rect S1024x2048 := Rect.unit (s := S1024x2048) ![256, 0] S256x2048.size inb_S1024x2048_S256x2048_256_0
abbrev rX2 : Rect S1024x2048 := Rect.unit (s := S1024x2048) ![512, 0] S256x2048.size inb_S1024x2048_S256x2048_512_0
abbrev rX3 : Rect S1024x2048 := Rect.unit (s := S1024x2048) ![768, 0] S256x2048.size inb_S1024x2048_S256x2048_768_0
/-- of its block of the main product -/
abbrev rZ0 : Rect S1024x1792 := Rect.unit (s := S1024x1792) ![0, 0] S256x1792.size inb_S1024x1792_S256x1792_0_0
abbrev rZ1 : Rect S1024x1792 := Rect.unit (s := S1024x1792) ![256, 0] S256x1792.size inb_S1024x1792_S256x1792_256_0
abbrev rZ2 : Rect S1024x1792 := Rect.unit (s := S1024x1792) ![512, 0] S256x1792.size inb_S1024x1792_S256x1792_512_0
abbrev rZ3 : Rect S1024x1792 := Rect.unit (s := S1024x1792) ![768, 0] S256x1792.size inb_S1024x1792_S256x1792_768_0
/-- and of its gates. -/
abbrev rQ0 : Rect S1024x128 := Rect.unit (s := S1024x128) ![0, 0] S256x128.size inb_S1024x128_S256x128_0_0
abbrev rQ1 : Rect S1024x128 := Rect.unit (s := S1024x128) ![256, 0] S256x128.size inb_S1024x128_S256x128_256_0
abbrev rQ2 : Rect S1024x128 := Rect.unit (s := S1024x128) ![512, 0] S256x128.size inb_S1024x128_S256x128_512_0
abbrev rQ3 : Rect S1024x128 := Rect.unit (s := S1024x128) ![768, 0] S256x128.size inb_S1024x128_S256x128_768_0

/-- The row of the modulation that a first point reads. -/
abbrev rM (i : grid0.Coords) (h1 : k0_cond1 i = 1#1) : Rect S8x2048 := Rect.unit (s := S8x2048) (k0_off1 i) S1x2048.size (k0_off1_inb i h1)

/-- A quarter's modulated rows: from its rows `x`, the shift `sh` and the scale `sc`. -/
def hPart (sh sc : S1x2048.Idx → Elt F .f32) (x : S256x2048.Idx → Elt F .f32) : FVec F S256x2048 .bf16 := k0_pay11 (k0_pay6 sh) (k0_pay8 x) (k0_pay9 sc)
/-- A quarter's main product. -/
def zPart (sh sc : S1x2048.Idx → Elt F .f32) (x : S256x2048.Idx → Elt F .f32) (w : S2048x1792.Idx → Elt F .bf16) : FVec F S256x1792 .bf16 := k0_pay13 (k0_pay6 sh) (k0_pay8 x) (k0_pay9 sc) w
/-- A quarter's gates. -/
def qPart (sh sc : S1x2048.Idx → Elt F .f32) (x : S256x2048.Idx → Elt F .f32) (w : S2048x128.Idx → Elt F .bf16) : FVec F S256x128 .f32 := k0_pay12 (k0_pay6 sh) (k0_pay8 x) (k0_pay9 sc) w

/-- A block's modulated rows, the four quarters one under the other; -/
def hBlock (sh sc : S1x2048.Idx → Elt F .f32) (X : S1024x2048.Idx → Elt F .f32) : S1024x2048.Idx → Elt F .bf16 :=
  View.canon [⟨rX3, hPart sh sc (View.ld X rX3)⟩, ⟨rX2, hPart sh sc (View.ld X rX2)⟩, ⟨rX1, hPart sh sc (View.ld X rX1)⟩, ⟨rX0, hPart sh sc (View.ld X rX0)⟩]
/-- its main product -/
def zBlock (sh sc : S1x2048.Idx → Elt F .f32) (X : S1024x2048.Idx → Elt F .f32) (w : S2048x1792.Idx → Elt F .bf16) : S1024x1792.Idx → Elt F .bf16 :=
  View.canon [⟨rZ3, zPart sh sc (View.ld X rX3) w⟩, ⟨rZ2, zPart sh sc (View.ld X rX2) w⟩, ⟨rZ1, zPart sh sc (View.ld X rX1) w⟩, ⟨rZ0, zPart sh sc (View.ld X rX0) w⟩]
/-- and its gates. -/
def qBlock (sh sc : S1x2048.Idx → Elt F .f32) (X : S1024x2048.Idx → Elt F .f32) (w : S2048x128.Idx → Elt F .bf16) : S1024x128.Idx → Elt F .f32 :=
  View.canon [⟨rQ3, qPart sh sc (View.ld X rX3) w⟩, ⟨rQ2, qPart sh sc (View.ld X rX2) w⟩, ⟨rQ1, qPart sh sc (View.ld X rX1) w⟩, ⟨rQ0, qPart sh sc (View.ld X rX0) w⟩]

/-- The quarters cover the block of rows, -/
theorem hCover (w0 w1 w2 w3 : S256x2048.Idx → Elt F .bf16) (y : S1024x2048.Idx) :
    ∃ p ∈ ([⟨rX3, w3⟩, ⟨rX2, w2⟩, ⟨rX1, w1⟩, ⟨rX0, w0⟩] : List (View.Piece (Elt F) S1024x2048 .bf16)), y ∈ p.1.set := by
  have h0 : (y 0).val < 1024 := (y 0).isLt
  have h1 : (y 1).val < 2048 := (y 1).isLt
  have key : ∀ (o : Nat) (inb), o ≤ (y 0).val → (y 0).val < o + 256 → y ∈ (Rect.unit (s := S1024x2048) ![o, 0] S256x2048.size inb).set := by
    intro o inb ha hb
    refine Rect.mem_set_unit.mpr fun a => ?_
    fin_cases a
    · exact ⟨ha, hb⟩
    · exact ⟨Nat.zero_le _, by simpa using h1⟩
  by_cases hA : (y 0).val < 256
  · exact ⟨⟨rX0, w0⟩, by simp, key 0 inb_S1024x2048_S256x2048_0_0 (by omega) (by omega)⟩
  by_cases hB : (y 0).val < 512
  · exact ⟨⟨rX1, w1⟩, by simp, key 256 inb_S1024x2048_S256x2048_256_0 (by omega) (by omega)⟩
  by_cases hC : (y 0).val < 768
  · exact ⟨⟨rX2, w2⟩, by simp, key 512 inb_S1024x2048_S256x2048_512_0 (by omega) (by omega)⟩
  · exact ⟨⟨rX3, w3⟩, by simp, key 768 inb_S1024x2048_S256x2048_768_0 (by omega) (by omega)⟩

/-- the block of the main product -/
theorem zCover (w0 w1 w2 w3 : S256x1792.Idx → Elt F .bf16) (y : S1024x1792.Idx) :
    ∃ p ∈ ([⟨rZ3, w3⟩, ⟨rZ2, w2⟩, ⟨rZ1, w1⟩, ⟨rZ0, w0⟩] : List (View.Piece (Elt F) S1024x1792 .bf16)), y ∈ p.1.set := by
  have h0 : (y 0).val < 1024 := (y 0).isLt
  have h1 : (y 1).val < 1792 := (y 1).isLt
  have key : ∀ (o : Nat) (inb), o ≤ (y 0).val → (y 0).val < o + 256 → y ∈ (Rect.unit (s := S1024x1792) ![o, 0] S256x1792.size inb).set := by
    intro o inb ha hb
    refine Rect.mem_set_unit.mpr fun a => ?_
    fin_cases a
    · exact ⟨ha, hb⟩
    · exact ⟨Nat.zero_le _, by simpa using h1⟩
  by_cases hA : (y 0).val < 256
  · exact ⟨⟨rZ0, w0⟩, by simp, key 0 inb_S1024x1792_S256x1792_0_0 (by omega) (by omega)⟩
  by_cases hB : (y 0).val < 512
  · exact ⟨⟨rZ1, w1⟩, by simp, key 256 inb_S1024x1792_S256x1792_256_0 (by omega) (by omega)⟩
  by_cases hC : (y 0).val < 768
  · exact ⟨⟨rZ2, w2⟩, by simp, key 512 inb_S1024x1792_S256x1792_512_0 (by omega) (by omega)⟩
  · exact ⟨⟨rZ3, w3⟩, by simp, key 768 inb_S1024x1792_S256x1792_768_0 (by omega) (by omega)⟩

/-- and the gates. -/
theorem qCover (w0 w1 w2 w3 : S256x128.Idx → Elt F .f32) (y : S1024x128.Idx) :
    ∃ p ∈ ([⟨rQ3, w3⟩, ⟨rQ2, w2⟩, ⟨rQ1, w1⟩, ⟨rQ0, w0⟩] : List (View.Piece (Elt F) S1024x128 .f32)), y ∈ p.1.set := by
  have h0 : (y 0).val < 1024 := (y 0).isLt
  have h1 : (y 1).val < 128 := (y 1).isLt
  have key : ∀ (o : Nat) (inb), o ≤ (y 0).val → (y 0).val < o + 256 → y ∈ (Rect.unit (s := S1024x128) ![o, 0] S256x128.size inb).set := by
    intro o inb ha hb
    refine Rect.mem_set_unit.mpr fun a => ?_
    fin_cases a
    · exact ⟨ha, hb⟩
    · exact ⟨Nat.zero_le _, by simpa using h1⟩
  by_cases hA : (y 0).val < 256
  · exact ⟨⟨rQ0, w0⟩, by simp, key 0 inb_S1024x128_S256x128_0_0 (by omega) (by omega)⟩
  by_cases hB : (y 0).val < 512
  · exact ⟨⟨rQ1, w1⟩, by simp, key 256 inb_S1024x128_S256x128_256_0 (by omega) (by omega)⟩
  by_cases hC : (y 0).val < 768
  · exact ⟨⟨rQ2, w2⟩, by simp, key 512 inb_S1024x128_S256x128_512_0 (by omega) (by omega)⟩
  · exact ⟨⟨rQ3, w3⟩, by simp, key 768 inb_S1024x128_S256x128_768_0 (by omega) (by omega)⟩

set_option maxHeartbeats 1000000 in
/-- A first point of a row of the grid. -/
theorem body_head (c : Dev nD) (i : grid0.Coords) (h1 : k0_cond1 i = 1#1) (h2 : ¬ k0_cond2 i = 1#1)
    (arg2 : Memref sig .tc .vmem S1024x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S2048x1792 .bf16) (harg5 : arg5.IsWhole) (arg6 : Memref sig .tc .vmem S2048x128 .bf16) (harg6 : arg6.IsWhole) (arg7 : Memref sig .tc .vmem S1024x1792 .bf16) (harg7 : arg7.IsWhole) (arg8 : Memref sig .tc .vmem S1024x128 .f32) (harg8 : arg8.IsWhole)
    (X0 : S1024x2048.Idx → Elt F .f32) (X1 X2 : S8x2048.Idx → Elt F .f32) (X3 : S2048x1792.Idx → Elt F .bf16) (X4 : S2048x128.Idx → Elt F .bf16)
    (Q : PUnit → sProp 𝕄) :
    iprop(owns (c : Thread nD τ) arg2 fullShare X0 ∗ owns (c : Thread nD τ) arg3 fullShare X1 ∗ owns (c : Thread nD τ) arg4 fullShare X2
        ∗ owns (c : Thread nD τ) arg5 fullShare X3 ∗ owns (c : Thread nD τ) arg6 fullShare X4 ∗ (∃ d, owns (c : Thread nD τ) arg7 fullShare d) ∗ (∃ d, owns (c : Thread nD τ) arg8 fullShare d) ∗ (∃ d, owns (c : Thread nD τ) scM fullShare d)
        ∗ (iprop(owns (c : Thread nD τ) arg2 fullShare X0 ∗ owns (c : Thread nD τ) arg3 fullShare X1 ∗ owns (c : Thread nD τ) arg4 fullShare X2
            ∗ owns (c : Thread nD τ) arg5 fullShare X3 ∗ owns (c : Thread nD τ) arg6 fullShare X4
            ∗ owns (c : Thread nD τ) arg7 fullShare (zBlock (View.ld X1 (rM i h1)) (View.ld X2 (rM i h1)) X0 X3)
            ∗ owns (c : Thread nD τ) arg8 fullShare (qBlock (View.ld X1 (rM i h1)) (View.ld X2 (rM i h1)) X0 X4)
            ∗ owns (c : Thread nD τ) scM fullShare (hBlock (View.ld X1 (rM i h1)) (View.ld X2 (rM i h1)) X0)) -∗ Q ⟨⟩))
      ⊢ wp frame (wpE (defs₀ (F := F)) Variants.none c none) Set.univ (cc0_in_proj i arg2 harg2 arg3 harg3 arg4 harg4 arg5 harg5 arg6 harg6 arg7 harg7 arg8 harg8 scM (Memref.isWhole_whole _)) Q := by
  simp only [cc0_in_proj_eq_skeleton]; unfold cc0_in_proj_skel
  simp only [k0_part1_eq_skeleton, k0_part2_eq_skeleton, k0_part3_eq_skeleton, k0_part4_eq_skeleton]
  unfold k0_part1_skel k0_part2_skel k0_part3_skel k0_part4_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf2 hf3 hf4 hf5 hf6
  sl_exec
  sl_unfold_run_names
  simp only [readAt_whole (S := S2048x1792) _ _ zero2, readAt_whole (S := S2048x128) _ _ zero2, View.readAt_eq_ld]
  rw [wp_ret]; imodintro
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; exact View.read_writes_eq_canon _ _ _ (zCover _ _ _ _)
  isplitl [H8]
  · iexists _; isplitr; swap; · iexact H8
    ipureintro; exact View.read_writes_eq_canon _ _ _ (qCover _ _ _ _)
  iexists _; isplitr; swap; · iexact H9
  ipureintro; exact View.read_writes_eq_canon _ _ _ (hCover _ _ _ _)

/-- A later point of a row, from the rows `h` its first point kept. -/
theorem body_later (c : Dev nD) (i : grid0.Coords) (h1 : ¬ k0_cond1 i = 1#1) (h2 : k0_cond2 i = 1#1)
    (arg2 : Memref sig .tc .vmem S1024x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S2048x1792 .bf16) (harg5 : arg5.IsWhole) (arg6 : Memref sig .tc .vmem S2048x128 .bf16) (harg6 : arg6.IsWhole) (arg7 : Memref sig .tc .vmem S1024x1792 .bf16) (harg7 : arg7.IsWhole) (arg8 : Memref sig .tc .vmem S1024x128 .f32) (harg8 : arg8.IsWhole)
    (X3 : S2048x1792.Idx → Elt F .bf16) (h : S1024x2048.Idx → Elt F .bf16)
    (Q : PUnit → sProp 𝕄) :
    iprop(owns (c : Thread nD τ) arg5 fullShare X3 ∗ (∃ d, owns (c : Thread nD τ) arg7 fullShare d) ∗ owns (c : Thread nD τ) scM fullShare h
        ∗ (iprop(owns (c : Thread nD τ) arg5 fullShare X3 ∗ owns (c : Thread nD τ) arg7 fullShare (k0_pay5 h X3) ∗ owns (c : Thread nD τ) scM fullShare h) -∗ Q ⟨⟩))
      ⊢ wp frame (wpE (defs₀ (F := F)) Variants.none c none) Set.univ (cc0_in_proj i arg2 harg2 arg3 harg3 arg4 harg4 arg5 harg5 arg6 harg6 arg7 harg7 arg8 harg8 scM (Memref.isWhole_whole _)) Q := by
  simp only [cc0_in_proj_eq_skeleton]; unfold cc0_in_proj_skel
  unfold owns
  iintro ⟨⟨%f5, %hf5, H5⟩, ⟨%d7, %f7, -, H7⟩, ⟨%f9, %hf9, H9⟩, Hk⟩
  subst hf5 hf9
  sl_exec
  sl_unfold_run_names
  simp only [readAt_whole (S := S2048x1792) _ _ zero2, readAt_whole (S := S1024x2048) _ _ zero2]
  rw [wp_ret]; imodintro
  iapply Hk
  isplitl [H5]
  · iexists _; isplitr; swap; · iexact H5
    ipureintro; rfl
  isplitl [H7]
  · iexists _; isplitr; swap; · iexact H7
    ipureintro; exact read_store_whole _ _ zero2 _ _ _
  iexists _; isplitr; swap; · iexact H9
  ipureintro; rfl

end Cert.Proof.In

end
-- ==== Proof.In.Run.lean ====
/-
  The run of the in-projection: what every window's buffer and the scratch hold at each point of the grid (eight rows of
  four points, a row per block of rows of the input, its points the blocks of columns of the main product), the body's
  obligation there, and the whole launch from it.
-/
module

public import proofs.«01_k».proof.Proof.In.Body
public import proofs.«01_k».proof.Proof.Gen.Kernel3Ideal.Points
public import Idealize.ShloMosaic.Lib.Pipeline.TableIdle

@[expose] public section

set_option maxRecDepth 16384

noncomputable section

namespace Cert.Proof.In

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

/-- The rows are modulated at the first point of a row of the grid, -/
theorem heads_iff : ∀ t : Fin cfg0.N, k0_cond1 (cfg0.grid.coords t) = 1#1 ↔ t.val % 4 = 0 := by decide +kernel
/-- and read back at the others. -/
theorem later_iff : ∀ t : Fin cfg0.N, k0_cond2 (cfg0.grid.coords t) = 1#1 ↔ t.val % 4 ≠ 0 := by decide +kernel
/-- The main product is stored at every point, -/
theorem idle5 : ∀ t : Fin cfg0.N, cfg0.idle 5 (cfg0.grid.coords t) = false := by decide +kernel
/-- the gates at a row's first. -/
theorem idle6 : ∀ t : Fin cfg0.N, cfg0.idle 6 (cfg0.grid.coords t) = decide (t.val % 4 ≠ 0) := by decide +kernel

/-- The first point of a point's row. -/
def first (t : Fin cfg0.N) : Fin cfg0.N := ⟨t.val - t.val % 4, Nat.lt_of_le_of_lt (Nat.sub_le _ _) t.isLt⟩

theorem first_val (t : Fin cfg0.N) : (first t).val = t.val - t.val % 4 := rfl
theorem first_of_head (t : Fin cfg0.N) (h : t.val % 4 = 0) : first t = t := Fin.ext (by rw [first_val]; omega)
theorem first_pred (t s : Fin cfg0.N) (hs : s.val + 1 = t.val) (h : t.val % 4 ≠ 0) : first t = first s :=
  Fin.ext (by rw [first_val, first_val]; omega)
theorem first_heads (t : Fin cfg0.N) : k0_cond1 (cfg0.grid.coords (first t)) = 1#1 :=
  (heads_iff _).mpr (by rw [first_val]; omega)

/-! ## What the points leave -/

/-- The shift that a first point reads, -/
def shAt (c : Dev nD) (s : Fin cfg0.N) (h : k0_cond1 (cfg0.grid.coords s) = 1#1) : S1x2048.Idx → Elt F .f32 :=
  View.ld (iblk m c 1 s : S8x2048.Idx → Elt F .f32) (rM (cfg0.grid.coords s) h)
/-- and the scale. -/
def scAt (c : Dev nD) (s : Fin cfg0.N) (h : k0_cond1 (cfg0.grid.coords s) = 1#1) : S1x2048.Idx → Elt F .f32 :=
  View.ld (iblk m c 2 s : S8x2048.Idx → Elt F .f32) (rM (cfg0.grid.coords s) h)

/-- The modulated rows that the scratch holds after a point, -/
def hAt (c : Dev nD) (s : Fin cfg0.N) (h : k0_cond1 (cfg0.grid.coords s) = 1#1) : S1024x2048.Idx → Elt F .bf16 :=
  hBlock (shAt m c s h) (scAt m c s h) (iblk m c 0 s : S1024x2048.Idx → Elt F .f32)
def hs (c : Dev nD) (t : Fin cfg0.N) : S1024x2048.Idx → Elt F .bf16 := hAt m c (first t) (first_heads t)
/-- the gates -/
def qAt (c : Dev nD) (s : Fin cfg0.N) (h : k0_cond1 (cfg0.grid.coords s) = 1#1) : S1024x128.Idx → Elt F .f32 :=
  qBlock (shAt m c s h) (scAt m c s h) (iblk m c 0 s : S1024x2048.Idx → Elt F .f32) (iblk m c 4 s : S2048x128.Idx → Elt F .bf16)
def qs (c : Dev nD) (t : Fin cfg0.N) : S1024x128.Idx → Elt F .f32 := qAt m c (first t) (first_heads t)
/-- and the block of the main product. -/
def zs (c : Dev nD) (t : Fin cfg0.N) : S1024x1792.Idx → Elt F .bf16 :=
  if h : t.val % 4 = 0 then
    zBlock (shAt m c t ((heads_iff t).mpr h)) (scAt m c t ((heads_iff t).mpr h)) (iblk m c 0 t : S1024x2048.Idx → Elt F .f32) (iblk m c 3 t : S2048x1792.Idx → Elt F .bf16)
  else k0_pay5 (hs m c t) (iblk m c 3 t : S2048x1792.Idx → Elt F .bf16)

theorem hAt_congr (c : Dev nD) {s s' : Fin cfg0.N} (e : s = s') (h h') : hAt m c s h = hAt m c s' h' := by subst e; rfl
theorem qAt_congr (c : Dev nD) {s s' : Fin cfg0.N} (e : s = s') (h h') : qAt m c s h = qAt m c s' h' := by subst e; rfl

theorem hs_head (c : Dev nD) (t : Fin cfg0.N) (h : t.val % 4 = 0) : hs m c t = hAt m c t ((heads_iff t).mpr h) := hAt_congr m c (first_of_head t h) _ _
theorem qs_head (c : Dev nD) (t : Fin cfg0.N) (h : t.val % 4 = 0) : qs m c t = qAt m c t ((heads_iff t).mpr h) := qAt_congr m c (first_of_head t h) _ _
theorem hs_pred (c : Dev nD) (t s : Fin cfg0.N) (e : s.val + 1 = t.val) (h : t.val % 4 ≠ 0) : hs m c t = hs m c s := hAt_congr m c (first_pred t s e h) _ _
theorem qs_pred (c : Dev nD) (t s : Fin cfg0.N) (e : s.val + 1 = t.val) (h : t.val % 4 ≠ 0) : qs m c t = qs m c s := qAt_congr m c (first_pred t s e h) _ _

/-- What the body leaves in each window's buffer. -/
def left (c : Dev nD) : (w : Fin cfg0.W) → Fin cfg0.N → (cfg0.win w).block.Idx → Elt F (cfg0.win w).elt
  | ⟨0, _⟩ => fun t => iblk m c 0 t
  | ⟨1, _⟩ => fun t => iblk m c 1 t
  | ⟨2, _⟩ => fun t => iblk m c 2 t
  | ⟨3, _⟩ => fun t => iblk m c 3 t
  | ⟨4, _⟩ => fun t => iblk m c 4 t
  | ⟨5, _⟩ => fun t => zs m c t
  | ⟨6, _⟩ => fun t => qs m c t
  | ⟨_ + 7, h⟩ => absurd h (Nat.not_lt.2 (Nat.le_add_left _ _))

/-- What the body keeps from point to point: inside a row of the grid the scratch holds the row's modulated rows. -/
def kept (c : Dev nD) (k : Fin (cfg0.N + 1)) : sProp 𝕄 :=
  iprop((∃ d, ⌜∀ t : Fin cfg0.N, t.val + 1 = k.val → k.val % 4 ≠ 0 → d = hs m c t⌝ ∗ owns (c : Thread nD τ) scM fullShare d) ∗ ∃ r, prngReg c r)

/-- The launch's data: the arrays as the region finds them, what the body leaves and what it keeps. -/
def dats (p : Fin 1) (c : Dev nD) : Dat τ (Elt F) Unit ℕ (UR sig nD τ) ℕ (cfgs p) c :=
  match p with
  | ⟨0, _⟩ =>
    { A := fun w => V m c (Pipeline.arrRef spec0 w)
      after := left m c
      Φ := fun k => kept m c k
      q := fun w => Pipeline.shareOf spec0 w
      owed := fun _ => 0 }

/-! ## What the body finds -/

theorem before0 (c : Dev nD) (t : Fin cfg0.N) (d) : (dats m 0 c).before 0 t d = iblk m c 0 t := before0_0_of m (dats m 0 c) rfl (fun _ => rfl) t d
theorem before1 (c : Dev nD) (t : Fin cfg0.N) (d) : (dats m 0 c).before 1 t d = iblk m c 1 t := before0_1_of m (dats m 0 c) rfl (fun _ => rfl) t d
theorem before2 (c : Dev nD) (t : Fin cfg0.N) (d) : (dats m 0 c).before 2 t d = iblk m c 2 t := before0_2_of m (dats m 0 c) rfl (fun _ => rfl) t d
theorem before3 (c : Dev nD) (t : Fin cfg0.N) (d) : (dats m 0 c).before 3 t d = iblk m c 3 t := before0_3_of m (dats m 0 c) rfl (fun _ => rfl) t d
theorem before4 (c : Dev nD) (t : Fin cfg0.N) (d) : (dats m 0 c).before 4 t d = iblk m c 4 t := before0_4_of m (dats m 0 c) rfl (fun _ => rfl) t d

/-- The gates' buffer is fresh at the first point of a row only. -/
theorem fresh6 (n : ℕ) (h : n ≤ cfg0.N) : cfg0.fresh 6 n = decide (n % 4 = 0) :=
  Pipeline.Cfg.fresh_tab (cfg := cfg0) 6 (fun n => decide (n % 4 = 0)) rfl (by decide +kernel) n h

/-- The gates of a later point are the point before's. -/
theorem qs_before (c : Dev nD) (t : Fin cfg0.N) (h : t.val % 4 ≠ 0) : qs m c t = qs m c ⟨t.val - 1, Nat.lt_of_le_of_lt (Nat.sub_le _ _) t.isLt⟩ :=
  qs_pred m c t _ (Nat.sub_add_cancel (Nat.pos_of_ne_zero fun e => h (by rw [e]))) h

attribute [local irreducible] qs in
/-- After the first point of a row the gates are as it left them. -/
theorem before6 (c : Dev nD) (t : Fin cfg0.N) (h : t.val % 4 ≠ 0) (d) : (dats m 0 c).before 6 t d = qs m c t := by
  rw [(dats m 0 c).before_out_traj 6 rfl (fun _ _ => rfl)
    (fun t _ hi _ => qs_before m c t (by rw [idle6] at hi; simpa using hi)) t.val t rfl d, fresh6 _ t.isLt.le, if_neg (by simpa using h)]
  exact (qs_before m c t h).symm

/-! ## What the body hands back -/

/-- A buffer left at what the data say is what the obligation asks of a window. -/
theorem leaves_of (c : Dev nD) (w : Fin cfg0.W) (t : Fin cfg0.N) (hl : cfg0.loose w = false) (hi : cfg0.idle w (cfg0.grid.coords t) = false ∨ (cfg0.win w).flush t = true
      ∨ ∃ d, (dats m 0 c).before w t d = left m c w t) :
    owns (c : Thread nD τ) ((cfg0.win w).stage (cfg0.slots t w)) fullShare (left m c w t) ⊢ ((dats m 0 c).leaves w t : sProp 𝕄) := by
  unfold Dat.leaves
  rw [hl]
  cases h1 : cfg0.idle w (cfg0.grid.coords t)
  · exact .rfl
  · cases h2 : (cfg0.win w).flush t
    · obtain ⟨d, hd⟩ := (hi.resolve_left (by rw [h1]; decide)).resolve_left (by rw [h2]; decide)
      iintro H; iexists d; rw [hd]; iexact H
    · exact .rfl

/-- The scratch and the generator's register. -/
theorem rest_eq (c : Dev nD) : (Pipeline.ΦA spec0 c : sProp 𝕄) = iprop((∃ d, owns (c : Thread nD τ) scM fullShare d) ∗ ∃ r, prngReg c r) := by
  rw [Pipeline.ΦA, scopedRest0_eq]; simp only [scM, owns_whole]; try rfl

/-- Before the first point nothing is kept, -/
theorem kept_in (c : Dev nD) : (Pipeline.ΦA spec0 c : sProp 𝕄) ⊢ kept m c 0 := by
  rw [rest_eq]; unfold kept
  iintro ⟨⟨%d, H⟩, HR⟩
  isplitl [H]
  · iexists d; isplitr; swap; · iexact H
    ipureintro; intro t ht; exact absurd ht (Nat.succ_ne_zero _)
  iexact HR

/-- and after the last nothing is asked. -/
theorem kept_out (c : Dev nD) (k : Fin (cfg0.N + 1)) : kept m c k ⊢ (Pipeline.ΦA spec0 c : sProp 𝕄) := by
  rw [rest_eq]; unfold kept
  iintro ⟨⟨%d, -, H⟩, HR⟩
  isplitl [H]
  · iexists d; iexact H
  iexact HR

/-! ## The body's obligation -/

/-- The body's row of the launch is the body at the point. -/
theorem row_eq (t : Fin cfg0.N) : defs₀ (F := F) .tc cfg0.body (cfg0.bodyArgs t (cfg0.slots t)) = bodyAt0 t := by
  unfold defs₀; rw [Defs.onTc_tc]

/-- A first point of a row. -/
theorem obligation_head (c : Dev nD) (t : Fin cfg0.N) (h : t.val % 4 = 0) :
    iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d)))
      ⊢ wp frame (wpE (defs₀ (F := F)) Variants.none c none) Set.univ (defs₀ (F := F) .tc cfg0.body (cfg0.bodyArgs t (cfg0.slots t))) fun _ =>
          iprop((dats m 0 c).Φ t.succ ∗ (dats m 0 c).owesAt () t.succ ∗ bigSep Finset.univ fun w : Fin cfg0.W => ((dats m 0 c).leaves w t : sProp 𝕄)) := by
  have h1 := (heads_iff t).mpr h
  rw [bigSep_W0, bigSep_W0, row_eq]
  rw [show (dats m 0 c).Φ t.castSucc = kept m c t.castSucc from rfl, show (dats m 0 c).Φ t.succ = kept m c t.succ from rfl,
    show (dats m 0 c).owesAt () t.succ = (dats m 0 c).owesAt () t.castSucc from rfl]
  unfold kept
  iintro ⟨⟨⟨%dS, -, HS⟩, HR⟩, Ho, ⟨%d0, H0⟩, ⟨%d1, H1⟩, ⟨%d2, H2⟩, ⟨%d3, H3⟩, ⟨%d4, H4⟩, ⟨%d5, H5⟩, ⟨%d6, H6⟩⟩
  rw [before0 m c t d0, before1 m c t d1, before2 m c t d2, before3 m c t d3, before4 m c t d4]
  iapply (body_head c (grid0.coords t) h1 (fun e => (later_iff t).mp e h) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6))
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS]; · iexists _; iexact HS
  iintro ⟨H0, H1, H2, H3, H4, H5, H6, HS⟩
  isplitl [HS HR]
  · isplitl [HS]
    · iexists _; isplitr; swap; · iexact HS
      ipureintro
      intro t' e _
      have et : t' = t := Fin.ext (Nat.succ_injective e)
      rw [et]
      exact (hs_head m c t h).symm
    iexact HR
  isplitl [Ho]; · iexact Ho
  isplitl [H0]; · iapply (leaves_of m c 0 t rfl (.inl rfl)); iexact H0
  isplitl [H1]; · iapply (leaves_of m c 1 t rfl (.inl rfl)); iexact H1
  isplitl [H2]; · iapply (leaves_of m c 2 t rfl (.inl rfl)); iexact H2
  isplitl [H3]; · iapply (leaves_of m c 3 t rfl (.inl rfl)); iexact H3
  isplitl [H4]; · iapply (leaves_of m c 4 t rfl (.inl rfl)); iexact H4
  isplitl [H5]
  · iapply (leaves_of m c 5 t rfl (.inl (idle5 t)))
    rw [show left m c 5 t = _ from dif_pos h]; iexact H5
  iapply (leaves_of m c 6 t rfl (.inl (by rw [idle6]; simpa using h)))
  rw [show left m c 6 t = _ from qs_head m c t h]; iexact H6

/-- A later point of a row. -/
theorem obligation_later (c : Dev nD) (t : Fin cfg0.N) (h : t.val % 4 ≠ 0) :
    iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d)))
      ⊢ wp frame (wpE (defs₀ (F := F)) Variants.none c none) Set.univ (defs₀ (F := F) .tc cfg0.body (cfg0.bodyArgs t (cfg0.slots t))) fun _ =>
          iprop((dats m 0 c).Φ t.succ ∗ (dats m 0 c).owesAt () t.succ ∗ bigSep Finset.univ fun w : Fin cfg0.W => ((dats m 0 c).leaves w t : sProp 𝕄)) := by
  rw [bigSep_W0, bigSep_W0, row_eq]
  rw [show (dats m 0 c).Φ t.castSucc = kept m c t.castSucc from rfl, show (dats m 0 c).Φ t.succ = kept m c t.succ from rfl,
    show (dats m 0 c).owesAt () t.succ = (dats m 0 c).owesAt () t.castSucc from rfl]
  unfold kept
  iintro ⟨⟨⟨%dS, %hS, HS⟩, HR⟩, Ho, ⟨%d0, H0⟩, ⟨%d1, H1⟩, ⟨%d2, H2⟩, ⟨%d3, H3⟩, ⟨%d4, H4⟩, ⟨%d5, H5⟩, ⟨%d6, H6⟩⟩
  have eS : dS = hs m c t :=
    (hS ⟨t.val - 1, Nat.lt_of_le_of_lt (Nat.sub_le _ _) t.isLt⟩ (by show t.val - 1 + 1 = t.val; omega) h).trans
      (hs_pred m c t ⟨t.val - 1, Nat.lt_of_le_of_lt (Nat.sub_le _ _) t.isLt⟩ (by show t.val - 1 + 1 = t.val; omega) h).symm
  rw [before0 m c t d0, before1 m c t d1, before2 m c t d2, before3 m c t d3, before4 m c t d4, before6 m c t h d6, eS]
  iapply (body_later c (grid0.coords t) (fun e => h ((heads_iff t).mp e)) ((later_iff t).mpr h) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6))
    (iblk m c 3 t) (hs m c t) _)
  isplitl [H3]; · iexact H3
  isplitl [H5]; · iexists _; iexact H5
  isplitl [HS]; · iexact HS
  iintro ⟨H3, H5, HS⟩
  isplitl [HS HR]
  · isplitl [HS]
    · iexists _; isplitr; swap; · iexact HS
      ipureintro
      intro t' e _
      have et : t' = t := Fin.ext (Nat.succ_injective e)
      rw [et]
    iexact HR
  isplitl [Ho]; · iexact Ho
  isplitl [H0]; · iapply (leaves_of m c 0 t rfl (.inl rfl)); iexact H0
  isplitl [H1]; · iapply (leaves_of m c 1 t rfl (.inl rfl)); iexact H1
  isplitl [H2]; · iapply (leaves_of m c 2 t rfl (.inl rfl)); iexact H2
  isplitl [H3]; · iapply (leaves_of m c 3 t rfl (.inl rfl)); iexact H3
  isplitl [H4]; · iapply (leaves_of m c 4 t rfl (.inl rfl)); iexact H4
  isplitl [H5]
  · iapply (leaves_of m c 5 t rfl (.inl (idle5 t)))
    rw [show left m c 5 t = _ from dif_neg h]; iexact H5
  iapply (leaves_of m c 6 t rfl (.inr (.inr ⟨left m c 6 t, before6 m c t h _⟩))); iexact H6

/-- The body's obligation at every point. -/
theorem body_obligation (c : Dev nD) : BodyObligationLoose (dats m 0 c) (defs₀ (F := F)) Variants.none () Set.univ := fun t => by
  by_cases h : t.val % 4 = 0
  · exact obligation_head m c t h
  · exact obligation_later m c t h

set_option backward.isDefEq.respectTransparency.types false in
/-- The launch: every window's array ends as the run of the grid leaves it, and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared cfgs (dats m) 0 launch₀0 defs₀ Variants.none m ρ main (body_obligation m)
    (fun _ _ _ => rfl) (fun _ _ => rfl) (V m) (hmain m Variants.none) (fun _ _ => rfl) (kept_in m) (fun c => kept_out m c _)
    (Q' := _) (hQ' := fun _ h => h)

/-- The arguments end as they were. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_with_sems (frame_of m ρ (dats m) (fun _ _ => rfl)) (run_main m ρ)

end Cert.Proof.In

end
-- ==== Proof.In.Frames.lean ====
/-
  The three programs of the in-projection run and leave their arguments as they were.
-/
module

public import proofs.«01_k».proof.Defs
public import proofs.«01_k».proof.Proof.Gen.Kernel3
public import proofs.«01_k».proof.Proof.Gen.Reference3Ideal.Run
public import proofs.«01_k».proof.Proof.In.Run

@[expose] public section

noncomputable section

namespace Cert.Proof.In

open Idealize.ShloMosaic Idealize.SL.Sem

/-- The two printings of the kernel have the same body. -/
theorem bodies_eq : Cert.Kernel3.defs₀ (F := Bits) = Cert.Kernel3Ideal.defs₀ (F := Bits) := by
  unfold Cert.Kernel3.defs₀ Cert.Kernel3Ideal.defs₀
  refine congrArg Defs.onTc (funext fun ℓ => funext fun a => ?_)
  match ℓ, a with
  | ⟨0, _⟩, (t, s) => rfl
  | ⟨_ + 1, h⟩, _ => exact absurd h (Nat.not_lt.2 (Nat.le_add_left _ _))

theorem defs_eq : Cert.Kernel3.defs (F := Bits) = Cert.Kernel3Ideal.defs (F := Bits) :=
  congrArg (Pipeline.defs Cert.Kernel3Ideal.pcfgs) bodies_eq

/-- The kernel at the bits: the same run, read there. -/
theorem frame_kernel : Cert.quiescent_Kernel3 := fun m ρ _ => by
  rw [defs_eq]
  exact frame_main (F := Bits) m ρ

/-- The kernel at the ideal instance. -/
theorem frame_kernelIdeal : Cert.quiescent_Kernel3Ideal := fun m ρ _ => frame_main (F := Ideal) m ρ

/-- The reference leaves its arguments as they were, and declares no semaphore. -/
theorem frame_reference : Cert.quiescent_Reference3Ideal := fun m ρ _ =>
  (θ_run Cert.Reference3Ideal.defs _ _).mono
    (fun r h => ⟨fun c => (h c).2.2, Idealize.ShloMosaic.sem_eq_zero_of_no_sems (by decide) r.2⟩)
    (Cert.Reference3Ideal.Value.run (F := Ideal) m ρ)

end Cert.Proof.In

end
-- ==== Proof.In.Rows.lean ====
/-
  The in-projection's blocks at coordinates: the modulated rows, and their products with the blocks of the two weights.
-/
module

public import proofs.«01_k».proof.Proof.In.Run
public import proofs.«01_k».proof.Proof.Norm
public import Idealize.ShloMosaic.Lib.Pipeline.ValueKit

@[expose] public section

set_option maxRecDepth 16384

noncomputable section

namespace Cert.Proof.In

open Cert.Kernel3Ideal Cert.Kernel3Ideal.Gen Cert.Proof.Norm
open Idealize.ShloMosaic Idealize.ShloMosaic.TcCoe Idealize.SL.Sem
open Idealize.ShloMosaic.Pipeline (Dat)

/-! ## A quarter -/

/-- The centred rows of a quarter, normalised. -/
theorem pay8_at (x : S256x2048.Idx → Elt Ideal .f32) (p : Fin 256) (n : Fin 2048) :
    k0_pay8 (F := Ideal) x (ix2 p n) = normed (fun k => x (ix2 p k)) n := by
  pointwise [k0_pay8]
  rfl

/-- The modulated rows of a quarter, as both products read them. -/
theorem pay10_at (sh sc : S1x2048.Idx → Elt Ideal .f32) (x : S256x2048.Idx → Elt Ideal .f32) (p : Fin 256) (n : Fin 2048) :
    k0_pay10 (F := Ideal) (k0_pay6 sh) (k0_pay8 x) (k0_pay9 sc) (ix2 p n)
      = modulated (fun k => x (ix2 p k)) (fun k => sh (ix2 0 k)) (fun k => sc (ix2 0 k)) n := by
  have h := pay8_at x p
  generalize k0_pay8 (F := Ideal) x = z at h ⊢
  pointwise [k0_pay10, k0_pay6, k0_pay9, k0_pay7]
  rw [h]
  rfl

theorem hPart_at (sh sc : S1x2048.Idx → Elt Ideal .f32) (x : S256x2048.Idx → Elt Ideal .f32) (p : Fin 256) (n : Fin 2048) :
    hPart sh sc x (ix2 p n) = modulated (fun k => x (ix2 p k)) (fun k => sh (ix2 0 k)) (fun k => sc (ix2 0 k)) n := by
  have h := pay10_at sh sc x p n
  unfold hPart k0_pay11
  generalize k0_pay10 (F := Ideal) (k0_pay6 sh) (k0_pay8 x) (k0_pay9 sc) = z at h ⊢
  pointwise
  exact h

theorem zPart_at (sh sc : S1x2048.Idx → Elt Ideal .f32) (x : S256x2048.Idx → Elt Ideal .f32) (w : S2048x1792.Idx → Elt Ideal .bf16) (p : Fin 256) (l : Fin 1792) :
    zPart sh sc x w (ix2 p l) = ∑ k : Fin 2048, modulated (fun k => x (ix2 p k)) (fun k => sh (ix2 0 k)) (fun k => sc (ix2 0 k)) k * w (ix2 k l) := by
  have h := pay10_at sh sc x p
  unfold zPart k0_pay13
  generalize k0_pay10 (F := Ideal) (k0_pay6 sh) (k0_pay8 x) (k0_pay9 sc) = z at h ⊢
  pointwise
  simp only [h]

theorem qPart_at (sh sc : S1x2048.Idx → Elt Ideal .f32) (x : S256x2048.Idx → Elt Ideal .f32) (w : S2048x128.Idx → Elt Ideal .bf16) (p : Fin 256) (l : Fin 128) :
    qPart sh sc x w (ix2 p l) = ∑ k : Fin 2048, modulated (fun k => x (ix2 p k)) (fun k => sh (ix2 0 k)) (fun k => sc (ix2 0 k)) k * w (ix2 k l) := by
  have h := pay10_at sh sc x p
  unfold qPart k0_pay12
  generalize k0_pay10 (F := Ideal) (k0_pay6 sh) (k0_pay8 x) (k0_pay9 sc) = z at h ⊢
  pointwise
  simp only [h]

/-- The product of kept rows with a block of the main weight. -/
theorem pay5_at (h : S1024x2048.Idx → Elt Ideal .bf16) (w : S2048x1792.Idx → Elt Ideal .bf16) (q : Fin 1024) (l : Fin 1792) :
    k0_pay5 (F := Ideal) h w (ix2 q l) = ∑ k : Fin 2048, h (ix2 q k) * w (ix2 k l) := by
  pointwise [k0_pay5]

/-! ## A block -/

/-- The row of a quarter is the row of the block it is read from. -/
theorem quarter (X : S1024x2048.Idx → Elt Ideal .f32) (o : ℕ) (inb) (p : Fin 256) (q : Fin 1024) (hq : q.val = o + p.val) :
    (fun k => View.ld X (Rect.unit (s := S1024x2048) ![o, 0] S256x2048.size inb) (ix2 p k)) = fun k => X (ix2 q k) :=
  funext fun k => ld_at X _ _ p k q k hq (Nat.zero_add _).symm

/-- An index of a matrix whose second coordinate is known. -/
theorem idx_of {A B : ℕ} (x : (⟨2, ![A, B]⟩ : Shape).Idx) (k : Fin B) (h : k.val = (x 1).val) : x = ix2 (x 0) k := by
  funext a
  fin_cases a
  · rfl
  · exact Fin.ext h.symm

theorem hBlock_at (sh sc : S1x2048.Idx → Elt Ideal .f32) (X : S1024x2048.Idx → Elt Ideal .f32) (q : Fin 1024) (n : Fin 2048) :
    hBlock sh sc X (ix2 q n) = modulated (fun k => X (ix2 q k)) (fun k => sh (ix2 0 k)) (fun k => sc (ix2 0 k)) n := by
  unfold hBlock
  canon_tiles x h
  all_goals
    rw [idx_of x n h1]
    refine (hPart_at _ _ _ (x 0) n).trans ?_
    rw [quarter X _ _ (x 0) q (by first | exact h0 | exact h0.trans (Nat.zero_add _).symm)]

theorem zBlock_at (sh sc : S1x2048.Idx → Elt Ideal .f32) (X : S1024x2048.Idx → Elt Ideal .f32) (w : S2048x1792.Idx → Elt Ideal .bf16) (q : Fin 1024) (l : Fin 1792) :
    zBlock sh sc X w (ix2 q l) = ∑ k : Fin 2048, modulated (fun k => X (ix2 q k)) (fun k => sh (ix2 0 k)) (fun k => sc (ix2 0 k)) k * w (ix2 k l) := by
  unfold zBlock
  canon_tiles x h
  all_goals
    rw [idx_of x l h1]
    refine (zPart_at _ _ _ _ (x 0) l).trans ?_
    rw [quarter X _ _ (x 0) q (by first | exact h0 | exact h0.trans (Nat.zero_add _).symm)]

theorem qBlock_at (sh sc : S1x2048.Idx → Elt Ideal .f32) (X : S1024x2048.Idx → Elt Ideal .f32) (w : S2048x128.Idx → Elt Ideal .bf16) (q : Fin 1024) (l : Fin 128) :
    qBlock sh sc X w (ix2 q l) = ∑ k : Fin 2048, modulated (fun k => X (ix2 q k)) (fun k => sh (ix2 0 k)) (fun k => sc (ix2 0 k)) k * w (ix2 k l) := by
  unfold qBlock
  canon_tiles x h
  all_goals
    rw [idx_of x l h1]
    refine (qPart_at _ _ _ _ (x 0) l).trans ?_
    rw [quarter X _ _ (x 0) q (by first | exact h0 | exact h0.trans (Nat.zero_add _).symm)]

end Cert.Proof.In

end
-- ==== Proof.In.Reads.lean ====
/-
  What the in-projection's input windows hold at a point of the grid, read off the arrays the launch is given.
-/
module

public import proofs.«01_k».proof.Proof.In.Rows

@[expose] public section

set_option maxRecDepth 16384

noncomputable section

namespace Cert.Proof.In

open Cert.Kernel3Ideal Cert.Kernel3Ideal.Gen Cert.Proof.Norm
open Idealize.ShloMosaic Idealize.ShloMosaic.TcCoe Idealize.SL.Sem
open Idealize.ShloMosaic.Pipeline (Dat)

variable (m : (ℓ : Loc nD τ sig) → Buf (Elt Ideal) ℓ)

/-! ## The arrays the launch is given -/

/-- The input, a row per token of a sequence. -/
def argX (c : Dev nD) : S4x2048x2048.Idx → Elt Ideal .f32 := m ((c : Thread nD τ).loc main_arg0)
/-- The modulation, six stretches of columns. -/
def argM (c : Dev nD) : S4x12288.Idx → Elt Ideal .f32 := m ((c : Thread nD τ).loc main_arg1)
/-- The weight. -/
def argW (c : Dev nD) : S1x2048x7176.Idx → Elt Ideal .f32 := m ((c : Thread nD τ).loc main_arg2)

/-! ## The arrays the launch finds -/

/-- The input, its sequences one after the other. -/
theorem V5 (c : Dev nD) (s : Fin 4) (p : Fin 2048) (r : Fin 8192) (hr : r.val = 2048 * s.val + p.val) (n : Fin 2048) : V m c main_v5 (ix2 r n) = argX m c (ix3 s p n) := by
  have e : V m c main_v5 = shapeCast (α := Elt Ideal .f32) S8192x2048 (argX m c) shapeCasts_S4x2048x2048_S8192x2048 := by
    simp only [V, hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  have hp : r.val % 2048 < 2048 := by omega
  have hb : r.val / 2048 < 4 := by omega
  have es : s = ⟨r.val / 2048, hb⟩ := Fin.ext (by show s.val = r.val / 2048; omega)
  have ep : p = ⟨r.val % 2048, hp⟩ := Fin.ext (by show p.val = r.val % 2048; omega)
  rw [e, es, ep]
  pointwise
/-- The modulation, its rows extended by zeros. -/
theorem V6 (c : Dev nD) (s : Fin 8) (f : Fin 12288) (h : s.val < 4) : V m c main_v6 (ix2 s f) = argM m c (ix2 ⟨s.val, h⟩ f) := by
  have e : V m c main_v6 = pad (α := Elt Ideal .f32) S8x12288 ![0, 0] ![4, 0] ![0, 0] (argM m c) (sitofp (F := Ideal) .f32 (constantI S_ 32 0#32)) pads_S4x12288_S8x12288_040_000 h_S_ := by
    simp only [V, hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise
  rw [dif_pos h]
/-- The weight's columns but the eight of the gates. -/
theorem V4 (c : Dev nD) (k : Fin 2048) (f : Fin 7168) (g : Fin 7176) (hg : g.val = if f.val < 2048 then f.val else f.val + 8) : V m c main_v4 (ix2 k f) = argW m c (ix3 0 k g) := by
  have e : V m c main_v4 = concatenate (α := Elt Ideal .bf16) S2048x7168 1
      [⟨S2048x2048, extractStridedSlice S2048x2048 ![0, 0] (truncf (F := Ideal) .bf16 (shapeCast (α := Elt Ideal .f32) _ (argW m c) shapeCasts_S1x2048x7176_S2048x7176) bitsLt_bf16_f32) slices_S2048x7176_S2048x2048_0_0⟩,
       ⟨S2048x5120, extractStridedSlice S2048x5120 ![0, 2056] (truncf (F := Ideal) .bf16 (shapeCast (α := Elt Ideal .f32) _ (argW m c) shapeCasts_S1x2048x7176_S2048x7176) bitsLt_bf16_f32) slices_S2048x7176_S2048x5120_0_2056⟩]
      concatenates_S2048x2048_S2048x5120_S2048x7168_d1 := by
    simp only [V, hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  generalize argW m c = W
  pointwise
  split_ifs at hg ⊢ with h
  · exact congrArg W (congrArg (ix3 0 k) (Fin.ext hg.symm))
  · exact congrArg W (congrArg (ix3 0 k) (Fin.ext (by rw [hg]; show 2056 + (f.val - 2048) = f.val + 8; omega)))
  · rename_i e1
    exact absurd rfl e1
/-- The weight's 128 columns from the gates' first. -/
theorem V7 (c : Dev nD) (k : Fin 2048) (f : Fin 128) : V m c main_v7 (ix2 k f) = argW m c (ix3 0 k ⟨2048 + f.val, by omega⟩) := by
  have e : V m c main_v7 = extractStridedSlice (α := Elt Ideal .bf16) S2048x128 ![0, 2048] (truncf (F := Ideal) .bf16 (shapeCast (α := Elt Ideal .f32) _ (argW m c) shapeCasts_S1x2048x7176_S2048x7176) bitsLt_bf16_f32) slices_S2048x7176_S2048x128_0_2048 := by
    simp only [V, hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise

/-! ## The blocks -/

/-- The block of each window at a point, -/
theorem widx : ∀ t : Fin cfg0.N, win0_0.index t = ![t.val / 4, 0] ∧ win0_1.index t = ![0, 0] ∧ win0_2.index t = ![0, 1] ∧ win0_3.index t = ![0, t.val % 4] ∧ win0_4.index t = ![0, 0] ∧ win0_5.index t = ![t.val / 4, t.val % 4] ∧ win0_6.index t = ![t.val / 4, 0] := by decide +kernel
/-- and the row of the modulation it reads. -/
theorem modrow : ∀ t : Fin cfg0.N, k0_off1 (cfg0.grid.coords t) = ![t.val / 8, 0] := by decide +kernel

theorem blk0 (c : Dev nD) (t : Fin cfg0.N) (q : Fin 1024) (n : Fin 2048) (s : Fin 4) (p : Fin 2048) (hr : 2048 * s.val + p.val = 1024 * (t.val / 4) + q.val) :
    (iblk m c 0 t : S1024x2048.Idx → Elt Ideal .f32) (ix2 q n) = argX m c (ix3 s p n) := by
  have hb : 2048 * s.val + p.val < 8192 := by omega
  refine Eq.trans ?_ (V5 m c s p ⟨2048 * s.val + p.val, hb⟩ rfl n)
  blk_simp [iblk]
  blk_ext [widx t]
theorem blk1 (c : Dev nD) (t : Fin cfg0.N) (g : Fin 8) (n : Fin 2048) (s : Fin 4) (hs : s.val = g.val) :
    (iblk m c 1 t : S8x2048.Idx → Elt Ideal .f32) (ix2 g n) = argM m c (ix2 s ⟨n.val, by omega⟩) := by
  have hb : g.val < 4 := by omega
  have es : s = ⟨g.val, hb⟩ := Fin.ext hs
  rw [es]
  refine Eq.trans ?_ (V6 m c g ⟨n.val, by omega⟩ hb)
  blk_simp [iblk]
  blk_ext [widx t]
theorem blk2 (c : Dev nD) (t : Fin cfg0.N) (g : Fin 8) (n : Fin 2048) (s : Fin 4) (hs : s.val = g.val) :
    (iblk m c 2 t : S8x2048.Idx → Elt Ideal .f32) (ix2 g n) = argM m c (ix2 s ⟨2048 + n.val, by omega⟩) := by
  have hb : g.val < 4 := by omega
  have es : s = ⟨g.val, hb⟩ := Fin.ext hs
  rw [es]
  refine Eq.trans ?_ (V6 m c g ⟨2048 + n.val, by omega⟩ hb)
  blk_simp [iblk]
  blk_ext [widx t]
theorem blk3 (c : Dev nD) (t : Fin cfg0.N) (k : Fin 2048) (l : Fin 1792) (f : Fin 7168) (hf : f.val = 1792 * (t.val % 4) + l.val) (g : Fin 7176) (hg : g.val = if f.val < 2048 then f.val else f.val + 8) :
    (iblk m c 3 t : S2048x1792.Idx → Elt Ideal .bf16) (ix2 k l) = argW m c (ix3 0 k g) := by
  refine Eq.trans ?_ (V4 m c k f g hg)
  blk_simp [iblk]
  blk_ext [widx t]
theorem blk4 (c : Dev nD) (t : Fin cfg0.N) (k : Fin 2048) (l : Fin 128) :
    (iblk m c 4 t : S2048x128.Idx → Elt Ideal .bf16) (ix2 k l) = argW m c (ix3 0 k ⟨2048 + l.val, by omega⟩) := by
  refine Eq.trans ?_ (V7 m c k l)
  blk_simp [iblk]
  blk_ext [widx t]

/-- The shift that a first point reads, -/
theorem sh_at (c : Dev nD) (t : Fin cfg0.N) (h) (s : Fin 4) (hs : s.val = t.val / 8) (n : Fin 2048) : shAt m c t h (ix2 0 n) = argM m c (ix2 s ⟨n.val, by omega⟩) := by
  have hg : t.val / 8 < 8 := by have : t.val < 32 := t.isLt; omega
  refine (ld_at (iblk m c 1 t : S8x2048.Idx → Elt Ideal .f32) _ _ 0 n ⟨t.val / 8, hg⟩ n ?_ ?_).trans (blk1 m c t ⟨t.val / 8, hg⟩ n s hs)
  · rw [modrow]; rfl
  · rw [modrow]; exact (Nat.zero_add _).symm
/-- and the scale. -/
theorem sc_at (c : Dev nD) (t : Fin cfg0.N) (h) (s : Fin 4) (hs : s.val = t.val / 8) (n : Fin 2048) : scAt m c t h (ix2 0 n) = argM m c (ix2 s ⟨2048 + n.val, by omega⟩) := by
  have hg : t.val / 8 < 8 := by have : t.val < 32 := t.isLt; omega
  refine (ld_at (iblk m c 2 t : S8x2048.Idx → Elt Ideal .f32) _ _ 0 n ⟨t.val / 8, hg⟩ n ?_ ?_).trans (blk2 m c t ⟨t.val / 8, hg⟩ n s hs)
  · rw [modrow]; rfl
  · rw [modrow]; exact (Nat.zero_add _).symm

end Cert.Proof.In

end
-- ==== Proof.In.Plain.lean ====
/-
  The plain in-projection's two results at coordinates.
-/
module

public import proofs.«01_k».proof.Proof.Gen.Reference3Ideal.Run
public import proofs.«01_k».proof.Proof.In.Rows

@[expose] public section

set_option maxRecDepth 16384

noncomputable section

namespace Cert.Proof.In.Plain

open Cert.Reference3Ideal Cert.Reference3Ideal.Gen Cert.Proof.Norm
open Idealize.ShloMosaic Idealize.ShloMosaic.TcCoe Idealize.SL.Sem

/-- The rows less their means. -/
def cen (P : FVec Ideal S4x2048x2048 .f32) : FVec Ideal S4x2048x2048 .f32 :=
  subf P (broadcastInDim S4x2048x2048 ![0, 1, 2] bcast_S4x2048x1_S4x2048x2048_0_1_2 (Host.divf (broadcastInDim S4x2048x1 ![0, 1] bcast_S4x2048_S4x2048x1_0_1 (Host.reduceAdd P (constant (F := Ideal) S_ .f32 0x00000000#32) reducesTo_S4x2048x2048_S4x2048_d2 h_S_)) (broadcastInDim S4x2048x1 ![] bcast_S_S4x2048x1 (constant (F := Ideal) S_ .f32 0x45000000#32))))

/-- The modulated rows, from the centred ones. -/
def fin (C : FVec Ideal S4x2048x2048 .f32) (M : FVec Ideal S4x12288 .f32) : FVec Ideal S4x2048x2048 .f32 :=
  addf (mulf (mulf C (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf C C) (constant (F := Ideal) S_ .f32 0x00000000#32) reducesTo_S4x2048x2048_S4x2048_d2 h_S_)) (broadcastInDim S4x2048x1 ![] bcast_S_S4x2048x1 (constant (F := Ideal) S_ .f32 0x45000000#32))) (broadcastInDim S4x2048x1 ![] bcast_S_S4x2048x1 (constant (F := Ideal) S_ .f32 0x3727C5AC#32)))))) (broadcastInDim S4x2048x2048 ![0, 1, 2] bcast_S4x1x2048_S4x2048x2048_0_1_2 (addf (broadcastInDim S4x1x2048 ![] bcast_S_S4x1x2048 (constant (F := Ideal) S_ .f32 0x3F800000#32)) (extractStridedSlice S4x1x2048 ![0, 0, 2048] (broadcastInDim S4x1x12288 ![0, 2] bcast_S4x12288_S4x1x12288_0_2 M) slices_S4x1x12288_S4x1x2048_0_0_2048)))) (broadcastInDim S4x2048x2048 ![0, 1, 2] bcast_S4x1x2048_S4x2048x2048_0_1_2 (extractStridedSlice S4x1x2048 ![0, 0, 0] (broadcastInDim S4x1x12288 ![0, 2] bcast_S4x12288_S4x1x12288_0_2 M) slices_S4x1x12288_S4x1x2048_0_0_0))

/-- Their product with the whole weight, a row per token. -/
def prod (H : FVec Ideal S4x2048x2048 .f32) (W : FVec Ideal S1x2048x7176 .f32) : FVec Ideal S8192x7176 .f32 :=
  shapeCast _ (Host.dotGeneral dot_S4x2048x2048_S2048x7176_S4x2048x7176_2_0_01_1_n_n none H (shapeCast _ W shapeCasts_S1x2048x7176_S2048x7176)) shapeCasts_S4x2048x7176_S8192x7176

/-- The first result: the product's columns but the eight of the gates. -/
def out0 (X : FVec Ideal S4x2048x2048 .f32) (M : FVec Ideal S4x12288 .f32) (W : FVec Ideal S1x2048x7176 .f32) : FVec Ideal S8192x7168 .bf16 :=
  truncf .bf16 (concatenate S8192x7168 1 [⟨S8192x2048, extractStridedSlice S8192x2048 ![0, 0] (prod (fin (cen X) M) W) slices_S8192x7176_S8192x2048_0_0⟩, ⟨S8192x5120, extractStridedSlice S8192x5120 ![0, 2056] (prod (fin (cen X) M) W) slices_S8192x7176_S8192x5120_0_2056⟩] concatenates_S8192x2048_S8192x5120_S8192x7168_d1) bitsLt_bf16_f32

/-- The second: 128 columns from the gates' first. -/
def out1 (X : FVec Ideal S4x2048x2048 .f32) (M : FVec Ideal S4x12288 .f32) (W : FVec Ideal S1x2048x7176 .f32) : FVec Ideal S8192x128 .f32 :=
  extractStridedSlice S8192x128 ![0, 2048] (prod (fin (cen X) M) W) slices_S8192x7176_S8192x128_0_2048

theorem res0 (m : (ℓ : Loc nD τ sig) → Buf (Elt Ideal) ℓ) (c : Dev nD) : Value.res_main_v37 m c
    = out0 (m ((c.tc : Thread nD τ).loc main_arg0)) (m ((c.tc : Thread nD τ).loc main_arg1)) (m ((c.tc : Thread nD τ).loc main_arg2)) := by
  unfold Value.res_main_v37; rfl

theorem cen_at (P : FVec Ideal S4x2048x2048 .f32) (s : Fin 4) (p n : Fin 2048) : cen P (ix3 s p n) = centred (fun x => P (ix3 s p x)) n := by
  pointwise [cen]
  rfl

theorem fin_at (C : FVec Ideal S4x2048x2048 .f32) (M : FVec Ideal S4x12288 .f32) (v : Fin 2048 → EReal) (s : Fin 4) (p n : Fin 2048) (hC : ∀ x, C (ix3 s p x) = centred v x) :
    fin C M (ix3 s p n) = modulated v (fun k => M (ix2 s ⟨k.val, by omega⟩)) (fun k => M (ix2 s ⟨2048 + k.val, by omega⟩)) n := by
  pointwise [fin]
  simp only [hC]
  rfl

/-- The product at a token's row. -/
theorem prod_at (X : FVec Ideal S4x2048x2048 .f32) (M : FVec Ideal S4x12288 .f32) (W : FVec Ideal S1x2048x7176 .f32) (s : Fin 4) (p : Fin 2048) (r : Fin 8192) (hr : r.val = 2048 * s.val + p.val) (f : Fin 7176) :
    prod (fin (cen X) M) W (ix2 r f)
      = ∑ k : Fin 2048, modulated (fun k => X (ix3 s p k)) (fun k => M (ix2 s ⟨k.val, by omega⟩)) (fun k => M (ix2 s ⟨2048 + k.val, by omega⟩)) k * W (ix3 0 k f) := by
  have h := fun n => fin_at (cen X) M _ s p n (cen_at X s p)
  generalize fin (cen X) M = H at h ⊢
  have hp : r.val % 2048 < 2048 := by omega
  have hb : r.val / 2048 < 4 := by omega
  have es : s = ⟨r.val / 2048, hb⟩ := Fin.ext (by show s.val = r.val / 2048; omega)
  have ep : p = ⟨r.val % 2048, hp⟩ := Fin.ext (by show p.val = r.val % 2048; omega)
  simp only [← h]
  rw [es, ep]
  pointwise [prod]

theorem out0_at (X : FVec Ideal S4x2048x2048 .f32) (M : FVec Ideal S4x12288 .f32) (W : FVec Ideal S1x2048x7176 .f32) (s : Fin 4) (p : Fin 2048) (r : Fin 8192) (hr : r.val = 2048 * s.val + p.val)
    (f : Fin 7168) (g : Fin 7176) (hg : g.val = if f.val < 2048 then f.val else f.val + 8) :
    out0 X M W (ix2 r f)
      = ∑ k : Fin 2048, modulated (fun k => X (ix3 s p k)) (fun k => M (ix2 s ⟨k.val, by omega⟩)) (fun k => M (ix2 s ⟨2048 + k.val, by omega⟩)) k * W (ix3 0 k g) := by
  rw [← prod_at X M W s p r hr g]
  unfold out0
  generalize prod (fin (cen X) M) W = P
  pointwise
  split_ifs at hg ⊢ with h
  · exact congrArg P (congrArg (ix2 r) (Fin.ext hg.symm))
  · exact congrArg P (congrArg (ix2 r) (Fin.ext (by rw [hg]; show 2056 + (f.val - 2048) = f.val + 8; omega)))
  · rename_i e1
    exact absurd rfl e1

theorem out1_at (X : FVec Ideal S4x2048x2048 .f32) (M : FVec Ideal S4x12288 .f32) (W : FVec Ideal S1x2048x7176 .f32) (s : Fin 4) (p : Fin 2048) (r : Fin 8192) (hr : r.val = 2048 * s.val + p.val) (f : Fin 128) :
    out1 X M W (ix2 r f)
      = ∑ k : Fin 2048, modulated (fun k => X (ix3 s p k)) (fun k => M (ix2 s ⟨k.val, by omega⟩)) (fun k => M (ix2 s ⟨2048 + k.val, by omega⟩)) k * W (ix3 0 k ⟨2048 + f.val, by omega⟩) := by
  rw [← prod_at X M W s p r hr ⟨2048 + f.val, by omega⟩]
  unfold out1
  generalize prod (fin (cen X) M) W = P
  pointwise

end Cert.Proof.In.Plain

end
-- ==== Proof.In.Final.lean ====
/-
  The two arrays the in-projection leaves are the plain program's results.
-/
module

public import proofs.«01_k».proof.Proof.In.Reads
public import proofs.«01_k».proof.Proof.In.Plain

@[expose] public section

set_option maxRecDepth 16384

noncomputable section

namespace Cert.Proof.In

open Cert.Kernel3Ideal Cert.Kernel3Ideal.Gen Cert.Proof.Norm
open Idealize.ShloMosaic Idealize.ShloMosaic.TcCoe Idealize.SL.Sem
open Idealize.ShloMosaic.Pipeline (Dat)

variable (m : (ℓ : Loc nD τ sig) → Buf (Elt Ideal) ℓ)

/-- An entry of the modulated rows, from the arrays the launch is given. -/
def modRow (c : Dev nD) (s : Fin 4) (p k : Fin 2048) : EReal :=
  modulated (fun n => argX m c (ix3 s p n)) (fun n => argM m c (ix2 s ⟨n.val, by omega⟩)) (fun n => argM m c (ix2 s ⟨2048 + n.val, by omega⟩)) k

/-- The modulated rows that a first point computes. -/
theorem modulated_at (c : Dev nD) (t : Fin cfg0.N) (h) (q : Fin 1024) (s : Fin 4) (p : Fin 2048) (hr : 2048 * s.val + p.val = 1024 * (t.val / 4) + q.val) (k : Fin 2048) :
    modulated (fun n => (iblk m c 0 t : S1024x2048.Idx → Elt Ideal .f32) (ix2 q n)) (fun n => shAt m c t h (ix2 0 n)) (fun n => scAt m c t h (ix2 0 n)) k = modRow m c s p k := by
  have hs : s.val = t.val / 8 := by omega
  simp only [fun n => blk0 m c t q n s p hr, sh_at m c t h s hs, sc_at m c t h s hs]
  rfl

/-- The rows that the scratch holds. -/
theorem hs_at (c : Dev nD) (t : Fin cfg0.N) (q : Fin 1024) (s : Fin 4) (p : Fin 2048) (hr : 2048 * s.val + p.val = 1024 * (t.val / 4) + q.val) (k : Fin 2048) :
    hs m c t (ix2 q k) = modRow m c s p k := by
  have h0 : 2048 * s.val + p.val = 1024 * ((first t).val / 4) + q.val := by rw [first_val]; omega
  unfold hs hAt
  rw [hBlock_at]
  exact modulated_at m c (first t) (first_heads t) q s p h0 k

/-- A block of the main product. -/
theorem zs_at (c : Dev nD) (t : Fin cfg0.N) (q : Fin 1024) (l : Fin 1792) (s : Fin 4) (p : Fin 2048) (hr : 2048 * s.val + p.val = 1024 * (t.val / 4) + q.val)
    (f : Fin 7168) (hf : f.val = 1792 * (t.val % 4) + l.val) (g : Fin 7176) (hg : g.val = if f.val < 2048 then f.val else f.val + 8) :
    zs m c t (ix2 q l) = ∑ k : Fin 2048, modRow m c s p k * argW m c (ix3 0 k g) := by
  unfold zs
  split
  · refine (zBlock_at _ _ _ _ q l).trans (Finset.sum_congr rfl fun k _ => ?_)
    rw [modulated_at m c t _ q s p hr k, blk3 m c t k l f hf g hg]
  · refine (pay5_at _ _ q l).trans (Finset.sum_congr rfl fun k _ => ?_)
    rw [hs_at m c t q s p hr k, blk3 m c t k l f hf g hg]

/-- The gates. -/
theorem qs_at (c : Dev nD) (t : Fin cfg0.N) (q : Fin 1024) (l : Fin 128) (s : Fin 4) (p : Fin 2048) (hr : 2048 * s.val + p.val = 1024 * (t.val / 4) + q.val) :
    qs m c t (ix2 q l) = ∑ k : Fin 2048, modRow m c s p k * argW m c (ix3 0 k ⟨2048 + l.val, by omega⟩) := by
  have h0 : 2048 * s.val + p.val = 1024 * ((first t).val / 4) + q.val := by rw [first_val]; omega
  unfold qs qAt
  rw [qBlock_at]
  refine Finset.sum_congr rfl fun k _ => ?_
  rw [modulated_at m c (first t) (first_heads t) q s p h0 k, blk4 m c (first t) k l]

/-- A point's block of the main product is the first result's, -/
theorem point5 (c : Dev nD) (t : Fin cfg0.N) (q : Fin 1024) (l : Fin 1792) (r : Fin 8192) (f : Fin 7168) (h0 : r.val = 1024 * (t.val / 4) + q.val) (h1 : f.val = 1792 * (t.val % 4) + l.val) :
    zs m c t (ix2 q l) = Plain.out0 (argX m c) (argM m c) (argW m c) (ix2 r f) := by
  have hs : r.val / 2048 < 4 := by omega
  have hp : r.val % 2048 < 2048 := by omega
  have hg : (if f.val < 2048 then f.val else f.val + 8) < 7176 := by split <;> omega
  exact (zs_at m c t q l ⟨r.val / 2048, hs⟩ ⟨r.val % 2048, hp⟩ (by show 2048 * (r.val / 2048) + r.val % 2048 = _; omega) f h1 ⟨_, hg⟩ rfl).trans
    (Plain.out0_at (argX m c) (argM m c) (argW m c) ⟨r.val / 2048, hs⟩ ⟨r.val % 2048, hp⟩ r (by show r.val = 2048 * (r.val / 2048) + r.val % 2048; omega) f ⟨_, hg⟩ rfl).symm

/-- and its gates are the second's. -/
theorem point6 (c : Dev nD) (t : Fin cfg0.N) (q : Fin 1024) (l : Fin 128) (r : Fin 8192) (h0 : r.val = 1024 * (t.val / 4) + q.val) :
    qs m c t (ix2 q l) = Plain.out1 (argX m c) (argM m c) (argW m c) (ix2 r l) := by
  have hs : r.val / 2048 < 4 := by omega
  have hp : r.val % 2048 < 2048 := by omega
  exact (qs_at m c t q l ⟨r.val / 2048, hs⟩ ⟨r.val % 2048, hp⟩ (by show 2048 * (r.val / 2048) + r.val % 2048 = _; omega)).trans
    (Plain.out1_at (argX m c) (argM m c) (argW m c) ⟨r.val / 2048, hs⟩ ⟨r.val % 2048, hp⟩ r (by show r.val = 2048 * (r.val / 2048) + r.val % 2048; omega) l).symm

/-- The same at the indices of the buffers and of the arrays. -/
theorem point5At (c : Dev nD) (t : Fin cfg0.N) (y : S1024x1792.Idx) (i : S8192x7168.Idx) (h0 : (i 0).val = 1024 * (t.val / 4) + (y 0).val) (h1 : (i 1).val = 1792 * (t.val % 4) + (y 1).val) :
    zs m c t y = Plain.out0 (argX m c) (argM m c) (argW m c) i := by
  have hy : y = ix2 (y 0) (y 1) := by funext a; fin_cases a <;> rfl
  have hi : i = ix2 (i 0) (i 1) := by funext a; fin_cases a <;> rfl
  rw [hy, hi]
  exact point5 m c t (y 0) (y 1) (i 0) (i 1) h0 h1

theorem point6At (c : Dev nD) (t : Fin cfg0.N) (y : S1024x128.Idx) (i : S8192x128.Idx) (h0 : (i 0).val = 1024 * (t.val / 4) + (y 0).val) (h1 : (i 1).val = (y 1).val) :
    qs m c t y = Plain.out1 (argX m c) (argM m c) (argW m c) i := by
  have hy : y = ix2 (y 0) (y 1) := by funext a; fin_cases a <;> rfl
  have hi : i = ix2 (i 0) (y 1) := by
    funext a
    fin_cases a
    · rfl
    · exact Fin.ext h1
  rw [hy, hi]
  exact point6 m c t (y 0) (y 1) (i 0) h0

theorem final5 (c : Dev nD) : (dats m 0 c).arrAt 5 cfg0.N = Plain.out0 (argX m c) (argM m c) (argW m c) := by
  refine (dats m 0 c).arrAt_eq_of_covers 5 _ (by decide +kernel) fun t hf y => ?_
  blk_simp
  refine point5At m c t y _ ?_ ?_
  · blk_simp [widx t]
    omega
  · blk_simp [widx t]
    omega

theorem final6 (c : Dev nD) : (dats m 0 c).arrAt 6 cfg0.N = Plain.out1 (argX m c) (argM m c) (argW m c) := by
  refine (dats m 0 c).arrAt_eq_of_covers 6 _ (by decide +kernel) fun t hf y => ?_
  blk_simp
  refine point6At m c t y _ ?_ ?_
  · blk_simp [widx t]
    omega
  · blk_simp [widx t]

end Cert.Proof.In

end
-- ==== Proof.In.Algebraic.lean ====
/-
  The in-projection computes the plain program's two results, over the extended reals.
-/
module

public import proofs.«01_k».proof.Proof.In.Final
public import proofs.«01_k».proof.Proof.In.Frames

@[expose] public section

set_option maxRecDepth 16384

noncomputable section

namespace Cert.Proof.In

open Idealize.ShloMosaic Idealize.SL.Sem

/-- The run of the kernel, its results by name. -/
theorem run_kernel (m : (ℓ : Loc Cert.Kernel3Ideal.nD Cert.Kernel3Ideal.τ Cert.Kernel3Ideal.sig) → Buf (Elt Ideal) ℓ) (g : Dev Cert.Kernel3Ideal.nD → PrngReg) :
    θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
      r.2.mem ((c.tc : Thread Cert.Kernel3Ideal.nD Cert.Kernel3Ideal.τ).loc Cert.Kernel3Ideal.main_v8_0) = Plain.out0 (argX m c) (argM m c) (argW m c)
      ∧ r.2.mem ((c.tc : Thread Cert.Kernel3Ideal.nD Cert.Kernel3Ideal.τ).loc Cert.Kernel3Ideal.main_v8_1) = Plain.out1 (argX m c) (argM m c) (argW m c)
      ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)) :=
  (θ_run Cert.Kernel3Ideal.defs _ _).mono (fun r h c => ⟨((h.1 c).1 5).trans (final5 m c), ((h.1 c).1 6).trans (final6 m c),
      ((h.1 c).2 Cert.Kernel3Ideal.main_arg0 (Pipeline.mem_restRefs_of Cert.Kernel3Ideal.main_arg0 (by decide) (by decide))).trans (Cert.Kernel3Ideal.Gen.V_main_arg0 m c),
      ((h.1 c).2 Cert.Kernel3Ideal.main_arg1 (Pipeline.mem_restRefs_of Cert.Kernel3Ideal.main_arg1 (by decide) (by decide))).trans (Cert.Kernel3Ideal.Gen.V_main_arg1 m c),
      ((h.1 c).2 Cert.Kernel3Ideal.main_arg2 (Pipeline.mem_restRefs_of Cert.Kernel3Ideal.main_arg2 (by decide) (by decide))).trans (Cert.Kernel3Ideal.Gen.V_main_arg2 m c)⟩)
    (run_main (F := Ideal) m g)

theorem algebraic : Cert.algebraic_Kernel3Ideal_Reference3Ideal := by
  intro m g m' g' _ hargs
  refine ⟨fun c => Plain.out0 (argX m c) (argM m c) (argW m c), fun c => Plain.out1 (argX m c) (argM m c) (argW m c), run_kernel m g, ?_⟩
  refine (θ_run Cert.Reference3Ideal.defs _ _).mono (fun r h c => ?_) (Cert.Reference3Ideal.Value.run (F := Ideal) m' g')
  obtain ⟨r0, r1, ra⟩ := h c
  obtain ⟨e0, e1, e2⟩ := hargs c
  have e0' : m' ((c.tc : Thread Cert.Reference3Ideal.nD Cert.Reference3Ideal.τ).loc Cert.Reference3Ideal.main_arg0) = argX m c := e0
  have e1' : m' ((c.tc : Thread Cert.Reference3Ideal.nD Cert.Reference3Ideal.τ).loc Cert.Reference3Ideal.main_arg1) = argM m c := e1
  have e2' : m' ((c.tc : Thread Cert.Reference3Ideal.nD Cert.Reference3Ideal.τ).loc Cert.Reference3Ideal.main_arg2) = argW m c := e2
  refine ⟨(r0.trans (Plain.res0 m' c)).trans ?_, Eq.trans (r1.trans (by rfl : _ = Plain.out1 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)))) ?_, ra⟩
  · rw [e0', e1', e2']
  · rw [e0', e1', e2']

end Cert.Proof.In

end
-- ==== Proof.Sample.Frames.lean ====
/-
  The three programs of the sample path's down-projection run and leave their arguments as they were.
-/
module

public import proofs.«01_k».proof.Defs
public import proofs.«01_k».proof.Proof.Gen.Kernel4
public import proofs.«01_k».proof.Proof.Gen.Kernel4Ideal.Frame
public import proofs.«01_k».proof.Proof.Gen.Reference4Ideal.Run

@[expose] public section

noncomputable section

namespace Cert.Proof.Sample

open Idealize.ShloMosaic Idealize.SL.Sem

/-- The two printings of the kernel have the same body. -/
theorem bodies_eq : Cert.Kernel4.defs₀ (F := Bits) = Cert.Kernel4Ideal.defs₀ (F := Bits) := by
  unfold Cert.Kernel4.defs₀ Cert.Kernel4Ideal.defs₀
  refine congrArg Defs.onTc (funext fun ℓ => funext fun a => ?_)
  match ℓ, a with
  | ⟨0, _⟩, (t, s) => rfl
  | ⟨_ + 1, h⟩, _ => exact absurd h (Nat.not_lt.2 (Nat.le_add_left _ _))

theorem defs_eq : Cert.Kernel4.defs (F := Bits) = Cert.Kernel4Ideal.defs (F := Bits) :=
  congrArg (Pipeline.defs Cert.Kernel4Ideal.pcfgs) bodies_eq

/-- The kernel at the bits: the same run, read there. -/
theorem frame_kernel : Cert.quiescent_Kernel4 := fun m ρ _ => by
  rw [defs_eq]
  exact Cert.Kernel4Ideal.Gen.frame (F := Bits) m ρ

/-- The kernel at the ideal instance. -/
theorem frame_kernelIdeal : Cert.quiescent_Kernel4Ideal := fun m ρ _ => Cert.Kernel4Ideal.Gen.frame (F := Ideal) m ρ

/-- The reference leaves its arguments as they were, and declares no semaphore. -/
theorem frame_reference : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

end Cert.Proof.Sample

end
-- ==== Proof.Sample.Block.lean ====
/-
  What the sample path's down-projection leaves in the result's buffer at its two points, from the blocks it reads: at the
  first point the partial product, at the second the normalised rows, in four stretches of 128 rows, a stretch per time.
-/
module

public import proofs.«01_k».proof.Proof.Gen.Kernel4Ideal.Value
public import proofs.«01_k».proof.Proof.Norm
public import Idealize.ShloMosaic.Lib.Pipeline.ValueKit

@[expose] public section

set_option maxRecDepth 16384

noncomputable section

namespace Cert.Proof.Sample

open Cert.Kernel4Ideal Cert.Kernel4Ideal.Gen Cert.Proof.Norm
open Idealize.ShloMosaic Idealize.ShloMosaic.TcCoe Idealize.SL.Sem
open Idealize.ShloMosaic.Pipeline (Dat)

variable (m : (ℓ : Loc nD τ sig) → Buf (Elt Ideal) ℓ)

/-! ## The payloads at an index -/

/-- The partial product. -/
theorem pay1_at (v6 : S512x2816.Idx → Elt Ideal .bf16) (v8 : S2816x2048.Idx → Elt Ideal .bf16) (p : Fin 512) (n : Fin 2048) :
    k0_pay1 (F := Ideal) v6 v8 (ix2 p n) = ∑ k : Fin 2816, v6 (ix2 p k) * v8 (ix2 k n) := by
  pointwise [k0_pay1]

/-- A row before it is normalised: the residual, plus the gated sum of the two partial products. -/
def rowOf (v6 : S128x2048.Idx → Elt Ideal .f32) (v7 : S128x2816.Idx → Elt Ideal .bf16) (v9 : S2816x2048.Idx → Elt Ideal .bf16)
    (v12 v15 : S128x2048.Idx → Elt Ideal .f32) (p : Fin 128) (n : Fin 2048) : EReal :=
  alpha * v15 (ix2 p n) + v6 (ix2 p n) * (∑ k : Fin 2816, v7 (ix2 p k) * v9 (ix2 k n) + v12 (ix2 p n))

/-- A stretch of rows. -/
theorem pay3_at (v6 : S128x2048.Idx → Elt Ideal .f32) (v7 : S128x2816.Idx → Elt Ideal .bf16) (v9 : S2816x2048.Idx → Elt Ideal .bf16)
    (v12 v15 : S128x2048.Idx → Elt Ideal .f32) (v36 v39 : S1x2048.Idx → Elt Ideal .f32) (p : Fin 128) (n : Fin 2048) :
    k0_pay3 (F := Ideal) v6 v7 v9 v12 v15 v36 v39 (ix2 p n) = normed (rowOf v6 v7 v9 v12 v15 p) n * v36 (ix2 0 n) + v39 (ix2 0 n) := by
  pointwise [k0_pay3]
  rfl

/-- The stretches are computed alike. -/
theorem pay4_eq : @k0_pay4 Ideal _ = @k0_pay3 Ideal _ := rfl
theorem pay5_eq : @k0_pay5 Ideal _ = @k0_pay3 Ideal _ := rfl
theorem pay2_eq : @k0_pay2 Ideal _ = @k0_pay3 Ideal _ := rfl

/-! ## The blocks at a point -/

/-- The gated product's block. -/
def B0 (c : Dev nD) (t : Fin cfg0.N) : S512x2816.Idx → Elt Ideal .bf16 := iblk m c 0 t
/-- The weight's block. -/
def B1 (c : Dev nD) (t : Fin cfg0.N) : S2816x2048.Idx → Elt Ideal .bf16 := iblk m c 1 t
/-- The residual's block. -/
def B2 (c : Dev nD) (t : Fin cfg0.N) : S512x2048.Idx → Elt Ideal .f32 := iblk m c 2 t
/-- The modulation's block: the gate's columns, a row per sequence. -/
def B3 (c : Dev nD) (t : Fin cfg0.N) : S128x2048.Idx → Elt Ideal .f32 := iblk m c 3 t
/-- The norm's gain. -/
def B4 (c : Dev nD) (t : Fin cfg0.N) : S1x2048.Idx → Elt Ideal .f32 := iblk m c 4 t
/-- The norm's bias. -/
def B5 (c : Dev nD) (t : Fin cfg0.N) : S1x2048.Idx → Elt Ideal .f32 := iblk m c 5 t
/-- What the point leaves in the result's buffer. -/
def L (c : Dev nD) (t : Fin cfg0.N) : S512x2048.Idx → Elt Ideal .f32 := outsAt0 m c t.val t.isLt

/-- The first point leaves the partial product. -/
theorem left_first (c : Dev nD) (t : Fin cfg0.N) (h0 : t.val % 2 = 0) (p : Fin 512) (n : Fin 2048) :
    L m c t (ix2 p n) = ∑ k : Fin 2816, B0 m c t (ix2 p k) * B1 m c t (ix2 k n) := by
  refine Eq.trans ?_ (pay1_at (B0 m c t) (B1 m c t) p n)
  unfold L B0 B1
  rw [outsAt0_A m c t h0 (by omega)]
  frame_out

/-- The row that the second point normalises, from its blocks and what the first left. -/
def rowAt (c : Dev nD) (t s : Fin cfg0.N) (g : Fin 128) (q : Fin 512) (n : Fin 2048) : EReal :=
  alpha * B2 m c t (ix2 q n) + B3 m c t (ix2 g n) * (∑ k : Fin 2816, B0 m c t (ix2 q k) * B1 m c t (ix2 k n) + L m c s (ix2 q n))

/-- A stretch's row is the block's. -/
theorem stretch (c : Dev nD) (t s : Fin cfg0.N) (o : ℕ) (i0 i1) (p : Fin 128) (q : Fin 512) (hq : q.val = o + p.val) :
    rowOf (B3 m c t) (View.ld (B0 m c t) (Rect.unit (s := S512x2816) ![o, 0] S128x2816.size i0)) (B1 m c t)
        (View.ld (L m c s) (Rect.unit (s := S512x2048) ![o, 0] S128x2048.size i1)) (View.ld (B2 m c t) (Rect.unit (s := S512x2048) ![o, 0] S128x2048.size i1)) p
      = rowAt m c t s p q := by
  funext n'
  unfold rowOf rowAt
  rw [ld_at (B2 m c t) _ _ p n' q n' hq (Nat.zero_add _).symm, ld_at (L m c s) _ _ p n' q n' hq (Nat.zero_add _).symm]
  simp only [fun k => ld_at (B0 m c t) ![o, 0] i0 p k q k hq (Nat.zero_add _).symm]

/-- An index of a matrix whose two coordinates are known. -/
theorem idx_of {A B : ℕ} (x : (⟨2, ![A, B]⟩ : Shape).Idx) (k : Fin B) (h : k.val = (x 1).val) : x = ix2 (x 0) k := by
  funext a
  fin_cases a
  · rfl
  · exact Fin.ext h.symm

/-- The second point leaves the normalised rows. -/
theorem left_second (c : Dev nD) (t s : Fin cfg0.N) (hk : t.val % 2 = 1) (hs : s.val = t.val - 1) (q : Fin 512) (g : Fin 128) (hg : g.val = q.val % 128) (n : Fin 2048) :
    L m c t (ix2 q n) = normed (rowAt m c t s g q) n * B4 m c t (ix2 0 n) + B5 m c t (ix2 0 n) := by
  have es : s = ⟨t.val - 1, Nat.lt_of_le_of_lt (Nat.sub_le _ _) t.isLt⟩ := Fin.ext hs
  unfold L
  rw [outsAt0_B m c t (by omega) hk]
  frame_out
  rw [pay2_eq, pay4_eq, pay5_eq]
  subst es
  canon_tiles x h
  · have hq : q.val = 384 + (x 0).val := h0
    have eg : g = x 0 := Fin.ext (by have : (x 0).val < 128 := (x 0).isLt; omega)
    rw [idx_of x n h1]
    refine (pay3_at _ _ _ _ _ _ _ (x 0) n).trans ?_
    have hr := stretch m c t ⟨t.val - 1, Nat.lt_of_le_of_lt (Nat.sub_le _ _) t.isLt⟩ 384 inb_S512x2816_S128x2816_384_0 inb_S512x2048_S128x2048_384_0 (x 0) q hq
    rw [eg]
    exact congrArg (fun z => normed z n * B4 m c t (ix2 0 n) + B5 m c t (ix2 0 n)) hr
  · have hq : q.val = 256 + (x 0).val := h0
    have eg : g = x 0 := Fin.ext (by have : (x 0).val < 128 := (x 0).isLt; omega)
    rw [idx_of x n h1]
    refine (pay3_at _ _ _ _ _ _ _ (x 0) n).trans ?_
    have hr := stretch m c t ⟨t.val - 1, Nat.lt_of_le_of_lt (Nat.sub_le _ _) t.isLt⟩ 256 inb_S512x2816_S128x2816_256_0 inb_S512x2048_S128x2048_256_0 (x 0) q hq
    rw [eg]
    exact congrArg (fun z => normed z n * B4 m c t (ix2 0 n) + B5 m c t (ix2 0 n)) hr
  · have hq : q.val = 128 + (x 0).val := h0
    have eg : g = x 0 := Fin.ext (by have : (x 0).val < 128 := (x 0).isLt; omega)
    rw [idx_of x n h1]
    refine (pay3_at _ _ _ _ _ _ _ (x 0) n).trans ?_
    have hr := stretch m c t ⟨t.val - 1, Nat.lt_of_le_of_lt (Nat.sub_le _ _) t.isLt⟩ 128 inb_S512x2816_S128x2816_128_0 inb_S512x2048_S128x2048_128_0 (x 0) q hq
    rw [eg]
    exact congrArg (fun z => normed z n * B4 m c t (ix2 0 n) + B5 m c t (ix2 0 n)) hr
  · have hq : q.val = 0 + (x 0).val := h0.trans (Nat.zero_add _).symm
    have eg : g = x 0 := Fin.ext (by have : (x 0).val < 128 := (x 0).isLt; omega)
    rw [idx_of x n h1]
    refine (pay3_at _ _ _ _ _ _ _ (x 0) n).trans ?_
    have hr := stretch m c t ⟨t.val - 1, Nat.lt_of_le_of_lt (Nat.sub_le _ _) t.isLt⟩ 0 inb_S512x2816_S128x2816_0_0 inb_S512x2048_S128x2048_0_0 (x 0) q hq
    rw [eg]
    exact congrArg (fun z => normed z n * B4 m c t (ix2 0 n) + B5 m c t (ix2 0 n)) hr

end Cert.Proof.Sample

end
-- ==== Proof.Sample.Reads.lean ====
/-
  What the sample path's down-projection's input windows hold at a point of the grid, read off the arrays the launch is given.
-/
module

public import proofs.«01_k».proof.Proof.Sample.Block

@[expose] public section

set_option maxRecDepth 16384

noncomputable section

namespace Cert.Proof.Sample

open Cert.Kernel4Ideal Cert.Kernel4Ideal.Gen Cert.Proof.Norm
open Idealize.ShloMosaic Idealize.ShloMosaic.TcCoe Idealize.SL.Sem
open Idealize.ShloMosaic.Pipeline (Dat)

variable (m : (ℓ : Loc nD τ sig) → Buf (Elt Ideal) ℓ)

/-! ## The arrays the launch is given -/

/-- The gated product. -/
def argG (c : Dev nD) : S512x5504.Idx → Elt Ideal .bf16 := m ((c : Thread nD τ).loc main_arg0)
/-- The weight. -/
def argW (c : Dev nD) : S1x5504x2048.Idx → Elt Ideal .f32 := m ((c : Thread nD τ).loc main_arg1)
/-- The residual. -/
def argX (c : Dev nD) : S512x2048.Idx → Elt Ideal .f32 := m ((c : Thread nD τ).loc main_arg2)
/-- The modulation, six stretches of columns. -/
def argM (c : Dev nD) : S128x12288.Idx → Elt Ideal .f32 := m ((c : Thread nD τ).loc main_arg3)
/-- The norm's gain. -/
def argL (c : Dev nD) : S1x2048.Idx → Elt Ideal .f32 := m ((c : Thread nD τ).loc main_arg4)
/-- The norm's bias. -/
def argB (c : Dev nD) : S1x2048.Idx → Elt Ideal .f32 := m ((c : Thread nD τ).loc main_arg5)

/-! ## The arrays the launch finds -/

/-- The gated product, extended by columns of zeros. -/
theorem V0 (c : Dev nD) (r : Fin 512) (f : Fin 5632) : V m c main_v0 (ix2 r f) = if h : f.val < 5504 then argG m c (ix2 r ⟨f.val, h⟩) else (0 : EReal) := by
  have e : V m c main_v0 = pad (α := Elt Ideal .bf16) S512x5632 ![0, 0] ![0, 128] ![0, 0] (argG m c) (sitofp (F := Ideal) .bf16 (constantI S_ 32 0#32)) pads_S512x5504_S512x5632_000_01280 h_S_ := by
    simp only [V, hostOps0, hostOps0_1, hostOps0_2, hostOps0_3, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise
  rw [zero_cast]
/-- The weight, extended by rows of zeros. -/
theorem V3 (c : Dev nD) (f : Fin 5632) (n : Fin 2048) : V m c main_v3 (ix2 f n) = if h : f.val < 5504 then argW m c (ix3 0 ⟨f.val, h⟩ n) else (0 : EReal) := by
  have e : V m c main_v3 = pad (α := Elt Ideal .bf16) S5632x2048 ![0, 0] ![128, 0] ![0, 0] (truncf (F := Ideal) .bf16 (shapeCast (α := Elt Ideal .f32) _ (argW m c) shapeCasts_S1x5504x2048_S5504x2048) bitsLt_bf16_f32) (sitofp (F := Ideal) .bf16 (constantI S_ 32 0#32)) pads_S5504x2048_S5632x2048_01280_000 h_S_ := by
    simp only [V, hostOps0, hostOps0_1, hostOps0_2, hostOps0_3, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise
  rw [zero_cast]
/-! ## The blocks -/

/-- The block of each window at a point. -/
theorem widx : ∀ t : Fin cfg0.N, win0_0.index t = ![0, t.val % 2] ∧ win0_1.index t = ![t.val % 2, 0] ∧ win0_2.index t = ![0, 0] ∧ win0_3.index t = ![0, 5] ∧ win0_4.index t = ![0, 0] ∧ win0_5.index t = ![0, 0] ∧ win0_6.index t = ![0, 0] := by decide +kernel

theorem blk0 (c : Dev nD) (t : Fin cfg0.N) (q : Fin 512) (k : Fin 2816) (f : Fin 5632) (hf : f.val = 2816 * (t.val % 2) + k.val) :
    B0 m c t (ix2 q k) = if h : f.val < 5504 then argG m c (ix2 q ⟨f.val, h⟩) else (0 : EReal) := by
  refine Eq.trans ?_ (V0 m c q f)
  unfold B0
  blk_simp [iblk]
  blk_ext [widx t]
theorem blk1 (c : Dev nD) (t : Fin cfg0.N) (k : Fin 2816) (n : Fin 2048) (f : Fin 5632) (hf : f.val = 2816 * (t.val % 2) + k.val) :
    B1 m c t (ix2 k n) = if h : f.val < 5504 then argW m c (ix3 0 ⟨f.val, h⟩ n) else (0 : EReal) := by
  refine Eq.trans ?_ (V3 m c f n)
  unfold B1
  blk_simp [iblk]
  blk_ext [widx t]
theorem blk2 (c : Dev nD) (t : Fin cfg0.N) (q : Fin 512) (n : Fin 2048) :
    B2 m c t (ix2 q n) = argX m c (ix2 q n) := by
  refine Eq.trans ?_ (congrFun (V_main_arg2 m c) (ix2 q n))
  unfold B2
  blk_simp [iblk]
  blk_ext [widx t]
theorem blk3 (c : Dev nD) (t : Fin cfg0.N) (g : Fin 128) (n : Fin 2048) :
    B3 m c t (ix2 g n) = argM m c (ix2 g ⟨10240 + n.val, by omega⟩) := by
  refine Eq.trans ?_ (congrFun (V_main_arg3 m c) (ix2 g ⟨10240 + n.val, by omega⟩))
  unfold B3
  blk_simp [iblk]
  blk_ext [widx t]
theorem blk4 (c : Dev nD) (t : Fin cfg0.N) (n : Fin 2048) : B4 m c t (ix2 0 n) = argL m c (ix2 0 n) := by
  refine Eq.trans ?_ (congrFun (V_main_arg4 m c) (ix2 0 n))
  unfold B4
  blk_simp [iblk]
  blk_ext [widx t]
theorem blk5 (c : Dev nD) (t : Fin cfg0.N) (n : Fin 2048) : B5 m c t (ix2 0 n) = argB m c (ix2 0 n) := by
  refine Eq.trans ?_ (congrFun (V_main_arg5 m c) (ix2 0 n))
  unfold B5
  blk_simp [iblk]
  blk_ext [widx t]

end Cert.Proof.Sample

end
-- ==== Proof.Sample.Plain.lean ====
/-
  The plain down-projection of the sample path's result at coordinates.
-/
module

public import proofs.«01_k».proof.Proof.Gen.Reference4Ideal.Run
public import proofs.«01_k».proof.Proof.Norm

@[expose] public section

set_option maxRecDepth 16384

noncomputable section

namespace Cert.Proof.Sample.Plain

open Cert.Reference4Ideal Cert.Reference4Ideal.Gen Cert.Proof.Norm
open Idealize.ShloMosaic Idealize.ShloMosaic.TcCoe Idealize.SL.Sem

/-- The rows before the norm: the residual, plus the gated product. -/
def pre (G : FVec Ideal S512x5504 .bf16) (W : FVec Ideal S1x5504x2048 .f32) (X : FVec Ideal S512x2048 .f32) (M : FVec Ideal S128x12288 .f32) : FVec Ideal S128x4x2048 .f32 :=
  addf (mulf (broadcastInDim S128x4x2048 ![] bcast_S_S128x4x2048 (constant (F := Ideal) S_ .f32 0x3F9837F0#32)) (transpose S128x4x2048 [1, 0, 2] (shapeCast _ X shapeCasts_S512x2048_S4x128x2048) transposes_S4x128x2048_S128x4x2048_1_0_2)) (mulf (broadcastInDim S128x4x2048 ![0, 1, 2] bcast_S128x1x2048_S128x4x2048_0_1_2 (extractStridedSlice S128x1x2048 ![0, 0, 10240] (broadcastInDim S128x1x12288 ![0, 2] bcast_S128x12288_S128x1x12288_0_2 M) slices_S128x1x12288_S128x1x2048_0_0_10240)) (Host.dotGeneral dot_S128x4x5504_S5504x2048_S128x4x2048_2_0_01_1_n_n none (transpose S128x4x5504 [1, 0, 2] (shapeCast _ (extf .f32 G bitsLt_bf16_f32) shapeCasts_S512x5504_S4x128x5504) transposes_S4x128x5504_S128x4x5504_1_0_2) (shapeCast _ W shapeCasts_S1x5504x2048_S5504x2048)))

/-- The rows less their means. -/
def cen (P : FVec Ideal S128x4x2048 .f32) : FVec Ideal S128x4x2048 .f32 :=
  subf P (broadcastInDim S128x4x2048 ![0, 1, 2] bcast_S128x4x1_S128x4x2048_0_1_2 (Host.divf (broadcastInDim S128x4x1 ![0, 1] bcast_S128x4_S128x4x1_0_1 (Host.reduceAdd P (constant (F := Ideal) S_ .f32 0x00000000#32) reducesTo_S128x4x2048_S128x4_d2 h_S_)) (broadcastInDim S128x4x1 ![] bcast_S_S128x4x1 (constant (F := Ideal) S_ .f32 0x45000000#32))))

/-- The normalised rows, scaled and shifted. -/
def fin (C : FVec Ideal S128x4x2048 .f32) (Lg Lb : FVec Ideal S1x2048 .f32) : FVec Ideal S128x4x2048 .f32 :=
  addf (mulf (mulf C (broadcastInDim S128x4x2048 ![0, 1, 2] bcast_S128x4x1_S128x4x2048_0_1_2 (Host.rsqrt (addf (Host.divf (broadcastInDim S128x4x1 ![0, 1] bcast_S128x4_S128x4x1_0_1 (Host.reduceAdd (mulf C C) (constant (F := Ideal) S_ .f32 0x00000000#32) reducesTo_S128x4x2048_S128x4_d2 h_S_)) (broadcastInDim S128x4x1 ![] bcast_S_S128x4x1 (constant (F := Ideal) S_ .f32 0x45000000#32))) (broadcastInDim S128x4x1 ![] bcast_S_S128x4x1 (constant (F := Ideal) S_ .f32 0x3727C5AC#32)))))) (broadcastInDim S128x4x2048 ![0, 1, 2] bcast_S1x1x2048_S128x4x2048_0_1_2 (broadcastInDim S1x1x2048 ![2] bcast_S2048_S1x1x2048_2 (shapeCast _ Lg shapeCasts_S1x2048_S2048)))) (broadcastInDim S128x4x2048 ![0, 1, 2] bcast_S1x1x2048_S128x4x2048_0_1_2 (broadcastInDim S1x1x2048 ![2] bcast_S2048_S1x1x2048_2 (shapeCast _ Lb shapeCasts_S1x2048_S2048)))

/-- The result. -/
def out (G : FVec Ideal S512x5504 .bf16) (W : FVec Ideal S1x5504x2048 .f32) (X : FVec Ideal S512x2048 .f32) (M : FVec Ideal S128x12288 .f32) (Lg Lb : FVec Ideal S1x2048 .f32) : FVec Ideal S512x2048 .f32 :=
  shapeCast _ (transpose S4x128x2048 [1, 0, 2] (fin (cen (pre G W X M)) Lg Lb) transposes_S128x4x2048_S4x128x2048_1_0_2) shapeCasts_S4x128x2048_S512x2048

theorem res (m : (ℓ : Loc nD τ sig) → Buf (Elt Ideal) ℓ) (c : Dev nD) : Value.res_main_v46 m c
    = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Value.res_main_v46; rfl

theorem pre_at (G : FVec Ideal S512x5504 .bf16) (W : FVec Ideal S1x5504x2048 .f32) (X : FVec Ideal S512x2048 .f32) (M : FVec Ideal S128x12288 .f32) (s : Fin 128) (p : Fin 4) (n : Fin 2048) (r : Fin 512) (hr : r.val = 128 * p.val + s.val) :
    pre G W X M (ix3 s p n) = alpha * X (ix2 r n) + M (ix2 s ⟨10240 + n.val, by omega⟩) * ∑ k : Fin 5504, G (ix2 r k) * W (ix3 0 k n) := by
  have hb : p.val * 128 + s.val < 512 := by omega
  have e : r = ⟨p.val * 128 + s.val, hb⟩ := Fin.ext (by show r.val = p.val * 128 + s.val; omega)
  subst e
  pointwise [pre]
  rfl

theorem cen_at (P : FVec Ideal S128x4x2048 .f32) (s : Fin 128) (p : Fin 4) (n : Fin 2048) : cen P (ix3 s p n) = centred (fun x => P (ix3 s p x)) n := by
  pointwise [cen]
  rfl

theorem fin_at (C : FVec Ideal S128x4x2048 .f32) (Lg Lb : FVec Ideal S1x2048 .f32) (v : Fin 2048 → EReal) (s : Fin 128) (p : Fin 4) (n : Fin 2048) (hC : ∀ x, C (ix3 s p x) = centred v x) :
    fin C Lg Lb (ix3 s p n) = normed v n * Lg (ix2 0 n) + Lb (ix2 0 n) := by
  pointwise [fin]
  simp only [hC]
  rfl

/-- The result at a row: a time of a sequence, normalised, scaled and shifted. -/
theorem out_at (G : FVec Ideal S512x5504 .bf16) (W : FVec Ideal S1x5504x2048 .f32) (X : FVec Ideal S512x2048 .f32) (M : FVec Ideal S128x12288 .f32) (Lg Lb : FVec Ideal S1x2048 .f32)
    (s : Fin 128) (n : Fin 2048) (r : Fin 512) (hs : s.val = r.val % 128) :
    out G W X M Lg Lb (ix2 r n) = normed (fun x => alpha * X (ix2 r x) + M (ix2 s ⟨10240 + x.val, by omega⟩) * ∑ k : Fin 5504, G (ix2 r k) * W (ix3 0 k x)) n * Lg (ix2 0 n) + Lb (ix2 0 n) := by
  have hp : r.val / 128 < 4 := by omega
  have hb : r.val % 128 < 128 := by omega
  have es : s = ⟨r.val % 128, hb⟩ := Fin.ext hs
  have e : ∀ x, cen (pre G W X M) (ix3 s ⟨r.val / 128, hp⟩ x) = centred (fun x => alpha * X (ix2 r x) + M (ix2 s ⟨10240 + x.val, by omega⟩) * ∑ k : Fin 5504, G (ix2 r k) * W (ix3 0 k x)) x := fun x => by
    rw [cen_at]
    congr 1
    funext y
    exact pre_at G W X M s ⟨r.val / 128, hp⟩ y r (by show r.val = 128 * (r.val / 128) + s.val; omega)
  refine Eq.trans ?_ (fin_at _ Lg Lb _ s ⟨r.val / 128, hp⟩ n e)
  rw [es]
  pointwise [out]

end Cert.Proof.Sample.Plain

end
-- ==== Proof.Sample.Final.lean ====
/-
  The array the sample path's down-projection leaves is the plain program's result.
-/
module

public import proofs.«01_k».proof.Proof.Sample.Reads
public import proofs.«01_k».proof.Proof.Sample.Plain

@[expose] public section

set_option maxRecDepth 16384

noncomputable section

namespace Cert.Proof.Sample

open Cert.Kernel4Ideal Cert.Kernel4Ideal.Gen Cert.Proof.Norm
open Idealize.ShloMosaic Idealize.ShloMosaic.TcCoe Idealize.SL.Sem
open Idealize.ShloMosaic.Pipeline (Dat)

variable (m : (ℓ : Loc nD τ sig) → Buf (Elt Ideal) ℓ)

/-- A term of the product over the extended inner axis: zero past its end. -/
def term (c : Dev nD) (r : Fin 512) (n : Fin 2048) (f : Fin 5632) : EReal :=
  if h : f.val < 5504 then argG m c (ix2 r ⟨f.val, h⟩) * argW m c (ix3 0 ⟨f.val, h⟩ n) else 0

theorem partial_at (c : Dev nD) (t : Fin cfg0.N) (q : Fin 512) (n : Fin 2048) (k : Fin 2816) (f : Fin 5632) (hf : f.val = 2816 * (t.val % 2) + k.val) :
    B0 m c t (ix2 q k) * B1 m c t (ix2 k n) = term m c q n f := by
  rw [blk0 m c t q k f hf, blk1 m c t k n f hf]
  unfold term
  by_cases h : f.val < 5504
  · rw [dif_pos h, dif_pos h, dif_pos h]
  · rw [dif_neg h, dif_neg h, dif_neg h, mul_zero]

/-- The row that the second point normalises is the plain program's. -/
theorem row_eq (c : Dev nD) (t s : Fin cfg0.N) (h1 : t.val % 2 = 1) (hs : s.val = t.val - 1) (g : Fin 128) (q : Fin 512) :
    rowAt m c t s g q = fun x => alpha * argX m c (ix2 q x) + argM m c (ix2 g ⟨10240 + x.val, by omega⟩) * ∑ k : Fin 5504, argG m c (ix2 q k) * argW m c (ix3 0 k x) := by
  funext x
  unfold rowAt
  rw [blk2 m c t q x, blk3 m c t g x, left_first m c s (by omega)]
  congr 2
  have e1 : ∀ k : Fin 2816, B0 m c t (ix2 q k) * B1 m c t (ix2 k x) = term m c q x ⟨2816 + k.val, by omega⟩ := fun k =>
    partial_at m c t q x k _ (by rw [h1])
  have e0 : ∀ k : Fin 2816, B0 m c s (ix2 q k) * B1 m c s (ix2 k x) = term m c q x ⟨k.val, by omega⟩ := fun k =>
    partial_at m c s q x k _ (by rw [show s.val % 2 = 0 by omega]; exact (Nat.zero_add _).symm)
  simp only [e1, e0]
  rw [add_comm, ← sum_split (show 5632 = 2816 + 2816 from rfl) (term m c q x), sum_cut (show 5504 ≤ 5632 by decide) (term m c q x)]
  · refine Finset.sum_congr rfl fun k _ => ?_
    unfold term
    rw [dif_pos k.isLt]
  · intro k hk
    unfold term
    rw [dif_neg (by omega)]

/-- A row in the buffer is the result's row. -/
theorem point (c : Dev nD) (t : Fin cfg0.N) (h1 : t.val % 2 = 1) (q : Fin 512) (n : Fin 2048) :
    L m c t (ix2 q n) = Plain.out (argG m c) (argW m c) (argX m c) (argM m c) (argL m c) (argB m c) (ix2 q n) := by
  have ht : t.val < 2 := t.isLt
  have hg : q.val % 128 < 128 := by omega
  have hs : t.val - 1 < 2 := by omega
  refine (left_second m c t ⟨t.val - 1, hs⟩ h1 rfl q ⟨q.val % 128, hg⟩ rfl n).trans ?_
  rw [row_eq m c t ⟨t.val - 1, hs⟩ h1 rfl ⟨q.val % 128, hg⟩ q, blk4, blk5]
  exact (Plain.out_at (argG m c) (argW m c) (argX m c) (argM m c) (argL m c) (argB m c) ⟨q.val % 128, hg⟩ n q rfl).symm

/-- The same at the indices of the buffer and of the array. -/
theorem pointAt (c : Dev nD) (t : Fin cfg0.N) (h1 : t.val % 2 = 1) (y i : S512x2048.Idx) (h0 : (i 0).val = (y 0).val) (h2 : (i 1).val = (y 1).val) :
    L m c t y = Plain.out (argG m c) (argW m c) (argX m c) (argM m c) (argL m c) (argB m c) i := by
  have hy : y = ix2 (y 0) (y 1) := by funext a; fin_cases a <;> rfl
  have hi : i = ix2 (y 0) (y 1) := by
    funext a
    fin_cases a
    · exact Fin.ext h0
    · exact Fin.ext h2
  rw [hy, hi]
  exact point m c t h1 (y 0) (y 1)

theorem final6 (c : Dev nD) : (dats m 0 c).arrAt 6 cfg0.N = Plain.out (argG m c) (argW m c) (argX m c) (argM m c) (argL m c) (argB m c) := by
  refine (dats m 0 c).arrAt_eq_of_covers 6 _ (by decide +kernel) fun t hf y => ?_
  have h1 : t.val % 2 = 1 := by have := (flush0_6 t).mp hf; omega
  blk_simp
  rw [after0_6]
  refine pointAt m c t h1 y _ ?_ ?_
  · blk_simp [widx t]
  · blk_simp [widx t]

end Cert.Proof.Sample

end
-- ==== Proof.Sample.Algebraic.lean ====
/-
  The sample path's down-projection with its residual and norm computes the plain program's result, over the extended reals.
-/
module

public import proofs.«01_k».proof.Proof.Sample.Final
public import proofs.«01_k».proof.Proof.Sample.Frames

@[expose] public section

set_option maxRecDepth 16384

noncomputable section

namespace Cert.Proof.Sample

open Idealize.ShloMosaic Idealize.SL.Sem

theorem algebraic : Cert.algebraic_Kernel4Ideal_Reference4Ideal := by
  intro m g m' g' _ hargs
  refine ⟨fun c => Plain.out (argG m c) (argW m c) (argX m c) (argM m c) (argL m c) (argB m c),
    (θ_run Cert.Kernel4Ideal.defs _ _).mono (fun r h c => ⟨(h c).1.trans (final6 m c), (h c).2⟩) (Cert.Kernel4Ideal.Value.run_blocks (F := Ideal) m g), ?_⟩
  refine (θ_run Cert.Reference4Ideal.defs _ _).mono (fun r h c => ?_) (Cert.Reference4Ideal.Value.run (F := Ideal) m' g')
  obtain ⟨r0, ra⟩ := h c
  obtain ⟨e0, e1, e2, e3, e4, e5⟩ := hargs c
  have e0' : m' ((c.tc : Thread Cert.Reference4Ideal.nD Cert.Reference4Ideal.τ).loc Cert.Reference4Ideal.main_arg0) = argG m c := e0
  have e1' : m' ((c.tc : Thread Cert.Reference4Ideal.nD Cert.Reference4Ideal.τ).loc Cert.Reference4Ideal.main_arg1) = argW m c := e1
  have e2' : m' ((c.tc : Thread Cert.Reference4Ideal.nD Cert.Reference4Ideal.τ).loc Cert.Reference4Ideal.main_arg2) = argX m c := e2
  have e3' : m' ((c.tc : Thread Cert.Reference4Ideal.nD Cert.Reference4Ideal.τ).loc Cert.Reference4Ideal.main_arg3) = argM m c := e3
  have e4' : m' ((c.tc : Thread Cert.Reference4Ideal.nD Cert.Reference4Ideal.τ).loc Cert.Reference4Ideal.main_arg4) = argL m c := e4
  have e5' : m' ((c.tc : Thread Cert.Reference4Ideal.nD Cert.Reference4Ideal.τ).loc Cert.Reference4Ideal.main_arg5) = argB m c := e5
  refine ⟨(r0.trans (Plain.res m' c)).trans ?_, ra⟩
  rw [e0', e1', e2', e3', e4', e5']

end Cert.Proof.Sample

end
-- ==== Proof.Out.Body.lean ====
/-
  The body of the output projection at a point of the grid. The first point casts the weight into its output's buffer, from
  where every point reads it. A point multiplies its rows with the weight, adds the scaled residual and normalises, half of
  its rows at a time; the normalised rows are its block of the first result, and, normalised again and modulated, of the
  second.
-/
module

public import proofs.«01_k».proof.Proof.Whole
public import proofs.«01_k».proof.Proof.Gen.Kernel5Ideal
public import proofs.«01_k».proof.Proof.Gen.Kernel5Ideal.Skeleton
public import proofs.«01_k».proof.Proof.Gen.Kernel5Ideal.Frame
public import Idealize.ShloMosaic.Lib.Pipeline.Frame
public import Idealize.ShloMosaic.Lib.Pipeline.FrameBody
public import Idealize.ShloMosaic.Lib.Pipeline.Value
public import Idealize.ShloMosaic.Lib.Tactic

@[expose] public section

set_option maxRecDepth 16384

noncomputable section

namespace Cert.Proof.Out

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The halves of a block of rows. -/
abbrev rT : Rect S512x2048 := Rect.unit (s := S512x2048) ![0, 0] S256x2048.size inb_S512x2048_S256x2048_0_0
abbrev rB : Rect S512x2048 := Rect.unit (s := S512x2048) ![256, 0] S256x2048.size inb_S512x2048_S256x2048_256_0

/-- The row of the modulation that a point reads. -/
abbrev rM (i : grid0.Coords) (h2 : k0_cond2 i = 1#1) : Rect S8x2048 := Rect.unit (s := S8x2048) (k0_off1 i) S1x2048.size (k0_off1_inb i h2)

/-- The normalised rows of the first half: from the gate `gm`, its rows `a` and `x` of the activations and the residual, the weight, and the norm's gain and bias. -/
def xTop (gm : S1x2048.Idx → Elt F .f32) (a : S256x2048.Idx → Elt F .bf16) (w : S2048x2048.Idx → Elt F .bf16) (x : S256x2048.Idx → Elt F .f32) (lg lb : S1x2048.Idx → Elt F .f32) : FVec F S256x2048 .f32 :=
  k0_pay9 (k0_pay6 gm a w x) (k0_pay7 gm a w x) k0_pay8 lg lb
/-- Those of the second half. -/
def xBot (gm : S1x2048.Idx → Elt F .f32) (a : S256x2048.Idx → Elt F .bf16) (w : S2048x2048.Idx → Elt F .bf16) (x : S256x2048.Idx → Elt F .f32) (lg lb : S1x2048.Idx → Elt F .f32) : FVec F S256x2048 .f32 :=
  k0_pay11 (k0_pay3 gm) a w x lg lb
/-- The modulated rows of the first half, with the shift `sh` and the scale `sc`. -/
def hTop (gm sh sc : S1x2048.Idx → Elt F .f32) (a : S256x2048.Idx → Elt F .bf16) (w : S2048x2048.Idx → Elt F .bf16) (x : S256x2048.Idx → Elt F .f32) (lg lb : S1x2048.Idx → Elt F .f32) : FVec F S256x2048 .bf16 :=
  k0_pay10 (k0_pay4 sh) (k0_pay5 sc) (k0_pay6 gm a w x) (k0_pay7 gm a w x) k0_pay8 lg lb
/-- Those of the second half. -/
def hBot (gm sh sc : S1x2048.Idx → Elt F .f32) (a : S256x2048.Idx → Elt F .bf16) (w : S2048x2048.Idx → Elt F .bf16) (x : S256x2048.Idx → Elt F .f32) (lg lb : S1x2048.Idx → Elt F .f32) : FVec F S256x2048 .bf16 :=
  k0_pay2 (k0_pay4 sh) (k0_pay5 sc) (k0_pay11 (k0_pay3 gm) a w x lg lb) (k0_pay12 (k0_pay3 gm) a w x lg lb)

/-- A block of the first result, the two halves one under the other; -/
def xBlock (gm : S1x2048.Idx → Elt F .f32) (A : S512x2048.Idx → Elt F .bf16) (w : S2048x2048.Idx → Elt F .bf16) (X : S512x2048.Idx → Elt F .f32) (lg lb : S1x2048.Idx → Elt F .f32) : S512x2048.Idx → Elt F .f32 :=
  View.canon [⟨rB, xBot gm (View.ld A rB) w (View.ld X rB) lg lb⟩, ⟨rT, xTop gm (View.ld A rT) w (View.ld X rT) lg lb⟩]
/-- and of the second. -/
def hBlock (gm sh sc : S1x2048.Idx → Elt F .f32) (A : S512x2048.Idx → Elt F .bf16) (w : S2048x2048.Idx → Elt F .bf16) (X : S512x2048.Idx → Elt F .f32) (lg lb : S1x2048.Idx → Elt F .f32) : S512x2048.Idx → Elt F .bf16 :=
  View.canon [⟨rB, hBot gm sh sc (View.ld A rB) w (View.ld X rB) lg lb⟩, ⟨rT, hTop gm sh sc (View.ld A rT) w (View.ld X rT) lg lb⟩]

/-- The halves cover the block of rows. -/
theorem cover {e : EltTy} (w0 w1 : S256x2048.Idx → Elt F e) (y : S512x2048.Idx) :
    ∃ p ∈ ([⟨rB, w1⟩, ⟨rT, w0⟩] : List (View.Piece (Elt F) S512x2048 e)), y ∈ p.1.set := by
  have h0 : (y 0).val < 512 := (y 0).isLt
  have h1 : (y 1).val < 2048 := (y 1).isLt
  have key : ∀ (o : Nat) (inb), o ≤ (y 0).val → (y 0).val < o + 256 → y ∈ (Rect.unit (s := S512x2048) ![o, 0] S256x2048.size inb).set := by
    intro o inb ha hb
    refine Rect.mem_set_unit.mpr fun a => ?_
    fin_cases a
    · exact ⟨ha, hb⟩
    · exact ⟨Nat.zero_le _, by simpa using h1⟩
  by_cases hA : (y 0).val < 256
  · exact ⟨⟨rT, w0⟩, by simp, key 0 inb_S512x2048_S256x2048_0_0 (by omega) (by omega)⟩
  · exact ⟨⟨rB, w1⟩, by simp, key 256 inb_S512x2048_S256x2048_256_0 (by omega) (by omega)⟩

set_option maxHeartbeats 1000000 in
/-- The first point of the grid: the weight is cast and kept. -/
theorem body_first (c : Dev nD) (i : grid0.Coords) (h1 : k0_cond1 i = 1#1) (h2 : k0_cond2 i = 1#1)
    (arg2 : Memref sig .tc .vmem S512x2048 .bf16) (harg2 : arg2.IsWhole) (arg3 : Memref sig .tc .vmem S2048x2048 .f32) (harg3 : arg3.IsWhole) (arg4 : Memref sig .tc .vmem S512x2048 .f32) (harg4 : arg4.IsWhole) (arg5 : Memref sig .tc .vmem S8x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S8x2048 .f32) (harg8 : arg8.IsWhole) (arg9 : Memref sig .tc .vmem S8x2048 .f32) (harg9 : arg9.IsWhole) (arg10 : Memref sig .tc .vmem S512x2048 .f32) (harg10 : arg10.IsWhole) (arg11 : Memref sig .tc .vmem S512x2048 .bf16) (harg11 : arg11.IsWhole) (arg12 : Memref sig .tc .vmem S2048x2048 .bf16) (harg12 : arg12.IsWhole)
    (X0 : S512x2048.Idx → Elt F .bf16) (X1 : S2048x2048.Idx → Elt F .f32) (X2 : S512x2048.Idx → Elt F .f32) (X3 : S8x2048.Idx → Elt F .f32) (X4 X5 : S1x2048.Idx → Elt F .f32) (X6 X7 : S8x2048.Idx → Elt F .f32)
    (Q : PUnit → sProp 𝕄) :
    iprop(owns (c : Thread nD τ) arg2 fullShare X0 ∗ owns (c : Thread nD τ) arg3 fullShare X1 ∗ owns (c : Thread nD τ) arg4 fullShare X2 ∗ owns (c : Thread nD τ) arg5 fullShare X3 ∗ owns (c : Thread nD τ) arg6 fullShare X4 ∗ owns (c : Thread nD τ) arg7 fullShare X5 ∗ owns (c : Thread nD τ) arg8 fullShare X6 ∗ owns (c : Thread nD τ) arg9 fullShare X7
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare X0 ∗ owns (c : Thread nD τ) arg3 fullShare X1 ∗ owns (c : Thread nD τ) arg4 fullShare X2 ∗ owns (c : Thread nD τ) arg5 fullShare X3 ∗ owns (c : Thread nD τ) arg6 fullShare X4 ∗ owns (c : Thread nD τ) arg7 fullShare X5 ∗ owns (c : Thread nD τ) arg8 fullShare X6 ∗ owns (c : Thread nD τ) arg9 fullShare X7
            ∗ owns (c : Thread nD τ) arg10 fullShare (xBlock (View.ld X3 (rM i h2)) X0 (k0_pay1 X1) X2 X4 X5)
            ∗ owns (c : Thread nD τ) arg11 fullShare (hBlock (View.ld X3 (rM i h2)) (View.ld X6 (rM i h2)) (View.ld X7 (rM i h2)) X0 (k0_pay1 X1) X2 X4 X5)
            ∗ owns (c : Thread nD τ) arg12 fullShare (k0_pay1 X1)) -∗ Q ⟨⟩))
      ⊢ wp frame (wpE (defs₀ (F := F)) Variants.none c none) Set.univ (cc0_res_block i arg2 harg2 arg3 harg3 arg4 harg4 arg5 harg5 arg6 harg6 arg7 harg7 arg8 harg8 arg9 harg9 arg10 harg10 arg11 harg11 arg12 harg12) Q := by
  simp only [cc0_res_block_eq_skeleton]; unfold cc0_res_block_skel
  simp only [k0_part1_eq_skeleton, k0_part2_eq_skeleton, k0_part3_eq_skeleton]
  unfold k0_part1_skel k0_part2_skel k0_part3_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf2 hf3 hf4 hf5 hf6 hf7 hf8 hf9
  sl_exec
  sl_unfold_run_names
  simp only [View.readCov_cons_toLoadRect, readAt_whole (S := S2048x2048) _ _ zero2, readAt_whole (S := S1x2048) _ _ zero2, View.readAt_eq_ld]
  rw [wp_ret]; imodintro
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; exact View.read_writes_eq_canon _ _ _ (cover _ _)
  isplitl [H11]
  · iexists _; isplitr; swap; · iexact H11
    ipureintro; exact View.read_writes_eq_canon _ _ _ (cover _ _)
  iexists _; isplitr; swap; · iexact H12
  ipureintro; exact read_store_whole _ _ zero2 _ _ _

set_option maxHeartbeats 1000000 in
/-- A later point, from the cast weight `W` that the first one kept. -/
theorem body_later (c : Dev nD) (i : grid0.Coords) (h1 : ¬ k0_cond1 i = 1#1) (h2 : k0_cond2 i = 1#1)
    (arg2 : Memref sig .tc .vmem S512x2048 .bf16) (harg2 : arg2.IsWhole) (arg3 : Memref sig .tc .vmem S2048x2048 .f32) (harg3 : arg3.IsWhole) (arg4 : Memref sig .tc .vmem S512x2048 .f32) (harg4 : arg4.IsWhole) (arg5 : Memref sig .tc .vmem S8x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S8x2048 .f32) (harg8 : arg8.IsWhole) (arg9 : Memref sig .tc .vmem S8x2048 .f32) (harg9 : arg9.IsWhole) (arg10 : Memref sig .tc .vmem S512x2048 .f32) (harg10 : arg10.IsWhole) (arg11 : Memref sig .tc .vmem S512x2048 .bf16) (harg11 : arg11.IsWhole) (arg12 : Memref sig .tc .vmem S2048x2048 .bf16) (harg12 : arg12.IsWhole)
    (X0 : S512x2048.Idx → Elt F .bf16) (X1 : S2048x2048.Idx → Elt F .f32) (X2 : S512x2048.Idx → Elt F .f32) (X3 : S8x2048.Idx → Elt F .f32) (X4 X5 : S1x2048.Idx → Elt F .f32) (X6 X7 : S8x2048.Idx → Elt F .f32) (W : S2048x2048.Idx → Elt F .bf16)
    (Q : PUnit → sProp 𝕄) :
    iprop(owns (c : Thread nD τ) arg2 fullShare X0 ∗ owns (c : Thread nD τ) arg3 fullShare X1 ∗ owns (c : Thread nD τ) arg4 fullShare X2 ∗ owns (c : Thread nD τ) arg5 fullShare X3 ∗ owns (c : Thread nD τ) arg6 fullShare X4 ∗ owns (c : Thread nD τ) arg7 fullShare X5 ∗ owns (c : Thread nD τ) arg8 fullShare X6 ∗ owns (c : Thread nD τ) arg9 fullShare X7
        ∗ (∃ d, owns (c : Thread nD τ) arg10 fullShare d) ∗ (∃ d, owns (c : Thread nD τ) arg11 fullShare d) ∗ owns (c : Thread nD τ) arg12 fullShare W
        ∗ (iprop(owns (c : Thread nD τ) arg2 fullShare X0 ∗ owns (c : Thread nD τ) arg3 fullShare X1 ∗ owns (c : Thread nD τ) arg4 fullShare X2 ∗ owns (c : Thread nD τ) arg5 fullShare X3 ∗ owns (c : Thread nD τ) arg6 fullShare X4 ∗ owns (c : Thread nD τ) arg7 fullShare X5 ∗ owns (c : Thread nD τ) arg8 fullShare X6 ∗ owns (c : Thread nD τ) arg9 fullShare X7
            ∗ owns (c : Thread nD τ) arg10 fullShare (xBlock (View.ld X3 (rM i h2)) X0 W X2 X4 X5)
            ∗ owns (c : Thread nD τ) arg11 fullShare (hBlock (View.ld X3 (rM i h2)) (View.ld X6 (rM i h2)) (View.ld X7 (rM i h2)) X0 W X2 X4 X5)
            ∗ owns (c : Thread nD τ) arg12 fullShare W) -∗ Q ⟨⟩))
      ⊢ wp frame (wpE (defs₀ (F := F)) Variants.none c none) Set.univ (cc0_res_block i arg2 harg2 arg3 harg3 arg4 harg4 arg5 harg5 arg6 harg6 arg7 harg7 arg8 harg8 arg9 harg9 arg10 harg10 arg11 harg11 arg12 harg12) Q := by
  simp only [cc0_res_block_eq_skeleton]; unfold cc0_res_block_skel
  simp only [k0_part1_eq_skeleton, k0_part2_eq_skeleton, k0_part3_eq_skeleton]
  unfold k0_part1_skel k0_part2_skel k0_part3_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, Hk⟩
  subst hf2 hf3 hf4 hf5 hf6 hf7 hf8 hf9 hf12
  sl_exec
  sl_unfold_run_names
  simp only [readAt_whole (S := S2048x2048) _ _ zero2, readAt_whole (S := S1x2048) _ _ zero2, View.readAt_eq_ld]
  rw [wp_ret]; imodintro
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; exact View.read_writes_eq_canon _ _ _ (cover _ _)
  isplitl [H11]
  · iexists _; isplitr; swap; · iexact H11
    ipureintro; exact View.read_writes_eq_canon _ _ _ (cover _ _)
  iexists _; isplitr; swap; · iexact H12
  ipureintro; rfl

end Cert.Proof.Out

end
-- ==== Proof.Out.Run.lean ====
/-
  The run of the output projection: what every window's buffer holds at each of the sixteen points of the grid, the body's
  obligation there, and the whole launch from it.
-/
module

public import proofs.«01_k».proof.Proof.Out.Body
public import proofs.«01_k».proof.Proof.Gen.Kernel5Ideal.Points
public import Idealize.ShloMosaic.Lib.Pipeline.TableIdle

@[expose] public section

set_option maxRecDepth 16384

noncomputable section

namespace Cert.Proof.Out

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

/-- The weight is cast at the first point, -/
theorem first_iff : ∀ t : Fin cfg0.N, k0_cond1 (cfg0.grid.coords t) = 1#1 ↔ t.val = 0 := by decide +kernel
/-- and every point is the last of its sum. -/
theorem always : ∀ t : Fin cfg0.N, k0_cond2 (cfg0.grid.coords t) = 1#1 := by decide +kernel
/-- The two results are stored at every point, -/
theorem idle8 : ∀ t : Fin cfg0.N, cfg0.idle 8 (cfg0.grid.coords t) = false := by decide +kernel
theorem idle9 : ∀ t : Fin cfg0.N, cfg0.idle 9 (cfg0.grid.coords t) = false := by decide +kernel
/-- the cast weight at the first. -/
theorem idle10 : ∀ t : Fin cfg0.N, cfg0.idle 10 (cfg0.grid.coords t) = decide (t.val ≠ 0) := by decide +kernel

/-! ## What the points leave -/

/-- The first point. -/
def start : Fin cfg0.N := ⟨0, by decide⟩

/-- The cast weight, which every point finds. -/
def ws (c : Dev nD) : S2048x2048.Idx → Elt F .bf16 := k0_pay1 (iblk m c 1 start : S2048x2048.Idx → Elt F .f32)

theorem ws_first (c : Dev nD) (t : Fin cfg0.N) (h : t.val = 0) : ws m c = k0_pay1 (iblk m c 1 t : S2048x2048.Idx → Elt F .f32) := by
  have e : t = start := Fin.ext h
  subst e
  rfl

/-- The gate that a point reads, -/
def gmAt (c : Dev nD) (t : Fin cfg0.N) : S1x2048.Idx → Elt F .f32 := View.ld (iblk m c 3 t : S8x2048.Idx → Elt F .f32) (rM (cfg0.grid.coords t) (always t))
/-- the shift -/
def shAt (c : Dev nD) (t : Fin cfg0.N) : S1x2048.Idx → Elt F .f32 := View.ld (iblk m c 6 t : S8x2048.Idx → Elt F .f32) (rM (cfg0.grid.coords t) (always t))
/-- and the scale. -/
def scAt (c : Dev nD) (t : Fin cfg0.N) : S1x2048.Idx → Elt F .f32 := View.ld (iblk m c 7 t : S8x2048.Idx → Elt F .f32) (rM (cfg0.grid.coords t) (always t))

/-- The block of the first result -/
def xs (c : Dev nD) (t : Fin cfg0.N) : S512x2048.Idx → Elt F .f32 :=
  xBlock (gmAt m c t) (iblk m c 0 t : S512x2048.Idx → Elt F .bf16) (ws m c) (iblk m c 2 t : S512x2048.Idx → Elt F .f32) (iblk m c 4 t : S1x2048.Idx → Elt F .f32) (iblk m c 5 t : S1x2048.Idx → Elt F .f32)
/-- and of the second. -/
def hs (c : Dev nD) (t : Fin cfg0.N) : S512x2048.Idx → Elt F .bf16 :=
  hBlock (gmAt m c t) (shAt m c t) (scAt m c t) (iblk m c 0 t : S512x2048.Idx → Elt F .bf16) (ws m c) (iblk m c 2 t : S512x2048.Idx → Elt F .f32) (iblk m c 4 t : S1x2048.Idx → Elt F .f32) (iblk m c 5 t : S1x2048.Idx → Elt F .f32)

/-- What the body leaves in each window's buffer. -/
def left (c : Dev nD) : (w : Fin cfg0.W) → Fin cfg0.N → (cfg0.win w).block.Idx → Elt F (cfg0.win w).elt
  | ⟨0, _⟩ => fun t => iblk m c 0 t
  | ⟨1, _⟩ => fun t => iblk m c 1 t
  | ⟨2, _⟩ => fun t => iblk m c 2 t
  | ⟨3, _⟩ => fun t => iblk m c 3 t
  | ⟨4, _⟩ => fun t => iblk m c 4 t
  | ⟨5, _⟩ => fun t => iblk m c 5 t
  | ⟨6, _⟩ => fun t => iblk m c 6 t
  | ⟨7, _⟩ => fun t => iblk m c 7 t
  | ⟨8, _⟩ => fun t => xs m c t
  | ⟨9, _⟩ => fun t => hs m c t
  | ⟨10, _⟩ => fun _ => ws m c
  | ⟨_ + 11, h⟩ => absurd h (Nat.not_lt.2 (Nat.le_add_left _ _))

/-- The launch's data: the arrays as the region finds them and what the body leaves. -/
def dats (p : Fin 1) (c : Dev nD) : Dat τ (Elt F) Unit ℕ (UR sig nD τ) ℕ (cfgs p) c :=
  match p with
  | ⟨0, _⟩ =>
    { A := fun w => V m c (Pipeline.arrRef spec0 w)
      after := left m c
      Φ := fun _ => Pipeline.ΦA spec0 c
      q := fun w => Pipeline.shareOf spec0 w
      owed := fun _ => 0 }

/-! ## What the body finds -/

theorem before0 (c : Dev nD) (t : Fin cfg0.N) (d) : (dats m 0 c).before 0 t d = iblk m c 0 t := before0_0_of m (dats m 0 c) rfl (fun _ => rfl) t d
theorem before1 (c : Dev nD) (t : Fin cfg0.N) (d) : (dats m 0 c).before 1 t d = iblk m c 1 t := before0_1_of m (dats m 0 c) rfl (fun _ => rfl) t d
theorem before2 (c : Dev nD) (t : Fin cfg0.N) (d) : (dats m 0 c).before 2 t d = iblk m c 2 t := before0_2_of m (dats m 0 c) rfl (fun _ => rfl) t d
theorem before3 (c : Dev nD) (t : Fin cfg0.N) (d) : (dats m 0 c).before 3 t d = iblk m c 3 t := before0_3_of m (dats m 0 c) rfl (fun _ => rfl) t d
theorem before4 (c : Dev nD) (t : Fin cfg0.N) (d) : (dats m 0 c).before 4 t d = iblk m c 4 t := before0_4_of m (dats m 0 c) rfl (fun _ => rfl) t d
theorem before5 (c : Dev nD) (t : Fin cfg0.N) (d) : (dats m 0 c).before 5 t d = iblk m c 5 t := before0_5_of m (dats m 0 c) rfl (fun _ => rfl) t d
theorem before6 (c : Dev nD) (t : Fin cfg0.N) (d) : (dats m 0 c).before 6 t d = iblk m c 6 t := before0_6_of m (dats m 0 c) rfl (fun _ => rfl) t d
theorem before7 (c : Dev nD) (t : Fin cfg0.N) (d) : (dats m 0 c).before 7 t d = iblk m c 7 t := before0_7_of m (dats m 0 c) rfl (fun _ => rfl) t d

/-- The cast weight's buffer is fresh at the first point only. -/
theorem fresh10 (n : ℕ) (h : n ≤ cfg0.N) : cfg0.fresh 10 n = decide (n % 16 = 0) :=
  Pipeline.Cfg.fresh_tab (cfg := cfg0) 10 (fun n => decide (n % 16 = 0)) rfl (by decide +kernel) n h

attribute [local irreducible] ws in
/-- After the first point it holds the cast weight. -/
theorem before10 (c : Dev nD) (t : Fin cfg0.N) (h : t.val ≠ 0) (d) : (dats m 0 c).before 10 t d = ws m c := by
  have ht : t.val < 16 := t.isLt
  have hm : t.val % 16 ≠ 0 := by omega
  rw [(dats m 0 c).before_out_traj 10 rfl (fun _ _ => rfl) (fun _ _ _ _ => rfl) t.val t rfl d, fresh10 _ t.isLt.le, if_neg (by simpa using hm)]
  rfl

/-! ## What the body hands back -/

/-- A buffer left at what the data say is what the obligation asks of a window. -/
theorem leaves_of (c : Dev nD) (w : Fin cfg0.W) (t : Fin cfg0.N) (hl : cfg0.loose w = false) (hi : cfg0.idle w (cfg0.grid.coords t) = false ∨ (cfg0.win w).flush t = true
      ∨ ∃ d, (dats m 0 c).before w t d = left m c w t) :
    owns (c : Thread nD τ) ((cfg0.win w).stage (cfg0.slots t w)) fullShare (left m c w t) ⊢ ((dats m 0 c).leaves w t : sProp 𝕄) := by
  unfold Dat.leaves
  rw [hl]
  cases h1 : cfg0.idle w (cfg0.grid.coords t)
  · exact .rfl
  · cases h2 : (cfg0.win w).flush t
    · obtain ⟨d, hd⟩ := (hi.resolve_left (by rw [h1]; decide)).resolve_left (by rw [h2]; decide)
      iintro H; iexists d; rw [hd]; iexact H
    · exact .rfl

/-! ## The body's obligation -/

/-- The body's row of the launch is the body at the point. -/
theorem row_eq (t : Fin cfg0.N) : defs₀ (F := F) .tc cfg0.body (cfg0.bodyArgs t (cfg0.slots t)) = bodyAt0 t := by
  unfold defs₀; rw [Defs.onTc_tc]

/-- The first point. -/
theorem obligation_first (c : Dev nD) (t : Fin cfg0.N) (h : t.val = 0) :
    iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d)))
      ⊢ wp frame (wpE (defs₀ (F := F)) Variants.none c none) Set.univ (defs₀ (F := F) .tc cfg0.body (cfg0.bodyArgs t (cfg0.slots t))) fun _ =>
          iprop((dats m 0 c).Φ t.succ ∗ (dats m 0 c).owesAt () t.succ ∗ bigSep Finset.univ fun w : Fin cfg0.W => ((dats m 0 c).leaves w t : sProp 𝕄)) := by
  rw [bigSep_W0, bigSep_W0, row_eq]
  rw [show (dats m 0 c).Φ t.succ = (dats m 0 c).Φ t.castSucc from rfl,
    show (dats m 0 c).owesAt () t.succ = (dats m 0 c).owesAt () t.castSucc from rfl]
  iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before0 m c t d0, before1 m c t d1, before2 m c t d2, before3 m c t d3, before4 m c t d4, before5 m c t d5, before6 m c t d6, before7 m c t d7]
  iapply (body_first c (grid0.coords t) ((first_iff t).mpr h) (always t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10))
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HS]; · iexact HS
  isplitl [Ho]; · iexact Ho
  isplitl [H0]; · iapply (leaves_of m c 0 t rfl (.inl rfl)); iexact H0
  isplitl [H1]; · iapply (leaves_of m c 1 t rfl (.inl rfl)); iexact H1
  isplitl [H2]; · iapply (leaves_of m c 2 t rfl (.inl rfl)); iexact H2
  isplitl [H3]; · iapply (leaves_of m c 3 t rfl (.inl rfl)); iexact H3
  isplitl [H4]; · iapply (leaves_of m c 4 t rfl (.inl rfl)); iexact H4
  isplitl [H5]; · iapply (leaves_of m c 5 t rfl (.inl rfl)); iexact H5
  isplitl [H6]; · iapply (leaves_of m c 6 t rfl (.inl rfl)); iexact H6
  isplitl [H7]; · iapply (leaves_of m c 7 t rfl (.inl rfl)); iexact H7
  rw [← ws_first m c t h]
  isplitl [H8]; · iapply (leaves_of m c 8 t rfl (.inl (idle8 t))); iexact H8
  isplitl [H9]; · iapply (leaves_of m c 9 t rfl (.inl (idle9 t))); iexact H9
  iapply (leaves_of m c 10 t rfl (.inl (by rw [idle10]; simpa using h))); iexact H10

/-- A later point. -/
theorem obligation_later (c : Dev nD) (t : Fin cfg0.N) (h : t.val ≠ 0) :
    iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d)))
      ⊢ wp frame (wpE (defs₀ (F := F)) Variants.none c none) Set.univ (defs₀ (F := F) .tc cfg0.body (cfg0.bodyArgs t (cfg0.slots t))) fun _ =>
          iprop((dats m 0 c).Φ t.succ ∗ (dats m 0 c).owesAt () t.succ ∗ bigSep Finset.univ fun w : Fin cfg0.W => ((dats m 0 c).leaves w t : sProp 𝕄)) := by
  rw [bigSep_W0, bigSep_W0, row_eq]
  rw [show (dats m 0 c).Φ t.succ = (dats m 0 c).Φ t.castSucc from rfl,
    show (dats m 0 c).owesAt () t.succ = (dats m 0 c).owesAt () t.castSucc from rfl]
  iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before0 m c t d0, before1 m c t d1, before2 m c t d2, before3 m c t d3, before4 m c t d4, before5 m c t d5, before6 m c t d6, before7 m c t d7, before10 m c t h d10]
  iapply (body_later c (grid0.coords t) (fun e => h ((first_iff t).mp e)) (always t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10))
    (iblk m c 0 t) (iblk m c 1 t) (iblk m c 2 t) (iblk m c 3 t) (iblk m c 4 t) (iblk m c 5 t) (iblk m c 6 t) (iblk m c 7 t) (ws m c) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  iintro ⟨H0, H1, H2, H3, H4, H5, H6, H7, H8, H9, H10⟩
  isplitl [HS]; · iexact HS
  isplitl [Ho]; · iexact Ho
  isplitl [H0]; · iapply (leaves_of m c 0 t rfl (.inl rfl)); iexact H0
  isplitl [H1]; · iapply (leaves_of m c 1 t rfl (.inl rfl)); iexact H1
  isplitl [H2]; · iapply (leaves_of m c 2 t rfl (.inl rfl)); iexact H2
  isplitl [H3]; · iapply (leaves_of m c 3 t rfl (.inl rfl)); iexact H3
  isplitl [H4]; · iapply (leaves_of m c 4 t rfl (.inl rfl)); iexact H4
  isplitl [H5]; · iapply (leaves_of m c 5 t rfl (.inl rfl)); iexact H5
  isplitl [H6]; · iapply (leaves_of m c 6 t rfl (.inl rfl)); iexact H6
  isplitl [H7]; · iapply (leaves_of m c 7 t rfl (.inl rfl)); iexact H7
  isplitl [H8]; · iapply (leaves_of m c 8 t rfl (.inl (idle8 t))); iexact H8
  isplitl [H9]; · iapply (leaves_of m c 9 t rfl (.inl (idle9 t))); iexact H9
  iapply (leaves_of m c 10 t rfl (.inr (.inr ⟨left m c 10 t, before10 m c t h _⟩))); iexact H10

/-- The body's obligation at every point. -/
theorem body_obligation (c : Dev nD) : BodyObligationLoose (dats m 0 c) (defs₀ (F := F)) Variants.none () Set.univ := fun t => by
  by_cases h : t.val = 0
  · exact obligation_first m c t h
  · exact obligation_later m c t h

set_option backward.isDefEq.respectTransparency.types false in
/-- The launch: every window's array ends as the run of the grid leaves it, and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared cfgs (dats m) 0 launch₀0 defs₀ Variants.none m ρ main (body_obligation m)
    (fun _ _ _ => rfl) (fun _ _ => rfl) (V m) (hmain m Variants.none) (fun _ _ => rfl) (fun _ => .rfl) (fun _ => .rfl)
    (Q' := _) (hQ' := fun _ h => h)

/-- The arguments end as they were. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  θ_run_with_sems (frame_of m ρ (dats m) (fun _ _ => rfl)) (run_main m ρ)

end Cert.Proof.Out

end
-- ==== Proof.Out.Frames.lean ====
/-
  The three programs of the output projection run and leave their arguments as they were.
-/
module

public import proofs.«01_k».proof.Defs
public import proofs.«01_k».proof.Proof.Gen.Kernel5
public import proofs.«01_k».proof.Proof.Gen.Reference5Ideal.Run
public import proofs.«01_k».proof.Proof.Out.Run

@[expose] public section

noncomputable section

namespace Cert.Proof.Out

open Idealize.ShloMosaic Idealize.SL.Sem

/-- The two printings of the kernel have the same body. -/
theorem bodies_eq : Cert.Kernel5.defs₀ (F := Bits) = Cert.Kernel5Ideal.defs₀ (F := Bits) := by
  unfold Cert.Kernel5.defs₀ Cert.Kernel5Ideal.defs₀
  refine congrArg Defs.onTc (funext fun ℓ => funext fun a => ?_)
  match ℓ, a with
  | ⟨0, _⟩, (t, s) => rfl
  | ⟨_ + 1, h⟩, _ => exact absurd h (Nat.not_lt.2 (Nat.le_add_left _ _))

theorem defs_eq : Cert.Kernel5.defs (F := Bits) = Cert.Kernel5Ideal.defs (F := Bits) :=
  congrArg (Pipeline.defs Cert.Kernel5Ideal.pcfgs) bodies_eq

/-- The kernel at the bits: the same run, read there. -/
theorem frame_kernel : Cert.quiescent_Kernel5 := fun m ρ _ => by
  rw [defs_eq]
  exact frame_main (F := Bits) m ρ

/-- The kernel at the ideal instance. -/
theorem frame_kernelIdeal : Cert.quiescent_Kernel5Ideal := fun m ρ _ => frame_main (F := Ideal) m ρ

/-- The reference leaves its arguments as they were, and declares no semaphore. -/
theorem frame_reference : Cert.quiescent_Reference5Ideal := fun m ρ _ =>
  (θ_run Cert.Reference5Ideal.defs _ _).mono
    (fun r h => ⟨fun c => (h c).2.2.2, Idealize.ShloMosaic.sem_eq_zero_of_no_sems (by decide) r.2⟩)
    (Cert.Reference5Ideal.Value.run (F := Ideal) m ρ)

end Cert.Proof.Out

end
-- ==== Proof.Out.Rows.lean ====
/-
  The output projection's blocks at coordinates: the normalised rows, and these normalised again and modulated.
-/
module

public import proofs.«01_k».proof.Proof.Out.Run
public import proofs.«01_k».proof.Proof.Norm
public import Idealize.ShloMosaic.Lib.Pipeline.ValueKit

@[expose] public section

set_option maxRecDepth 16384

noncomputable section

namespace Cert.Proof.Out

open Cert.Kernel5Ideal Cert.Kernel5Ideal.Gen Cert.Proof.Norm
open Idealize.ShloMosaic Idealize.ShloMosaic.TcCoe Idealize.SL.Sem
open Idealize.ShloMosaic.Pipeline (Dat)

/-! ## A half -/

/-- A row before it is normalised: the residual, plus the gated product. -/
def rowOf {R : ℕ} (gm : S1x2048.Idx → Elt Ideal .f32) (a : (⟨2, ![R, 2048]⟩ : Shape).Idx → Elt Ideal .bf16) (w : S2048x2048.Idx → Elt Ideal .bf16) (x : (⟨2, ![R, 2048]⟩ : Shape).Idx → Elt Ideal .f32) (p : Fin R) (n : Fin 2048) : EReal :=
  alpha * x (ix2 p n) + gm (ix2 0 n) * ∑ k : Fin 2048, a (ix2 p k) * w (ix2 k n)

/-- The normalised row, with the norm's gain and bias. -/
def xRow {R : ℕ} (gm : S1x2048.Idx → Elt Ideal .f32) (a : (⟨2, ![R, 2048]⟩ : Shape).Idx → Elt Ideal .bf16) (w : S2048x2048.Idx → Elt Ideal .bf16) (x : (⟨2, ![R, 2048]⟩ : Shape).Idx → Elt Ideal .f32) (lg lb : S1x2048.Idx → Elt Ideal .f32) (p : Fin R) (n : Fin 2048) : EReal :=
  normed (rowOf gm a w x p) n * lg (ix2 0 n) + lb (ix2 0 n)

/-- The halves are computed alike. -/
theorem xTop_eq : @xTop Ideal _ = @xBot Ideal _ := rfl
theorem hTop_eq : @hTop Ideal _ = @hBot Ideal _ := rfl

theorem xBot_at (gm : S1x2048.Idx → Elt Ideal .f32) (a : S256x2048.Idx → Elt Ideal .bf16) (w : S2048x2048.Idx → Elt Ideal .bf16) (x : S256x2048.Idx → Elt Ideal .f32) (lg lb : S1x2048.Idx → Elt Ideal .f32) (p : Fin 256) (n : Fin 2048) :
    xBot gm a w x lg lb (ix2 p n) = xRow gm a w x lg lb p n := by
  pointwise [xBot, k0_pay11, k0_pay3]
  rfl

theorem hBot_at (gm sh sc : S1x2048.Idx → Elt Ideal .f32) (a : S256x2048.Idx → Elt Ideal .bf16) (w : S2048x2048.Idx → Elt Ideal .bf16) (x : S256x2048.Idx → Elt Ideal .f32) (lg lb : S1x2048.Idx → Elt Ideal .f32) (p : Fin 256) (n : Fin 2048) :
    hBot gm sh sc a w x lg lb (ix2 p n) = modulated (xRow gm a w x lg lb p) (fun k => sh (ix2 0 k)) (fun k => sc (ix2 0 k)) n := by
  have h : ∀ k, k0_pay11 (F := Ideal) (k0_pay3 gm) a w x lg lb (ix2 p k) = xRow gm a w x lg lb p k := xBot_at gm a w x lg lb p
  unfold hBot k0_pay12
  generalize k0_pay11 (F := Ideal) (k0_pay3 gm) a w x lg lb = z at h ⊢
  pointwise [k0_pay2, k0_pay4, k0_pay5]
  simp only [h]
  rfl

/-! ## A block -/

/-- A half's row is the block's. -/
theorem half (gm : S1x2048.Idx → Elt Ideal .f32) (A : S512x2048.Idx → Elt Ideal .bf16) (w : S2048x2048.Idx → Elt Ideal .bf16) (X : S512x2048.Idx → Elt Ideal .f32) (lg lb : S1x2048.Idx → Elt Ideal .f32)
    (o : ℕ) (inb) (p : Fin 256) (q : Fin 512) (hq : q.val = o + p.val) :
    xRow (R := 256) gm (View.ld A (Rect.unit (s := S512x2048) ![o, 0] S256x2048.size inb)) w (View.ld X (Rect.unit (s := S512x2048) ![o, 0] S256x2048.size inb)) lg lb p
      = xRow (R := 512) gm A w X lg lb q := by
  have hr : rowOf (R := 256) gm (View.ld A (Rect.unit (s := S512x2048) ![o, 0] S256x2048.size inb)) w (View.ld X (Rect.unit (s := S512x2048) ![o, 0] S256x2048.size inb)) p
      = rowOf (R := 512) gm A w X q := by
    funext n
    unfold rowOf
    rw [ld_at X _ _ p n q n hq (Nat.zero_add _).symm]
    simp only [fun k => ld_at A ![o, 0] inb p k q k hq (Nat.zero_add _).symm]
  funext n
  unfold xRow
  rw [hr]

/-- An index of a matrix whose second coordinate is known. -/
theorem idx_of {A B : ℕ} (x : (⟨2, ![A, B]⟩ : Shape).Idx) (k : Fin B) (h : k.val = (x 1).val) : x = ix2 (x 0) k := by
  funext a
  fin_cases a
  · rfl
  · exact Fin.ext h.symm

theorem xBlock_at (gm : S1x2048.Idx → Elt Ideal .f32) (A : S512x2048.Idx → Elt Ideal .bf16) (w : S2048x2048.Idx → Elt Ideal .bf16) (X : S512x2048.Idx → Elt Ideal .f32) (lg lb : S1x2048.Idx → Elt Ideal .f32) (q : Fin 512) (n : Fin 2048) :
    xBlock gm A w X lg lb (ix2 q n) = xRow gm A w X lg lb q n := by
  unfold xBlock
  rw [xTop_eq]
  canon_tiles x h
  all_goals
    rw [idx_of x n h1]
    refine (xBot_at _ _ _ _ _ _ (x 0) n).trans ?_
    exact congrFun (half gm A w X lg lb _ _ (x 0) q (by first | exact h0 | exact h0.trans (Nat.zero_add _).symm)) n

theorem hBlock_at (gm sh sc : S1x2048.Idx → Elt Ideal .f32) (A : S512x2048.Idx → Elt Ideal .bf16) (w : S2048x2048.Idx → Elt Ideal .bf16) (X : S512x2048.Idx → Elt Ideal .f32) (lg lb : S1x2048.Idx → Elt Ideal .f32) (q : Fin 512) (n : Fin 2048) :
    hBlock gm sh sc A w X lg lb (ix2 q n) = modulated (xRow gm A w X lg lb q) (fun k => sh (ix2 0 k)) (fun k => sc (ix2 0 k)) n := by
  unfold hBlock
  rw [hTop_eq]
  canon_tiles x h
  all_goals
    rw [idx_of x n h1]
    refine (hBot_at _ _ _ _ _ _ _ _ (x 0) n).trans ?_
    exact congrArg (fun v => modulated v (fun k => sh (ix2 0 k)) (fun k => sc (ix2 0 k)) n) (half gm A w X lg lb _ _ (x 0) q (by first | exact h0 | exact h0.trans (Nat.zero_add _).symm))

end Cert.Proof.Out

end
-- ==== Proof.Out.Reads.lean ====
/-
  What the output projection's input windows hold at a point of the grid, read off the arrays the launch is given.
-/
module

public import proofs.«01_k».proof.Proof.Out.Rows

@[expose] public section

set_option maxRecDepth 16384

noncomputable section

namespace Cert.Proof.Out

open Cert.Kernel5Ideal Cert.Kernel5Ideal.Gen Cert.Proof.Norm
open Idealize.ShloMosaic Idealize.ShloMosaic.TcCoe Idealize.SL.Sem
open Idealize.ShloMosaic.Pipeline (Dat)

variable (m : (ℓ : Loc nD τ sig) → Buf (Elt Ideal) ℓ)

/-! ## The arrays the launch is given -/

/-- The activations. -/
def argA (c : Dev nD) : S8192x2048.Idx → Elt Ideal .bf16 := m ((c : Thread nD τ).loc main_arg0)
/-- The weight. -/
def argW (c : Dev nD) : S1x2048x2048.Idx → Elt Ideal .f32 := m ((c : Thread nD τ).loc main_arg1)
/-- The residual. -/
def argX (c : Dev nD) : S4x2048x2048.Idx → Elt Ideal .f32 := m ((c : Thread nD τ).loc main_arg2)
/-- The modulation, six stretches of columns. -/
def argM (c : Dev nD) : S4x12288.Idx → Elt Ideal .f32 := m ((c : Thread nD τ).loc main_arg3)
/-- The norm's gain. -/
def argL (c : Dev nD) : S1x2048.Idx → Elt Ideal .f32 := m ((c : Thread nD τ).loc main_arg4)
/-- The norm's bias. -/
def argB (c : Dev nD) : S1x2048.Idx → Elt Ideal .f32 := m ((c : Thread nD τ).loc main_arg5)

/-! ## The arrays the launch finds -/

/-- The weight, without its leading axis. -/
theorem V0 (c : Dev nD) (k n : Fin 2048) : V m c main_v0 (ix2 k n) = argW m c (ix3 0 k n) := by
  have e : V m c main_v0 = shapeCast (α := Elt Ideal .f32) _ (argW m c) shapeCasts_S1x2048x2048_S2048x2048 := by
    simp only [V, hostOps0, hostOps0_1, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise
/-- The residual, a row per token. -/
theorem V1 (c : Dev nD) (r : Fin 8192) (n : Fin 2048) (s : Fin 4) (p : Fin 2048) (hr : 2048 * s.val + p.val = r.val) : V m c main_v1 (ix2 r n) = argX m c (ix3 s p n) := by
  have hp : r.val % 2048 < 2048 := by omega
  have hb : r.val / 2048 < 4 := by omega
  have es : s = ⟨r.val / 2048, hb⟩ := Fin.ext (by show s.val = r.val / 2048; omega)
  have ep : p = ⟨r.val % 2048, hp⟩ := Fin.ext (by show p.val = r.val % 2048; omega)
  have e : V m c main_v1 = shapeCast (α := Elt Ideal .f32) _ (argX m c) shapeCasts_S4x2048x2048_S8192x2048 := by
    simp only [V, hostOps0, hostOps0_1, List.flatten_cons, List.flatten_nil, List.append_nil, List.cons_append, List.nil_append, StableHlo.TRef.binary, StableHlo.TRef.unary, StableHlo.TRef.toBuf, StableHlo.TRef.ofBuf, cast_eq]
    after_results_simp <;> rfl
  rw [e, es, ep]
  pointwise
/-- The modulation, its rows extended by zeros. -/
theorem V2 (c : Dev nD) (s : Fin 8) (f : Fin 12288) (h : s.val < 4) : V m c main_v2 (ix2 s f) = argM m c (ix2 ⟨s.val, h⟩ f) := by
  have e : V m c main_v2 = pad (α := Elt Ideal .f32) S8x12288 ![0, 0] ![4, 0] ![0, 0] (argM m c) (sitofp (F := Ideal) .f32 (constantI S_ 32 0#32)) pads_S4x12288_S8x12288_040_000 h_S_ := by
    simp only [V, hostOps0, hostOps0_1, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise
  rw [dif_pos h]

/-! ## The blocks -/

/-- The block of each window at a point. -/
theorem widx : ∀ t : Fin cfg0.N, win0_0.index t = ![t.val, 0] ∧ win0_1.index t = ![0, 0] ∧ win0_2.index t = ![t.val, 0] ∧ win0_3.index t = ![0, 2] ∧ win0_4.index t = ![0, 0] ∧ win0_5.index t = ![0, 0] ∧ win0_6.index t = ![0, 3] ∧ win0_7.index t = ![0, 4]
    ∧ win0_8.index t = ![t.val, 0] ∧ win0_9.index t = ![t.val, 0] ∧ win0_10.index t = ![0, 0] := by decide +kernel

/-- The row of the modulation that a point reads. -/
theorem modrow : ∀ t : Fin cfg0.N, k0_off1 (grid0.coords t) = ![t.val / 4, 0] := by decide +kernel

theorem blk0 (c : Dev nD) (t : Fin cfg0.N) (q : Fin 512) (k : Fin 2048) (r : Fin 8192) (hr : r.val = 512 * t.val + q.val) :
    (iblk m c 0 t : S512x2048.Idx → Elt Ideal .bf16) (ix2 q k) = argA m c (ix2 r k) := by
  refine Eq.trans ?_ (congrFun (V_main_arg0 m c) (ix2 r k))
  blk_simp [iblk]
  blk_ext [widx t]
theorem blk1 (c : Dev nD) (t : Fin cfg0.N) (k n : Fin 2048) : (iblk m c 1 t : S2048x2048.Idx → Elt Ideal .f32) (ix2 k n) = argW m c (ix3 0 k n) := by
  refine Eq.trans ?_ (V0 m c k n)
  blk_simp [iblk]
  blk_ext [widx t]
theorem blk2 (c : Dev nD) (t : Fin cfg0.N) (q : Fin 512) (n : Fin 2048) (s : Fin 4) (p : Fin 2048) (hr : 2048 * s.val + p.val = 512 * t.val + q.val) :
    (iblk m c 2 t : S512x2048.Idx → Elt Ideal .f32) (ix2 q n) = argX m c (ix3 s p n) := by
  have hb : 512 * t.val + q.val < 8192 := by omega
  refine Eq.trans ?_ (V1 m c ⟨512 * t.val + q.val, hb⟩ n s p hr)
  blk_simp [iblk]
  blk_ext [widx t]
theorem blk3 (c : Dev nD) (t : Fin cfg0.N) (g : Fin 8) (n : Fin 2048) (s : Fin 4) (hs : s.val = g.val) :
    (iblk m c 3 t : S8x2048.Idx → Elt Ideal .f32) (ix2 g n) = argM m c (ix2 s ⟨4096 + n.val, by omega⟩) := by
  have hb : g.val < 4 := by omega
  have es : s = ⟨g.val, hb⟩ := Fin.ext hs
  rw [es]
  refine Eq.trans ?_ (V2 m c g ⟨4096 + n.val, by omega⟩ hb)
  blk_simp [iblk]
  blk_ext [widx t]
theorem blk6 (c : Dev nD) (t : Fin cfg0.N) (g : Fin 8) (n : Fin 2048) (s : Fin 4) (hs : s.val = g.val) :
    (iblk m c 6 t : S8x2048.Idx → Elt Ideal .f32) (ix2 g n) = argM m c (ix2 s ⟨6144 + n.val, by omega⟩) := by
  have hb : g.val < 4 := by omega
  have es : s = ⟨g.val, hb⟩ := Fin.ext hs
  rw [es]
  refine Eq.trans ?_ (V2 m c g ⟨6144 + n.val, by omega⟩ hb)
  blk_simp [iblk]
  blk_ext [widx t]
theorem blk7 (c : Dev nD) (t : Fin cfg0.N) (g : Fin 8) (n : Fin 2048) (s : Fin 4) (hs : s.val = g.val) :
    (iblk m c 7 t : S8x2048.Idx → Elt Ideal .f32) (ix2 g n) = argM m c (ix2 s ⟨8192 + n.val, by omega⟩) := by
  have hb : g.val < 4 := by omega
  have es : s = ⟨g.val, hb⟩ := Fin.ext hs
  rw [es]
  refine Eq.trans ?_ (V2 m c g ⟨8192 + n.val, by omega⟩ hb)
  blk_simp [iblk]
  blk_ext [widx t]
theorem blk4 (c : Dev nD) (t : Fin cfg0.N) (n : Fin 2048) : (iblk m c 4 t : S1x2048.Idx → Elt Ideal .f32) (ix2 0 n) = argL m c (ix2 0 n) := by
  refine Eq.trans ?_ (congrFun (V_main_arg4 m c) (ix2 0 n))
  blk_simp [iblk]
  blk_ext [widx t]
theorem blk5 (c : Dev nD) (t : Fin cfg0.N) (n : Fin 2048) : (iblk m c 5 t : S1x2048.Idx → Elt Ideal .f32) (ix2 0 n) = argB m c (ix2 0 n) := by
  refine Eq.trans ?_ (congrFun (V_main_arg5 m c) (ix2 0 n))
  blk_simp [iblk]
  blk_ext [widx t]

/-! ## The modulation's row -/

/-- The gate that a point reads. -/
theorem gm_at (c : Dev nD) (t : Fin cfg0.N) (s : Fin 4) (hs : s.val = t.val / 4) (n : Fin 2048) : gmAt m c t (ix2 0 n) = argM m c (ix2 s ⟨4096 + n.val, by omega⟩) := by
  have ht : t.val < 16 := t.isLt
  have hg : t.val / 4 < 8 := by omega
  refine Eq.trans ?_ (blk3 m c t ⟨t.val / 4, hg⟩ n s hs)
  exact ld_at (A := 8) (B := 2048) (a := 1) (b := 2048) _ (k0_off1 (grid0.coords t)) _ 0 n ⟨t.val / 4, hg⟩ n (by rw [modrow t]; rfl) (by rw [modrow t]; exact (Nat.zero_add _).symm)

/-- The shift that a point reads. -/
theorem sh_at (c : Dev nD) (t : Fin cfg0.N) (s : Fin 4) (hs : s.val = t.val / 4) (n : Fin 2048) : shAt m c t (ix2 0 n) = argM m c (ix2 s ⟨6144 + n.val, by omega⟩) := by
  have ht : t.val < 16 := t.isLt
  have hg : t.val / 4 < 8 := by omega
  refine Eq.trans ?_ (blk6 m c t ⟨t.val / 4, hg⟩ n s hs)
  exact ld_at (A := 8) (B := 2048) (a := 1) (b := 2048) _ (k0_off1 (grid0.coords t)) _ 0 n ⟨t.val / 4, hg⟩ n (by rw [modrow t]; rfl) (by rw [modrow t]; exact (Nat.zero_add _).symm)

/-- The scale that a point reads. -/
theorem sc_at (c : Dev nD) (t : Fin cfg0.N) (s : Fin 4) (hs : s.val = t.val / 4) (n : Fin 2048) : scAt m c t (ix2 0 n) = argM m c (ix2 s ⟨8192 + n.val, by omega⟩) := by
  have ht : t.val < 16 := t.isLt
  have hg : t.val / 4 < 8 := by omega
  refine Eq.trans ?_ (blk7 m c t ⟨t.val / 4, hg⟩ n s hs)
  exact ld_at (A := 8) (B := 2048) (a := 1) (b := 2048) _ (k0_off1 (grid0.coords t)) _ 0 n ⟨t.val / 4, hg⟩ n (by rw [modrow t]; rfl) (by rw [modrow t]; exact (Nat.zero_add _).symm)

/-- The cast weight. -/
theorem ws_at (c : Dev nD) (k n : Fin 2048) : ws m c (ix2 k n) = argW m c (ix3 0 k n) := by
  refine Eq.trans ?_ (blk1 m c start k n)
  unfold ws
  pointwise [k0_pay1]

end Cert.Proof.Out

end
-- ==== Proof.Out.Plain.lean ====
/-
  The plain output projection's three results at coordinates.
-/
module

public import proofs.«01_k».proof.Proof.Gen.Reference5Ideal.Run
public import proofs.«01_k».proof.Proof.Norm

@[expose] public section

set_option maxRecDepth 16384

noncomputable section

namespace Cert.Proof.Out.Plain

open Cert.Reference5Ideal Cert.Reference5Ideal.Gen Cert.Proof.Norm
open Idealize.ShloMosaic Idealize.ShloMosaic.TcCoe Idealize.SL.Sem

/-- The rows before the norm: the residual, plus the gated product. -/
def pre (A : FVec Ideal S8192x2048 .bf16) (W : FVec Ideal S1x2048x2048 .f32) (X : FVec Ideal S4x2048x2048 .f32) (M : FVec Ideal S4x12288 .f32) : FVec Ideal S4x2048x2048 .f32 :=
  addf (mulf (broadcastInDim S4x2048x2048 ![] bcast_S_S4x2048x2048 (constant (F := Ideal) S_ .f32 0x3F9837F0#32)) X) (mulf (broadcastInDim S4x2048x2048 ![0, 1, 2] bcast_S4x1x2048_S4x2048x2048_0_1_2 (extractStridedSlice S4x1x2048 ![0, 0, 4096] (broadcastInDim S4x1x12288 ![0, 2] bcast_S4x12288_S4x1x12288_0_2 M) slices_S4x1x12288_S4x1x2048_0_0_4096)) (Host.dotGeneral dot_S4x2048x2048_S2048x2048_S4x2048x2048_2_0_01_1_n_n none (shapeCast _ (extf .f32 A bitsLt_bf16_f32) shapeCasts_S8192x2048_S4x2048x2048) (shapeCast _ W shapeCasts_S1x2048x2048_S2048x2048)))

/-- The rows less their means. -/
def cen (P : FVec Ideal S4x2048x2048 .f32) : FVec Ideal S4x2048x2048 .f32 :=
  subf P (broadcastInDim S4x2048x2048 ![0, 1, 2] bcast_S4x2048x1_S4x2048x2048_0_1_2 (Host.divf (broadcastInDim S4x2048x1 ![0, 1] bcast_S4x2048_S4x2048x1_0_1 (Host.reduceAdd P (constant (F := Ideal) S_ .f32 0x00000000#32) reducesTo_S4x2048x2048_S4x2048_d2 h_S_)) (broadcastInDim S4x2048x1 ![] bcast_S_S4x2048x1 (constant (F := Ideal) S_ .f32 0x45000000#32))))

/-- The normalised rows, scaled and shifted. -/
def fin (C : FVec Ideal S4x2048x2048 .f32) (Lg Lb : FVec Ideal S1x2048 .f32) : FVec Ideal S4x2048x2048 .f32 :=
  addf (mulf (mulf C (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf C C) (constant (F := Ideal) S_ .f32 0x00000000#32) reducesTo_S4x2048x2048_S4x2048_d2 h_S_)) (broadcastInDim S4x2048x1 ![] bcast_S_S4x2048x1 (constant (F := Ideal) S_ .f32 0x45000000#32))) (broadcastInDim S4x2048x1 ![] bcast_S_S4x2048x1 (constant (F := Ideal) S_ .f32 0x3727C5AC#32)))))) (broadcastInDim S4x2048x2048 ![0, 1, 2] bcast_S1x1x2048_S4x2048x2048_0_1_2 (broadcastInDim S1x1x2048 ![2] bcast_S2048_S1x1x2048_2 (shapeCast _ Lg shapeCasts_S1x2048_S2048)))) (broadcastInDim S4x2048x2048 ![0, 1, 2] bcast_S1x1x2048_S4x2048x2048_0_1_2 (broadcastInDim S1x1x2048 ![2] bcast_S2048_S1x1x2048_2 (shapeCast _ Lb shapeCasts_S1x2048_S2048)))

/-- The modulated rows, from the centred ones. -/
def md (C : FVec Ideal S4x2048x2048 .f32) (M : FVec Ideal S4x12288 .f32) : FVec Ideal S4x2048x2048 .f32 :=
  addf (mulf (mulf C (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf C C) (constant (F := Ideal) S_ .f32 0x00000000#32) reducesTo_S4x2048x2048_S4x2048_d2 h_S_)) (broadcastInDim S4x2048x1 ![] bcast_S_S4x2048x1 (constant (F := Ideal) S_ .f32 0x45000000#32))) (broadcastInDim S4x2048x1 ![] bcast_S_S4x2048x1 (constant (F := Ideal) S_ .f32 0x3727C5AC#32)))))) (broadcastInDim S4x2048x2048 ![0, 1, 2] bcast_S4x1x2048_S4x2048x2048_0_1_2 (addf (broadcastInDim S4x1x2048 ![] bcast_S_S4x1x2048 (constant (F := Ideal) S_ .f32 0x3F800000#32)) (extractStridedSlice S4x1x2048 ![0, 0, 8192] (broadcastInDim S4x1x12288 ![0, 2] bcast_S4x12288_S4x1x12288_0_2 M) slices_S4x1x12288_S4x1x2048_0_0_8192)))) (broadcastInDim S4x2048x2048 ![0, 1, 2] bcast_S4x1x2048_S4x2048x2048_0_1_2 (extractStridedSlice S4x1x2048 ![0, 0, 6144] (broadcastInDim S4x1x12288 ![0, 2] bcast_S4x12288_S4x1x12288_0_2 M) slices_S4x1x12288_S4x1x2048_0_0_6144))

/-- The first result. -/
def out0 (A : FVec Ideal S8192x2048 .bf16) (W : FVec Ideal S1x2048x2048 .f32) (X : FVec Ideal S4x2048x2048 .f32) (M : FVec Ideal S4x12288 .f32) (Lg Lb : FVec Ideal S1x2048 .f32) : FVec Ideal S8192x2048 .f32 :=
  shapeCast _ (fin (cen (pre A W X M)) Lg Lb) shapeCasts_S4x2048x2048_S8192x2048

/-- The second. -/
def out1 (A : FVec Ideal S8192x2048 .bf16) (W : FVec Ideal S1x2048x2048 .f32) (X : FVec Ideal S4x2048x2048 .f32) (M : FVec Ideal S4x12288 .f32) (Lg Lb : FVec Ideal S1x2048 .f32) : FVec Ideal S8192x2048 .bf16 :=
  truncf .bf16 (shapeCast _ (md (cen (fin (cen (pre A W X M)) Lg Lb)) M) shapeCasts_S4x2048x2048_S8192x2048) bitsLt_bf16_f32

/-- The third: the weight. -/
def out2 (W : FVec Ideal S1x2048x2048 .f32) : FVec Ideal S2048x2048 .bf16 :=
  truncf .bf16 (shapeCast _ W shapeCasts_S1x2048x2048_S2048x2048) bitsLt_bf16_f32

theorem res0 (m : (ℓ : Loc nD τ sig) → Buf (Elt Ideal) ℓ) (c : Dev nD) : Value.res_main_v66 m c
    = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Value.res_main_v66; rfl

theorem res1 (m : (ℓ : Loc nD τ sig) → Buf (Elt Ideal) ℓ) (c : Dev nD) : Value.res_main_v68 m c
    = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Value.res_main_v68; rfl

theorem pre_at (A : FVec Ideal S8192x2048 .bf16) (W : FVec Ideal S1x2048x2048 .f32) (X : FVec Ideal S4x2048x2048 .f32) (M : FVec Ideal S4x12288 .f32) (s : Fin 4) (p n : Fin 2048) (r : Fin 8192) (hr : r.val = 2048 * s.val + p.val) :
    pre A W X M (ix3 s p n) = alpha * X (ix3 s p n) + M (ix2 s ⟨4096 + n.val, by omega⟩) * ∑ k : Fin 2048, A (ix2 r k) * W (ix3 0 k n) := by
  have hb : s.val * 2048 + p.val < 8192 := by omega
  have e : r = ⟨s.val * 2048 + p.val, hb⟩ := Fin.ext (by show r.val = s.val * 2048 + p.val; omega)
  subst e
  pointwise [pre]
  rfl

theorem cen_at (P : FVec Ideal S4x2048x2048 .f32) (s : Fin 4) (p n : Fin 2048) : cen P (ix3 s p n) = centred (fun x => P (ix3 s p x)) n := by
  pointwise [cen]
  rfl

theorem fin_at (C : FVec Ideal S4x2048x2048 .f32) (Lg Lb : FVec Ideal S1x2048 .f32) (v : Fin 2048 → EReal) (s : Fin 4) (p n : Fin 2048) (hC : ∀ x, C (ix3 s p x) = centred v x) :
    fin C Lg Lb (ix3 s p n) = normed v n * Lg (ix2 0 n) + Lb (ix2 0 n) := by
  pointwise [fin]
  simp only [hC]
  rfl

theorem md_at (C : FVec Ideal S4x2048x2048 .f32) (M : FVec Ideal S4x12288 .f32) (v : Fin 2048 → EReal) (s : Fin 4) (p n : Fin 2048) (hC : ∀ x, C (ix3 s p x) = centred v x) :
    md C M (ix3 s p n) = modulated v (fun k => M (ix2 s ⟨6144 + k.val, by omega⟩)) (fun k => M (ix2 s ⟨8192 + k.val, by omega⟩)) n := by
  pointwise [md]
  simp only [hC]
  rfl

/-- A token's row of the first result. -/
def row (A : FVec Ideal S8192x2048 .bf16) (W : FVec Ideal S1x2048x2048 .f32) (X : FVec Ideal S4x2048x2048 .f32) (M : FVec Ideal S4x12288 .f32) (Lg Lb : FVec Ideal S1x2048 .f32) (s : Fin 4) (p : Fin 2048) (r : Fin 8192) (n : Fin 2048) : EReal :=
  normed (fun x => alpha * X (ix3 s p x) + M (ix2 s ⟨4096 + x.val, by omega⟩) * ∑ k : Fin 2048, A (ix2 r k) * W (ix3 0 k x)) n * Lg (ix2 0 n) + Lb (ix2 0 n)

theorem row_at (A : FVec Ideal S8192x2048 .bf16) (W : FVec Ideal S1x2048x2048 .f32) (X : FVec Ideal S4x2048x2048 .f32) (M : FVec Ideal S4x12288 .f32) (Lg Lb : FVec Ideal S1x2048 .f32) (s : Fin 4) (p n : Fin 2048) (r : Fin 8192) (hr : r.val = 2048 * s.val + p.val) :
    fin (cen (pre A W X M)) Lg Lb (ix3 s p n) = row A W X M Lg Lb s p r n :=
  fin_at _ Lg Lb _ s p n fun x => (cen_at _ s p x).trans (congrArg (fun v => centred v x) (funext fun y => pre_at A W X M s p y r hr))

theorem out0_at (A : FVec Ideal S8192x2048 .bf16) (W : FVec Ideal S1x2048x2048 .f32) (X : FVec Ideal S4x2048x2048 .f32) (M : FVec Ideal S4x12288 .f32) (Lg Lb : FVec Ideal S1x2048 .f32) (s : Fin 4) (p n : Fin 2048) (r : Fin 8192) (hr : r.val = 2048 * s.val + p.val) :
    out0 A W X M Lg Lb (ix2 r n) = row A W X M Lg Lb s p r n := by
  have hp : r.val % 2048 < 2048 := by omega
  have hb : r.val / 2048 < 4 := by omega
  have es : s = ⟨r.val / 2048, hb⟩ := Fin.ext (by show s.val = r.val / 2048; omega)
  have ep : p = ⟨r.val % 2048, hp⟩ := Fin.ext (by show p.val = r.val % 2048; omega)
  refine Eq.trans ?_ (row_at A W X M Lg Lb s p n r hr)
  rw [es, ep]
  unfold out0
  generalize fin (cen (pre A W X M)) Lg Lb = H
  pointwise

theorem out1_at (A : FVec Ideal S8192x2048 .bf16) (W : FVec Ideal S1x2048x2048 .f32) (X : FVec Ideal S4x2048x2048 .f32) (M : FVec Ideal S4x12288 .f32) (Lg Lb : FVec Ideal S1x2048 .f32) (s : Fin 4) (p n : Fin 2048) (r : Fin 8192) (hr : r.val = 2048 * s.val + p.val) :
    out1 A W X M Lg Lb (ix2 r n) = modulated (row A W X M Lg Lb s p r) (fun k => M (ix2 s ⟨6144 + k.val, by omega⟩)) (fun k => M (ix2 s ⟨8192 + k.val, by omega⟩)) n := by
  have hp : r.val % 2048 < 2048 := by omega
  have hb : r.val / 2048 < 4 := by omega
  have es : s = ⟨r.val / 2048, hb⟩ := Fin.ext (by show s.val = r.val / 2048; omega)
  have ep : p = ⟨r.val % 2048, hp⟩ := Fin.ext (by show p.val = r.val % 2048; omega)
  have h : ∀ x, cen (fin (cen (pre A W X M)) Lg Lb) (ix3 s p x) = centred (row A W X M Lg Lb s p r) x := fun x =>
    (cen_at _ s p x).trans (congrArg (fun v => centred v x) (funext fun y => row_at A W X M Lg Lb s p y r hr))
  refine Eq.trans ?_ (md_at _ M _ s p n h)
  rw [es, ep]
  unfold out1
  generalize md (cen (fin (cen (pre A W X M)) Lg Lb)) M = H
  pointwise

theorem out2_at (W : FVec Ideal S1x2048x2048 .f32) (k n : Fin 2048) : out2 W (ix2 k n) = W (ix3 0 k n) := by
  pointwise [out2]

end Cert.Proof.Out.Plain

end
-- ==== Proof.Out.Final.lean ====
/-
  The arrays the output projection leaves are the plain program's results.
-/
module

public import proofs.«01_k».proof.Proof.Out.Reads
public import proofs.«01_k».proof.Proof.Out.Plain

@[expose] public section

set_option maxRecDepth 16384

noncomputable section

namespace Cert.Proof.Out

open Cert.Kernel5Ideal Cert.Kernel5Ideal.Gen Cert.Proof.Norm
open Idealize.ShloMosaic Idealize.ShloMosaic.TcCoe Idealize.SL.Sem
open Idealize.ShloMosaic.Pipeline (Dat)

variable (m : (ℓ : Loc nD τ sig) → Buf (Elt Ideal) ℓ)

/-- The row that a point normalises is the plain program's. -/
theorem xRow_eq (c : Dev nD) (t : Fin cfg0.N) (q : Fin 512) (s : Fin 4) (p : Fin 2048) (r : Fin 8192) (h0 : r.val = 512 * t.val + q.val) (hr : r.val = 2048 * s.val + p.val) :
    xRow (R := 512) (gmAt m c t) (iblk m c 0 t : S512x2048.Idx → Elt Ideal .bf16) (ws m c) (iblk m c 2 t : S512x2048.Idx → Elt Ideal .f32) (iblk m c 4 t : S1x2048.Idx → Elt Ideal .f32) (iblk m c 5 t : S1x2048.Idx → Elt Ideal .f32) q
      = Plain.row (argA m c) (argW m c) (argX m c) (argM m c) (argL m c) (argB m c) s p r := by
  have hs : s.val = t.val / 4 := by omega
  funext n
  unfold xRow Plain.row
  rw [blk4 m c t n, blk5 m c t n]
  refine congrArg (fun v => normed v n * argL m c (ix2 0 n) + argB m c (ix2 0 n)) (funext fun x => ?_)
  unfold rowOf
  rw [blk2 m c t q x s p (hr.symm.trans h0), gm_at m c t s hs x]
  simp only [fun k => blk0 m c t q k r h0, fun k => ws_at m c k x]

/-- A point's blocks are the results' rows. -/
theorem point8 (c : Dev nD) (t : Fin cfg0.N) (q : Fin 512) (n : Fin 2048) (r : Fin 8192) (h0 : r.val = 512 * t.val + q.val) :
    xs m c t (ix2 q n) = Plain.out0 (argA m c) (argW m c) (argX m c) (argM m c) (argL m c) (argB m c) (ix2 r n) := by
  have hs : r.val / 2048 < 4 := by omega
  have hp : r.val % 2048 < 2048 := by omega
  have hr : r.val = 2048 * (r.val / 2048) + r.val % 2048 := by omega
  unfold xs
  rw [xBlock_at, xRow_eq m c t q ⟨r.val / 2048, hs⟩ ⟨r.val % 2048, hp⟩ r h0 hr]
  exact (Plain.out0_at (argA m c) (argW m c) (argX m c) (argM m c) (argL m c) (argB m c) ⟨r.val / 2048, hs⟩ ⟨r.val % 2048, hp⟩ n r hr).symm

theorem point9 (c : Dev nD) (t : Fin cfg0.N) (q : Fin 512) (n : Fin 2048) (r : Fin 8192) (h0 : r.val = 512 * t.val + q.val) :
    hs m c t (ix2 q n) = Plain.out1 (argA m c) (argW m c) (argX m c) (argM m c) (argL m c) (argB m c) (ix2 r n) := by
  have hb : r.val / 2048 < 4 := by omega
  have hp : r.val % 2048 < 2048 := by omega
  have hr : r.val = 2048 * (r.val / 2048) + r.val % 2048 := by omega
  have ht : r.val / 2048 = t.val / 4 := by omega
  unfold hs
  rw [hBlock_at, xRow_eq m c t q ⟨r.val / 2048, hb⟩ ⟨r.val % 2048, hp⟩ r h0 hr]
  simp only [sh_at m c t ⟨r.val / 2048, hb⟩ ht, sc_at m c t ⟨r.val / 2048, hb⟩ ht]
  exact (Plain.out1_at (argA m c) (argW m c) (argX m c) (argM m c) (argL m c) (argB m c) ⟨r.val / 2048, hb⟩ ⟨r.val % 2048, hp⟩ n r hr).symm

/-- The same at the indices of the buffers and of the arrays. -/
theorem point8At (c : Dev nD) (t : Fin cfg0.N) (y : S512x2048.Idx) (i : S8192x2048.Idx) (h0 : (i 0).val = 512 * t.val + (y 0).val) (h1 : (i 1).val = (y 1).val) :
    xs m c t y = Plain.out0 (argA m c) (argW m c) (argX m c) (argM m c) (argL m c) (argB m c) i := by
  have hi : i = ix2 (i 0) (y 1) := idx_of i (y 1) h1.symm
  rw [idx_of y (y 1) rfl, hi]
  exact point8 m c t (y 0) (y 1) (i 0) h0

theorem point9At (c : Dev nD) (t : Fin cfg0.N) (y : S512x2048.Idx) (i : S8192x2048.Idx) (h0 : (i 0).val = 512 * t.val + (y 0).val) (h1 : (i 1).val = (y 1).val) :
    hs m c t y = Plain.out1 (argA m c) (argW m c) (argX m c) (argM m c) (argL m c) (argB m c) i := by
  have hi : i = ix2 (i 0) (y 1) := idx_of i (y 1) h1.symm
  rw [idx_of y (y 1) rfl, hi]
  exact point9 m c t (y 0) (y 1) (i 0) h0

theorem point10At (c : Dev nD) (y i : S2048x2048.Idx) (h0 : (i 0).val = (y 0).val) (h1 : (i 1).val = (y 1).val) :
    ws m c y = Plain.out2 (argW m c) i := by
  have e : i = y := by
    funext a
    fin_cases a
    · exact Fin.ext h0
    · exact Fin.ext h1
  subst e
  have hi : i = ix2 (i 0) (i 1) := idx_of i (i 1) rfl
  rw [hi]
  exact (ws_at m c (i 0) (i 1)).trans (Plain.out2_at (argW m c) (i 0) (i 1)).symm

attribute [local irreducible] xs hs ws Plain.out0 Plain.out1 Plain.out2

theorem final8 (c : Dev nD) : (dats m 0 c).arrAt 8 cfg0.N = Plain.out0 (argA m c) (argW m c) (argX m c) (argM m c) (argL m c) (argB m c) := by
  refine (dats m 0 c).arrAt_eq_of_covers 8 _ (by decide +kernel) fun t hf y => ?_
  blk_simp
  refine point8At m c t y _ ?_ ?_
  · blk_simp [widx t]
    omega
  · blk_simp [widx t]

theorem final9 (c : Dev nD) : (dats m 0 c).arrAt 9 cfg0.N = Plain.out1 (argA m c) (argW m c) (argX m c) (argM m c) (argL m c) (argB m c) := by
  refine (dats m 0 c).arrAt_eq_of_covers 9 _ (by decide +kernel) fun t hf y => ?_
  blk_simp
  refine point9At m c t y _ ?_ ?_
  · blk_simp [widx t]
    omega
  · blk_simp [widx t]

theorem final10 (c : Dev nD) : (dats m 0 c).arrAt 10 cfg0.N = Plain.out2 (argW m c) := by
  refine (dats m 0 c).arrAt_eq_of_covers 10 _ (by decide +kernel) fun t hf y => ?_
  blk_simp
  refine point10At m c y _ ?_ ?_
  · blk_simp [widx t]
  · blk_simp [widx t]

end Cert.Proof.Out

end
-- ==== Proof.Out.Algebraic.lean ====
/-
  The output projection with its residual and norms computes the plain program's three results, over the extended reals.
-/
module

public import proofs.«01_k».proof.Proof.Out.Final
public import proofs.«01_k».proof.Proof.Out.Frames

@[expose] public section

set_option maxRecDepth 16384

noncomputable section

namespace Cert.Proof.Out

open Idealize.ShloMosaic Idealize.SL.Sem

/-- The run of the kernel, its results by name. -/
theorem run_kernel (m : (ℓ : Loc Cert.Kernel5Ideal.nD Cert.Kernel5Ideal.τ Cert.Kernel5Ideal.sig) → Buf (Elt Ideal) ℓ) (g : Dev Cert.Kernel5Ideal.nD → PrngReg) :
    θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
      r.2.mem ((c.tc : Thread Cert.Kernel5Ideal.nD Cert.Kernel5Ideal.τ).loc Cert.Kernel5Ideal.main_v3_0) = Plain.out0 (argA m c) (argW m c) (argX m c) (argM m c) (argL m c) (argB m c)
      ∧ r.2.mem ((c.tc : Thread Cert.Kernel5Ideal.nD Cert.Kernel5Ideal.τ).loc Cert.Kernel5Ideal.main_v3_1) = Plain.out1 (argA m c) (argW m c) (argX m c) (argM m c) (argL m c) (argB m c)
      ∧ r.2.mem ((c.tc : Thread Cert.Kernel5Ideal.nD Cert.Kernel5Ideal.τ).loc Cert.Kernel5Ideal.main_v3_2) = Plain.out2 (argW m c)
      ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)) :=
  (θ_run Cert.Kernel5Ideal.defs _ _).mono (fun r h c => ⟨((h.1 c).1 8).trans (final8 m c), ((h.1 c).1 9).trans (final9 m c), ((h.1 c).1 10).trans (final10 m c),
      ((h.1 c).1 0).trans (((dats m 0 c).arrAt_in 0 rfl _).trans (Cert.Kernel5Ideal.Gen.V_main_arg0 m c)),
      ((h.1 c).2 Cert.Kernel5Ideal.main_arg1 (Pipeline.mem_restRefs_of Cert.Kernel5Ideal.main_arg1 (by decide) (by decide))).trans (Cert.Kernel5Ideal.Gen.V_main_arg1 m c),
      ((h.1 c).2 Cert.Kernel5Ideal.main_arg2 (Pipeline.mem_restRefs_of Cert.Kernel5Ideal.main_arg2 (by decide) (by decide))).trans (Cert.Kernel5Ideal.Gen.V_main_arg2 m c),
      ((h.1 c).2 Cert.Kernel5Ideal.main_arg3 (Pipeline.mem_restRefs_of Cert.Kernel5Ideal.main_arg3 (by decide) (by decide))).trans (Cert.Kernel5Ideal.Gen.V_main_arg3 m c),
      ((h.1 c).1 4).trans (((dats m 0 c).arrAt_in 4 rfl _).trans (Cert.Kernel5Ideal.Gen.V_main_arg4 m c)),
      ((h.1 c).1 5).trans (((dats m 0 c).arrAt_in 5 rfl _).trans (Cert.Kernel5Ideal.Gen.V_main_arg5 m c))⟩)
    (run_main (F := Ideal) m g)

theorem algebraic : Cert.algebraic_Kernel5Ideal_Reference5Ideal := by
  intro m g m' g' _ hargs
  refine ⟨fun c => Plain.out0 (argA m c) (argW m c) (argX m c) (argM m c) (argL m c) (argB m c), fun c => Plain.out1 (argA m c) (argW m c) (argX m c) (argM m c) (argL m c) (argB m c), fun c => Plain.out2 (argW m c), run_kernel m g, ?_⟩
  refine (θ_run Cert.Reference5Ideal.defs _ _).mono (fun r h c => ?_) (Cert.Reference5Ideal.Value.run (F := Ideal) m' g')
  obtain ⟨r0, r1, r2, ra⟩ := h c
  obtain ⟨e0, e1, e2, e3, e4, e5⟩ := hargs c
  have e0' : m' ((c.tc : Thread Cert.Reference5Ideal.nD Cert.Reference5Ideal.τ).loc Cert.Reference5Ideal.main_arg0) = argA m c := e0
  have e1' : m' ((c.tc : Thread Cert.Reference5Ideal.nD Cert.Reference5Ideal.τ).loc Cert.Reference5Ideal.main_arg1) = argW m c := e1
  have e2' : m' ((c.tc : Thread Cert.Reference5Ideal.nD Cert.Reference5Ideal.τ).loc Cert.Reference5Ideal.main_arg2) = argX m c := e2
  have e3' : m' ((c.tc : Thread Cert.Reference5Ideal.nD Cert.Reference5Ideal.τ).loc Cert.Reference5Ideal.main_arg3) = argM m c := e3
  have e4' : m' ((c.tc : Thread Cert.Reference5Ideal.nD Cert.Reference5Ideal.τ).loc Cert.Reference5Ideal.main_arg4) = argL m c := e4
  have e5' : m' ((c.tc : Thread Cert.Reference5Ideal.nD Cert.Reference5Ideal.τ).loc Cert.Reference5Ideal.main_arg5) = argB m c := e5
  have r2' : _ = Plain.out2 (m' ((c.tc : Thread Cert.Reference5Ideal.nD Cert.Reference5Ideal.τ).loc Cert.Reference5Ideal.main_arg1)) := r2
  refine ⟨(r0.trans (Plain.res0 m' c)).trans ?_, (r1.trans (Plain.res1 m' c)).trans ?_, r2'.trans ?_, ra⟩
  · rw [e0', e1', e2', e3', e4', e5']
  · rw [e0', e1', e2', e3', e4', e5']
  · rw [e1']

end Cert.Proof.Out

end
-- ==== Proof.Cache.Body.lean ====
/-
  The body of the sample path's up-projection: the history rows are laid into the scratch, masked to the layer's columns; under
  them, step by step, the products with the first weight; each step's gated rows read the product and the two steps before it.
-/
module

public import proofs.«01_k».proof.Proof.Whole
public import proofs.«01_k».proof.Proof.Gen.Kernel6Ideal
public import proofs.«01_k».proof.Proof.Gen.Kernel6Ideal.Skeleton
public import proofs.«01_k».proof.Proof.Gen.Kernel6Ideal.Frame
public import Idealize.ShloMosaic.Lib.Pipeline.Frame
public import Idealize.ShloMosaic.Lib.Pipeline.FrameBody
public import Idealize.ShloMosaic.Lib.Pipeline.Value
public import Idealize.ShloMosaic.Lib.Tactic

@[expose] public section

set_option maxRecDepth 16384

noncomputable section

namespace Cert.Proof.Cached

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The scratch: two steps of history and the four of the run, a row per sequence. -/
abbrev scM : Memref sig .tc .vmem S768x512 .f32 := Memref.whole cc0_scratch0

/-- A step's rows of the activations, -/
abbrev rH0 : Rect S512x2048 := Rect.unit (s := S512x2048) ![0, 0] S128x2048.size inb_S512x2048_S128x2048_0_0
abbrev rH1 : Rect S512x2048 := Rect.unit (s := S512x2048) ![128, 0] S128x2048.size inb_S512x2048_S128x2048_128_0
abbrev rH2 : Rect S512x2048 := Rect.unit (s := S512x2048) ![256, 0] S128x2048.size inb_S512x2048_S128x2048_256_0
abbrev rH3 : Rect S512x2048 := Rect.unit (s := S512x2048) ![384, 0] S128x2048.size inb_S512x2048_S128x2048_384_0
/-- and of the gated block. -/
abbrev rG0 : Rect S512x512 := Rect.unit (s := S512x512) ![0, 0] S128x512.size inb_S512x512_S128x512_0_0
abbrev rG1 : Rect S512x512 := Rect.unit (s := S512x512) ![128, 0] S128x512.size inb_S512x512_S128x512_128_0
abbrev rG2 : Rect S512x512 := Rect.unit (s := S512x512) ![256, 0] S128x512.size inb_S512x512_S128x512_256_0
abbrev rG3 : Rect S512x512 := Rect.unit (s := S512x512) ![384, 0] S128x512.size inb_S512x512_S128x512_384_0
/-- The history's rows of the scratch, its six steps' rows, and its last two steps'. -/
abbrev rP : Rect S768x512 := Rect.unit (s := S768x512) ![0, 0] S256x512.size inb_S768x512_S256x512_0_0
abbrev rS0 : Rect S768x512 := Rect.unit (s := S768x512) ![0, 0] S128x512.size inb_S768x512_S128x512_0_0
abbrev rS1 : Rect S768x512 := Rect.unit (s := S768x512) ![128, 0] S128x512.size inb_S768x512_S128x512_128_0
abbrev rS2 : Rect S768x512 := Rect.unit (s := S768x512) ![256, 0] S128x512.size inb_S768x512_S128x512_256_0
abbrev rS3 : Rect S768x512 := Rect.unit (s := S768x512) ![384, 0] S128x512.size inb_S768x512_S128x512_384_0
abbrev rS4 : Rect S768x512 := Rect.unit (s := S768x512) ![512, 0] S128x512.size inb_S768x512_S128x512_512_0
abbrev rS5 : Rect S768x512 := Rect.unit (s := S768x512) ![640, 0] S128x512.size inb_S768x512_S128x512_640_0
abbrev rE : Rect S768x512 := Rect.unit (s := S768x512) ![512, 0] S256x512.size inb_S768x512_S256x512_512_0
/-- The convolution's three taps. -/
abbrev rT0 : Rect S3x512 := Rect.unit (s := S3x512) ![0, 0] S1x512.size inb_S3x512_S1x512_0_0
abbrev rT1 : Rect S3x512 := Rect.unit (s := S3x512) ![1, 0] S1x512.size inb_S3x512_S1x512_1_0
abbrev rT2 : Rect S3x512 := Rect.unit (s := S3x512) ![2, 0] S1x512.size inb_S3x512_S1x512_2_0

/-- A gated step: from its two products `A` and `U`, the products one and two steps before, the taps and the bias. -/
def gated (A U A1 A2 : FVec F S128x512 .f32) (X3 : S3x512.Idx → Elt F .f32) (X4 : S1x512.Idx → Elt F .f32) : FVec F S128x512 .bf16 :=
  k0_pay7 A U A1 (k0_pay5 A2 X4 (View.ld X3 rT0)) (k0_pay6 (View.ld X3 rT1)) (View.ld X3 rT2)

/-- A step's rows of the activations. -/
def rowsOf (X0 : S512x2048.Idx → Elt F .bf16) : Fin 4 → S128x2048.Idx → Elt F .bf16
  | 0 => View.ld X0 rH0
  | 1 => View.ld X0 rH1
  | 2 => View.ld X0 rH2
  | 3 => View.ld X0 rH3

/-- A step's product with a weight block. -/
def prodOf (X0 : S512x2048.Idx → Elt F .bf16) (W : S2048x512.Idx → Elt F .bf16) (k : Fin 4) : FVec F S128x512 .f32 := k0_pay2 (rowsOf X0 k) W

/-- The scratch with the history and the first `k` steps' products laid in, the last laid first. -/
def laid (P : FVec F S256x512 .f32) (A : Fin 4 → FVec F S128x512 .f32) : Nat → List (View.Piece (Elt F) S768x512 .f32)
  | 0 => [⟨rP, P⟩]
  | 1 => [⟨rS2, A 0⟩, ⟨rP, P⟩]
  | 2 => [⟨rS3, A 1⟩, ⟨rS2, A 0⟩, ⟨rP, P⟩]
  | 3 => [⟨rS4, A 2⟩, ⟨rS3, A 1⟩, ⟨rS2, A 0⟩, ⟨rP, P⟩]
  | _ => [⟨rS5, A 3⟩, ⟨rS4, A 2⟩, ⟨rS3, A 1⟩, ⟨rS2, A 0⟩, ⟨rP, P⟩]

/-- The products one step and two steps before a step's. -/
def prev1 (P : FVec F S256x512 .f32) (A : Fin 4 → FVec F S128x512 .f32) : Fin 4 → FVec F S128x512 .f32
  | 0 => View.ld (View.canon (laid P A 1)) rS1
  | 1 => View.ld (View.canon (laid P A 2)) rS2
  | 2 => View.ld (View.canon (laid P A 3)) rS3
  | 3 => View.ld (View.canon (laid P A 4)) rS4
def prev2 (P : FVec F S256x512 .f32) (A : Fin 4 → FVec F S128x512 .f32) : Fin 4 → FVec F S128x512 .f32
  | 0 => View.ld (View.canon (laid P A 1)) rS0
  | 1 => View.ld (View.canon (laid P A 2)) rS1
  | 2 => View.ld (View.canon (laid P A 3)) rS2
  | 3 => View.ld (View.canon (laid P A 4)) rS3

/-- A step's gated rows from the history, the activations, the two weight blocks, the taps and the bias. -/
def step (P : FVec F S256x512 .f32) (X0 : S512x2048.Idx → Elt F .bf16) (X1 X2 : S2048x512.Idx → Elt F .bf16) (X3 : S3x512.Idx → Elt F .f32) (X4 : S1x512.Idx → Elt F .f32) (k : Fin 4) : FVec F S128x512 .bf16 :=
  gated (prodOf X0 X1 k) (prodOf X0 X2 k) (prev1 P (prodOf X0 X1) k) (prev2 P (prodOf X0 X1) k) X3 X4

/-- The gated block of a point: its four steps, one under the other. -/
def gBlock (P : FVec F S256x512 .f32) (X0 : S512x2048.Idx → Elt F .bf16) (X1 X2 : S2048x512.Idx → Elt F .bf16) (X3 : S3x512.Idx → Elt F .f32) (X4 : S1x512.Idx → Elt F .f32) : S512x512.Idx → Elt F .bf16 :=
  View.canon [⟨rG3, step P X0 X1 X2 X3 X4 3⟩, ⟨rG2, step P X0 X1 X2 X3 X4 2⟩, ⟨rG1, step P X0 X1 X2 X3 X4 1⟩, ⟨rG0, step P X0 X1 X2 X3 X4 0⟩]

/-- The kept rows of a point: the products of its last two steps. -/
def tailBlock (P : FVec F S256x512 .f32) (X0 : S512x2048.Idx → Elt F .bf16) (X1 : S2048x512.Idx → Elt F .bf16) : S2x128x512.Idx → Elt F .f32 :=
  k0_pay21 (View.ld (View.canon (laid P (prodOf X0 X1) 4)) rE)

/-- The test before the history is laid in holds at every point: the grid has one point a column block. -/
theorem starts (i : grid0.Coords) :
    Scalar.cmpi .ne (Scalar.extui (Scalar.cmpi .eq (BitVec.ofNat 32 (i 1).val) 0#32) : BitVec 32) 0#32 = 1#1 := by
  generalize i 1 = k
  revert k
  decide +kernel

/-- The four steps cover the gated block. -/
theorem gCover (w0 w1 w2 w3 : S128x512.Idx → Elt F .bf16) (y : S512x512.Idx) :
    ∃ p ∈ ([⟨rG3, w3⟩, ⟨rG2, w2⟩, ⟨rG1, w1⟩, ⟨rG0, w0⟩] : List (View.Piece (Elt F) S512x512 .bf16)), y ∈ p.1.set := by
  have h0 : (y 0).val < 512 := (y 0).isLt
  have h1 : (y 1).val < 512 := (y 1).isLt
  have key : ∀ (o : Nat) (inb), o ≤ (y 0).val → (y 0).val < o + 128 → y ∈ (Rect.unit (s := S512x512) ![o, 0] S128x512.size inb).set := by
    intro o inb ha hb
    refine Rect.mem_set_unit.mpr fun a => ?_
    fin_cases a
    · exact ⟨ha, hb⟩
    · exact ⟨Nat.zero_le _, by simpa using h1⟩
  by_cases hA : (y 0).val < 128
  · exact ⟨⟨rG0, w0⟩, by simp, key 0 inb_S512x512_S128x512_0_0 (by omega) (by omega)⟩
  by_cases hB : (y 0).val < 256
  · exact ⟨⟨rG1, w1⟩, by simp, key 128 inb_S512x512_S128x512_128_0 (by omega) (by omega)⟩
  by_cases hC : (y 0).val < 384
  · exact ⟨⟨rG2, w2⟩, by simp, key 256 inb_S512x512_S128x512_256_0 (by omega) (by omega)⟩
  · exact ⟨⟨rG3, w3⟩, by simp, key 384 inb_S512x512_S128x512_384_0 (by omega) (by omega)⟩

/-- Four blocks laid one under the other are the gated block when each is its step. -/
theorem gBlock_of (P : FVec F S256x512 .f32) (X0 : S512x2048.Idx → Elt F .bf16) (X1 X2 : S2048x512.Idx → Elt F .bf16) (X3 : S3x512.Idx → Elt F .f32) (X4 : S1x512.Idx → Elt F .f32)
    (w0 w1 w2 w3 : S128x512.Idx → Elt F .bf16) (h0 : w0 = step P X0 X1 X2 X3 X4 0) (h1 : w1 = step P X0 X1 X2 X3 X4 1)
    (h2 : w2 = step P X0 X1 X2 X3 X4 2) (h3 : w3 = step P X0 X1 X2 X3 X4 3) :
    View.canon ([⟨rG3, w3⟩, ⟨rG2, w2⟩, ⟨rG1, w1⟩, ⟨rG0, w0⟩] : List (View.Piece (Elt F) S512x512 .bf16)) = gBlock P X0 X1 X2 X3 X4 := by
  subst h0 h1 h2 h3; rfl

/-! The operations as the program groups them: each step's products, and its gated rows. -/

theorem p3 (x : Vec F S128x2048 .bf16) (W : Vec F S2048x512 .bf16) : k0_pay3 x W = k0_pay2 x W := rfl
theorem p4 (x : Vec F S128x2048 .bf16) (W : Vec F S2048x512 .bf16) : k0_pay4 x W = k0_pay2 x W := shapeCast_self _ _
theorem p8 (x : Vec F S128x2048 .bf16) (W : Vec F S2048x512 .bf16) : k0_pay8 x W = k0_pay2 x W := rfl
theorem p9 (x : Vec F S128x2048 .bf16) (W : Vec F S2048x512 .bf16) : k0_pay9 x W = k0_pay2 x W := rfl
theorem p10 (x : Vec F S128x2048 .bf16) (W : Vec F S2048x512 .bf16) : k0_pay10 x W = k0_pay2 x W := shapeCast_self _ _
theorem p13 (x : Vec F S128x2048 .bf16) (W : Vec F S2048x512 .bf16) : k0_pay13 x W = k0_pay2 x W := rfl
theorem p14 (x : Vec F S128x2048 .bf16) (W : Vec F S2048x512 .bf16) : k0_pay14 x W = k0_pay2 x W := rfl
theorem p15 (x : Vec F S128x2048 .bf16) (W : Vec F S2048x512 .bf16) : k0_pay15 x W = k0_pay2 x W := shapeCast_self _ _
theorem p17 (x : Vec F S128x2048 .bf16) (W : Vec F S2048x512 .bf16) : k0_pay17 x W = k0_pay2 x W := rfl
theorem p19 (v : FVec F S128x512 .f32) : k0_pay19 v = v := shapeCast_self _ _
theorem gated1 (A U A1 A2 : FVec F S128x512 .f32) (X3 : S3x512.Idx → Elt F .f32) (X4 : S1x512.Idx → Elt F .f32) :
    k0_pay12 A U A1 A2 (k0_pay11 X4) (View.ld X3 rT0) (View.ld X3 rT1) (View.ld X3 rT2) = gated A U A1 A2 X3 X4 := rfl
theorem gated2 (A U A1 A2 : FVec F S128x512 .f32) (X3 : S3x512.Idx → Elt F .f32) (X4 : S1x512.Idx → Elt F .f32) :
    k0_pay16 A U A1 A2 X4 (View.ld X3 rT0) (View.ld X3 rT1) (View.ld X3 rT2) = gated A U A1 A2 X3 X4 := rfl
theorem gated3 (x : Vec F S128x2048 .bf16) (W : Vec F S2048x512 .bf16) (A A1 A2 : FVec F S128x512 .f32) (X3 : S3x512.Idx → Elt F .f32) (X4 : S1x512.Idx → Elt F .f32) :
    k0_pay20 x A (k0_pay18 W) (constant S128x512 .f32 0x00000000#32) A1 A2 X4 (View.ld X3 rT0) (View.ld X3 rT1) (View.ld X3 rT2) = gated A (k0_pay2 x W) A1 A2 X3 X4 := rfl

set_option maxHeartbeats 2000000 in
/-- The body: from the activations, the weights, the taps, the bias and the history, the gated block and the kept rows. -/
theorem body_run (c : Dev nD) (i : grid0.Coords)
    (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S3x512 .f32) (harg5 : arg5.IsWhole) (arg6 : Memref sig .tc .vmem S1x512 .f32) (harg6 : arg6.IsWhole) (arg7 : Memref sig .tc .vmem S2x128x512 .f32) (harg7 : arg7.IsWhole) (arg8 : Memref sig .tc .vmem S512x512 .bf16) (harg8 : arg8.IsWhole) (arg9 : Memref sig .tc .vmem S2x128x512 .f32) (harg9 : arg9.IsWhole)
    (X0 : S512x2048.Idx → Elt F .bf16) (X1 X2 : S2048x512.Idx → Elt F .bf16) (X3 : S3x512.Idx → Elt F .f32) (X4 : S1x512.Idx → Elt F .f32) (X5 : S2x128x512.Idx → Elt F .f32)
    (Q : PUnit → sProp 𝕄) :
    iprop(owns (c : Thread nD τ) arg2 fullShare X0 ∗ owns (c : Thread nD τ) arg3 fullShare X1 ∗ owns (c : Thread nD τ) arg4 fullShare X2 ∗ owns (c : Thread nD τ) arg5 fullShare X3
        ∗ owns (c : Thread nD τ) arg6 fullShare X4 ∗ owns (c : Thread nD τ) arg7 fullShare X5 ∗ (∃ d, owns (c : Thread nD τ) arg8 fullShare d) ∗ (∃ d, owns (c : Thread nD τ) arg9 fullShare d)
        ∗ (∃ d, owns (c : Thread nD τ) scM fullShare d)
        ∗ (iprop(owns (c : Thread nD τ) arg2 fullShare X0 ∗ owns (c : Thread nD τ) arg3 fullShare X1 ∗ owns (c : Thread nD τ) arg4 fullShare X2 ∗ owns (c : Thread nD τ) arg5 fullShare X3
            ∗ owns (c : Thread nD τ) arg6 fullShare X4 ∗ owns (c : Thread nD τ) arg7 fullShare X5 ∗ owns (c : Thread nD τ) arg8 fullShare (gBlock (k0_pay1 i X5) X0 X1 X2 X3 X4)
            ∗ owns (c : Thread nD τ) arg9 fullShare (tailBlock (k0_pay1 i X5) X0 X1) ∗ (∃ d, owns (c : Thread nD τ) scM fullShare d)) -∗ Q ⟨⟩))
      ⊢ wp frame (wpE (defs₀ (F := F)) Variants.none c none) Set.univ (cc0_up_proj i arg2 harg2 arg3 harg3 arg4 harg4 arg5 harg5 arg6 harg6 arg7 harg7 arg8 harg8 arg9 harg9 scM (Memref.isWhole_whole _)) Q := by
  simp only [cc0_up_proj_eq_skeleton]; unfold cc0_up_proj_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  dsimp only
  rw [dif_pos (starts i)]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf2 hf3 hf4 hf5 hf6 hf7
  sl_exec
  sl_unfold_run_names
  simp only [readAt_whole (S := S2048x512) _ _ zero2, readAt_whole (S := S1x512) _ _ zero2, readAt_whole (S := S2x128x512) _ _ zero3, View.readAt_eq_ld, View.readCov_eq_canon', p3, p4, p8, p9, p10, p13, p14, p15, p17, p19]
  rw [wp_ret]; imodintro
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro
    refine (View.read_writes_eq_canon _ _ _ (gCover _ _ _ _)).trans (gBlock_of _ _ _ _ _ _ _ _ _ _ ?_ ?_ ?_ ?_)
    · rfl
    · exact gated1 _ _ _ _ _ _
    · exact gated2 _ _ _ _ _ _
    · exact gated3 _ _ _ _ _ _ _
  isplitl [H9]
  · iexists _; isplitr; swap; · iexact H9
    ipureintro
    refine (read_store_whole _ _ zero3 _ _ _).trans ?_
    rfl
  iexists _, _; isplitr; swap; · iexact H10
  ipureintro; rfl

end Cert.Proof.Cached

end
-- ==== Proof.Cache.Run.lean ====
/-
  The run of the sample path's up-projection: what every window's buffer holds at each point of the grid, the body's obligation
  there, and the whole launch from it.
-/
module

public import proofs.«01_k».proof.Proof.Cache.Body
public import Idealize.ShloMosaic.Lib.Pointwise
public import Idealize.ShloMosaic.Lib.Pipeline.ValueKit
public import Idealize.ShloMosaic.Lib.Pipeline.TableIdle

@[expose] public section

set_option maxRecDepth 16384

noncomputable section

namespace Cert.Proof.Cached

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N_eq : cfg0.N = 11 := by decide
/-- A point's block of columns. -/
theorem coord0 : ∀ t : Fin cfg0.N, (cfg0.grid.coords t 0).val = t.val := by decide +kernel

/-! ## The history's block, which overhangs its array at the last point -/

/-- Its extent inside the array. -/
theorem xsize5_0 : ∀ t : Fin cfg0.N, (cfg0.win 5).xsize (cfg0.grid.coords t) 0 = 2 := by decide +kernel
theorem xsize5_1 : ∀ t : Fin cfg0.N, (cfg0.win 5).xsize (cfg0.grid.coords t) 1 = 128 := by decide +kernel
theorem xsize5_2 : ∀ t : Fin cfg0.N, (cfg0.win 5).xsize (cfg0.grid.coords t) 2 = min 512 (5504 - 512 * t.val) := by decide +kernel

/-- The columns inside the array are fetched. -/
theorem moved5 (t : Fin cfg0.N) (j : (cfg0.win 5).block.Idx) (hj : t.val * 512 + (j 2).val < 5504) :
    (cfg0.win 5).moved (cfg0.grid.coords t) j = true :=
  ((cfg0.win 5).moved_iff _ j).mpr fun a => by
    have h2 : (j 2).val < 512 := (j 2).isLt
    fin_cases a
    · exact lt_of_lt_of_eq (show (j 0).val < 2 from (j 0).isLt) (xsize5_0 t).symm
    · exact lt_of_lt_of_eq (show (j 1).val < 128 from (j 1).isLt) (xsize5_1 t).symm
    · exact lt_of_lt_of_eq (show (j 2).val < min 512 (5504 - 512 * t.val) by omega) (xsize5_2 t).symm

/-- They are as fetched, whatever is beside them. -/
theorem fill5_inside (t : Fin cfg0.N) (d d' : (cfg0.win 5).block.Idx → Elt F (cfg0.win 5).elt) (g)
    (j : (cfg0.win 5).block.Idx) (hj : t.val * 512 + (j 2).val < 5504) :
    (cfg0.win 5).fill (cfg0.grid.coords t) d g j = (cfg0.win 5).fill (cfg0.grid.coords t) d' g j := by
  unfold Pipeline.Window.fill; rw [dif_pos (moved5 t j hj), dif_pos (moved5 t j hj)]

/-- Which columns of a block the mask keeps. -/
theorem keeps (j : Fin 11) (r : Fin 512) :
    Scalar.cmpi .slt (Scalar.addi (Scalar.muli (BitVec.ofNat 32 j.val) 512#32) (BitVec.ofNat 32 r.val)) 5504#32 = 1#1 ↔ j.val * 512 + r.val < 5504 := by
  revert j r; decide +kernel

/-- A choice whose condition fails is its second value. -/
theorem select_off {α : Type} (c : BitVec 1) (h : ¬ c = 1#1) (a b : α) : Scalar.select c a b = b := if_neg h
/-- A choice whose condition holds is its first. -/
theorem select_on {α : Type} (c : BitVec 1) (h : c = 1#1) (a b : α) : Scalar.select c a b = a := if_pos h

/-- The masked history keeps nothing of the columns outside the array. -/
theorem masked_fill5 (t : Fin cfg0.N) (d d' : (cfg0.win 5).block.Idx → Elt F (cfg0.win 5).elt) (g) :
    k0_pay1 (F := F) (cfg0.grid.coords t) ((cfg0.win 5).fill (cfg0.grid.coords t) d g) = k0_pay1 (cfg0.grid.coords t) ((cfg0.win 5).fill (cfg0.grid.coords t) d' g) := by
  funext y
  have hc := coord0 t
  have hf : ∀ (p : Fin 2) (q : Fin 128), t.val * 512 + (y 1).val < 5504 →
      (cfg0.win 5).fill (cfg0.grid.coords t) d g (ix3 p q (y 1)) = (cfg0.win 5).fill (cfg0.grid.coords t) d' g (ix3 p q (y 1)) := fun p q h => fill5_inside t d d' g _ h
  have hk := keeps (cfg0.grid.coords t 0) (y 1)
  rw [hc] at hk
  generalize (cfg0.win 5).fill (cfg0.grid.coords t) d g = X at hf ⊢
  generalize (cfg0.win 5).fill (cfg0.grid.coords t) d' g = X' at hf ⊢
  pointwise [k0_pay1]
  by_cases hy : t.val * 512 + (y 1).val < 5504
  · rw [hf _ _ hy]
  · have hn : ¬ IntOp.cmpi .slt (IntOp.addi (Scalar.muli (BitVec.ofNat 32 (grid0.coords t 0).val) 512#32) (BitVec.ofNat 32 (y 1).val)) 5504#32 = 1#1 :=
      fun e => hy (hk.mp (by rw [← hc]; exact e))
    exact (select_off _ hn _ _).trans (select_off _ hn _ _).symm

/-- What fills the history's buffer where nothing is fetched; nothing kept depends on it. -/
def dflt5 : (cfg0.win 5).block.Idx → Elt F (cfg0.win 5).elt := fun _ => Classical.choice inferInstance

/-- The history's buffer. -/
def X5 (c : Dev nD) (t : Fin cfg0.N) : (cfg0.win 5).block.Idx → Elt F (cfg0.win 5).elt :=
  (cfg0.win 5).fill (cfg0.grid.coords t) dflt5 (iblk m c 5 t)

/-- The masked history of a point. -/
def hist (c : Dev nD) (t : Fin cfg0.N) : FVec F S256x512 .f32 := k0_pay1 (cfg0.grid.coords t) (X5 m c t)

theorem hist_of (c : Dev nD) (t : Fin cfg0.N) (d) : k0_pay1 (cfg0.grid.coords t) ((cfg0.win 5).fill (cfg0.grid.coords t) d (iblk m c 5 t)) = hist m c t :=
  masked_fill5 t d dflt5 _

/-- What the body leaves in each window's buffer. -/
def left (c : Dev nD) : (w : Fin cfg0.W) → Fin cfg0.N → (cfg0.win w).block.Idx → Elt F (cfg0.win w).elt
  | ⟨0, _⟩ => fun t => iblk m c 0 t
  | ⟨1, _⟩ => fun t => iblk m c 1 t
  | ⟨2, _⟩ => fun t => iblk m c 2 t
  | ⟨3, _⟩ => fun t => iblk m c 3 t
  | ⟨4, _⟩ => fun t => iblk m c 4 t
  | ⟨5, _⟩ => fun t => X5 m c t
  | ⟨6, _⟩ => fun t => gBlock (hist m c t) (iblk m c 0 t) (iblk m c 1 t) (iblk m c 2 t) (iblk m c 3 t) (iblk m c 4 t)
  | ⟨7, _⟩ => fun t => tailBlock (hist m c t) (iblk m c 0 t) (iblk m c 1 t)
  | ⟨_ + 8, h⟩ => absurd h (Nat.not_lt.2 (Nat.le_add_left _ _))

/-- The launch's data: the arrays as the region finds them, and what the body leaves. -/
def dats (p : Fin 1) (c : Dev nD) : Dat τ (Elt F) Unit ℕ (UR sig nD τ) ℕ (cfgs p) c :=
  match p with
  | ⟨0, _⟩ =>
    { A := fun w => V m c (Pipeline.arrRef spec0 w)
      after := left m c
      Φ := fun _ => Pipeline.ΦA spec0 c
      q := fun _ => fullShare
      owed := fun _ => 0 }

/-! ## What the body finds -/

theorem before0 (c : Dev nD) (t : Fin cfg0.N) (d) : (dats m 0 c).before 0 t d = iblk m c 0 t := before0_0_of m (dats m 0 c) rfl (fun _ => rfl) t d
theorem before1 (c : Dev nD) (t : Fin cfg0.N) (d) : (dats m 0 c).before 1 t d = iblk m c 1 t := before0_1_of m (dats m 0 c) rfl (fun _ => rfl) t d
theorem before2 (c : Dev nD) (t : Fin cfg0.N) (d) : (dats m 0 c).before 2 t d = iblk m c 2 t := before0_2_of m (dats m 0 c) rfl (fun _ => rfl) t d
theorem before3 (c : Dev nD) (t : Fin cfg0.N) (d) : (dats m 0 c).before 3 t d = iblk m c 3 t := before0_3_of m (dats m 0 c) rfl (fun _ => rfl) t d
theorem before4 (c : Dev nD) (t : Fin cfg0.N) (d) : (dats m 0 c).before 4 t d = iblk m c 4 t := before0_4_of m (dats m 0 c) rfl (fun _ => rfl) t d

/-- The history's buffer holds the columns of its block inside the array, whatever is in the others. -/
theorem before5 (c : Dev nD) (t : Fin cfg0.N) (d) :
    (dats m 0 c).before 5 t d = (cfg0.win 5).fill (cfg0.grid.coords t) d (iblk m c 5 t) :=
  ((dats m 0 c).before_in_eq_fetched 5 rfl (fun _ => rfl)
      (fun t t' h => funext fun a => congrArg (fun n => Pipeline.Clip.of n ((cfg0.win 5).size a) (S2x128x5504.size a)) (congrFun h a))
      (fun t => by
        show (cfg0.win 5).cut (cfg0.grid.coords t) (X5 m c t) = _
        unfold X5; rw [Pipeline.Window.cut_fill]; rfl) t d).trans rfl

/-! ## What the body hands back -/

/-- A buffer stored whole, or left as found, is what the obligation asks of its window. -/
theorem keeps_in (c : Dev nD) (w : Fin cfg0.W) (t : Fin cfg0.N) (hl : cfg0.loose w = false) (hi : cfg0.idle w (cfg0.grid.coords t) = false) :
    owns (c : Thread nD τ) ((cfg0.win w).stage (cfg0.slots t w)) fullShare (left m c w t) ⊢ ((dats m 0 c).leaves w t : sProp 𝕄) := by
  unfold Dat.leaves
  rw [hl, hi]
  exact .rfl

/-- A window whose block may overhang hands back its block, whatever is beside it. -/
theorem keeps_loose (c : Dev nD) (w : Fin cfg0.W) (t : Fin cfg0.N) (hl : cfg0.loose w = true) (hi : cfg0.idle w (cfg0.grid.coords t) = false)
    (X : (cfg0.win w).block.Idx → Elt F (cfg0.win w).elt)
    (hX : ∃ d, X = (cfg0.win w).fill (cfg0.grid.coords t) d ((cfg0.win w).cut (cfg0.grid.coords t) (left m c w t))) :
    owns (c : Thread nD τ) ((cfg0.win w).stage (cfg0.slots t w)) fullShare X ⊢ ((dats m 0 c).leaves w t : sProp 𝕄) := by
  obtain ⟨d, rfl⟩ := hX
  unfold Dat.leaves
  rw [hl, hi]
  iintro H; iexists d; iexact H

/-- The scratch and the generator's register. -/
theorem rest_eq (c : Dev nD) : (Pipeline.ΦA spec0 c : sProp 𝕄) = iprop((∃ d, owns (c : Thread nD τ) scM fullShare d) ∗ ∃ r, prngReg c r) := by
  rw [Pipeline.ΦA, scopedRest0_eq]; simp only [scM, owns_whole]; try rfl

/-! ## The body's obligation -/

/-- The body's row of the launch is the body at the point. -/
theorem row_eq (t : Fin cfg0.N) : defs₀ (F := F) .tc cfg0.body (cfg0.bodyArgs t (cfg0.slots t)) = bodyAt0 t := by
  unfold defs₀; rw [Defs.onTc_tc]

/-- The body at a point: what the windows' buffers and the scratch hold before it and after. -/
theorem body_at (c : Dev nD) (t : Fin cfg0.N) (d5 : (cfg0.win 5).block.Idx → Elt F (cfg0.win 5).elt) (Q : PUnit → sProp 𝕄) :
    iprop(owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ owns (c : Thread nD τ) (st0_3 t) fullShare (iblk m c 3 t)
        ∗ owns (c : Thread nD τ) (st0_4 t) fullShare (iblk m c 4 t)
        ∗ owns (c : Thread nD τ) (st0_5 t) fullShare ((cfg0.win 5).fill (cfg0.grid.coords t) d5 (iblk m c 5 t))
        ∗ (∃ d, owns (c : Thread nD τ) (st0_6 t) fullShare d) ∗ (∃ d, owns (c : Thread nD τ) (st0_7 t) fullShare d) ∗ (∃ d, owns (c : Thread nD τ) scM fullShare d)
        ∗ (iprop(owns (c : Thread nD τ) (st0_0 t) fullShare (iblk m c 0 t)
        ∗     owns (c : Thread nD τ) (st0_1 t) fullShare (iblk m c 1 t)
        ∗     owns (c : Thread nD τ) (st0_2 t) fullShare (iblk m c 2 t)
        ∗     owns (c : Thread nD τ) (st0_3 t) fullShare (iblk m c 3 t)
        ∗     owns (c : Thread nD τ) (st0_4 t) fullShare (iblk m c 4 t)
        ∗     owns (c : Thread nD τ) (st0_5 t) fullShare ((cfg0.win 5).fill (cfg0.grid.coords t) d5 (iblk m c 5 t))
        ∗     owns (c : Thread nD τ) (st0_6 t) fullShare (left m c 6 t)
        ∗     owns (c : Thread nD τ) (st0_7 t) fullShare (left m c 7 t)
        ∗     (∃ d, owns (c : Thread nD τ) scM fullShare d)) -∗ Q ⟨⟩))
      ⊢ wp frame (wpE (defs₀ (F := F)) Variants.none c none) Set.univ (bodyAt0 (F := F) t) Q := by
  have h6 : left m c 6 t = gBlock (k0_pay1 (grid0.coords t) ((cfg0.win 5).fill (cfg0.grid.coords t) d5 (iblk m c 5 t))) (iblk m c 0 t) (iblk m c 1 t) (iblk m c 2 t) (iblk m c 3 t) (iblk m c 4 t) :=
    congrArg (fun P => gBlock P _ _ _ _ _) (hist_of m c t d5).symm
  have h7 : left m c 7 t = tailBlock (k0_pay1 (grid0.coords t) ((cfg0.win 5).fill (cfg0.grid.coords t) d5 (iblk m c 5 t))) (iblk m c 0 t) (iblk m c 1 t) :=
    congrArg (fun P => tailBlock P _ _) (hist_of m c t d5).symm
  rw [h6, h7]
  exact body_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7))
    (iblk m c 0 t) (iblk m c 1 t) (iblk m c 2 t) (iblk m c 3 t) (iblk m c 4 t) ((cfg0.win 5).fill (cfg0.grid.coords t) d5 (iblk m c 5 t)) Q

/-- The body's obligation at every point. -/
theorem body_obligation (c : Dev nD) : BodyObligationLoose (dats m 0 c) (defs₀ (F := F)) Variants.none () Set.univ := fun t => by
  rw [bigSep_W0, bigSep_W0, row_eq]
  rw [show (dats m 0 c).Φ t.castSucc = _ from rest_eq c, show (dats m 0 c).Φ t.succ = _ from rest_eq c,
    show (dats m 0 c).owesAt () t.succ = (dats m 0 c).owesAt () t.castSucc from rfl]
  iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before0 m c t d0, before1 m c t d1, before2 m c t d2, before3 m c t d3, before4 m c t d4, before5 m c t d5]
  iapply (body_at m c t d5 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS]; · iexact HS
  iintro ⟨H0, H1, H2, H3, H4, H5, H6, H7, HS⟩
  isplitl [HS HR]
  · isplitl [HS]; · iexact HS
    iexact HR
  isplitl [Ho]; · iexact Ho
  isplitl [H0]; · iapply (keeps_in m c 0 t rfl rfl); iexact H0
  isplitl [H1]; · iapply (keeps_in m c 1 t rfl rfl); iexact H1
  isplitl [H2]; · iapply (keeps_in m c 2 t rfl rfl); iexact H2
  isplitl [H3]; · iapply (keeps_in m c 3 t rfl rfl); iexact H3
  isplitl [H4]; · iapply (keeps_in m c 4 t rfl rfl); iexact H4
  isplitl [H5]
  · iapply (keeps_loose m c 5 t rfl rfl _ ⟨d5, by
      show _ = (cfg0.win 5).fill _ d5 ((cfg0.win 5).cut _ (X5 m c t))
      unfold X5; rw [Pipeline.Window.cut_fill]⟩); iexact H5
  isplitl [H6]; · iapply (keeps_in m c 6 t rfl rfl); iexact H6
  iapply (keeps_in m c 7 t rfl rfl); iexact H7

set_option backward.isDefEq.respectTransparency.types false in
/-- The launch: every window's array ends as the run of the grid leaves it, and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := fun _ _ => rfl) (hΦ := fun _ _ => rfl)

/-- The arguments end as they were. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_with_sems (frame_of m ρ (dats m) (fun _ _ => rfl)) (run_main m ρ)

end Cert.Proof.Cached

end
-- ==== Proof.Cache.Frames.lean ====
/-
  The three programs of the sample path's up-projection run and leave their arguments as they were.
-/
module

public import proofs.«01_k».proof.Defs
public import proofs.«01_k».proof.Proof.Gen.Kernel6
public import proofs.«01_k».proof.Proof.Gen.Reference6Ideal.Run
public import proofs.«01_k».proof.Proof.Cache.Run

@[expose] public section

noncomputable section

namespace Cert.Proof.Cached

open Idealize.ShloMosaic Idealize.SL.Sem

/-- The two printings of the kernel have the same body. -/
theorem bodies_eq : Cert.Kernel6.defs₀ (F := Bits) = Cert.Kernel6Ideal.defs₀ (F := Bits) := by
  unfold Cert.Kernel6.defs₀ Cert.Kernel6Ideal.defs₀
  refine congrArg Defs.onTc (funext fun ℓ => funext fun a => ?_)
  match ℓ, a with
  | ⟨0, _⟩, (t, s) => rfl
  | ⟨_ + 1, h⟩, _ => exact absurd h (Nat.not_lt.2 (Nat.le_add_left _ _))

theorem defs_eq : Cert.Kernel6.defs (F := Bits) = Cert.Kernel6Ideal.defs (F := Bits) :=
  congrArg (Pipeline.defs Cert.Kernel6Ideal.pcfgs) bodies_eq

/-- The kernel at the bits: the same run, read there. -/
theorem frame_kernel : Cert.quiescent_Kernel6 := fun m ρ _ => by
  rw [defs_eq]
  exact frame_main (F := Bits) m ρ

/-- The kernel at the ideal instance. -/
theorem frame_kernelIdeal : Cert.quiescent_Kernel6Ideal := fun m ρ _ => frame_main (F := Ideal) m ρ

/-- The reference leaves its arguments as they were, and declares no semaphore. -/
theorem frame_reference : Cert.quiescent_Reference6Ideal := fun m ρ _ =>
  (θ_run Cert.Reference6Ideal.defs _ _).mono
    (fun r h => ⟨fun c => (h c).2.2, Idealize.ShloMosaic.sem_eq_zero_of_no_sems (by decide) r.2⟩)
    (Cert.Reference6Ideal.Value.run (F := Ideal) m ρ)

end Cert.Proof.Cached

end
-- ==== Proof.Cache.Reads.lean ====
/-
  What the input windows of the sample path's up-projection hold at a point of the grid, read off the arrays the launch is given.
-/
module

public import proofs.«01_k».proof.Proof.Cache.Run

@[expose] public section

set_option maxRecDepth 16384

noncomputable section

namespace Cert.Proof.Cached

open Cert.Kernel6Ideal Cert.Kernel6Ideal.Gen
open Idealize.ShloMosaic Idealize.ShloMosaic.TcCoe Idealize.SL.Sem
open Idealize.ShloMosaic.Pipeline (Dat)

variable (m : (ℓ : Loc nD τ sig) → Buf (Elt Ideal) ℓ)

/-! ## The arrays the launch is given -/

/-- The activations. -/
def argH (c : Dev nD) : S512x2048.Idx → Elt Ideal .bf16 := m ((c : Thread nD τ).loc main_arg0)
/-- The two weights side by side. -/
def argU (c : Dev nD) : S1x2048x11008.Idx → Elt Ideal .f32 := m ((c : Thread nD τ).loc main_arg1)
/-- The taps. -/
def argT (c : Dev nD) : S1x3x5504.Idx → Elt Ideal .f32 := m ((c : Thread nD τ).loc main_arg2)
/-- The bias. -/
def argB (c : Dev nD) : S1x5504.Idx → Elt Ideal .f32 := m ((c : Thread nD τ).loc main_arg3)
/-- The cached rows. -/
def argC (c : Dev nD) : S1x128x2x5504.Idx → Elt Ideal .f32 := m ((c : Thread nD τ).loc main_arg4)

/-- The integer zero, converted. -/
theorem zero32 : (FloatOps.sitofp .f32 (0#32 : BitVec 32) : Ideal .f32) = (0 : EReal) := by
  show (((0#32 : BitVec 32).toInt : ℝ) : EReal) = 0
  simp
theorem zero16 : (FloatOps.sitofp .bf16 (0#32 : BitVec 32) : Ideal .bf16) = (0 : EReal) := by
  show (((0#32 : BitVec 32).toInt : ℝ) : EReal) = 0
  simp

/-! ## The arrays the launch finds -/

/-- The first weight, extended by zeros. -/
theorem V3 (c : Dev nD) (k : Fin 2048) (f : Fin 5632) : V m c main_v3 (ix2 k f) = if h : f.val < 5504 then argU m c (ix3 0 k ⟨f.val, by omega⟩) else (0 : EReal) := by
  have e : V m c main_v3 = pad (α := Elt Ideal .bf16) S2048x5632 ![0, 0] ![0, 128] ![0, 0] (truncf (F := Ideal) .bf16 (extractStridedSlice S2048x5504 ![0, 0] (shapeCast (α := Elt Ideal .f32) _ (argU m c) shapeCasts_S1x2048x11008_S2048x11008) slices_S2048x11008_S2048x5504_0_0) bitsLt_bf16_f32) (sitofp (F := Ideal) .bf16 (constantI S_ 32 0#32)) pads_S2048x5504_S2048x5632_000_01280 h_S_ := by
    simp only [V, hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise
  rw [zero16]
/-- The second weight, extended by zeros. -/
theorem V7 (c : Dev nD) (k : Fin 2048) (f : Fin 5632) : V m c main_v7 (ix2 k f) = if h : f.val < 5504 then argU m c (ix3 0 k ⟨5504 + f.val, by omega⟩) else (0 : EReal) := by
  have e : V m c main_v7 = pad (α := Elt Ideal .bf16) S2048x5632 ![0, 0] ![0, 128] ![0, 0] (truncf (F := Ideal) .bf16 (extractStridedSlice S2048x5504 ![0, 5504] (shapeCast (α := Elt Ideal .f32) _ (argU m c) shapeCasts_S1x2048x11008_S2048x11008) slices_S2048x11008_S2048x5504_0_5504) bitsLt_bf16_f32) (sitofp (F := Ideal) .bf16 (constantI S_ 32 0#32)) pads_S2048x5504_S2048x5632_000_01280 h_S_ := by
    simp only [V, hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise
  rw [zero16]
/-- The taps, extended by zeros. -/
theorem V9 (c : Dev nD) (a : Fin 3) (f : Fin 5632) : V m c main_v9 (ix2 a f) = if h : f.val < 5504 then argT m c (ix3 0 a ⟨f.val, h⟩) else (0 : EReal) := by
  have e : V m c main_v9 = pad (α := Elt Ideal .f32) S3x5632 ![0, 0] ![0, 128] ![0, 0] (shapeCast (α := Elt Ideal .f32) _ (argT m c) shapeCasts_S1x3x5504_S3x5504) (sitofp (F := Ideal) .f32 (constantI S_ 32 0#32)) pads_S3x5504_S3x5632_000_01280 h_S_ := by
    simp only [V, hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise
  rw [zero32]
/-- The bias, extended by zeros. -/
theorem V10 (c : Dev nD) (a : Fin 1) (f : Fin 5632) : V m c main_v10 (ix2 a f) = if h : f.val < 5504 then argB m c (ix2 0 ⟨f.val, h⟩) else (0 : EReal) := by
  have e : V m c main_v10 = pad (α := Elt Ideal .f32) S1x5632 ![0, 0] ![0, 128] ![0, 0] (argB m c) (sitofp (F := Ideal) .f32 (constantI S_ 32 0#32)) pads_S1x5504_S1x5632_000_01280 h_S_ := by
    simp only [V, hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise
  rw [zero32]
/-- The cached rows, a step's sequences together. -/
theorem V12 (c : Dev nD) (a : Fin 2) (s : Fin 128) (f : Fin 5504) : V m c main_v12 (ix3 a s f) = argC m c (ix4 0 s a f) := by
  have e : V m c main_v12 = transpose (α := Elt Ideal .f32) S2x128x5504 [1, 0, 2] (shapeCast (α := Elt Ideal .f32) _ (argC m c) shapeCasts_S1x128x2x5504_S128x2x5504) transposes_S128x2x5504_S2x128x5504_1_0_2 := by
    simp only [V, hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise

/-! ## The blocks -/

/-- The block of each window at a point. -/
theorem widx : ∀ t : Fin cfg0.N, win0_0.index t = ![0, 0] ∧ win0_1.index t = ![0, t.val] ∧ win0_2.index t = ![0, t.val] ∧ win0_3.index t = ![0, t.val] ∧ win0_4.index t = ![0, t.val] ∧ win0_5.index t = ![0, 0, t.val] ∧ win0_6.index t = ![0, t.val] ∧ win0_7.index t = ![0, 0, t.val] := by decide +kernel

/-- The activations. -/
theorem blk0 (c : Dev nD) (t : Fin cfg0.N) (p : Fin 512) (k : Fin 2048) : iblk m c 0 t (ix2 p k) = argH m c (ix2 p k) := by
  refine Eq.trans ?_ (congrFun (V_main_arg0 m c) (ix2 p k))
  blk_simp [iblk]
  blk_ext [widx t]

/-- The first weight's block. -/
theorem blk1 (c : Dev nD) (t : Fin cfg0.N) (k : Fin 2048) (l : Fin 512) (f : Fin 5632) (hf : f.val = 512 * t.val + l.val) :
    iblk m c 1 t (ix2 k l) = if h : f.val < 5504 then argU m c (ix3 0 k ⟨f.val, by omega⟩) else (0 : EReal) := by
  refine Eq.trans ?_ (V3 m c k f)
  blk_simp [iblk]
  blk_ext [widx t]

/-- The second weight's block. -/
theorem blk2 (c : Dev nD) (t : Fin cfg0.N) (k : Fin 2048) (l : Fin 512) (f : Fin 5632) (hf : f.val = 512 * t.val + l.val) :
    iblk m c 2 t (ix2 k l) = if h : f.val < 5504 then argU m c (ix3 0 k ⟨5504 + f.val, by omega⟩) else (0 : EReal) := by
  refine Eq.trans ?_ (V7 m c k f)
  blk_simp [iblk]
  blk_ext [widx t]

/-- The taps' block. -/
theorem blk3 (c : Dev nD) (t : Fin cfg0.N) (a : Fin 3) (l : Fin 512) (f : Fin 5632) (hf : f.val = 512 * t.val + l.val) :
    iblk m c 3 t (ix2 a l) = if h : f.val < 5504 then argT m c (ix3 0 a ⟨f.val, h⟩) else (0 : EReal) := by
  refine Eq.trans ?_ (V9 m c a f)
  blk_simp [iblk]
  blk_ext [widx t]

/-- The bias's block. -/
theorem blk4 (c : Dev nD) (t : Fin cfg0.N) (a : Fin 1) (l : Fin 512) (f : Fin 5632) (hf : f.val = 512 * t.val + l.val) :
    iblk m c 4 t (ix2 a l) = if h : f.val < 5504 then argB m c (ix2 0 ⟨f.val, h⟩) else (0 : EReal) := by
  refine Eq.trans ?_ (V10 m c a f)
  blk_simp [iblk]
  blk_ext [widx t]

/-- The cached rows' block, where the array has the columns. -/
theorem blk5 (c : Dev nD) (t : Fin cfg0.N) (a : Fin 2) (s : Fin 128) (l : Fin 512) (f : Fin 5504) (hf : f.val = 512 * t.val + l.val) :
    X5 m c t (ix3 a s l) = argC m c (ix4 0 s a f) := by
  refine Eq.trans ?_ (V12 m c a s f)
  have hm := moved5 t (ix3 a s l) (by show t.val * 512 + l.val < 5504; omega)
  unfold X5 Pipeline.Window.fill
  rw [dif_pos hm]
  blk_simp [iblk]
  blk_ext [widx t]

/-- The masked history: the cached rows, zero past the last column. -/
theorem hist_at (c : Dev nD) (t : Fin cfg0.N) (R : Fin 256) (a : Fin 2) (s : Fin 128) (hR : R.val = 128 * a.val + s.val) (l : Fin 512) (f : Fin 5632) (hf : f.val = 512 * t.val + l.val) :
    hist m c t (ix2 R l) = if h : f.val < 5504 then argC m c (ix4 0 s a ⟨f.val, h⟩) else (0 : EReal) := by
  have hc := coord0 t
  have hk := keeps (cfg0.grid.coords t 0) l
  rw [hc] at hk
  have hX : ∀ h : f.val < 5504, X5 m c t (ix3 a s l) = argC m c (ix4 0 s a ⟨f.val, h⟩) := fun h => blk5 m c t a s l ⟨f.val, h⟩ hf
  have ha : R.val / 128 < 2 := by have := R.isLt; omega
  have hs : R.val % 128 < 128 := Nat.mod_lt _ (by omega)
  have ea : a = ⟨R.val / 128, ha⟩ := Fin.ext (by show a.val = R.val / 128; omega)
  have es : s = ⟨R.val % 128, hs⟩ := Fin.ext (by show s.val = R.val % 128; omega)
  subst ea es
  unfold hist
  generalize X5 m c t = X at hX ⊢
  pointwise [k0_pay1]
  by_cases h : f.val < 5504
  · have hy : IntOp.cmpi .slt (IntOp.addi (Scalar.muli (BitVec.ofNat 32 (grid0.coords t 0).val) 512#32) (BitVec.ofNat 32 l.val)) 5504#32 = 1#1 := by
      rw [show (grid0.coords t 0).val = t.val from hc]; exact hk.mpr (by omega)
    rw [dif_pos h]
    exact (select_on _ hy _ _).trans (hX h)
  · have hn : ¬ IntOp.cmpi .slt (IntOp.addi (Scalar.muli (BitVec.ofNat 32 (grid0.coords t 0).val) 512#32) (BitVec.ofNat 32 l.val)) 5504#32 = 1#1 := by
      rw [show (grid0.coords t 0).val = t.val from hc]; exact fun e => h (by have := hk.mp e; omega)
    rw [dif_neg h]
    exact select_off _ hn _ _

end Cert.Proof.Cached

end
-- ==== Proof.Cache.Plain.lean ====
/-
  The plain program's results for the sample path's up-projection, at coordinates.
-/
module

public import proofs.«01_k».proof.Proof.Gen.Reference6Ideal.Run
public import Idealize.ShloMosaic.Lib.Pointwise
public import Idealize.ShloMosaic.Lib.Pipeline.ValueKit

@[expose] public section

set_option maxRecDepth 16384

noncomputable section

namespace Cert.Proof.CachedPlain

open Cert.Reference6Ideal Cert.Reference6Ideal.Gen
open Idealize.ShloMosaic Idealize.ShloMosaic.TcCoe Idealize.SL.Sem

/-- The activations, a sequence's steps together, times the two weights side by side. -/
def prod (H : FVec Ideal S512x2048 .bf16) (U : FVec Ideal S1x2048x11008 .f32) : FVec Ideal S128x4x11008 .f32 :=
  Host.dotGeneral dot_S128x4x2048_S2048x11008_S128x4x11008_2_0_01_1_n_n none (transpose S128x4x2048 [1, 0, 2] (shapeCast _ (extf .f32 H bitsLt_bf16_f32) shapeCasts_S512x2048_S4x128x2048) transposes_S4x128x2048_S128x4x2048_1_0_2) (shapeCast _ U shapeCasts_S1x2048x11008_S2048x11008)

/-- The first half of the product after the two cached rows. -/
def ext (H : FVec Ideal S512x2048 .bf16) (U : FVec Ideal S1x2048x11008 .f32) (C : FVec Ideal S1x128x2x5504 .f32) : FVec Ideal S128x6x5504 .f32 :=
  concatenate S128x6x5504 1 [⟨S128x2x5504, (shapeCast _ C shapeCasts_S1x128x2x5504_S128x2x5504)⟩, ⟨S128x4x5504, (extractStridedSlice S128x4x5504 ![0, 0, 0] (prod H U) slices_S128x4x11008_S128x4x5504_0_0_0)⟩] concatenates_S128x2x5504_S128x4x5504_S128x6x5504_d1

/-- The convolution over time. -/
def conv (H : FVec Ideal S512x2048 .bf16) (U : FVec Ideal S1x2048x11008 .f32) (T : FVec Ideal S1x3x5504 .f32) (B : FVec Ideal S1x5504 .f32) (C : FVec Ideal S1x128x2x5504 .f32) : FVec Ideal S128x4x5504 .f32 :=
  addf (addf (addf (broadcastInDim S128x4x5504 ![0, 1, 2] bcast_S1x1x5504_S128x4x5504_0_1_2 (broadcastInDim S1x1x5504 ![2] bcast_S5504_S1x1x5504_2 (shapeCast _ B shapeCasts_S1x5504_S5504))) (mulf (broadcastInDim S128x4x5504 ![0, 1, 2] bcast_S1x1x5504_S128x4x5504_0_1_2 (broadcastInDim S1x1x5504 ![2] bcast_S5504_S1x1x5504_2 (shapeCast _ (extractStridedSlice S1x5504 ![0, 0] (shapeCast _ T shapeCasts_S1x3x5504_S3x5504) slices_S3x5504_S1x5504_0_0) shapeCasts_S1x5504_S5504))) (extractStridedSlice S128x4x5504 ![0, 0, 0] (ext H U C) slices_S128x6x5504_S128x4x5504_0_0_0))) (mulf (broadcastInDim S128x4x5504 ![0, 1, 2] bcast_S1x1x5504_S128x4x5504_0_1_2 (broadcastInDim S1x1x5504 ![2] bcast_S5504_S1x1x5504_2 (shapeCast _ (extractStridedSlice S1x5504 ![1, 0] (shapeCast _ T shapeCasts_S1x3x5504_S3x5504) slices_S3x5504_S1x5504_1_0) shapeCasts_S1x5504_S5504))) (extractStridedSlice S128x4x5504 ![0, 1, 0] (ext H U C) slices_S128x6x5504_S128x4x5504_0_1_0))) (mulf (broadcastInDim S128x4x5504 ![0, 1, 2] bcast_S1x1x5504_S128x4x5504_0_1_2 (broadcastInDim S1x1x5504 ![2] bcast_S5504_S1x1x5504_2 (shapeCast _ (extractStridedSlice S1x5504 ![2, 0] (shapeCast _ T shapeCasts_S1x3x5504_S3x5504) slices_S3x5504_S1x5504_2_0) shapeCasts_S1x5504_S5504))) (extractStridedSlice S128x4x5504 ![0, 2, 0] (ext H U C) slices_S128x6x5504_S128x4x5504_0_2_0))

/-- The gated product, a step's sequences together. -/
def gate (H : FVec Ideal S512x2048 .bf16) (U : FVec Ideal S1x2048x11008 .f32) (T : FVec Ideal S1x3x5504 .f32) (B : FVec Ideal S1x5504 .f32) (C : FVec Ideal S1x128x2x5504 .f32) : FVec Ideal S512x5504 .f32 :=
  shapeCast _ (transpose S4x128x5504 [1, 0, 2] (mulf (mulf (mulf (broadcastInDim S128x4x5504 ![] bcast_S_S128x4x5504 (constant (F := Ideal) S_ .f32 0x3F000000#32)) (conv H U T B C)) (addf (broadcastInDim S128x4x5504 ![] bcast_S_S128x4x5504 (constant (F := Ideal) S_ .f32 0x3F800000#32)) (Host.erf (mulf (conv H U T B C) (broadcastInDim S128x4x5504 ![] bcast_S_S128x4x5504 (constant (F := Ideal) S_ .f32 0x3F3504F3#32)))))) (extractStridedSlice S128x4x5504 ![0, 0, 5504] (prod H U) slices_S128x4x11008_S128x4x5504_0_0_5504)) transposes_S128x4x5504_S4x128x5504_1_0_2) shapeCasts_S4x128x5504_S512x5504

/-- The first result: the gated product extended by zeros. -/
def out0 (H : FVec Ideal S512x2048 .bf16) (U : FVec Ideal S1x2048x11008 .f32) (T : FVec Ideal S1x3x5504 .f32) (B : FVec Ideal S1x5504 .f32) (C : FVec Ideal S1x128x2x5504 .f32) : FVec Ideal S512x5632 .bf16 :=
  truncf .bf16 (pad S512x5632 ![0, 0] ![0, 128] ![0, 0] (gate H U T B C) (sitofp (F := Ideal) .f32 (constantI S_ 32 0#32)) pads_S512x5504_S512x5632_000_01280 h_S_) bitsLt_bf16_f32
/-- The second: the last two rows of the first half, extended by zeros. -/
def out1 (H : FVec Ideal S512x2048 .bf16) (U : FVec Ideal S1x2048x11008 .f32) (C : FVec Ideal S1x128x2x5504 .f32) : FVec Ideal S2x128x5632 .f32 :=
  pad S2x128x5632 ![0, 0, 0] ![0, 0, 128] ![0, 0, 0] (transpose S2x128x5504 [1, 0, 2] (extractStridedSlice S128x2x5504 ![0, 4, 0] (ext H U C) slices_S128x6x5504_S128x2x5504_0_4_0) transposes_S128x2x5504_S2x128x5504_1_0_2) (sitofp (F := Ideal) .f32 (constantI S_ 32 0#32)) pads_S2x128x5504_S2x128x5632_000_000_01280 h_S_

theorem res0 (m : (ℓ : Loc nD τ sig) → Buf (Elt Ideal) ℓ) (c : Dev nD) : Value.res_main_v50 m c
    = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Value.res_main_v50; rfl

/-- The integer zero, converted. -/
theorem zero32 : (FloatOps.sitofp .f32 (0#32 : BitVec 32) : Ideal .f32) = (0 : EReal) := by
  show (((0#32 : BitVec 32).toInt : ℝ) : EReal) = 0
  simp

theorem prod_at (H : FVec Ideal S512x2048 .bf16) (U : FVec Ideal S1x2048x11008 .f32) (s : Fin 128) (p : Fin 4) (f : Fin 11008) (r : Fin 512) (hr : r.val = 128 * p.val + s.val) :
    prod H U (ix3 s p f) = ∑ k : Fin 2048, H (ix2 r k) * U (ix3 0 k f) := by
  have hb : p.val * 128 + s.val < 512 := by omega
  have e : r = ⟨p.val * 128 + s.val, hb⟩ := Fin.ext (by show r.val = p.val * 128 + s.val; omega)
  subst e
  pointwise [prod]

theorem ext_at (H : FVec Ideal S512x2048 .bf16) (U : FVec Ideal S1x2048x11008 .f32) (C : FVec Ideal S1x128x2x5504 .f32) (s : Fin 128) (q : Fin 6) (f : Fin 5504) :
    ext H U C (ix3 s q f) = if h : q.val < 2 then C (ix4 0 s ⟨q.val, h⟩ f) else prod H U (ix3 s ⟨q.val - 2, by omega⟩ ⟨f.val, by omega⟩) := by
  pointwise [ext]

theorem conv_at (H : FVec Ideal S512x2048 .bf16) (U : FVec Ideal S1x2048x11008 .f32) (T : FVec Ideal S1x3x5504 .f32) (B : FVec Ideal S1x5504 .f32) (C : FVec Ideal S1x128x2x5504 .f32) (s : Fin 128) (p : Fin 4) (f : Fin 5504) :
    conv H U T B C (ix3 s p f) = ((B (ix2 0 f) + T (ix3 0 0 f) * ext H U C (ix3 s ⟨p.val, by omega⟩ f)) + T (ix3 0 1 f) * ext H U C (ix3 s ⟨1 + p.val, by omega⟩ f)) + T (ix3 0 2 f) * ext H U C (ix3 s ⟨2 + p.val, by omega⟩ f) := by
  pointwise [conv]

/-- The gate of a convolved value `x` and a value `u` of the second half. -/
def gateOf (x u : EReal) : EReal := Ideal.ofBits FTy.f32 1056964608#32 * x * (1 + Ideal.erf (x * Ideal.ofBits FTy.f32 1060439283#32)) * u

theorem out0_at (H : FVec Ideal S512x2048 .bf16) (U : FVec Ideal S1x2048x11008 .f32) (T : FVec Ideal S1x3x5504 .f32) (B : FVec Ideal S1x5504 .f32) (C : FVec Ideal S1x128x2x5504 .f32) (s : Fin 128) (p : Fin 4) (f : Fin 5632) (r : Fin 512) (hr : r.val = 128 * p.val + s.val) :
    out0 H U T B C (ix2 r f) = if h : f.val < 5504 then gateOf (conv H U T B C (ix3 s p ⟨f.val, h⟩)) (prod H U (ix3 s p ⟨5504 + f.val, by omega⟩)) else (0 : EReal) := by
  have hp : r.val / 128 < 4 := by omega
  have hs : r.val % 128 < 128 := by omega
  have ep : p = ⟨r.val / 128, hp⟩ := Fin.ext (by show p.val = r.val / 128; omega)
  have es : s = ⟨r.val % 128, hs⟩ := Fin.ext (by show s.val = r.val % 128; omega)
  subst es ep
  pointwise [out0, gate]
  rw [zero32]
  rfl

theorem out1_at (H : FVec Ideal S512x2048 .bf16) (U : FVec Ideal S1x2048x11008 .f32) (C : FVec Ideal S1x128x2x5504 .f32) (a : Fin 2) (s : Fin 128) (f : Fin 5632) :
    out1 H U C (ix3 a s f) = if h : f.val < 5504 then prod H U (ix3 s ⟨2 + a.val, by omega⟩ ⟨f.val, by omega⟩) else (0 : EReal) := by
  have he : ∀ f' : Fin 5504, ext H U C (ix3 s ⟨4 + a.val, by omega⟩ f') = prod H U (ix3 s ⟨2 + a.val, by omega⟩ ⟨f'.val, by omega⟩) := fun f' => by
    rw [ext_at, dif_neg (by show ¬ 4 + a.val < 2; omega)]
    congr 2
    exact Fin.ext (by show 4 + a.val - 2 = 2 + a.val; omega)
  pointwise [out1]
  rw [zero32]
  by_cases h : f.val < 5504
  · rw [dif_pos h, dif_pos h]; exact he _
  · rw [dif_neg h, dif_neg h]

end Cert.Proof.CachedPlain

end
-- ==== Proof.Cache.Gate.lean ====
/-
  The gated block and the kept rows of a point at coordinates.
-/
module

public import proofs.«01_k».proof.Proof.Cache.Reads
public import proofs.«01_k».proof.Proof.Cache.Plain

@[expose] public section

set_option maxRecDepth 16384

noncomputable section

namespace Cert.Proof.Cached

open Cert.Kernel6Ideal Cert.Kernel6Ideal.Gen
open Idealize.ShloMosaic Idealize.ShloMosaic.TcCoe Idealize.SL.Sem
open Idealize.ShloMosaic.Pipeline (Dat)
open Cert.Proof.CachedPlain (gateOf)

/-- A row of the activations times a column of a weight block. -/
def rowOf (X0 : S512x2048.Idx → Elt Ideal .bf16) (W : S2048x512.Idx → Elt Ideal .bf16) (q l : Fin 512) : EReal :=
  ∑ k : Fin 2048, X0 (ix2 q k) * W (ix2 k l)

/-- A row of the scratch when it is full: the history's two steps, then the products. -/
def bufOf (P : S256x512.Idx → Elt Ideal .f32) (X0 : S512x2048.Idx → Elt Ideal .bf16) (W : S2048x512.Idx → Elt Ideal .bf16) (R : Fin 768) (l : Fin 512) : EReal :=
  if h : R.val < 256 then P (ix2 ⟨R.val, h⟩ l) else rowOf X0 W ⟨R.val - 256, by omega⟩ l

theorem prodOf_at (X0 : S512x2048.Idx → Elt Ideal .bf16) (W : S2048x512.Idx → Elt Ideal .bf16) (s : Fin 4) (p : Fin 128) (l q : Fin 512) (hq : q.val = 128 * s.val + p.val) :
    prodOf X0 W s (ix2 p l) = rowOf X0 W q l := by
  unfold rowOf
  fin_cases s
  · pointwise [prodOf, k0_pay2, rowsOf]
    blk_point []
    exact (Nat.zero_add _).symm.trans hq.symm
  · pointwise [prodOf, k0_pay2, rowsOf]
    blk_point []
    exact hq.symm
  · pointwise [prodOf, k0_pay2, rowsOf]
    blk_point []
    exact hq.symm
  · pointwise [prodOf, k0_pay2, rowsOf]
    blk_point []
    exact hq.symm

/-- The history and the products cover the scratch. -/
theorem fullCover (P : FVec Ideal S256x512 .f32) (A : Fin 4 → FVec Ideal S128x512 .f32) (R : Fin 768) (l : Fin 512) :
    ∃ p ∈ ([⟨rS5, A 3⟩, ⟨rS4, A 2⟩, ⟨rS3, A 1⟩, ⟨rS2, A 0⟩, ⟨rP, P⟩] : List (View.Piece (Elt Ideal) S768x512 .f32)), (ix2 R l : S768x512.Idx) ∈ p.1.set := by
  have key : ∀ (o n : Nat) (inb), o ≤ R.val → R.val < o + n → (ix2 R l : S768x512.Idx) ∈ (Rect.unit (s := S768x512) ![o, 0] ![n, 512] inb).set := by
    intro o n inb ha hb
    refine Rect.mem_set_unit.mpr fun a => ?_
    fin_cases a
    · exact ⟨ha, hb⟩
    · exact ⟨Nat.zero_le _, by show l.val < 0 + 512; omega⟩
  by_cases hP : R.val < 256
  · exact ⟨⟨rP, P⟩, by simp, key 0 256 inb_S768x512_S256x512_0_0 (by omega) (by omega)⟩
  by_cases hA : R.val < 384
  · exact ⟨⟨rS2, A 0⟩, by simp, key 256 128 inb_S768x512_S128x512_256_0 (by omega) (by omega)⟩
  by_cases hB : R.val < 512
  · exact ⟨⟨rS3, A 1⟩, by simp, key 384 128 inb_S768x512_S128x512_384_0 (by omega) (by omega)⟩
  by_cases hC : R.val < 640
  · exact ⟨⟨rS4, A 2⟩, by simp, key 512 128 inb_S768x512_S128x512_512_0 (by omega) (by omega)⟩
  · exact ⟨⟨rS5, A 3⟩, by simp, key 640 128 inb_S768x512_S128x512_640_0 (by omega) (by omega)⟩

/-- The full scratch at coordinates. -/
theorem full_at (P : FVec Ideal S256x512 .f32) (X0 : S512x2048.Idx → Elt Ideal .bf16) (W : S2048x512.Idx → Elt Ideal .bf16) (R : Fin 768) (l : Fin 512) :
    View.canon (laid P (prodOf X0 W) 4) (ix2 R l) = bufOf P X0 W R l := by
  have key : ∀ (s : Fin 4) (x : S128x512.Idx), R.val = 256 + 128 * s.val + (x 0).val → l.val = (x 1).val →
      prodOf X0 W s x = bufOf P X0 W R l := fun s x h0 h1 => by
    have hx : x = ix2 (x 0) l := by
      funext a
      fin_cases a
      · rfl
      · exact Fin.ext h1.symm
    rw [hx]
    unfold bufOf
    rw [dif_neg (by omega)]
    exact prodOf_at X0 W s (x 0) l _ (by show R.val - 256 = _; omega)
  have keyP : ∀ (x : S256x512.Idx), R.val = (x 0).val → l.val = (x 1).val → P x = bufOf P X0 W R l := fun x h0 h1 => by
    have hb : (x 0).val < 256 := (x 0).isLt
    unfold bufOf
    rw [dif_pos (by omega)]
    refine congrArg P ?_
    funext a
    fin_cases a
    · exact Fin.ext h0.symm
    · exact Fin.ext h1.symm
  generalize prodOf X0 W = A at key ⊢
  show View.canon ([⟨rS5, A 3⟩, ⟨rS4, A 2⟩, ⟨rS3, A 1⟩, ⟨rS2, A 0⟩, ⟨rP, P⟩] : List (View.Piece (Elt Ideal) S768x512 .f32)) (ix2 R l) = _
  canon_tiles x h using fullCover P A R l
  · exact key 3 x h0 h1
  · exact key 2 x h0 h1
  · exact key 1 x h0 h1
  · exact key 0 x h0 h1
  · exact keyP x h0 h1

/-- A row above a step's is not among the step's. -/
theorem not_in (o : Nat) (inb) (R : Fin 768) (l : Fin 512) (h : R.val < o) :
    (ix2 R l : S768x512.Idx) ∉ (Rect.unit (s := S768x512) ![o, 0] S128x512.size inb).set := fun hm => by
  have h0 : o ≤ R.val := (Rect.mem_set_unit.mp hm 0).1
  omega

/-- A partly filled scratch is the full one where it is filled. -/
theorem laid3 (P : FVec Ideal S256x512 .f32) (A : Fin 4 → FVec Ideal S128x512 .f32) (R : Fin 768) (l : Fin 512) (h : R.val < 640) :
    View.canon (laid P A 3) (ix2 R l) = View.canon (laid P A 4) (ix2 R l) :=
  (View.canon_cons_of_not_mem (⟨rS5, A 3⟩ : View.Piece (Elt Ideal) S768x512 .f32) (laid P A 3) (not_in 640 inb_S768x512_S128x512_640_0 R l h)).symm
theorem laid2 (P : FVec Ideal S256x512 .f32) (A : Fin 4 → FVec Ideal S128x512 .f32) (R : Fin 768) (l : Fin 512) (h : R.val < 512) :
    View.canon (laid P A 2) (ix2 R l) = View.canon (laid P A 4) (ix2 R l) :=
  (View.canon_cons_of_not_mem (⟨rS4, A 2⟩ : View.Piece (Elt Ideal) S768x512 .f32) (laid P A 2) (not_in 512 inb_S768x512_S128x512_512_0 R l h)).symm.trans (laid3 P A R l (by omega))
theorem laid1 (P : FVec Ideal S256x512 .f32) (A : Fin 4 → FVec Ideal S128x512 .f32) (R : Fin 768) (l : Fin 512) (h : R.val < 384) :
    View.canon (laid P A 1) (ix2 R l) = View.canon (laid P A 4) (ix2 R l) :=
  (View.canon_cons_of_not_mem (⟨rS3, A 1⟩ : View.Piece (Elt Ideal) S768x512 .f32) (laid P A 1) (not_in 384 inb_S768x512_S128x512_384_0 R l h)).symm.trans (laid2 P A R l (by omega))

/-- A load of 128 rows of the scratch. -/
theorem ld_rows (X : S768x512.Idx → Elt Ideal .f32) (o : Nat) (inb) (p : Fin 128) (l : Fin 512) (R : Fin 768) (hR : R.val = o + p.val) :
    View.ld X (Rect.unit (s := S768x512) ![o, 0] S128x512.size inb) (ix2 p l) = X (ix2 R l) :=
  View.ld_unit_apply_of X _ _ inb (ix2 p l) (ix2 R l) fun a => by
    fin_cases a
    · exact hR
    · exact (Nat.zero_add _).symm

/-- The products one step and two steps before a step's. -/
theorem prev1_at (P : FVec Ideal S256x512 .f32) (X0 : S512x2048.Idx → Elt Ideal .bf16) (W : S2048x512.Idx → Elt Ideal .bf16) (s : Fin 4) (p : Fin 128) (l : Fin 512) (R : Fin 768) (hR : R.val = 128 + 128 * s.val + p.val) :
    prev1 P (prodOf X0 W) s (ix2 p l) = bufOf P X0 W R l := by
  rw [← full_at]
  generalize prodOf X0 W = A
  fin_cases s
  · exact (ld_rows (View.canon (laid P A 1)) 128 inb_S768x512_S128x512_128_0 p l R hR).trans (laid1 P A R l (by have : R.val = 128 + 128 * 0 + p.val := hR; omega))
  · exact (ld_rows (View.canon (laid P A 2)) 256 inb_S768x512_S128x512_256_0 p l R hR).trans (laid2 P A R l (by have : R.val = 128 + 128 * 1 + p.val := hR; omega))
  · exact (ld_rows (View.canon (laid P A 3)) 384 inb_S768x512_S128x512_384_0 p l R hR).trans (laid3 P A R l (by have : R.val = 128 + 128 * 2 + p.val := hR; omega))
  · exact ld_rows (View.canon (laid P A 4)) 512 inb_S768x512_S128x512_512_0 p l R hR
theorem prev2_at (P : FVec Ideal S256x512 .f32) (X0 : S512x2048.Idx → Elt Ideal .bf16) (W : S2048x512.Idx → Elt Ideal .bf16) (s : Fin 4) (p : Fin 128) (l : Fin 512) (R : Fin 768) (hR : R.val = 128 * s.val + p.val) :
    prev2 P (prodOf X0 W) s (ix2 p l) = bufOf P X0 W R l := by
  rw [← full_at]
  generalize prodOf X0 W = A
  fin_cases s
  · exact (ld_rows (View.canon (laid P A 1)) 0 inb_S768x512_S128x512_0_0 p l R hR).trans (laid1 P A R l (by have : R.val = 128 * 0 + p.val := hR; omega))
  · exact (ld_rows (View.canon (laid P A 2)) 128 inb_S768x512_S128x512_128_0 p l R hR).trans (laid2 P A R l (by have : R.val = 128 * 1 + p.val := hR; omega))
  · exact (ld_rows (View.canon (laid P A 3)) 256 inb_S768x512_S128x512_256_0 p l R hR).trans (laid3 P A R l (by have : R.val = 128 * 2 + p.val := hR; omega))
  · exact ld_rows (View.canon (laid P A 4)) 384 inb_S768x512_S128x512_384_0 p l R hR

/-- The convolved value of a row. -/
def convOf (P : S256x512.Idx → Elt Ideal .f32) (X0 : S512x2048.Idx → Elt Ideal .bf16) (W : S2048x512.Idx → Elt Ideal .bf16) (X3 : S3x512.Idx → Elt Ideal .f32) (X4 : S1x512.Idx → Elt Ideal .f32) (q l : Fin 512) : EReal :=
  ((X4 (ix2 0 l) + X3 (ix2 0 l) * bufOf P X0 W ⟨q.val, by omega⟩ l) + X3 (ix2 1 l) * bufOf P X0 W ⟨128 + q.val, by omega⟩ l) + X3 (ix2 2 l) * bufOf P X0 W ⟨256 + q.val, by omega⟩ l

/-- A tap. -/
theorem tap_at (X3 : S3x512.Idx → Elt Ideal .f32) (o : Nat) (inb) (a : Fin 3) (ha : a.val = o) (l : Fin 512) :
    View.ld X3 (Rect.unit (s := S3x512) ![o, 0] S1x512.size inb) (ix2 0 l) = X3 (ix2 a l) :=
  View.ld_unit_apply_of X3 _ _ inb (ix2 0 l) (ix2 a l) fun i => by
    fin_cases i
    · exact ha
    · exact (Nat.zero_add _).symm

/-- A step's gated rows. -/
theorem step_at (P : FVec Ideal S256x512 .f32) (X0 : S512x2048.Idx → Elt Ideal .bf16) (X1 X2 : S2048x512.Idx → Elt Ideal .bf16) (X3 : S3x512.Idx → Elt Ideal .f32) (X4 : S1x512.Idx → Elt Ideal .f32)
    (s : Fin 4) (p : Fin 128) (l q : Fin 512) (hq : q.val = 128 * s.val + p.val) :
    step P X0 X1 X2 X3 X4 s (ix2 p l) = gateOf (convOf P X0 X1 X3 X4 q l) (rowOf X0 X2 q l) := by
  have hA : prodOf X0 X1 s (ix2 p l) = bufOf P X0 X1 ⟨256 + q.val, by omega⟩ l := by
    unfold bufOf
    rw [dif_neg (by show ¬ 256 + q.val < 256; omega)]
    exact prodOf_at X0 X1 s p l _ (by show 256 + q.val - 256 = _; omega)
  have hU := prodOf_at X0 X2 s p l q hq
  have h1 := prev1_at P X0 X1 s p l ⟨128 + q.val, by omega⟩ (by show 128 + q.val = _; omega)
  have h2 := prev2_at P X0 X1 s p l ⟨q.val, by omega⟩ hq
  have t0 := tap_at X3 0 inb_S3x512_S1x512_0_0 0 rfl l
  have t1 := tap_at X3 1 inb_S3x512_S1x512_1_0 1 rfl l
  have t2 := tap_at X3 2 inb_S3x512_S1x512_2_0 2 rfl l
  unfold step convOf
  rw [← hA, ← hU, ← h1, ← h2, ← t0, ← t1, ← t2]
  generalize prev1 P (prodOf X0 X1) s = A1
  generalize prev2 P (prodOf X0 X1) s = A2
  generalize prodOf X0 X1 s = A
  generalize prodOf X0 X2 s = U
  unfold gated
  generalize View.ld X3 rT0 = T0
  generalize View.ld X3 rT1 = T1
  generalize View.ld X3 rT2 = T2
  pointwise [k0_pay7, k0_pay5, k0_pay6]
  rfl

/-- The whole gated block. -/
theorem gBlock_at (P : FVec Ideal S256x512 .f32) (X0 : S512x2048.Idx → Elt Ideal .bf16) (X1 X2 : S2048x512.Idx → Elt Ideal .bf16) (X3 : S3x512.Idx → Elt Ideal .f32) (X4 : S1x512.Idx → Elt Ideal .f32) (q l : Fin 512) :
    gBlock P X0 X1 X2 X3 X4 (ix2 q l) = gateOf (convOf P X0 X1 X3 X4 q l) (rowOf X0 X2 q l) := by
  unfold gBlock
  have key : ∀ (s : Fin 4) (x : S128x512.Idx), q.val = 128 * s.val + (x 0).val → l.val = (x 1).val →
      step P X0 X1 X2 X3 X4 s x = gateOf (convOf P X0 X1 X3 X4 q l) (rowOf X0 X2 q l) := fun s x h0 h1 => by
    have hx : x = ix2 (x 0) l := by
      funext a
      fin_cases a
      · rfl
      · exact Fin.ext h1.symm
    rw [hx]
    exact step_at P X0 X1 X2 X3 X4 s (x 0) l q h0
  canon_tiles x h
  · exact key 3 x h0 h1
  · exact key 2 x h0 h1
  · exact key 1 x h0 h1
  · exact key 0 x (h0.trans (Nat.zero_add _).symm) h1

/-- The kept rows. -/
theorem tailBlock_at (P : FVec Ideal S256x512 .f32) (X0 : S512x2048.Idx → Elt Ideal .bf16) (X1 : S2048x512.Idx → Elt Ideal .bf16) (a : Fin 2) (s : Fin 128) (l q : Fin 512) (hq : q.val = 256 + 128 * a.val + s.val) :
    tailBlock P X0 X1 (ix3 a s l) = rowOf X0 X1 q l := by
  have hb : a.val * 128 + s.val < 256 := by omega
  have hf := full_at P X0 X1 ⟨256 + q.val, by omega⟩ l
  unfold bufOf at hf
  rw [dif_neg (by show ¬ 256 + q.val < 256; omega)] at hf
  have hl : View.ld (View.canon (laid P (prodOf X0 X1) 4)) rE (ix2 (⟨a.val * 128 + s.val, hb⟩ : Fin 256) l) = rowOf X0 X1 q l :=
    (View.ld_unit_apply_of _ _ _ inb_S768x512_S256x512_512_0 _ (ix2 ⟨256 + q.val, by omega⟩ l) fun i => by
      fin_cases i
      · show 256 + q.val = 512 + (a.val * 128 + s.val); omega
      · exact (Nat.zero_add _).symm).trans (hf.trans (congrArg (fun r => rowOf X0 X1 r l) (Fin.ext (by show 256 + q.val - 256 = q.val; omega))))
  unfold tailBlock
  generalize View.ld (View.canon (laid P (prodOf X0 X1) 4)) rE = Y at hl ⊢
  pointwise [k0_pay21]
  exact hl

end Cert.Proof.Cached

end
-- ==== Proof.Cache.Final.lean ====
/-
  The results of the sample path's up-projection after its run: the plain program's.
-/
module

public import proofs.«01_k».proof.Proof.Cache.Gate

@[expose] public section

set_option maxRecDepth 16384

noncomputable section

namespace Cert.Proof.Cached

open Cert.Kernel6Ideal Cert.Kernel6Ideal.Gen
open Idealize.ShloMosaic Idealize.ShloMosaic.TcCoe Idealize.SL.Sem
open Idealize.ShloMosaic.Pipeline (Dat)
open Cert.Proof.CachedPlain (gateOf)

variable (m : (ℓ : Loc nD τ sig) → Buf (Elt Ideal) ℓ)

/-- A row of the activations times a column of the first weight's block: the plain product, zero past the weight's last column. -/
theorem rowA (c : Dev nD) (t : Fin cfg0.N) (q l : Fin 512) (f : Fin 5632) (hf : f.val = 512 * t.val + l.val) (s : Fin 128) (p : Fin 4) (hq : q.val = 128 * p.val + s.val) :
    rowOf (iblk m c 0 t) (iblk m c 1 t) q l = if h : f.val < 5504 then CachedPlain.prod (argH m c) (argU m c) (ix3 s p ⟨f.val, by omega⟩) else (0 : EReal) := by
  have hw := fun k => blk1 m c t k l f hf
  have hh := fun k => blk0 m c t q k
  unfold rowOf
  by_cases h : f.val < 5504
  · rw [dif_pos h, CachedPlain.prod_at _ _ s p _ q hq]
    refine Finset.sum_congr rfl fun k _ => ?_
    rw [hh k, hw k, dif_pos h]
  · rw [dif_neg h]
    refine Finset.sum_eq_zero fun k _ => ?_
    rw [hw k, dif_neg h, mul_zero]

/-- The same of the second weight's. -/
theorem rowU (c : Dev nD) (t : Fin cfg0.N) (q l : Fin 512) (f : Fin 5632) (hf : f.val = 512 * t.val + l.val) (s : Fin 128) (p : Fin 4) (hq : q.val = 128 * p.val + s.val) :
    rowOf (iblk m c 0 t) (iblk m c 2 t) q l = if h : f.val < 5504 then CachedPlain.prod (argH m c) (argU m c) (ix3 s p ⟨5504 + f.val, by omega⟩) else (0 : EReal) := by
  have hw := fun k => blk2 m c t k l f hf
  have hh := fun k => blk0 m c t q k
  unfold rowOf
  by_cases h : f.val < 5504
  · rw [dif_pos h, CachedPlain.prod_at _ _ s p _ q hq]
    refine Finset.sum_congr rfl fun k _ => ?_
    rw [hh k, hw k, dif_pos h]
  · rw [dif_neg h]
    refine Finset.sum_eq_zero fun k _ => ?_
    rw [hw k, dif_neg h, mul_zero]

/-- A row of the scratch is the plain program's extended first half, at the row's step and sequence. -/
theorem buf_ext (c : Dev nD) (t : Fin cfg0.N) (R : Fin 768) (l : Fin 512) (f : Fin 5632) (hf : f.val = 512 * t.val + l.val) (s : Fin 128) (r : Fin 6) (hR : R.val = 128 * r.val + s.val) (h : f.val < 5504) :
    bufOf (hist m c t) (iblk m c 0 t) (iblk m c 1 t) R l = CachedPlain.ext (argH m c) (argU m c) (argC m c) (ix3 s r ⟨f.val, h⟩) := by
  rw [CachedPlain.ext_at]
  unfold bufOf
  by_cases h0 : r.val < 2
  · rw [dif_pos (by omega), dif_pos h0, hist_at m c t _ ⟨r.val, h0⟩ s hR l f hf, dif_pos h]
  · rw [dif_neg (by omega), dif_neg h0, rowA m c t _ l f hf s ⟨r.val - 2, by omega⟩ (by show R.val - 256 = 128 * (r.val - 2) + s.val; omega), dif_pos h]

/-- The gated value of a row and a column of a point is the plain program's. -/
theorem gate_eq (c : Dev nD) (t : Fin cfg0.N) (q l : Fin 512) (f : Fin 5632) (hf : f.val = 512 * t.val + l.val) :
    gateOf (convOf (hist m c t) (iblk m c 0 t) (iblk m c 1 t) (iblk m c 3 t) (iblk m c 4 t) q l) (rowOf (iblk m c 0 t) (iblk m c 2 t) q l)
      = CachedPlain.out0 (argH m c) (argU m c) (argT m c) (argB m c) (argC m c) (ix2 q f) := by
  have hp : q.val / 128 < 4 := by omega
  have hs : q.val % 128 < 128 := Nat.mod_lt _ (by omega)
  have hq : q.val = 128 * (q.val / 128) + q.val % 128 := by omega
  rw [CachedPlain.out0_at _ _ _ _ _ ⟨q.val % 128, hs⟩ ⟨q.val / 128, hp⟩ f q hq, rowU m c t q l f hf ⟨q.val % 128, hs⟩ ⟨q.val / 128, hp⟩ hq]
  by_cases h : f.val < 5504
  · rw [dif_pos h, dif_pos h]
    refine congrArg (fun x => gateOf x _) ?_
    rw [CachedPlain.conv_at]
    unfold convOf
    rw [blk4 m c t 0 l f hf, dif_pos h, blk3 m c t 0 l f hf, dif_pos h, blk3 m c t 1 l f hf, dif_pos h, blk3 m c t 2 l f hf, dif_pos h,
      buf_ext m c t _ l f hf ⟨q.val % 128, hs⟩ ⟨q.val / 128, by omega⟩ hq h,
      buf_ext m c t _ l f hf ⟨q.val % 128, hs⟩ ⟨1 + q.val / 128, by omega⟩ (by show 128 + q.val = 128 * (1 + q.val / 128) + q.val % 128; omega) h,
      buf_ext m c t _ l f hf ⟨q.val % 128, hs⟩ ⟨2 + q.val / 128, by omega⟩ (by show 256 + q.val = 128 * (2 + q.val / 128) + q.val % 128; omega) h]
  · rw [dif_neg h, dif_neg h]
    exact mul_zero _

/-- What a point leaves of the gated product. -/
theorem left6_at (c : Dev nD) (t : Fin cfg0.N) (q l : Fin 512) (f : Fin 5632) (hf : f.val = 512 * t.val + l.val) :
    left m c 6 t (ix2 q l) = CachedPlain.out0 (argH m c) (argU m c) (argT m c) (argB m c) (argC m c) (ix2 q f) :=
  (gBlock_at (hist m c t) (iblk m c 0 t) (iblk m c 1 t) (iblk m c 2 t) (iblk m c 3 t) (iblk m c 4 t) q l).trans (gate_eq m c t q l f hf)

/-- The same at the block's own index and the array's. -/
theorem point6 (c : Dev nD) (t : Fin cfg0.N) (y : S512x512.Idx) (i : S512x5632.Idx) (h0 : (i 0).val = (y 0).val) (h1 : (i 1).val = 512 * t.val + (y 1).val) :
    left m c 6 t y = CachedPlain.out0 (argH m c) (argU m c) (argT m c) (argB m c) (argC m c) i := by
  have hy : y = ix2 (y 0) (y 1) := by funext a; fin_cases a <;> rfl
  have hi : i = ix2 (y 0) (i 1) := by
    funext a; fin_cases a
    · exact Fin.ext h0
    · rfl
  rw [hy, hi]
  exact left6_at m c t (y 0) (y 1) (i 1) h1

attribute [local irreducible] gBlock in
/-- The first: the gated product. -/
theorem final6 (c : Dev nD) : (dats m 0 c).arrAt 6 (cfgs 0).N = CachedPlain.out0 (argH m c) (argU m c) (argT m c) (argB m c) (argC m c) := by
  refine (dats m 0 c).arrAt_eq_of_covers 6 _ (by decide +kernel) fun t hf y => ?_
  blk_simp
  refine point6 m c t y _ ?_ ?_
  · blk_simp [widx t]
  · blk_simp [widx t]
    omega

/-- What a point leaves of the kept rows. -/
theorem left7_at (c : Dev nD) (t : Fin cfg0.N) (a : Fin 2) (s : Fin 128) (l : Fin 512) (f : Fin 5632) (hf : f.val = 512 * t.val + l.val) :
    left m c 7 t (ix3 a s l) = CachedPlain.out1 (argH m c) (argU m c) (argC m c) (ix3 a s f) := by
  have hb : 256 + 128 * a.val + s.val < 512 := by omega
  refine (tailBlock_at (hist m c t) (iblk m c 0 t) (iblk m c 1 t) a s l ⟨256 + 128 * a.val + s.val, hb⟩ rfl).trans ?_
  rw [CachedPlain.out1_at]
  exact rowA m c t _ l f hf s ⟨2 + a.val, by omega⟩ (by show 256 + 128 * a.val + s.val = 128 * (2 + a.val) + s.val; omega)

/-- The same at the block's own index and the array's. -/
theorem point7 (c : Dev nD) (t : Fin cfg0.N) (y : S2x128x512.Idx) (i : S2x128x5632.Idx) (h0 : (i 0).val = (y 0).val) (h1 : (i 1).val = (y 1).val) (h2 : (i 2).val = 512 * t.val + (y 2).val) :
    left m c 7 t y = CachedPlain.out1 (argH m c) (argU m c) (argC m c) i := by
  have hy : y = ix3 (y 0) (y 1) (y 2) := by funext a; fin_cases a <;> rfl
  have hi : i = ix3 (y 0) (y 1) (i 2) := by
    funext a; fin_cases a
    · exact Fin.ext h0
    · exact Fin.ext h1
    · rfl
  rw [hy, hi]
  exact left7_at m c t (y 0) (y 1) (y 2) (i 2) h2

attribute [local irreducible] tailBlock in
/-- The second: the kept rows. -/
theorem final7 (c : Dev nD) : (dats m 0 c).arrAt 7 (cfgs 0).N = CachedPlain.out1 (argH m c) (argU m c) (argC m c) := by
  refine (dats m 0 c).arrAt_eq_of_covers 7 _ (by decide +kernel) fun t hf y => ?_
  blk_simp
  refine point7 m c t y _ ?_ ?_ ?_
  · blk_simp [widx t]
  · blk_simp [widx t]
  · blk_simp [widx t]
    omega

end Cert.Proof.Cached

end
-- ==== Proof.Cache.Algebraic.lean ====
/-
  The sample path's up-projection computes the plain program's two results, over the extended reals.
-/
module

public import proofs.«01_k».proof.Proof.Cache.Final
public import proofs.«01_k».proof.Proof.Cache.Frames

@[expose] public section

set_option maxRecDepth 16384

noncomputable section

namespace Cert.Proof.Cached

open Idealize.ShloMosaic Idealize.SL.Sem

/-- The run of the kernel, its results by name. -/
theorem run_kernel (m : (ℓ : Loc Cert.Kernel6Ideal.nD Cert.Kernel6Ideal.τ Cert.Kernel6Ideal.sig) → Buf (Elt Ideal) ℓ) (g : Dev Cert.Kernel6Ideal.nD → PrngReg) :
    θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
      r.2.mem ((c.tc : Thread Cert.Kernel6Ideal.nD Cert.Kernel6Ideal.τ).loc Cert.Kernel6Ideal.main_v13_0) = CachedPlain.out0 (argH m c) (argU m c) (argT m c) (argB m c) (argC m c)
      ∧ r.2.mem ((c.tc : Thread Cert.Kernel6Ideal.nD Cert.Kernel6Ideal.τ).loc Cert.Kernel6Ideal.main_v13_1) = CachedPlain.out1 (argH m c) (argU m c) (argC m c)
      ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)) :=
  (θ_run Cert.Kernel6Ideal.defs _ _).mono (fun r h c => ⟨((h.1 c).1 6).trans (final6 m c), ((h.1 c).1 7).trans (final7 m c),
      ((h.1 c).1 0).trans (((dats m 0 c).arrAt_in 0 rfl _).trans (Cert.Kernel6Ideal.Gen.V_main_arg0 m c)),
      ((h.1 c).2 Cert.Kernel6Ideal.main_arg1 (Pipeline.mem_restRefs_of Cert.Kernel6Ideal.main_arg1 (by decide) (by decide))).trans (Cert.Kernel6Ideal.Gen.V_main_arg1 m c),
      ((h.1 c).2 Cert.Kernel6Ideal.main_arg2 (Pipeline.mem_restRefs_of Cert.Kernel6Ideal.main_arg2 (by decide) (by decide))).trans (Cert.Kernel6Ideal.Gen.V_main_arg2 m c),
      ((h.1 c).2 Cert.Kernel6Ideal.main_arg3 (Pipeline.mem_restRefs_of Cert.Kernel6Ideal.main_arg3 (by decide) (by decide))).trans (Cert.Kernel6Ideal.Gen.V_main_arg3 m c),
      ((h.1 c).2 Cert.Kernel6Ideal.main_arg4 (Pipeline.mem_restRefs_of Cert.Kernel6Ideal.main_arg4 (by decide) (by decide))).trans (Cert.Kernel6Ideal.Gen.V_main_arg4 m c)⟩)
    (run_main (F := Ideal) m g)

theorem algebraic : Cert.algebraic_Kernel6Ideal_Reference6Ideal := by
  intro m g m' g' _ hargs
  refine ⟨fun c => CachedPlain.out0 (argH m c) (argU m c) (argT m c) (argB m c) (argC m c), fun c => CachedPlain.out1 (argH m c) (argU m c) (argC m c), run_kernel m g, ?_⟩
  refine (θ_run Cert.Reference6Ideal.defs _ _).mono (fun r h c => ?_) (Cert.Reference6Ideal.Value.run (F := Ideal) m' g')
  obtain ⟨r0, r1, ra⟩ := h c
  obtain ⟨e0, e1, e2, e3, e4⟩ := hargs c
  have e0' : m' ((c.tc : Thread Cert.Reference6Ideal.nD Cert.Reference6Ideal.τ).loc Cert.Reference6Ideal.main_arg0) = argH m c := e0
  have e1' : m' ((c.tc : Thread Cert.Reference6Ideal.nD Cert.Reference6Ideal.τ).loc Cert.Reference6Ideal.main_arg1) = argU m c := e1
  have e2' : m' ((c.tc : Thread Cert.Reference6Ideal.nD Cert.Reference6Ideal.τ).loc Cert.Reference6Ideal.main_arg2) = argT m c := e2
  have e3' : m' ((c.tc : Thread Cert.Reference6Ideal.nD Cert.Reference6Ideal.τ).loc Cert.Reference6Ideal.main_arg3) = argB m c := e3
  have e4' : m' ((c.tc : Thread Cert.Reference6Ideal.nD Cert.Reference6Ideal.τ).loc Cert.Reference6Ideal.main_arg4) = argC m c := e4
  refine ⟨(r0.trans (CachedPlain.res0 m' c)).trans ?_, Eq.trans (r1.trans (by rfl : _ = CachedPlain.out1 (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg4)))) ?_, ra⟩
  · rw [e0', e1', e2', e3', e4']
  · rw [e0', e1', e4']

end Cert.Proof.Cached

end
-- ==== Proof.Ada.Frames.lean ====
/-
  The three programs of the modulation run and leave their arguments as they were.
-/
module

public import proofs.«01_k».proof.Defs
public import proofs.«01_k».proof.Proof.Gen.Kernel7
public import proofs.«01_k».proof.Proof.Gen.Kernel7Ideal.Frame
public import proofs.«01_k».proof.Proof.Gen.Reference7Ideal.Run

@[expose] public section

noncomputable section

namespace Cert.Proof.Ada

open Idealize.ShloMosaic Idealize.SL.Sem

/-- The two printings of the kernel have the same body. -/
theorem bodies_eq : Cert.Kernel7.defs₀ (F := Bits) = Cert.Kernel7Ideal.defs₀ (F := Bits) := by
  unfold Cert.Kernel7.defs₀ Cert.Kernel7Ideal.defs₀
  refine congrArg Defs.onTc (funext fun ℓ => funext fun a => ?_)
  match ℓ, a with
  | ⟨0, _⟩, (t, s) => rfl
  | ⟨_ + 1, h⟩, _ => exact absurd h (Nat.not_lt.2 (Nat.le_add_left _ _))

theorem defs_eq : Cert.Kernel7.defs (F := Bits) = Cert.Kernel7Ideal.defs (F := Bits) :=
  congrArg (Pipeline.defs Cert.Kernel7Ideal.pcfgs) bodies_eq

/-- The kernel at the bits: the same run, read there. -/
theorem frame_kernel : Cert.quiescent_Kernel7 := fun m ρ _ => by
  rw [defs_eq]
  exact Cert.Kernel7Ideal.Gen.frame (F := Bits) m ρ

/-- The kernel at the ideal instance. -/
theorem frame_kernelIdeal : Cert.quiescent_Kernel7Ideal := fun m ρ _ => Cert.Kernel7Ideal.Gen.frame (F := Ideal) m ρ

/-- The reference leaves its arguments as they were, and declares no semaphore. -/
theorem frame_reference : Cert.quiescent_Reference7Ideal := fun m ρ _ =>
  (θ_run Cert.Reference7Ideal.defs _ _).mono
    (fun r h => ⟨fun c => (h c).2.2, Idealize.ShloMosaic.sem_eq_zero_of_no_sems (by decide) r.2⟩)
    (Cert.Reference7Ideal.Value.run (F := Ideal) m ρ)

end Cert.Proof.Ada

end
-- ==== Proof.Ada.Plain.lean ====
/-
  The plain modulation's results at coordinates: a row of the conditioning, through the SiLU, times the weight, plus the bias.
-/
module

public import proofs.«01_k».proof.Proof.Gen.Reference7Ideal.Run
public import Idealize.ShloMosaic.Lib.Pointwise
public import Idealize.ShloMosaic.PureOps.Ideal
public import Idealize.ShloMosaic.Lib.Pipeline.ValueKit

@[expose] public section

set_option maxRecDepth 16384

noncomputable section

namespace Cert.Proof.Ada.Plain

open Cert.Reference7Ideal Cert.Reference7Ideal.Gen
open Idealize.ShloMosaic Idealize.ShloMosaic.TcCoe Idealize.SL.Sem

/-- The SiLU of a value. -/
def act (x : EReal) : EReal := x * Ideal.div 1 (1 + Ideal.exp (-x))

/-- The modulation of the prompt's sequences. -/
def modP (C : FVec Ideal S4x2048 .f32) (W : FVec Ideal S1x2048x12288 .f32) (B : FVec Ideal S1x12288 .f32) : FVec Ideal S4x12288 .f32 :=
  addf (Host.dotGeneral dot_S4x2048_S2048x12288_S4x12288_1_0_0_1_n_n none (mulf C (Host.divf (broadcastInDim S4x2048 ![] bcast_S_S4x2048 (constant (F := Ideal) S_ .f32 0x3F800000#32)) (addf (broadcastInDim S4x2048 ![] bcast_S_S4x2048 (constant (F := Ideal) S_ .f32 0x3F800000#32)) (Host.exp (Host.negf C))))) (shapeCast _ W shapeCasts_S1x2048x12288_S2048x12288)) (broadcastInDim S4x12288 ![0, 1] bcast_S1x12288_S4x12288_0_1 (broadcastInDim S1x12288 ![1] bcast_S12288_S1x12288_1 (shapeCast _ B shapeCasts_S1x12288_S12288)))

/-- The first result: the prompt's modulation, and as many rows of the bias. -/
def outP (C : FVec Ideal S4x2048 .f32) (W : FVec Ideal S1x2048x12288 .f32) (B : FVec Ideal S1x12288 .f32) : FVec Ideal S8x12288 .f32 :=
  concatenate S8x12288 0 [⟨S4x12288, modP C W B⟩, ⟨S4x12288, broadcastInDim (α := Elt Ideal .f32) S4x12288 ![0, 1] bcast_S1x12288_S4x12288_0_1 B⟩] concatenates_S4x12288_S4x12288_S8x12288_d0

/-- The second result: the modulation of the sample's sequences. -/
def outS (C : FVec Ideal S128x2048 .f32) (W : FVec Ideal S1x2048x12288 .f32) (B : FVec Ideal S1x12288 .f32) : FVec Ideal S128x12288 .f32 :=
  addf (Host.dotGeneral dot_S128x2048_S2048x12288_S128x12288_1_0_0_1_n_n none (mulf C (Host.divf (broadcastInDim S128x2048 ![] bcast_S_S128x2048 (constant (F := Ideal) S_ .f32 0x3F800000#32)) (addf (broadcastInDim S128x2048 ![] bcast_S_S128x2048 (constant (F := Ideal) S_ .f32 0x3F800000#32)) (Host.exp (Host.negf C))))) (shapeCast _ W shapeCasts_S1x2048x12288_S2048x12288)) (broadcastInDim S128x12288 ![0, 1] bcast_S1x12288_S128x12288_0_1 (broadcastInDim S1x12288 ![1] bcast_S12288_S1x12288_1 (shapeCast _ B shapeCasts_S1x12288_S12288)))

theorem modP_at (C : FVec Ideal S4x2048 .f32) (W : FVec Ideal S1x2048x12288 .f32) (B : FVec Ideal S1x12288 .f32) (p : Fin 4) (n : Fin 12288) :
    modP C W B (ix2 p n) = ∑ k : Fin 2048, act (C (ix2 p k)) * W (ix3 0 k n) + B (ix2 0 n) := by
  pointwise [modP]
  rfl

theorem outS_at (C : FVec Ideal S128x2048 .f32) (W : FVec Ideal S1x2048x12288 .f32) (B : FVec Ideal S1x12288 .f32) (p : Fin 128) (n : Fin 12288) :
    outS C W B (ix2 p n) = ∑ k : Fin 2048, act (C (ix2 p k)) * W (ix3 0 k n) + B (ix2 0 n) := by
  pointwise [outS]
  rfl

theorem outP_at (C : FVec Ideal S4x2048 .f32) (W : FVec Ideal S1x2048x12288 .f32) (B : FVec Ideal S1x12288 .f32) (p : Fin 8) (n : Fin 12288) :
    outP C W B (ix2 p n) = if h : p.val < 4 then modP C W B (ix2 ⟨p.val, h⟩ n) else B (ix2 0 n) := by
  unfold outP
  generalize modP C W B = M
  pointwise

end Cert.Proof.Ada.Plain

end
-- ==== Proof.Ada.Reads.lean ====
/-
  What the modulation's windows hold at a point of the grid, read off the arrays the launch is given, and what the point leaves.
-/
module

public import proofs.«01_k».proof.Proof.Gen.Kernel7Ideal.Value
public import proofs.«01_k».proof.Proof.Norm
public import proofs.«01_k».proof.Proof.Ada.Plain

@[expose] public section

set_option maxRecDepth 16384

noncomputable section

namespace Cert.Proof.Ada

open Cert.Kernel7Ideal Cert.Kernel7Ideal.Gen Cert.Proof.Norm
open Idealize.ShloMosaic Idealize.ShloMosaic.TcCoe Idealize.SL.Sem
open Idealize.ShloMosaic.Pipeline (Dat)

variable (m : (ℓ : Loc nD τ sig) → Buf (Elt Ideal) ℓ)

/-! ## The payloads at an index -/

theorem pay2_at (w : S2048x1024.Idx → Elt Ideal .f32) (v : S8x2048.Idx → Elt Ideal .f32) (b : S1x1024.Idx → Elt Ideal .f32) (p : Fin 8) (n : Fin 1024) :
    k0_pay2 (F := Ideal) w v b (ix2 p n) = ∑ k : Fin 2048, Plain.act (v (ix2 p k)) * w (ix2 k n) + b (ix2 0 n) := by
  pointwise [k0_pay2, k0_pay1]
  simp only [sub_eq_add_neg, zero_add]
  rfl

theorem pay3_at (w : S2048x1024.Idx → Elt Ideal .f32) (v : S128x2048.Idx → Elt Ideal .f32) (b : S1x1024.Idx → Elt Ideal .f32) (p : Fin 128) (n : Fin 1024) :
    k0_pay3 (F := Ideal) w v b (ix2 p n) = ∑ k : Fin 2048, Plain.act (v (ix2 p k)) * w (ix2 k n) + b (ix2 0 n) := by
  pointwise [k0_pay3, k0_pay1]
  simp only [sub_eq_add_neg, zero_add]
  rfl

/-! ## The arrays the launch is given -/

/-- The prompt's conditioning. -/
def argP (c : Dev nD) : S4x2048.Idx → Elt Ideal .f32 := m ((c : Thread nD τ).loc main_arg0)
/-- The sample's conditioning. -/
def argS (c : Dev nD) : S128x2048.Idx → Elt Ideal .f32 := m ((c : Thread nD τ).loc main_arg1)
/-- The weight. -/
def argW (c : Dev nD) : S1x2048x12288.Idx → Elt Ideal .f32 := m ((c : Thread nD τ).loc main_arg2)
/-- The bias. -/
def argB (c : Dev nD) : S1x12288.Idx → Elt Ideal .f32 := m ((c : Thread nD τ).loc main_arg3)

/-! ## The arrays the launch finds -/

/-- The prompt's conditioning, extended by rows of zeros. -/
theorem V0 (c : Dev nD) (p : Fin 8) (k : Fin 2048) : V m c main_v0 (ix2 p k) = if h : p.val < 4 then argP m c (ix2 ⟨p.val, h⟩ k) else (0 : EReal) := by
  have e : V m c main_v0 = pad (α := Elt Ideal .f32) S8x2048 ![0, 0] ![4, 0] ![0, 0] (argP m c) (sitofp (F := Ideal) .f32 (constantI S_ 32 0#32)) pads_S4x2048_S8x2048_040_000 h_S_ := by
    simp only [V, hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise
  rw [zero_cast]
/-- The weight, a matrix. -/
theorem V1 (c : Dev nD) (k : Fin 2048) (n : Fin 12288) : V m c main_v1 (ix2 k n) = argW m c (ix3 0 k n) := by
  have e : V m c main_v1 = shapeCast (α := Elt Ideal .f32) S2048x12288 (argW m c) shapeCasts_S1x2048x12288_S2048x12288 := by
    simp only [V, hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise

/-! ## The blocks -/

/-- The block of each window at a point. -/
theorem widx : ∀ t : Fin cfg0.N, win0_0.index t = ![0, 0] ∧ win0_1.index t = ![0, 0] ∧ win0_2.index t = ![0, t.val] ∧ win0_3.index t = ![0, t.val] ∧ win0_4.index t = ![0, t.val] ∧ win0_5.index t = ![0, t.val] := by decide +kernel

/-- The prompt's conditioning at a point. -/
def B0 (c : Dev nD) (t : Fin cfg0.N) : S8x2048.Idx → Elt Ideal .f32 := iblk m c 0 t
/-- The sample's conditioning at a point. -/
def B1 (c : Dev nD) (t : Fin cfg0.N) : S128x2048.Idx → Elt Ideal .f32 := iblk m c 1 t
/-- The weight's block. -/
def B2 (c : Dev nD) (t : Fin cfg0.N) : S2048x1024.Idx → Elt Ideal .f32 := iblk m c 2 t
/-- The bias's block. -/
def B3 (c : Dev nD) (t : Fin cfg0.N) : S1x1024.Idx → Elt Ideal .f32 := iblk m c 3 t

theorem blk0 (c : Dev nD) (t : Fin cfg0.N) (p : Fin 8) (k : Fin 2048) : B0 m c t (ix2 p k) = if h : p.val < 4 then argP m c (ix2 ⟨p.val, h⟩ k) else (0 : EReal) := by
  refine Eq.trans ?_ (V0 m c p k)
  unfold B0
  blk_simp [iblk]
  blk_ext [widx t]
theorem blk1 (c : Dev nD) (t : Fin cfg0.N) (p : Fin 128) (k : Fin 2048) : B1 m c t (ix2 p k) = argS m c (ix2 p k) := by
  refine Eq.trans ?_ (congrFun (V_main_arg1 m c) (ix2 p k))
  unfold B1
  blk_simp [iblk]
  blk_ext [widx t]
theorem blk2 (c : Dev nD) (t : Fin cfg0.N) (k : Fin 2048) (n : Fin 1024) (f : Fin 12288) (hf : f.val = 1024 * t.val + n.val) : B2 m c t (ix2 k n) = argW m c (ix3 0 k f) := by
  refine Eq.trans ?_ (V1 m c k f)
  unfold B2
  blk_simp [iblk]
  blk_ext [widx t]
theorem blk3 (c : Dev nD) (t : Fin cfg0.N) (n : Fin 1024) (f : Fin 12288) (hf : f.val = 1024 * t.val + n.val) : B3 m c t (ix2 0 n) = argB m c (ix2 0 f) := by
  refine Eq.trans ?_ (congrFun (V_main_arg3 m c) (ix2 0 f))
  unfold B3
  blk_simp [iblk]
  blk_ext [widx t]

/-! ## What a point leaves -/

/-- The prompt's block of the result. -/
theorem left4 (c : Dev nD) (t : Fin cfg0.N) (p : Fin 8) (n : Fin 1024) :
    out0_4 (B0 m c t) (B1 m c t) (B2 m c t) (B3 m c t) (ix2 p n) = ∑ k : Fin 2048, Plain.act (B0 m c t (ix2 p k)) * B2 m c t (ix2 k n) + B3 m c t (ix2 0 n) := by
  refine Eq.trans ?_ (pay2_at (B2 m c t) (B0 m c t) (B3 m c t) p n)
  unfold out0_4
  frame_out

/-- The sample's block of the result. -/
theorem left5 (c : Dev nD) (t : Fin cfg0.N) (p : Fin 128) (n : Fin 1024) :
    out0_5 (B0 m c t) (B1 m c t) (B2 m c t) (B3 m c t) (ix2 p n) = ∑ k : Fin 2048, Plain.act (B1 m c t (ix2 p k)) * B2 m c t (ix2 k n) + B3 m c t (ix2 0 n) := by
  refine Eq.trans ?_ (pay3_at (B2 m c t) (B1 m c t) (B3 m c t) p n)
  unfold out0_5
  frame_out

end Cert.Proof.Ada

end
-- ==== Proof.Ada.Final.lean ====
/-
  The arrays the modulation leaves are the plain program's results.
-/
module

public import proofs.«01_k».proof.Proof.Ada.Reads

@[expose] public section

set_option maxRecDepth 16384

noncomputable section

namespace Cert.Proof.Ada

open Cert.Kernel7Ideal Cert.Kernel7Ideal.Gen Cert.Proof.Norm
open Idealize.ShloMosaic Idealize.ShloMosaic.TcCoe Idealize.SL.Sem
open Idealize.ShloMosaic.Pipeline (Dat)

variable (m : (ℓ : Loc nD τ sig) → Buf (Elt Ideal) ℓ)

/-- A row of zeros gives the bias alone. -/
theorem zero_row (w : Fin 2048 → EReal) (b : EReal) : ∑ k : Fin 2048, Plain.act 0 * w k + b = b := by
  rw [Finset.sum_eq_zero fun k _ => by unfold Plain.act; rw [zero_mul, zero_mul], zero_add]

/-- A point's entry of the prompt's block is the result's. -/
theorem point4 (c : Dev nD) (t : Fin cfg0.N) (p : Fin 8) (n : Fin 1024) (f : Fin 12288) (hf : f.val = 1024 * t.val + n.val) :
    out0_4 (B0 m c t) (B1 m c t) (B2 m c t) (B3 m c t) (ix2 p n) = Plain.outP (argP m c) (argW m c) (argB m c) (ix2 p f) := by
  rw [left4, Plain.outP_at, blk3 m c t n f hf]
  simp only [blk0, blk2 m c t _ n f hf]
  by_cases h : p.val < 4
  · rw [dif_pos h, Plain.modP_at]
    simp only [dif_pos h]
  · simp only [dif_neg h]
    exact zero_row _ _

/-- A point's entry of the sample's block is the result's. -/
theorem point5 (c : Dev nD) (t : Fin cfg0.N) (p : Fin 128) (n : Fin 1024) (f : Fin 12288) (hf : f.val = 1024 * t.val + n.val) :
    out0_5 (B0 m c t) (B1 m c t) (B2 m c t) (B3 m c t) (ix2 p n) = Plain.outS (argS m c) (argW m c) (argB m c) (ix2 p f) := by
  rw [left5, Plain.outS_at, blk3 m c t n f hf]
  simp only [blk1, blk2 m c t _ n f hf]

theorem pointAt4 (c : Dev nD) (t : Fin cfg0.N) (y : S8x1024.Idx) (i : S8x12288.Idx) (h0 : (i 0).val = (y 0).val) (h1 : (i 1).val = 1024 * t.val + (y 1).val) :
    out0_4 (B0 m c t) (B1 m c t) (B2 m c t) (B3 m c t) y = Plain.outP (argP m c) (argW m c) (argB m c) i := by
  have hy : y = ix2 (y 0) (y 1) := by funext a; fin_cases a <;> rfl
  have hi : i = ix2 (y 0) (i 1) := by
    funext a
    fin_cases a
    · exact Fin.ext h0
    · rfl
  rw [hy, hi]
  exact point4 m c t (y 0) (y 1) (i 1) h1

theorem pointAt5 (c : Dev nD) (t : Fin cfg0.N) (y : S128x1024.Idx) (i : S128x12288.Idx) (h0 : (i 0).val = (y 0).val) (h1 : (i 1).val = 1024 * t.val + (y 1).val) :
    out0_5 (B0 m c t) (B1 m c t) (B2 m c t) (B3 m c t) y = Plain.outS (argS m c) (argW m c) (argB m c) i := by
  have hy : y = ix2 (y 0) (y 1) := by funext a; fin_cases a <;> rfl
  have hi : i = ix2 (y 0) (i 1) := by
    funext a
    fin_cases a
    · exact Fin.ext h0
    · rfl
  rw [hy, hi]
  exact point5 m c t (y 0) (y 1) (i 1) h1

theorem final4 (c : Dev nD) : (dats m 0 c).arrAt 4 cfg0.N = Plain.outP (argP m c) (argW m c) (argB m c) := by
  refine (dats m 0 c).arrAt_eq_of_covers 4 _ (by decide +kernel) fun t hf y => ?_
  blk_simp
  rw [after0_4]
  refine pointAt4 m c t y _ ?_ ?_
  · blk_simp [widx t]
  · blk_simp [widx t]
    omega

theorem final5 (c : Dev nD) : (dats m 0 c).arrAt 5 cfg0.N = Plain.outS (argS m c) (argW m c) (argB m c) := by
  refine (dats m 0 c).arrAt_eq_of_covers 5 _ (by decide +kernel) fun t hf y => ?_
  blk_simp
  rw [after0_5]
  refine pointAt5 m c t y _ ?_ ?_
  · blk_simp [widx t]
  · blk_simp [widx t]
    omega

end Cert.Proof.Ada

end
-- ==== Proof.Ada.Algebraic.lean ====
/-
  The modulation computes the plain program's results, over the extended reals.
-/
module

public import proofs.«01_k».proof.Proof.Ada.Final
public import proofs.«01_k».proof.Proof.Ada.Frames

@[expose] public section

set_option maxRecDepth 16384

noncomputable section

namespace Cert.Proof.Ada

open Idealize.ShloMosaic Idealize.SL.Sem

theorem algebraic : Cert.algebraic_Kernel7Ideal_Reference7Ideal := by
  intro m g m' g' _ hargs
  refine ⟨fun c => Plain.outP (argP m c) (argW m c) (argB m c), fun c => Plain.outS (argS m c) (argW m c) (argB m c),
    (θ_run Cert.Kernel7Ideal.defs _ _).mono (fun r h c => ⟨(h c).1.trans (final4 m c), (h c).2.1.trans (final5 m c), (h c).2.2⟩) (Cert.Kernel7Ideal.Value.run_blocks (F := Ideal) m g), ?_⟩
  refine (θ_run Cert.Reference7Ideal.defs _ _).mono (fun r h c => ?_) (Cert.Reference7Ideal.Value.run (F := Ideal) m' g')
  obtain ⟨r0, r1, ra⟩ := h c
  obtain ⟨e0, e1, e2, e3⟩ := hargs c
  have e0' : m' ((c.tc : Thread Cert.Reference7Ideal.nD Cert.Reference7Ideal.τ).loc Cert.Reference7Ideal.main_arg0) = argP m c := e0
  have e1' : m' ((c.tc : Thread Cert.Reference7Ideal.nD Cert.Reference7Ideal.τ).loc Cert.Reference7Ideal.main_arg1) = argS m c := e1
  have e2' : m' ((c.tc : Thread Cert.Reference7Ideal.nD Cert.Reference7Ideal.τ).loc Cert.Reference7Ideal.main_arg2) = argW m c := e2
  have e3' : m' ((c.tc : Thread Cert.Reference7Ideal.nD Cert.Reference7Ideal.τ).loc Cert.Reference7Ideal.main_arg3) = argB m c := e3
  refine ⟨r0.trans ?_, r1.trans ?_, ra⟩
  · rw [e0', e2', e3']
    rfl
  · rw [e1', e2', e3']
    rfl

end Cert.Proof.Ada

end
-- ==== Proof.SampleOut.Frames.lean ====
/-
  The three programs of the sample path's output projection run and leave their arguments as they were.
-/
module

public import proofs.«01_k».proof.Defs
public import proofs.«01_k».proof.Proof.Gen.Kernel8
public import proofs.«01_k».proof.Proof.Gen.Kernel8Ideal.Frame
public import proofs.«01_k».proof.Proof.Gen.Reference8Ideal.Run

@[expose] public section

noncomputable section

namespace Cert.Proof.SampleOut

open Idealize.ShloMosaic Idealize.SL.Sem

/-- The two printings of the kernel have the same body. -/
theorem bodies_eq : Cert.Kernel8.defs₀ (F := Bits) = Cert.Kernel8Ideal.defs₀ (F := Bits) := by
  unfold Cert.Kernel8.defs₀ Cert.Kernel8Ideal.defs₀
  refine congrArg Defs.onTc (funext fun ℓ => funext fun a => ?_)
  match ℓ, a with
  | ⟨0, _⟩, (t, s) => rfl
  | ⟨_ + 1, h⟩, _ => exact absurd h (Nat.not_lt.2 (Nat.le_add_left _ _))

theorem defs_eq : Cert.Kernel8.defs (F := Bits) = Cert.Kernel8Ideal.defs (F := Bits) :=
  congrArg (Pipeline.defs Cert.Kernel8Ideal.pcfgs) bodies_eq

/-- The kernel at the bits: the same run, read there. -/
theorem frame_kernel : Cert.quiescent_Kernel8 := fun m ρ _ => by
  rw [defs_eq]
  exact Cert.Kernel8Ideal.Gen.frame (F := Bits) m ρ

/-- The kernel at the ideal instance. -/
theorem frame_kernelIdeal : Cert.quiescent_Kernel8Ideal := fun m ρ _ => Cert.Kernel8Ideal.Gen.frame (F := Ideal) m ρ

/-- The reference leaves its arguments as they were, and declares no semaphore. -/
theorem frame_reference : Cert.quiescent_Reference8Ideal := fun m ρ _ =>
  (θ_run Cert.Reference8Ideal.defs _ _).mono
    (fun r h => ⟨fun c => (h c).2.2, Idealize.ShloMosaic.sem_eq_zero_of_no_sems (by decide) r.2⟩)
    (Cert.Reference8Ideal.Value.run (F := Ideal) m ρ)

end Cert.Proof.SampleOut

end
-- ==== Proof.SampleOut.Block.lean ====
/-
  What the sample path's output projection leaves in its two buffers at its one point, from the blocks it reads: the normalised
  rows, and the same rows normalised again and modulated, in four stretches of 128 rows, a stretch per time.
-/
module

public import proofs.«01_k».proof.Proof.Gen.Kernel8Ideal.Value
public import proofs.«01_k».proof.Proof.Norm
public import Idealize.ShloMosaic.Lib.Pipeline.ValueKit

@[expose] public section

set_option maxRecDepth 16384

noncomputable section

namespace Cert.Proof.SampleOut

open Cert.Kernel8Ideal Cert.Kernel8Ideal.Gen Cert.Proof.Norm
open Idealize.ShloMosaic Idealize.ShloMosaic.TcCoe Idealize.SL.Sem
open Idealize.ShloMosaic.Pipeline (Dat)

variable (m : (ℓ : Loc nD τ sig) → Buf (Elt Ideal) ℓ)

/-! ## The payloads at an index -/

/-- A row before it is normalised: the residual, plus the gated product. -/
def rowOf (g a : S128x2048.Idx → Elt Ideal .f32) (w : S2048x2048.Idx → Elt Ideal .bf16) (x : S128x2048.Idx → Elt Ideal .f32) (p : Fin 128) (n : Fin 2048) : EReal :=
  alpha * x (ix2 p n) + g (ix2 p n) * ∑ k : Fin 2048, a (ix2 p k) * w (ix2 k n)

/-- A stretch of the first result's rows. -/
theorem pay3_at (g a : S128x2048.Idx → Elt Ideal .f32) (w : S2048x2048.Idx → Elt Ideal .bf16) (x : S128x2048.Idx → Elt Ideal .f32) (l b : S1x2048.Idx → Elt Ideal .f32) (p : Fin 128) (n : Fin 2048) :
    k0_pay3 (F := Ideal) g a w x l b (ix2 p n) = normed (rowOf g a w x p) n * l (ix2 0 n) + b (ix2 0 n) := by
  pointwise [k0_pay3]
  rfl

/-- A stretch of the second result's rows, from the first's. -/
theorem pay4_at (sh sc y : S128x2048.Idx → Elt Ideal .f32) (p : Fin 128) (n : Fin 2048) :
    k0_pay4 (F := Ideal) sh sc y (ix2 p n) = modulated (fun x => y (ix2 p x)) (fun x => sh (ix2 p x)) (fun x => sc (ix2 p x)) n := by
  pointwise [k0_pay4]
  rfl

/-- The stretches are computed alike. -/
theorem pay7_eq (g a : Vec Ideal S128x2048 .f32) (w : Vec Ideal S2048x2048 .bf16) (x : Vec Ideal S128x2048 .f32) (l b : Vec Ideal S1x2048 .f32) :
    k0_pay7 (k0_pay5 g a w x) (k0_pay6 g a w x) l b = k0_pay3 g a w x l b := rfl
theorem pay9_eq (g a : Vec Ideal S128x2048 .f32) (w : Vec Ideal S2048x2048 .bf16) (x : Vec Ideal S128x2048 .f32) (l b : Vec Ideal S1x2048 .f32) :
    k0_pay9 g a w x l b = k0_pay3 g a w x l b := rfl
theorem pay1_eq (g a : Vec Ideal S128x2048 .f32) (w : Vec Ideal S2048x2048 .bf16) (x : Vec Ideal S128x2048 .f32) (l b : Vec Ideal S1x2048 .f32) :
    k0_pay1 (k0_pay12 g a w x) (k0_pay13 g a w x) k0_pay14 l b = k0_pay3 g a w x l b := rfl
theorem pay8_eq (g sh sc a : Vec Ideal S128x2048 .f32) (w : Vec Ideal S2048x2048 .bf16) (x : Vec Ideal S128x2048 .f32) (l b : Vec Ideal S1x2048 .f32) :
    k0_pay8 sh sc (k0_pay5 g a w x) (k0_pay6 g a w x) l b = k0_pay4 sh sc (k0_pay3 g a w x l b) := rfl
theorem pay11_eq (g sh sc a : Vec Ideal S128x2048 .f32) (w : Vec Ideal S2048x2048 .bf16) (x : Vec Ideal S128x2048 .f32) (l b : Vec Ideal S1x2048 .f32) :
    k0_pay11 sh sc (k0_pay9 g a w x l b) (k0_pay10 g a w x l b) = k0_pay4 sh sc (k0_pay3 g a w x l b) := rfl
theorem pay2_eq (g sh sc a : Vec Ideal S128x2048 .f32) (w : Vec Ideal S2048x2048 .bf16) (x : Vec Ideal S128x2048 .f32) (l b : Vec Ideal S1x2048 .f32) :
    k0_pay2 sh sc (k0_pay12 g a w x) (k0_pay13 g a w x) k0_pay14 l b = k0_pay4 sh sc (k0_pay3 g a w x l b) := rfl

/-! ## The blocks at the point -/

/-- The mixer's rows. -/
def B0 (c : Dev nD) (t : Fin cfg0.N) : S512x2048.Idx → Elt Ideal .f32 := iblk m c 0 t
/-- The weight. -/
def B1 (c : Dev nD) (t : Fin cfg0.N) : S2048x2048.Idx → Elt Ideal .bf16 := iblk m c 1 t
/-- The residual. -/
def B2 (c : Dev nD) (t : Fin cfg0.N) : S512x2048.Idx → Elt Ideal .f32 := iblk m c 2 t
/-- The gate's columns of the modulation, a row per sequence. -/
def B3 (c : Dev nD) (t : Fin cfg0.N) : S128x2048.Idx → Elt Ideal .f32 := iblk m c 3 t
/-- The norm's gain. -/
def B4 (c : Dev nD) (t : Fin cfg0.N) : S1x2048.Idx → Elt Ideal .f32 := iblk m c 4 t
/-- The norm's bias. -/
def B5 (c : Dev nD) (t : Fin cfg0.N) : S1x2048.Idx → Elt Ideal .f32 := iblk m c 5 t
/-- The shift's columns. -/
def B6 (c : Dev nD) (t : Fin cfg0.N) : S128x2048.Idx → Elt Ideal .f32 := iblk m c 6 t
/-- The scale's columns. -/
def B7 (c : Dev nD) (t : Fin cfg0.N) : S128x2048.Idx → Elt Ideal .f32 := iblk m c 7 t
/-- What the point leaves in the first result's buffer, and in the second's. -/
def L8 (c : Dev nD) (t : Fin cfg0.N) : S512x2048.Idx → Elt Ideal .f32 := (outsAt0 m c t).1
def L9 (c : Dev nD) (t : Fin cfg0.N) : S512x2048.Idx → Elt Ideal .bf16 := (outsAt0 m c t).2

/-- A row before it is normalised, from the blocks. -/
def rowAt (c : Dev nD) (t : Fin cfg0.N) (g : Fin 128) (q : Fin 512) (n : Fin 2048) : EReal :=
  alpha * B2 m c t (ix2 q n) + B3 m c t (ix2 g n) * ∑ k : Fin 2048, B0 m c t (ix2 q k) * B1 m c t (ix2 k n)

/-- A row of the first result. -/
def xAt (c : Dev nD) (t : Fin cfg0.N) (g : Fin 128) (q : Fin 512) (n : Fin 2048) : EReal :=
  normed (rowAt m c t g q) n * B4 m c t (ix2 0 n) + B5 m c t (ix2 0 n)

/-- A stretch's row is the block's. -/
theorem stretch (c : Dev nD) (t : Fin cfg0.N) (o : ℕ) (i) (p : Fin 128) (q : Fin 512) (hq : q.val = o + p.val) :
    rowOf (B3 m c t) (View.ld (B0 m c t) (Rect.unit (s := S512x2048) ![o, 0] S128x2048.size i)) (B1 m c t)
        (View.ld (B2 m c t) (Rect.unit (s := S512x2048) ![o, 0] S128x2048.size i)) p
      = rowAt m c t p q := by
  funext n'
  unfold rowOf rowAt
  rw [ld_at (B2 m c t) _ _ p n' q n' hq (Nat.zero_add _).symm]
  simp only [fun k => ld_at (B0 m c t) ![o, 0] i p k q k hq (Nat.zero_add _).symm]

theorem stretchX (c : Dev nD) (t : Fin cfg0.N) (o : ℕ) (i) (p : Fin 128) (q : Fin 512) (hq : q.val = o + p.val) (n : Fin 2048) :
    k0_pay3 (F := Ideal) (B3 m c t) (View.ld (B0 m c t) (Rect.unit (s := S512x2048) ![o, 0] S128x2048.size i)) (B1 m c t)
        (View.ld (B2 m c t) (Rect.unit (s := S512x2048) ![o, 0] S128x2048.size i)) (B4 m c t) (B5 m c t) (ix2 p n)
      = xAt m c t p q n := by
  rw [pay3_at, stretch m c t o i p q hq]
  rfl

theorem stretchH (c : Dev nD) (t : Fin cfg0.N) (o : ℕ) (i) (p : Fin 128) (q : Fin 512) (hq : q.val = o + p.val) (n : Fin 2048) :
    k0_pay4 (F := Ideal) (B6 m c t) (B7 m c t) (k0_pay3 (F := Ideal) (B3 m c t) (View.ld (B0 m c t) (Rect.unit (s := S512x2048) ![o, 0] S128x2048.size i)) (B1 m c t)
        (View.ld (B2 m c t) (Rect.unit (s := S512x2048) ![o, 0] S128x2048.size i)) (B4 m c t) (B5 m c t)) (ix2 p n)
      = modulated (xAt m c t p q) (fun x => B6 m c t (ix2 p x)) (fun x => B7 m c t (ix2 p x)) n := by
  rw [pay4_at]
  simp only [stretchX m c t o i p q hq]

/-- An index of a matrix whose two coordinates are known. -/
theorem idx_of {A B : ℕ} (x : (⟨2, ![A, B]⟩ : Shape).Idx) (k : Fin B) (h : k.val = (x 1).val) : x = ix2 (x 0) k := by
  funext a
  fin_cases a
  · rfl
  · exact Fin.ext h.symm

/-- The point leaves the normalised rows. -/
theorem left8 (c : Dev nD) (t : Fin cfg0.N) (q : Fin 512) (g : Fin 128) (hg : g.val = q.val % 128) (n : Fin 2048) :
    L8 m c t (ix2 q n) = xAt m c t g q n := by
  unfold L8 outsAt0
  frame_out
  simp only [pay1_eq, pay9_eq, pay7_eq]
  canon_tiles x h
  · have hq : q.val = 384 + (x 0).val := h0
    have eg : g = x 0 := Fin.ext (by have : (x 0).val < 128 := (x 0).isLt; omega)
    rw [idx_of x n h1, eg]
    exact stretchX m c t 384 inb_S512x2048_S128x2048_384_0 (x 0) q hq n
  · have hq : q.val = 256 + (x 0).val := h0
    have eg : g = x 0 := Fin.ext (by have : (x 0).val < 128 := (x 0).isLt; omega)
    rw [idx_of x n h1, eg]
    exact stretchX m c t 256 inb_S512x2048_S128x2048_256_0 (x 0) q hq n
  · have hq : q.val = 128 + (x 0).val := h0
    have eg : g = x 0 := Fin.ext (by have : (x 0).val < 128 := (x 0).isLt; omega)
    rw [idx_of x n h1, eg]
    exact stretchX m c t 128 inb_S512x2048_S128x2048_128_0 (x 0) q hq n
  · have hq : q.val = 0 + (x 0).val := h0.trans (Nat.zero_add _).symm
    have eg : g = x 0 := Fin.ext (by have : (x 0).val < 128 := (x 0).isLt; omega)
    rw [idx_of x n h1, eg]
    exact stretchX m c t 0 inb_S512x2048_S128x2048_0_0 (x 0) q hq n

/-- And the rows normalised again and modulated. -/
theorem left9 (c : Dev nD) (t : Fin cfg0.N) (q : Fin 512) (g : Fin 128) (hg : g.val = q.val % 128) (n : Fin 2048) :
    L9 m c t (ix2 q n) = modulated (xAt m c t g q) (fun x => B6 m c t (ix2 g x)) (fun x => B7 m c t (ix2 g x)) n := by
  unfold L9 outsAt0
  frame_out
  simp only [pay2_eq, pay11_eq, pay8_eq]
  canon_tiles x h
  · have hq : q.val = 384 + (x 0).val := h0
    have eg : g = x 0 := Fin.ext (by have : (x 0).val < 128 := (x 0).isLt; omega)
    rw [idx_of x n h1, eg]
    exact stretchH m c t 384 inb_S512x2048_S128x2048_384_0 (x 0) q hq n
  · have hq : q.val = 256 + (x 0).val := h0
    have eg : g = x 0 := Fin.ext (by have : (x 0).val < 128 := (x 0).isLt; omega)
    rw [idx_of x n h1, eg]
    exact stretchH m c t 256 inb_S512x2048_S128x2048_256_0 (x 0) q hq n
  · have hq : q.val = 128 + (x 0).val := h0
    have eg : g = x 0 := Fin.ext (by have : (x 0).val < 128 := (x 0).isLt; omega)
    rw [idx_of x n h1, eg]
    exact stretchH m c t 128 inb_S512x2048_S128x2048_128_0 (x 0) q hq n
  · have hq : q.val = 0 + (x 0).val := h0.trans (Nat.zero_add _).symm
    have eg : g = x 0 := Fin.ext (by have : (x 0).val < 128 := (x 0).isLt; omega)
    rw [idx_of x n h1, eg]
    exact stretchH m c t 0 inb_S512x2048_S128x2048_0_0 (x 0) q hq n

end Cert.Proof.SampleOut

end
-- ==== Proof.SampleOut.Reads.lean ====
/-
  What the sample path's output projection's input windows hold at its point, read off the arrays the launch is given.
-/
module

public import proofs.«01_k».proof.Proof.SampleOut.Block

@[expose] public section

set_option maxRecDepth 16384

noncomputable section

namespace Cert.Proof.SampleOut

open Cert.Kernel8Ideal Cert.Kernel8Ideal.Gen Cert.Proof.Norm
open Idealize.ShloMosaic Idealize.ShloMosaic.TcCoe Idealize.SL.Sem
open Idealize.ShloMosaic.Pipeline (Dat)

variable (m : (ℓ : Loc nD τ sig) → Buf (Elt Ideal) ℓ)

/-! ## The arrays the launch is given -/

/-- The mixer's rows, a stretch per time. -/
def argA (c : Dev nD) : S512x2048.Idx → Elt Ideal .f32 := m ((c : Thread nD τ).loc main_arg0)
/-- The weight. -/
def argW (c : Dev nD) : S1x2048x2048.Idx → Elt Ideal .f32 := m ((c : Thread nD τ).loc main_arg1)
/-- The residual, a row per time of a sequence. -/
def argX (c : Dev nD) : S128x4x2048.Idx → Elt Ideal .f32 := m ((c : Thread nD τ).loc main_arg2)
/-- The modulation, six stretches of columns. -/
def argM (c : Dev nD) : S128x12288.Idx → Elt Ideal .f32 := m ((c : Thread nD τ).loc main_arg3)
/-- The norm's gain. -/
def argL (c : Dev nD) : S1x2048.Idx → Elt Ideal .f32 := m ((c : Thread nD τ).loc main_arg4)
/-- The norm's bias. -/
def argB (c : Dev nD) : S1x2048.Idx → Elt Ideal .f32 := m ((c : Thread nD τ).loc main_arg5)

/-! ## The arrays the launch finds -/

/-- The weight, a matrix. -/
theorem V1 (c : Dev nD) (k n : Fin 2048) : V m c main_v1 (ix2 k n) = argW m c (ix3 0 k n) := by
  have e : V m c main_v1 = truncf (F := Ideal) .bf16 (shapeCast (α := Elt Ideal .f32) S2048x2048 (argW m c) shapeCasts_S1x2048x2048_S2048x2048) bitsLt_bf16_f32 := by
    simp only [V, hostOps0, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise
/-- The residual, a stretch per time. -/
theorem V3 (c : Dev nD) (s : Fin 128) (p : Fin 4) (r : Fin 512) (n : Fin 2048) (hr : r.val = 128 * p.val + s.val) : V m c main_v3 (ix2 r n) = argX m c (ix3 s p n) := by
  have e : V m c main_v3 = shapeCast (α := Elt Ideal .f32) S512x2048 (transpose S4x128x2048 [1, 0, 2] (argX m c) transposes_S128x4x2048_S4x128x2048_1_0_2) shapeCasts_S4x128x2048_S512x2048 := by
    simp only [V, hostOps0, List.flatten_cons, List.flatten_nil, List.append_nil, List.cons_append, List.nil_append, StableHlo.TRef.binary, StableHlo.TRef.unary, StableHlo.TRef.toBuf, StableHlo.TRef.ofBuf, cast_eq]
    after_results_simp <;> rfl
  have hp : r.val / 128 < 4 := by omega
  have hb : r.val % 128 < 128 := by omega
  have es : s = ⟨r.val % 128, hb⟩ := Fin.ext (by show s.val = r.val % 128; omega)
  have ep : p = ⟨r.val / 128, hp⟩ := Fin.ext (by show p.val = r.val / 128; omega)
  rw [e, es, ep]
  pointwise

/-! ## The blocks -/

/-- The block of each window at the point. -/
theorem widx : ∀ t : Fin cfg0.N, win0_0.index t = ![0, 0] ∧ win0_1.index t = ![0, 0] ∧ win0_2.index t = ![0, 0] ∧ win0_3.index t = ![0, 2] ∧ win0_4.index t = ![0, 0] ∧ win0_5.index t = ![0, 0] ∧ win0_6.index t = ![0, 3] ∧ win0_7.index t = ![0, 4] ∧ win0_8.index t = ![0, 0] ∧ win0_9.index t = ![0, 0] := by decide +kernel

theorem blk0 (c : Dev nD) (t : Fin cfg0.N) (q : Fin 512) (k : Fin 2048) : B0 m c t (ix2 q k) = argA m c (ix2 q k) := by
  refine Eq.trans ?_ (congrFun (V_main_arg0 m c) (ix2 q k))
  unfold B0
  blk_simp [iblk]
  blk_ext [widx t]
theorem blk1 (c : Dev nD) (t : Fin cfg0.N) (k n : Fin 2048) : B1 m c t (ix2 k n) = argW m c (ix3 0 k n) := by
  refine Eq.trans ?_ (V1 m c k n)
  unfold B1
  blk_simp [iblk]
  blk_ext [widx t]
theorem blk2 (c : Dev nD) (t : Fin cfg0.N) (s : Fin 128) (p : Fin 4) (q : Fin 512) (n : Fin 2048) (hq : q.val = 128 * p.val + s.val) : B2 m c t (ix2 q n) = argX m c (ix3 s p n) := by
  refine Eq.trans ?_ (V3 m c s p q n hq)
  unfold B2
  blk_simp [iblk]
  blk_ext [widx t]
theorem blk3 (c : Dev nD) (t : Fin cfg0.N) (g : Fin 128) (n : Fin 2048) : B3 m c t (ix2 g n) = argM m c (ix2 g ⟨4096 + n.val, by omega⟩) := by
  refine Eq.trans ?_ (congrFun (V_main_arg3 m c) (ix2 g ⟨4096 + n.val, by omega⟩))
  unfold B3
  blk_simp [iblk]
  blk_ext [widx t]
theorem blk6 (c : Dev nD) (t : Fin cfg0.N) (g : Fin 128) (n : Fin 2048) : B6 m c t (ix2 g n) = argM m c (ix2 g ⟨6144 + n.val, by omega⟩) := by
  refine Eq.trans ?_ (congrFun (V_main_arg3 m c) (ix2 g ⟨6144 + n.val, by omega⟩))
  unfold B6
  blk_simp [iblk]
  blk_ext [widx t]
theorem blk7 (c : Dev nD) (t : Fin cfg0.N) (g : Fin 128) (n : Fin 2048) : B7 m c t (ix2 g n) = argM m c (ix2 g ⟨8192 + n.val, by omega⟩) := by
  refine Eq.trans ?_ (congrFun (V_main_arg3 m c) (ix2 g ⟨8192 + n.val, by omega⟩))
  unfold B7
  blk_simp [iblk]
  blk_ext [widx t]
theorem blk4 (c : Dev nD) (t : Fin cfg0.N) (n : Fin 2048) : B4 m c t (ix2 0 n) = argL m c (ix2 0 n) := by
  refine Eq.trans ?_ (congrFun (V_main_arg4 m c) (ix2 0 n))
  unfold B4
  blk_simp [iblk]
  blk_ext [widx t]
theorem blk5 (c : Dev nD) (t : Fin cfg0.N) (n : Fin 2048) : B5 m c t (ix2 0 n) = argB m c (ix2 0 n) := by
  refine Eq.trans ?_ (congrFun (V_main_arg5 m c) (ix2 0 n))
  unfold B5
  blk_simp [iblk]
  blk_ext [widx t]

end Cert.Proof.SampleOut

end
-- ==== Proof.SampleOut.Plain.lean ====
/-
  The plain output projection of the sample path: its two results at coordinates.
-/
module

public import proofs.«01_k».proof.Proof.Gen.Reference8Ideal.Run
public import proofs.«01_k».proof.Proof.Norm

@[expose] public section

set_option maxRecDepth 16384

noncomputable section

namespace Cert.Proof.SampleOut.Plain

open Cert.Reference8Ideal Cert.Reference8Ideal.Gen Cert.Proof.Norm
open Idealize.ShloMosaic Idealize.ShloMosaic.TcCoe Idealize.SL.Sem

/-- The rows before the norm: the residual, plus the gated product. -/
def pre (A : FVec Ideal S512x2048 .f32) (W : FVec Ideal S1x2048x2048 .f32) (X : FVec Ideal S128x4x2048 .f32) (M : FVec Ideal S128x12288 .f32) : FVec Ideal S128x4x2048 .f32 :=
  addf (mulf (broadcastInDim S128x4x2048 ![] bcast_S_S128x4x2048 (constant (F := Ideal) S_ .f32 0x3F9837F0#32)) X) (mulf (broadcastInDim S128x4x2048 ![0, 1, 2] bcast_S128x1x2048_S128x4x2048_0_1_2 (extractStridedSlice S128x1x2048 ![0, 0, 4096] (broadcastInDim S128x1x12288 ![0, 2] bcast_S128x12288_S128x1x12288_0_2 M) slices_S128x1x12288_S128x1x2048_0_0_4096)) (Host.dotGeneral dot_S128x4x2048_S2048x2048_S128x4x2048_2_0_01_1_n_n none (transpose S128x4x2048 [1, 0, 2] (shapeCast _ A shapeCasts_S512x2048_S4x128x2048) transposes_S4x128x2048_S128x4x2048_1_0_2) (shapeCast _ W shapeCasts_S1x2048x2048_S2048x2048)))

/-- The rows less their means. -/
def cen (P : FVec Ideal S128x4x2048 .f32) : FVec Ideal S128x4x2048 .f32 :=
  subf P (broadcastInDim S128x4x2048 ![0, 1, 2] bcast_S128x4x1_S128x4x2048_0_1_2 (Host.divf (broadcastInDim S128x4x1 ![0, 1] bcast_S128x4_S128x4x1_0_1 (Host.reduceAdd P (constant (F := Ideal) S_ .f32 0x00000000#32) reducesTo_S128x4x2048_S128x4_d2 h_S_)) (broadcastInDim S128x4x1 ![] bcast_S_S128x4x1 (constant (F := Ideal) S_ .f32 0x45000000#32))))

/-- The normalised rows, scaled and shifted. -/
def fin (C : FVec Ideal S128x4x2048 .f32) (Lg Lb : FVec Ideal S1x2048 .f32) : FVec Ideal S128x4x2048 .f32 :=
  addf (mulf (mulf C (broadcastInDim S128x4x2048 ![0, 1, 2] bcast_S128x4x1_S128x4x2048_0_1_2 (Host.rsqrt (addf (Host.divf (broadcastInDim S128x4x1 ![0, 1] bcast_S128x4_S128x4x1_0_1 (Host.reduceAdd (mulf C C) (constant (F := Ideal) S_ .f32 0x00000000#32) reducesTo_S128x4x2048_S128x4_d2 h_S_)) (broadcastInDim S128x4x1 ![] bcast_S_S128x4x1 (constant (F := Ideal) S_ .f32 0x45000000#32))) (broadcastInDim S128x4x1 ![] bcast_S_S128x4x1 (constant (F := Ideal) S_ .f32 0x3727C5AC#32)))))) (broadcastInDim S128x4x2048 ![0, 1, 2] bcast_S1x1x2048_S128x4x2048_0_1_2 (broadcastInDim S1x1x2048 ![2] bcast_S2048_S1x1x2048_2 (shapeCast _ Lg shapeCasts_S1x2048_S2048)))) (broadcastInDim S128x4x2048 ![0, 1, 2] bcast_S1x1x2048_S128x4x2048_0_1_2 (broadcastInDim S1x1x2048 ![2] bcast_S2048_S1x1x2048_2 (shapeCast _ Lb shapeCasts_S1x2048_S2048)))

/-- The modulated rows, from the centred ones. -/
def md (C : FVec Ideal S128x4x2048 .f32) (M : FVec Ideal S128x12288 .f32) : FVec Ideal S128x4x2048 .f32 :=
  addf (mulf (mulf C (broadcastInDim S128x4x2048 ![0, 1, 2] bcast_S128x4x1_S128x4x2048_0_1_2 (Host.rsqrt (addf (Host.divf (broadcastInDim S128x4x1 ![0, 1] bcast_S128x4_S128x4x1_0_1 (Host.reduceAdd (mulf C C) (constant (F := Ideal) S_ .f32 0x00000000#32) reducesTo_S128x4x2048_S128x4_d2 h_S_)) (broadcastInDim S128x4x1 ![] bcast_S_S128x4x1 (constant (F := Ideal) S_ .f32 0x45000000#32))) (broadcastInDim S128x4x1 ![] bcast_S_S128x4x1 (constant (F := Ideal) S_ .f32 0x3727C5AC#32)))))) (broadcastInDim S128x4x2048 ![0, 1, 2] bcast_S128x1x2048_S128x4x2048_0_1_2 (addf (broadcastInDim S128x1x2048 ![] bcast_S_S128x1x2048 (constant (F := Ideal) S_ .f32 0x3F800000#32)) (extractStridedSlice S128x1x2048 ![0, 0, 8192] (broadcastInDim S128x1x12288 ![0, 2] bcast_S128x12288_S128x1x12288_0_2 M) slices_S128x1x12288_S128x1x2048_0_0_8192)))) (broadcastInDim S128x4x2048 ![0, 1, 2] bcast_S128x1x2048_S128x4x2048_0_1_2 (extractStridedSlice S128x1x2048 ![0, 0, 6144] (broadcastInDim S128x1x12288 ![0, 2] bcast_S128x12288_S128x1x12288_0_2 M) slices_S128x1x12288_S128x1x2048_0_0_6144))

/-- The first result. -/
def out0 (A : FVec Ideal S512x2048 .f32) (W : FVec Ideal S1x2048x2048 .f32) (X : FVec Ideal S128x4x2048 .f32) (M : FVec Ideal S128x12288 .f32) (Lg Lb : FVec Ideal S1x2048 .f32) : FVec Ideal S512x2048 .f32 :=
  shapeCast _ (transpose S4x128x2048 [1, 0, 2] (fin (cen (pre A W X M)) Lg Lb) transposes_S128x4x2048_S4x128x2048_1_0_2) shapeCasts_S4x128x2048_S512x2048

/-- The second. -/
def out1 (A : FVec Ideal S512x2048 .f32) (W : FVec Ideal S1x2048x2048 .f32) (X : FVec Ideal S128x4x2048 .f32) (M : FVec Ideal S128x12288 .f32) (Lg Lb : FVec Ideal S1x2048 .f32) : FVec Ideal S512x2048 .bf16 :=
  truncf .bf16 (shapeCast _ (transpose S4x128x2048 [1, 0, 2] (md (cen (fin (cen (pre A W X M)) Lg Lb)) M) transposes_S128x4x2048_S4x128x2048_1_0_2) shapeCasts_S4x128x2048_S512x2048) bitsLt_bf16_f32

theorem res0 (m : (ℓ : Loc nD τ sig) → Buf (Elt Ideal) ℓ) (c : Dev nD) : Value.res_main_v67 m c
    = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Value.res_main_v67; rfl

theorem res1 (m : (ℓ : Loc nD τ sig) → Buf (Elt Ideal) ℓ) (c : Dev nD) : Value.res_main_v70 m c
    = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Value.res_main_v70; rfl

theorem pre_at (A : FVec Ideal S512x2048 .f32) (W : FVec Ideal S1x2048x2048 .f32) (X : FVec Ideal S128x4x2048 .f32) (M : FVec Ideal S128x12288 .f32) (s : Fin 128) (p : Fin 4) (n : Fin 2048) (r : Fin 512) (hr : r.val = 128 * p.val + s.val) :
    pre A W X M (ix3 s p n) = alpha * X (ix3 s p n) + M (ix2 s ⟨4096 + n.val, by omega⟩) * ∑ k : Fin 2048, A (ix2 r k) * W (ix3 0 k n) := by
  have hb : p.val * 128 + s.val < 512 := by omega
  have e : r = ⟨p.val * 128 + s.val, hb⟩ := Fin.ext (by show r.val = p.val * 128 + s.val; omega)
  subst e
  pointwise [pre]
  rfl

theorem cen_at (P : FVec Ideal S128x4x2048 .f32) (s : Fin 128) (p : Fin 4) (n : Fin 2048) : cen P (ix3 s p n) = centred (fun x => P (ix3 s p x)) n := by
  pointwise [cen]
  rfl

theorem fin_at (C : FVec Ideal S128x4x2048 .f32) (Lg Lb : FVec Ideal S1x2048 .f32) (v : Fin 2048 → EReal) (s : Fin 128) (p : Fin 4) (n : Fin 2048) (hC : ∀ x, C (ix3 s p x) = centred v x) :
    fin C Lg Lb (ix3 s p n) = normed v n * Lg (ix2 0 n) + Lb (ix2 0 n) := by
  pointwise [fin]
  simp only [hC]
  rfl

theorem md_at (C : FVec Ideal S128x4x2048 .f32) (M : FVec Ideal S128x12288 .f32) (v : Fin 2048 → EReal) (s : Fin 128) (p : Fin 4) (n : Fin 2048) (hC : ∀ x, C (ix3 s p x) = centred v x) :
    md C M (ix3 s p n) = modulated v (fun k => M (ix2 s ⟨6144 + k.val, by omega⟩)) (fun k => M (ix2 s ⟨8192 + k.val, by omega⟩)) n := by
  pointwise [md]
  simp only [hC]
  rfl

/-- A token's row of the first result. -/
def row (A : FVec Ideal S512x2048 .f32) (W : FVec Ideal S1x2048x2048 .f32) (X : FVec Ideal S128x4x2048 .f32) (M : FVec Ideal S128x12288 .f32) (Lg Lb : FVec Ideal S1x2048 .f32) (s : Fin 128) (p : Fin 4) (r : Fin 512) (n : Fin 2048) : EReal :=
  normed (fun x => alpha * X (ix3 s p x) + M (ix2 s ⟨4096 + x.val, by omega⟩) * ∑ k : Fin 2048, A (ix2 r k) * W (ix3 0 k x)) n * Lg (ix2 0 n) + Lb (ix2 0 n)

theorem row_at (A : FVec Ideal S512x2048 .f32) (W : FVec Ideal S1x2048x2048 .f32) (X : FVec Ideal S128x4x2048 .f32) (M : FVec Ideal S128x12288 .f32) (Lg Lb : FVec Ideal S1x2048 .f32) (s : Fin 128) (p : Fin 4) (n : Fin 2048) (r : Fin 512) (hr : r.val = 128 * p.val + s.val) :
    fin (cen (pre A W X M)) Lg Lb (ix3 s p n) = row A W X M Lg Lb s p r n :=
  fin_at _ Lg Lb _ s p n fun x => (cen_at _ s p x).trans (congrArg (fun v => centred v x) (funext fun y => pre_at A W X M s p y r hr))

theorem out0_at (A : FVec Ideal S512x2048 .f32) (W : FVec Ideal S1x2048x2048 .f32) (X : FVec Ideal S128x4x2048 .f32) (M : FVec Ideal S128x12288 .f32) (Lg Lb : FVec Ideal S1x2048 .f32) (s : Fin 128) (p : Fin 4) (n : Fin 2048) (r : Fin 512) (hr : r.val = 128 * p.val + s.val) :
    out0 A W X M Lg Lb (ix2 r n) = row A W X M Lg Lb s p r n := by
  have hp : r.val / 128 < 4 := by omega
  have hb : r.val % 128 < 128 := by omega
  have es : s = ⟨r.val % 128, hb⟩ := Fin.ext (by show s.val = r.val % 128; omega)
  have ep : p = ⟨r.val / 128, hp⟩ := Fin.ext (by show p.val = r.val / 128; omega)
  refine Eq.trans ?_ (row_at A W X M Lg Lb s p n r hr)
  rw [es, ep]
  unfold out0
  generalize fin (cen (pre A W X M)) Lg Lb = H
  pointwise

theorem out1_at (A : FVec Ideal S512x2048 .f32) (W : FVec Ideal S1x2048x2048 .f32) (X : FVec Ideal S128x4x2048 .f32) (M : FVec Ideal S128x12288 .f32) (Lg Lb : FVec Ideal S1x2048 .f32) (s : Fin 128) (p : Fin 4) (n : Fin 2048) (r : Fin 512) (hr : r.val = 128 * p.val + s.val) :
    out1 A W X M Lg Lb (ix2 r n) = modulated (row A W X M Lg Lb s p r) (fun k => M (ix2 s ⟨6144 + k.val, by omega⟩)) (fun k => M (ix2 s ⟨8192 + k.val, by omega⟩)) n := by
  have hp : r.val / 128 < 4 := by omega
  have hb : r.val % 128 < 128 := by omega
  have es : s = ⟨r.val % 128, hb⟩ := Fin.ext (by show s.val = r.val % 128; omega)
  have ep : p = ⟨r.val / 128, hp⟩ := Fin.ext (by show p.val = r.val / 128; omega)
  have h : ∀ x, cen (fin (cen (pre A W X M)) Lg Lb) (ix3 s p x) = centred (row A W X M Lg Lb s p r) x := fun x =>
    (cen_at _ s p x).trans (congrArg (fun v => centred v x) (funext fun y => row_at A W X M Lg Lb s p y r hr))
  refine Eq.trans ?_ (md_at _ M _ s p n h)
  rw [es, ep]
  unfold out1
  generalize md (cen (fin (cen (pre A W X M)) Lg Lb)) M = H
  pointwise

end Cert.Proof.SampleOut.Plain

end
-- ==== Proof.SampleOut.Final.lean ====
/-
  The arrays the sample path's output projection leaves are the plain program's results.
-/
module

public import proofs.«01_k».proof.Proof.SampleOut.Reads
public import proofs.«01_k».proof.Proof.SampleOut.Plain

@[expose] public section

set_option maxRecDepth 16384

noncomputable section

namespace Cert.Proof.SampleOut

open Cert.Kernel8Ideal Cert.Kernel8Ideal.Gen Cert.Proof.Norm
open Idealize.ShloMosaic Idealize.ShloMosaic.TcCoe Idealize.SL.Sem
open Idealize.ShloMosaic.Pipeline (Dat)

variable (m : (ℓ : Loc nD τ sig) → Buf (Elt Ideal) ℓ)

/-- A row of the first buffer is the plain program's. -/
theorem xAt_eq (c : Dev nD) (t : Fin cfg0.N) (s : Fin 128) (p : Fin 4) (q : Fin 512) (hq : q.val = 128 * p.val + s.val) :
    xAt m c t s q = Plain.row (argA m c) (argW m c) (argX m c) (argM m c) (argL m c) (argB m c) s p q := by
  funext n
  unfold xAt Plain.row
  rw [blk4, blk5]
  refine congrArg (fun v => normed v n * argL m c (ix2 0 n) + argB m c (ix2 0 n)) (funext fun x => ?_)
  unfold rowAt
  rw [blk2 m c t s p q x hq, blk3 m c t s x]
  simp only [blk0, blk1]

theorem point8 (c : Dev nD) (t : Fin cfg0.N) (q : Fin 512) (n : Fin 2048) :
    L8 m c t (ix2 q n) = Plain.out0 (argA m c) (argW m c) (argX m c) (argM m c) (argL m c) (argB m c) (ix2 q n) := by
  have hs : q.val % 128 < 128 := by omega
  have hp : q.val / 128 < 4 := by omega
  have hq : q.val = 128 * (q.val / 128) + q.val % 128 := by omega
  rw [left8 m c t q ⟨q.val % 128, hs⟩ rfl n, xAt_eq m c t ⟨q.val % 128, hs⟩ ⟨q.val / 128, hp⟩ q hq]
  exact (Plain.out0_at (argA m c) (argW m c) (argX m c) (argM m c) (argL m c) (argB m c) ⟨q.val % 128, hs⟩ ⟨q.val / 128, hp⟩ n q hq).symm

theorem pointAt8 (c : Dev nD) (t : Fin cfg0.N) (y i : S512x2048.Idx) (h0 : (i 0).val = (y 0).val) (h1 : (i 1).val = (y 1).val) :
    L8 m c t y = Plain.out0 (argA m c) (argW m c) (argX m c) (argM m c) (argL m c) (argB m c) i := by
  have hy : y = ix2 (y 0) (y 1) := by funext a; fin_cases a <;> rfl
  have hi : i = ix2 (y 0) (y 1) := by
    funext a
    fin_cases a
    · exact Fin.ext h0
    · exact Fin.ext h1
  rw [hy, hi]
  exact point8 m c t (y 0) (y 1)

theorem final8 (c : Dev nD) : (dats m 0 c).arrAt 8 cfg0.N = Plain.out0 (argA m c) (argW m c) (argX m c) (argM m c) (argL m c) (argB m c) := by
  refine (dats m 0 c).arrAt_eq_of_covers 8 _ (by decide +kernel) fun t hf y => ?_
  blk_simp
  rw [after0_8]
  refine pointAt8 m c t y _ ?_ ?_
  · blk_simp [widx t]
  · blk_simp [widx t]

theorem point9 (c : Dev nD) (t : Fin cfg0.N) (q : Fin 512) (n : Fin 2048) :
    L9 m c t (ix2 q n) = Plain.out1 (argA m c) (argW m c) (argX m c) (argM m c) (argL m c) (argB m c) (ix2 q n) := by
  have hs : q.val % 128 < 128 := by omega
  have hp : q.val / 128 < 4 := by omega
  have hq : q.val = 128 * (q.val / 128) + q.val % 128 := by omega
  rw [left9 m c t q ⟨q.val % 128, hs⟩ rfl n, xAt_eq m c t ⟨q.val % 128, hs⟩ ⟨q.val / 128, hp⟩ q hq]
  simp only [blk6, blk7]
  exact (Plain.out1_at (argA m c) (argW m c) (argX m c) (argM m c) (argL m c) (argB m c) ⟨q.val % 128, hs⟩ ⟨q.val / 128, hp⟩ n q hq).symm

theorem pointAt9 (c : Dev nD) (t : Fin cfg0.N) (y i : S512x2048.Idx) (h0 : (i 0).val = (y 0).val) (h1 : (i 1).val = (y 1).val) :
    L9 m c t y = Plain.out1 (argA m c) (argW m c) (argX m c) (argM m c) (argL m c) (argB m c) i := by
  have hy : y = ix2 (y 0) (y 1) := by funext a; fin_cases a <;> rfl
  have hi : i = ix2 (y 0) (y 1) := by
    funext a
    fin_cases a
    · exact Fin.ext h0
    · exact Fin.ext h1
  rw [hy, hi]
  exact point9 m c t (y 0) (y 1)

theorem final9 (c : Dev nD) : (dats m 0 c).arrAt 9 cfg0.N = Plain.out1 (argA m c) (argW m c) (argX m c) (argM m c) (argL m c) (argB m c) := by
  refine (dats m 0 c).arrAt_eq_of_covers 9 _ (by decide +kernel) fun t hf y => ?_
  blk_simp
  rw [after0_9]
  refine pointAt9 m c t y _ ?_ ?_
  · blk_simp [widx t]
  · blk_simp [widx t]

end Cert.Proof.SampleOut

end
-- ==== Proof.SampleOut.Algebraic.lean ====
/-
  The sample path's output projection computes the plain program's results, over the extended reals.
-/
module

public import proofs.«01_k».proof.Proof.SampleOut.Final
public import proofs.«01_k».proof.Proof.SampleOut.Frames

@[expose] public section

set_option maxRecDepth 16384

noncomputable section

namespace Cert.Proof.SampleOut

open Idealize.ShloMosaic Idealize.SL.Sem

theorem algebraic : Cert.algebraic_Kernel8Ideal_Reference8Ideal := by
  intro m g m' g' _ hargs
  refine ⟨fun c => Plain.out0 (argA m c) (argW m c) (argX m c) (argM m c) (argL m c) (argB m c), fun c => Plain.out1 (argA m c) (argW m c) (argX m c) (argM m c) (argL m c) (argB m c),
    (θ_run Cert.Kernel8Ideal.defs _ _).mono (fun r h c => ⟨(h c).1.trans (final8 m c), (h c).2.1.trans (final9 m c), (h c).2.2⟩) (Cert.Kernel8Ideal.Value.run_blocks (F := Ideal) m g), ?_⟩
  refine (θ_run Cert.Reference8Ideal.defs _ _).mono (fun r h c => ?_) (Cert.Reference8Ideal.Value.run (F := Ideal) m' g')
  obtain ⟨r0, r1, ra⟩ := h c
  obtain ⟨e0, e1, e2, e3, e4, e5⟩ := hargs c
  have e0' : m' ((c.tc : Thread Cert.Reference8Ideal.nD Cert.Reference8Ideal.τ).loc Cert.Reference8Ideal.main_arg0) = argA m c := e0
  have e1' : m' ((c.tc : Thread Cert.Reference8Ideal.nD Cert.Reference8Ideal.τ).loc Cert.Reference8Ideal.main_arg1) = argW m c := e1
  have e2' : m' ((c.tc : Thread Cert.Reference8Ideal.nD Cert.Reference8Ideal.τ).loc Cert.Reference8Ideal.main_arg2) = argX m c := e2
  have e3' : m' ((c.tc : Thread Cert.Reference8Ideal.nD Cert.Reference8Ideal.τ).loc Cert.Reference8Ideal.main_arg3) = argM m c := e3
  have e4' : m' ((c.tc : Thread Cert.Reference8Ideal.nD Cert.Reference8Ideal.τ).loc Cert.Reference8Ideal.main_arg4) = argL m c := e4
  have e5' : m' ((c.tc : Thread Cert.Reference8Ideal.nD Cert.Reference8Ideal.τ).loc Cert.Reference8Ideal.main_arg5) = argB m c := e5
  refine ⟨(r0.trans (Plain.res0 m' c)).trans ?_, (r1.trans (Plain.res1 m' c)).trans ?_, ra⟩
  · rw [e0', e1', e2', e3', e4', e5']
  · rw [e0', e1', e2', e3', e4', e5']

end Cert.Proof.SampleOut

end
-- ==== Proof.SampleIn.Body.lean ====
/-
  The body of the sample path's in-projection at a point of the grid. At the first point the rows are normalised and
  modulated a stretch of 128 at a time, one time of all sequences, kept in the scratch, and multiplied with the gates'
  weight and the first block of the main weight; at a later point the kept rows are multiplied with that point's block of
  the main weight.
-/
module

public import proofs.«01_k».proof.Proof.Whole
public import proofs.«01_k».proof.Proof.Gen.Kernel9Ideal
public import proofs.«01_k».proof.Proof.Gen.Kernel9Ideal.Skeleton
public import proofs.«01_k».proof.Proof.Gen.Kernel9Ideal.Frame
public import Idealize.ShloMosaic.Lib.Pipeline.Frame
public import Idealize.ShloMosaic.Lib.Pipeline.FrameBody
public import Idealize.ShloMosaic.Lib.Pipeline.Value
public import Idealize.ShloMosaic.Lib.Tactic

@[expose] public section

set_option maxRecDepth 16384

noncomputable section

namespace Cert.Proof.SampleIn

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The scratch that keeps the modulated rows. -/
abbrev scM : Memref sig .tc .vmem S512x2048 .bf16 := Memref.whole cc0_scratch0

/-- The stretches of the rows, one time each, -/
abbrev rX0 : Rect S512x2048 := Rect.unit (s := S512x2048) ![0, 0] S128x2048.size inb_S512x2048_S128x2048_0_0
abbrev rX1 : Rect S512x2048 := Rect.unit (s := S512x2048) ![128, 0] S128x2048.size inb_S512x2048_S128x2048_128_0
abbrev rX2 : Rect S512x2048 := Rect.unit (s := S512x2048) ![256, 0] S128x2048.size inb_S512x2048_S128x2048_256_0
abbrev rX3 : Rect S512x2048 := Rect.unit (s := S512x2048) ![384, 0] S128x2048.size inb_S512x2048_S128x2048_384_0
/-- of the block of the main product -/
abbrev rZ0 : Rect S512x1792 := Rect.unit (s := S512x1792) ![0, 0] S128x1792.size inb_S512x1792_S128x1792_0_0
abbrev rZ1 : Rect S512x1792 := Rect.unit (s := S512x1792) ![128, 0] S128x1792.size inb_S512x1792_S128x1792_128_0
abbrev rZ2 : Rect S512x1792 := Rect.unit (s := S512x1792) ![256, 0] S128x1792.size inb_S512x1792_S128x1792_256_0
abbrev rZ3 : Rect S512x1792 := Rect.unit (s := S512x1792) ![384, 0] S128x1792.size inb_S512x1792_S128x1792_384_0
/-- and of the gates. -/
abbrev rQ0 : Rect S512x128 := Rect.unit (s := S512x128) ![0, 0] S128x128.size inb_S512x128_S128x128_0_0
abbrev rQ1 : Rect S512x128 := Rect.unit (s := S512x128) ![128, 0] S128x128.size inb_S512x128_S128x128_128_0
abbrev rQ2 : Rect S512x128 := Rect.unit (s := S512x128) ![256, 0] S128x128.size inb_S512x128_S128x128_256_0
abbrev rQ3 : Rect S512x128 := Rect.unit (s := S512x128) ![384, 0] S128x128.size inb_S512x128_S128x128_384_0

/-- A stretch's modulated rows: from its rows `x`, the shift `sh` and the scale `sc`. -/
def hPart (sh sc : S128x2048.Idx → Elt F .f32) (x : S128x2048.Idx → Elt F .f32) : FVec F S128x2048 .bf16 := k0_pay7 sh sc x
/-- A stretch's main product. -/
def zPart (sh sc : S128x2048.Idx → Elt F .f32) (x : S128x2048.Idx → Elt F .f32) (w : S2048x1792.Idx → Elt F .bf16) : FVec F S128x1792 .f32 := k0_pay9 sh sc x w
/-- A stretch's gates. -/
def qPart (sh sc : S128x2048.Idx → Elt F .f32) (x : S128x2048.Idx → Elt F .f32) (w : S2048x128.Idx → Elt F .bf16) : FVec F S128x128 .f32 := k0_pay8 sh sc x w

/-- The modulated rows, the four stretches one under the other; -/
def hBlock (sh sc : S128x2048.Idx → Elt F .f32) (X : S512x2048.Idx → Elt F .f32) : S512x2048.Idx → Elt F .bf16 :=
  View.canon [⟨rX3, hPart sh sc (View.ld X rX3)⟩, ⟨rX2, hPart sh sc (View.ld X rX2)⟩, ⟨rX1, hPart sh sc (View.ld X rX1)⟩, ⟨rX0, hPart sh sc (View.ld X rX0)⟩]
/-- their main product -/
def zBlock (sh sc : S128x2048.Idx → Elt F .f32) (X : S512x2048.Idx → Elt F .f32) (w : S2048x1792.Idx → Elt F .bf16) : S512x1792.Idx → Elt F .f32 :=
  View.canon [⟨rZ3, zPart sh sc (View.ld X rX3) w⟩, ⟨rZ2, zPart sh sc (View.ld X rX2) w⟩, ⟨rZ1, zPart sh sc (View.ld X rX1) w⟩, ⟨rZ0, zPart sh sc (View.ld X rX0) w⟩]
/-- and their gates. -/
def qBlock (sh sc : S128x2048.Idx → Elt F .f32) (X : S512x2048.Idx → Elt F .f32) (w : S2048x128.Idx → Elt F .bf16) : S512x128.Idx → Elt F .f32 :=
  View.canon [⟨rQ3, qPart sh sc (View.ld X rX3) w⟩, ⟨rQ2, qPart sh sc (View.ld X rX2) w⟩, ⟨rQ1, qPart sh sc (View.ld X rX1) w⟩, ⟨rQ0, qPart sh sc (View.ld X rX0) w⟩]

/-- The stretches cover the rows, -/
theorem hCover (w0 w1 w2 w3 : S128x2048.Idx → Elt F .bf16) (y : S512x2048.Idx) :
    ∃ p ∈ ([⟨rX3, w3⟩, ⟨rX2, w2⟩, ⟨rX1, w1⟩, ⟨rX0, w0⟩] : List (View.Piece (Elt F) S512x2048 .bf16)), y ∈ p.1.set := by
  have h0 : (y 0).val < 512 := (y 0).isLt
  have h1 : (y 1).val < 2048 := (y 1).isLt
  have key : ∀ (o : Nat) (inb), o ≤ (y 0).val → (y 0).val < o + 128 → y ∈ (Rect.unit (s := S512x2048) ![o, 0] S128x2048.size inb).set := by
    intro o inb ha hb
    refine Rect.mem_set_unit.mpr fun a => ?_
    fin_cases a
    · exact ⟨ha, hb⟩
    · exact ⟨Nat.zero_le _, by simpa using h1⟩
  by_cases hA : (y 0).val < 128
  · exact ⟨⟨rX0, w0⟩, by simp, key 0 inb_S512x2048_S128x2048_0_0 (by omega) (by omega)⟩
  by_cases hB : (y 0).val < 256
  · exact ⟨⟨rX1, w1⟩, by simp, key 128 inb_S512x2048_S128x2048_128_0 (by omega) (by omega)⟩
  by_cases hC : (y 0).val < 384
  · exact ⟨⟨rX2, w2⟩, by simp, key 256 inb_S512x2048_S128x2048_256_0 (by omega) (by omega)⟩
  · exact ⟨⟨rX3, w3⟩, by simp, key 384 inb_S512x2048_S128x2048_384_0 (by omega) (by omega)⟩

/-- the block of the main product -/
theorem zCover (w0 w1 w2 w3 : S128x1792.Idx → Elt F .f32) (y : S512x1792.Idx) :
    ∃ p ∈ ([⟨rZ3, w3⟩, ⟨rZ2, w2⟩, ⟨rZ1, w1⟩, ⟨rZ0, w0⟩] : List (View.Piece (Elt F) S512x1792 .f32)), y ∈ p.1.set := by
  have h0 : (y 0).val < 512 := (y 0).isLt
  have h1 : (y 1).val < 1792 := (y 1).isLt
  have key : ∀ (o : Nat) (inb), o ≤ (y 0).val → (y 0).val < o + 128 → y ∈ (Rect.unit (s := S512x1792) ![o, 0] S128x1792.size inb).set := by
    intro o inb ha hb
    refine Rect.mem_set_unit.mpr fun a => ?_
    fin_cases a
    · exact ⟨ha, hb⟩
    · exact ⟨Nat.zero_le _, by simpa using h1⟩
  by_cases hA : (y 0).val < 128
  · exact ⟨⟨rZ0, w0⟩, by simp, key 0 inb_S512x1792_S128x1792_0_0 (by omega) (by omega)⟩
  by_cases hB : (y 0).val < 256
  · exact ⟨⟨rZ1, w1⟩, by simp, key 128 inb_S512x1792_S128x1792_128_0 (by omega) (by omega)⟩
  by_cases hC : (y 0).val < 384
  · exact ⟨⟨rZ2, w2⟩, by simp, key 256 inb_S512x1792_S128x1792_256_0 (by omega) (by omega)⟩
  · exact ⟨⟨rZ3, w3⟩, by simp, key 384 inb_S512x1792_S128x1792_384_0 (by omega) (by omega)⟩

/-- and the gates. -/
theorem qCover (w0 w1 w2 w3 : S128x128.Idx → Elt F .f32) (y : S512x128.Idx) :
    ∃ p ∈ ([⟨rQ3, w3⟩, ⟨rQ2, w2⟩, ⟨rQ1, w1⟩, ⟨rQ0, w0⟩] : List (View.Piece (Elt F) S512x128 .f32)), y ∈ p.1.set := by
  have h0 : (y 0).val < 512 := (y 0).isLt
  have h1 : (y 1).val < 128 := (y 1).isLt
  have key : ∀ (o : Nat) (inb), o ≤ (y 0).val → (y 0).val < o + 128 → y ∈ (Rect.unit (s := S512x128) ![o, 0] S128x128.size inb).set := by
    intro o inb ha hb
    refine Rect.mem_set_unit.mpr fun a => ?_
    fin_cases a
    · exact ⟨ha, hb⟩
    · exact ⟨Nat.zero_le _, by simpa using h1⟩
  by_cases hA : (y 0).val < 128
  · exact ⟨⟨rQ0, w0⟩, by simp, key 0 inb_S512x128_S128x128_0_0 (by omega) (by omega)⟩
  by_cases hB : (y 0).val < 256
  · exact ⟨⟨rQ1, w1⟩, by simp, key 128 inb_S512x128_S128x128_128_0 (by omega) (by omega)⟩
  by_cases hC : (y 0).val < 384
  · exact ⟨⟨rQ2, w2⟩, by simp, key 256 inb_S512x128_S128x128_256_0 (by omega) (by omega)⟩
  · exact ⟨⟨rQ3, w3⟩, by simp, key 384 inb_S512x128_S128x128_384_0 (by omega) (by omega)⟩

set_option maxHeartbeats 1000000 in
/-- The first point. -/
theorem body_head (c : Dev nD) (i : grid0.Coords) (h1 : k0_cond1 i = 1#1) (h2 : ¬ k0_cond2 i = 1#1)
    (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S2048x1792 .bf16) (harg5 : arg5.IsWhole) (arg6 : Memref sig .tc .vmem S2048x128 .bf16) (harg6 : arg6.IsWhole) (arg7 : Memref sig .tc .vmem S512x1792 .f32) (harg7 : arg7.IsWhole) (arg8 : Memref sig .tc .vmem S512x128 .f32) (harg8 : arg8.IsWhole)
    (X0 : S512x2048.Idx → Elt F .f32) (X1 X2 : S128x2048.Idx → Elt F .f32) (X3 : S2048x1792.Idx → Elt F .bf16) (X4 : S2048x128.Idx → Elt F .bf16)
    (Q : PUnit → sProp 𝕄) :
    iprop(owns (c : Thread nD τ) arg2 fullShare X0 ∗ owns (c : Thread nD τ) arg3 fullShare X1 ∗ owns (c : Thread nD τ) arg4 fullShare X2
        ∗ owns (c : Thread nD τ) arg5 fullShare X3 ∗ owns (c : Thread nD τ) arg6 fullShare X4 ∗ (∃ d, owns (c : Thread nD τ) arg7 fullShare d) ∗ (∃ d, owns (c : Thread nD τ) arg8 fullShare d) ∗ (∃ d, owns (c : Thread nD τ) scM fullShare d)
        ∗ (iprop(owns (c : Thread nD τ) arg2 fullShare X0 ∗ owns (c : Thread nD τ) arg3 fullShare X1 ∗ owns (c : Thread nD τ) arg4 fullShare X2
            ∗ owns (c : Thread nD τ) arg5 fullShare X3 ∗ owns (c : Thread nD τ) arg6 fullShare X4
            ∗ owns (c : Thread nD τ) arg7 fullShare (zBlock X1 X2 X0 X3)
            ∗ owns (c : Thread nD τ) arg8 fullShare (qBlock X1 X2 X0 X4)
            ∗ owns (c : Thread nD τ) scM fullShare (hBlock X1 X2 X0)) -∗ Q ⟨⟩))
      ⊢ wp frame (wpE (defs₀ (F := F)) Variants.none c none) Set.univ (cc0_in_proj i arg2 harg2 arg3 harg3 arg4 harg4 arg5 harg5 arg6 harg6 arg7 harg7 arg8 harg8 scM (Memref.isWhole_whole _)) Q := by
  simp only [cc0_in_proj_eq_skeleton]; unfold cc0_in_proj_skel
  simp only [k0_part1_eq_skeleton, k0_part2_eq_skeleton, k0_part3_eq_skeleton]
  unfold k0_part1_skel k0_part2_skel k0_part3_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf2 hf3 hf4 hf5 hf6
  sl_exec
  sl_unfold_run_names
  simp only [readAt_whole (S := S2048x1792) _ _ zero2, readAt_whole (S := S2048x128) _ _ zero2, readAt_whole (S := S128x2048) _ _ zero2, View.readAt_eq_ld]
  rw [wp_ret]; imodintro
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; exact View.read_writes_eq_canon _ _ _ (zCover _ _ _ _)
  isplitl [H8]
  · iexists _; isplitr; swap; · iexact H8
    ipureintro; exact View.read_writes_eq_canon _ _ _ (qCover _ _ _ _)
  iexists _; isplitr; swap; · iexact H9
  ipureintro; exact View.read_writes_eq_canon _ _ _ (hCover _ _ _ _)

/-- A later point, from the rows `h` the first kept. -/
theorem body_later (c : Dev nD) (i : grid0.Coords) (h1 : ¬ k0_cond1 i = 1#1) (h2 : k0_cond2 i = 1#1)
    (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S2048x1792 .bf16) (harg5 : arg5.IsWhole) (arg6 : Memref sig .tc .vmem S2048x128 .bf16) (harg6 : arg6.IsWhole) (arg7 : Memref sig .tc .vmem S512x1792 .f32) (harg7 : arg7.IsWhole) (arg8 : Memref sig .tc .vmem S512x128 .f32) (harg8 : arg8.IsWhole)
    (X3 : S2048x1792.Idx → Elt F .bf16) (h : S512x2048.Idx → Elt F .bf16)
    (Q : PUnit → sProp 𝕄) :
    iprop(owns (c : Thread nD τ) arg5 fullShare X3 ∗ (∃ d, owns (c : Thread nD τ) arg7 fullShare d) ∗ owns (c : Thread nD τ) scM fullShare h
        ∗ (iprop(owns (c : Thread nD τ) arg5 fullShare X3 ∗ owns (c : Thread nD τ) arg7 fullShare (k0_pay5 h X3) ∗ owns (c : Thread nD τ) scM fullShare h) -∗ Q ⟨⟩))
      ⊢ wp frame (wpE (defs₀ (F := F)) Variants.none c none) Set.univ (cc0_in_proj i arg2 harg2 arg3 harg3 arg4 harg4 arg5 harg5 arg6 harg6 arg7 harg7 arg8 harg8 scM (Memref.isWhole_whole _)) Q := by
  simp only [cc0_in_proj_eq_skeleton]; unfold cc0_in_proj_skel
  unfold owns
  iintro ⟨⟨%f5, %hf5, H5⟩, ⟨%d7, %f7, -, H7⟩, ⟨%f9, %hf9, H9⟩, Hk⟩
  subst hf5 hf9
  sl_exec
  sl_unfold_run_names
  simp only [readAt_whole (S := S2048x1792) _ _ zero2, readAt_whole (S := S512x2048) _ _ zero2]
  rw [wp_ret]; imodintro
  iapply Hk
  isplitl [H5]
  · iexists _; isplitr; swap; · iexact H5
    ipureintro; rfl
  isplitl [H7]
  · iexists _; isplitr; swap; · iexact H7
    ipureintro; exact read_store_whole _ _ zero2 _ _ _
  iexists _; isplitr; swap; · iexact H9
  ipureintro; rfl

end Cert.Proof.SampleIn

end
-- ==== Proof.SampleIn.Run.lean ====
/-
  The run of the sample path's in-projection: what every window's buffer and the scratch hold at each of the grid's four
  points, the blocks of columns of the main product, the body's obligation there, and the whole launch from it.
-/
module

public import proofs.«01_k».proof.Proof.SampleIn.Body
public import proofs.«01_k».proof.Proof.Gen.Kernel9Ideal.Points
public import Idealize.ShloMosaic.Lib.Pipeline.TableIdle

@[expose] public section

set_option maxRecDepth 16384

noncomputable section

namespace Cert.Proof.SampleIn

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

/-- The rows are modulated at the first point of a row of the grid, -/
theorem heads_iff : ∀ t : Fin cfg0.N, k0_cond1 (cfg0.grid.coords t) = 1#1 ↔ t.val % 4 = 0 := by decide +kernel
/-- and read back at the others. -/
theorem later_iff : ∀ t : Fin cfg0.N, k0_cond2 (cfg0.grid.coords t) = 1#1 ↔ t.val % 4 ≠ 0 := by decide +kernel
/-- The main product is stored at every point, -/
theorem idle5 : ∀ t : Fin cfg0.N, cfg0.idle 5 (cfg0.grid.coords t) = false := by decide +kernel
/-- the gates at a row's first. -/
theorem idle6 : ∀ t : Fin cfg0.N, cfg0.idle 6 (cfg0.grid.coords t) = decide (t.val % 4 ≠ 0) := by decide +kernel

/-- The first point of a point's row. -/
def first (t : Fin cfg0.N) : Fin cfg0.N := ⟨t.val - t.val % 4, Nat.lt_of_le_of_lt (Nat.sub_le _ _) t.isLt⟩

theorem first_val (t : Fin cfg0.N) : (first t).val = t.val - t.val % 4 := rfl
theorem first_of_head (t : Fin cfg0.N) (h : t.val % 4 = 0) : first t = t := Fin.ext (by rw [first_val]; omega)
theorem first_pred (t s : Fin cfg0.N) (hs : s.val + 1 = t.val) (h : t.val % 4 ≠ 0) : first t = first s :=
  Fin.ext (by rw [first_val, first_val]; omega)
theorem first_heads (t : Fin cfg0.N) : k0_cond1 (cfg0.grid.coords (first t)) = 1#1 :=
  (heads_iff _).mpr (by rw [first_val]; omega)

/-! ## What the points leave -/

/-- The modulated rows that the scratch holds after a point, -/
def hAt (c : Dev nD) (s : Fin cfg0.N) (h : k0_cond1 (cfg0.grid.coords s) = 1#1) : S512x2048.Idx → Elt F .bf16 :=
  hBlock (iblk m c 1 s : S128x2048.Idx → Elt F .f32) (iblk m c 2 s : S128x2048.Idx → Elt F .f32) (iblk m c 0 s : S512x2048.Idx → Elt F .f32)
def hs (c : Dev nD) (t : Fin cfg0.N) : S512x2048.Idx → Elt F .bf16 := hAt m c (first t) (first_heads t)
/-- the gates -/
def qAt (c : Dev nD) (s : Fin cfg0.N) (h : k0_cond1 (cfg0.grid.coords s) = 1#1) : S512x128.Idx → Elt F .f32 :=
  qBlock (iblk m c 1 s : S128x2048.Idx → Elt F .f32) (iblk m c 2 s : S128x2048.Idx → Elt F .f32) (iblk m c 0 s : S512x2048.Idx → Elt F .f32) (iblk m c 4 s : S2048x128.Idx → Elt F .bf16)
def qs (c : Dev nD) (t : Fin cfg0.N) : S512x128.Idx → Elt F .f32 := qAt m c (first t) (first_heads t)
/-- and the block of the main product. -/
def zs (c : Dev nD) (t : Fin cfg0.N) : S512x1792.Idx → Elt F .f32 :=
  if h : t.val % 4 = 0 then
    zBlock (iblk m c 1 t : S128x2048.Idx → Elt F .f32) (iblk m c 2 t : S128x2048.Idx → Elt F .f32) (iblk m c 0 t : S512x2048.Idx → Elt F .f32) (iblk m c 3 t : S2048x1792.Idx → Elt F .bf16)
  else k0_pay5 (hs m c t) (iblk m c 3 t : S2048x1792.Idx → Elt F .bf16)

theorem hAt_congr (c : Dev nD) {s s' : Fin cfg0.N} (e : s = s') (h h') : hAt m c s h = hAt m c s' h' := by subst e; rfl
theorem qAt_congr (c : Dev nD) {s s' : Fin cfg0.N} (e : s = s') (h h') : qAt m c s h = qAt m c s' h' := by subst e; rfl

theorem hs_head (c : Dev nD) (t : Fin cfg0.N) (h : t.val % 4 = 0) : hs m c t = hAt m c t ((heads_iff t).mpr h) := hAt_congr m c (first_of_head t h) _ _
theorem qs_head (c : Dev nD) (t : Fin cfg0.N) (h : t.val % 4 = 0) : qs m c t = qAt m c t ((heads_iff t).mpr h) := qAt_congr m c (first_of_head t h) _ _
theorem hs_pred (c : Dev nD) (t s : Fin cfg0.N) (e : s.val + 1 = t.val) (h : t.val % 4 ≠ 0) : hs m c t = hs m c s := hAt_congr m c (first_pred t s e h) _ _
theorem qs_pred (c : Dev nD) (t s : Fin cfg0.N) (e : s.val + 1 = t.val) (h : t.val % 4 ≠ 0) : qs m c t = qs m c s := qAt_congr m c (first_pred t s e h) _ _

/-- What the body leaves in each window's buffer. -/
def left (c : Dev nD) : (w : Fin cfg0.W) → Fin cfg0.N → (cfg0.win w).block.Idx → Elt F (cfg0.win w).elt
  | ⟨0, _⟩ => fun t => iblk m c 0 t
  | ⟨1, _⟩ => fun t => iblk m c 1 t
  | ⟨2, _⟩ => fun t => iblk m c 2 t
  | ⟨3, _⟩ => fun t => iblk m c 3 t
  | ⟨4, _⟩ => fun t => iblk m c 4 t
  | ⟨5, _⟩ => fun t => zs m c t
  | ⟨6, _⟩ => fun t => qs m c t
  | ⟨_ + 7, h⟩ => absurd h (Nat.not_lt.2 (Nat.le_add_left _ _))

/-- What the body keeps from point to point: inside a row of the grid the scratch holds the row's modulated rows. -/
def kept (c : Dev nD) (k : Fin (cfg0.N + 1)) : sProp 𝕄 :=
  iprop((∃ d, ⌜∀ t : Fin cfg0.N, t.val + 1 = k.val → k.val % 4 ≠ 0 → d = hs m c t⌝ ∗ owns (c : Thread nD τ) scM fullShare d) ∗ ∃ r, prngReg c r)

/-- The launch's data: the arrays as the region finds them, what the body leaves and what it keeps. -/
def dats (p : Fin 1) (c : Dev nD) : Dat τ (Elt F) Unit ℕ (UR sig nD τ) ℕ (cfgs p) c :=
  match p with
  | ⟨0, _⟩ =>
    { A := fun w => V m c (Pipeline.arrRef spec0 w)
      after := left m c
      Φ := fun k => kept m c k
      q := fun w => Pipeline.shareOf spec0 w
      owed := fun _ => 0 }

/-! ## What the body finds -/

theorem before0 (c : Dev nD) (t : Fin cfg0.N) (d) : (dats m 0 c).before 0 t d = iblk m c 0 t := before0_0_of m (dats m 0 c) rfl (fun _ => rfl) t d
theorem before1 (c : Dev nD) (t : Fin cfg0.N) (d) : (dats m 0 c).before 1 t d = iblk m c 1 t := before0_1_of m (dats m 0 c) rfl (fun _ => rfl) t d
theorem before2 (c : Dev nD) (t : Fin cfg0.N) (d) : (dats m 0 c).before 2 t d = iblk m c 2 t := before0_2_of m (dats m 0 c) rfl (fun _ => rfl) t d
theorem before3 (c : Dev nD) (t : Fin cfg0.N) (d) : (dats m 0 c).before 3 t d = iblk m c 3 t := before0_3_of m (dats m 0 c) rfl (fun _ => rfl) t d
theorem before4 (c : Dev nD) (t : Fin cfg0.N) (d) : (dats m 0 c).before 4 t d = iblk m c 4 t := before0_4_of m (dats m 0 c) rfl (fun _ => rfl) t d

/-- The gates' buffer is fresh at the first point of a row only. -/
theorem fresh6 (n : ℕ) (h : n ≤ cfg0.N) : cfg0.fresh 6 n = decide (n % 4 = 0) :=
  Pipeline.Cfg.fresh_tab (cfg := cfg0) 6 (fun n => decide (n % 4 = 0)) rfl (by decide +kernel) n h

/-- The gates of a later point are the point before's. -/
theorem qs_before (c : Dev nD) (t : Fin cfg0.N) (h : t.val % 4 ≠ 0) : qs m c t = qs m c ⟨t.val - 1, Nat.lt_of_le_of_lt (Nat.sub_le _ _) t.isLt⟩ :=
  qs_pred m c t _ (Nat.sub_add_cancel (Nat.pos_of_ne_zero fun e => h (by rw [e]))) h

attribute [local irreducible] qs in
/-- After the first point of a row the gates are as it left them. -/
theorem before6 (c : Dev nD) (t : Fin cfg0.N) (h : t.val % 4 ≠ 0) (d) : (dats m 0 c).before 6 t d = qs m c t := by
  rw [(dats m 0 c).before_out_traj 6 rfl (fun _ _ => rfl)
    (fun t _ hi _ => qs_before m c t (by rw [idle6] at hi; simpa using hi)) t.val t rfl d, fresh6 _ t.isLt.le, if_neg (by simpa using h)]
  exact (qs_before m c t h).symm

/-! ## What the body hands back -/

/-- A buffer left at what the data say is what the obligation asks of a window. -/
theorem leaves_of (c : Dev nD) (w : Fin cfg0.W) (t : Fin cfg0.N) (hl : cfg0.loose w = false) (hi : cfg0.idle w (cfg0.grid.coords t) = false ∨ (cfg0.win w).flush t = true
      ∨ ∃ d, (dats m 0 c).before w t d = left m c w t) :
    owns (c : Thread nD τ) ((cfg0.win w).stage (cfg0.slots t w)) fullShare (left m c w t) ⊢ ((dats m 0 c).leaves w t : sProp 𝕄) := by
  unfold Dat.leaves
  rw [hl]
  cases h1 : cfg0.idle w (cfg0.grid.coords t)
  · exact .rfl
  · cases h2 : (cfg0.win w).flush t
    · obtain ⟨d, hd⟩ := (hi.resolve_left (by rw [h1]; decide)).resolve_left (by rw [h2]; decide)
      iintro H; iexists d; rw [hd]; iexact H
    · exact .rfl

/-- The scratch and the generator's register. -/
theorem rest_eq (c : Dev nD) : (Pipeline.ΦA spec0 c : sProp 𝕄) = iprop((∃ d, owns (c : Thread nD τ) scM fullShare d) ∗ ∃ r, prngReg c r) := by
  rw [Pipeline.ΦA, scopedRest0_eq]; simp only [scM, owns_whole]; try rfl

/-- Before the first point nothing is kept, -/
theorem kept_in (c : Dev nD) : (Pipeline.ΦA spec0 c : sProp 𝕄) ⊢ kept m c 0 := by
  rw [rest_eq]; unfold kept
  iintro ⟨⟨%d, H⟩, HR⟩
  isplitl [H]
  · iexists d; isplitr; swap; · iexact H
    ipureintro; intro t ht; exact absurd ht (Nat.succ_ne_zero _)
  iexact HR

/-- and after the last nothing is asked. -/
theorem kept_out (c : Dev nD) (k : Fin (cfg0.N + 1)) : kept m c k ⊢ (Pipeline.ΦA spec0 c : sProp 𝕄) := by
  rw [rest_eq]; unfold kept
  iintro ⟨⟨%d, -, H⟩, HR⟩
  isplitl [H]
  · iexists d; iexact H
  iexact HR

/-! ## The body's obligation -/

/-- The body's row of the launch is the body at the point. -/
theorem row_eq (t : Fin cfg0.N) : defs₀ (F := F) .tc cfg0.body (cfg0.bodyArgs t (cfg0.slots t)) = bodyAt0 t := by
  unfold defs₀; rw [Defs.onTc_tc]

/-- A first point of a row. -/
theorem obligation_head (c : Dev nD) (t : Fin cfg0.N) (h : t.val % 4 = 0) :
    iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d)))
      ⊢ wp frame (wpE (defs₀ (F := F)) Variants.none c none) Set.univ (defs₀ (F := F) .tc cfg0.body (cfg0.bodyArgs t (cfg0.slots t))) fun _ =>
          iprop((dats m 0 c).Φ t.succ ∗ (dats m 0 c).owesAt () t.succ ∗ bigSep Finset.univ fun w : Fin cfg0.W => ((dats m 0 c).leaves w t : sProp 𝕄)) := by
  have h1 := (heads_iff t).mpr h
  rw [bigSep_W0, bigSep_W0, row_eq]
  rw [show (dats m 0 c).Φ t.castSucc = kept m c t.castSucc from rfl, show (dats m 0 c).Φ t.succ = kept m c t.succ from rfl,
    show (dats m 0 c).owesAt () t.succ = (dats m 0 c).owesAt () t.castSucc from rfl]
  unfold kept
  iintro ⟨⟨⟨%dS, -, HS⟩, HR⟩, Ho, ⟨%d0, H0⟩, ⟨%d1, H1⟩, ⟨%d2, H2⟩, ⟨%d3, H3⟩, ⟨%d4, H4⟩, ⟨%d5, H5⟩, ⟨%d6, H6⟩⟩
  rw [before0 m c t d0, before1 m c t d1, before2 m c t d2, before3 m c t d3, before4 m c t d4]
  iapply (body_head c (grid0.coords t) h1 (fun e => (later_iff t).mp e h) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6))
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS]; · iexists _; iexact HS
  iintro ⟨H0, H1, H2, H3, H4, H5, H6, HS⟩
  isplitl [HS HR]
  · isplitl [HS]
    · iexists _; isplitr; swap; · iexact HS
      ipureintro
      intro t' e _
      have et : t' = t := Fin.ext (Nat.succ_injective e)
      rw [et]
      exact (hs_head m c t h).symm
    iexact HR
  isplitl [Ho]; · iexact Ho
  isplitl [H0]; · iapply (leaves_of m c 0 t rfl (.inl rfl)); iexact H0
  isplitl [H1]; · iapply (leaves_of m c 1 t rfl (.inl rfl)); iexact H1
  isplitl [H2]; · iapply (leaves_of m c 2 t rfl (.inl rfl)); iexact H2
  isplitl [H3]; · iapply (leaves_of m c 3 t rfl (.inl rfl)); iexact H3
  isplitl [H4]; · iapply (leaves_of m c 4 t rfl (.inl rfl)); iexact H4
  isplitl [H5]
  · iapply (leaves_of m c 5 t rfl (.inl (idle5 t)))
    rw [show left m c 5 t = _ from dif_pos h]; iexact H5
  iapply (leaves_of m c 6 t rfl (.inl (by rw [idle6]; simpa using h)))
  rw [show left m c 6 t = _ from qs_head m c t h]; iexact H6

/-- A later point of a row. -/
theorem obligation_later (c : Dev nD) (t : Fin cfg0.N) (h : t.val % 4 ≠ 0) :
    iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d)))
      ⊢ wp frame (wpE (defs₀ (F := F)) Variants.none c none) Set.univ (defs₀ (F := F) .tc cfg0.body (cfg0.bodyArgs t (cfg0.slots t))) fun _ =>
          iprop((dats m 0 c).Φ t.succ ∗ (dats m 0 c).owesAt () t.succ ∗ bigSep Finset.univ fun w : Fin cfg0.W => ((dats m 0 c).leaves w t : sProp 𝕄)) := by
  rw [bigSep_W0, bigSep_W0, row_eq]
  rw [show (dats m 0 c).Φ t.castSucc = kept m c t.castSucc from rfl, show (dats m 0 c).Φ t.succ = kept m c t.succ from rfl,
    show (dats m 0 c).owesAt () t.succ = (dats m 0 c).owesAt () t.castSucc from rfl]
  unfold kept
  iintro ⟨⟨⟨%dS, %hS, HS⟩, HR⟩, Ho, ⟨%d0, H0⟩, ⟨%d1, H1⟩, ⟨%d2, H2⟩, ⟨%d3, H3⟩, ⟨%d4, H4⟩, ⟨%d5, H5⟩, ⟨%d6, H6⟩⟩
  have eS : dS = hs m c t :=
    (hS ⟨t.val - 1, Nat.lt_of_le_of_lt (Nat.sub_le _ _) t.isLt⟩ (by show t.val - 1 + 1 = t.val; omega) h).trans
      (hs_pred m c t ⟨t.val - 1, Nat.lt_of_le_of_lt (Nat.sub_le _ _) t.isLt⟩ (by show t.val - 1 + 1 = t.val; omega) h).symm
  rw [before0 m c t d0, before1 m c t d1, before2 m c t d2, before3 m c t d3, before4 m c t d4, before6 m c t h d6, eS]
  iapply (body_later c (grid0.coords t) (fun e => h ((heads_iff t).mp e)) ((later_iff t).mpr h) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6))
    (iblk m c 3 t) (hs m c t) _)
  isplitl [H3]; · iexact H3
  isplitl [H5]; · iexists _; iexact H5
  isplitl [HS]; · iexact HS
  iintro ⟨H3, H5, HS⟩
  isplitl [HS HR]
  · isplitl [HS]
    · iexists _; isplitr; swap; · iexact HS
      ipureintro
      intro t' e _
      have et : t' = t := Fin.ext (Nat.succ_injective e)
      rw [et]
    iexact HR
  isplitl [Ho]; · iexact Ho
  isplitl [H0]; · iapply (leaves_of m c 0 t rfl (.inl rfl)); iexact H0
  isplitl [H1]; · iapply (leaves_of m c 1 t rfl (.inl rfl)); iexact H1
  isplitl [H2]; · iapply (leaves_of m c 2 t rfl (.inl rfl)); iexact H2
  isplitl [H3]; · iapply (leaves_of m c 3 t rfl (.inl rfl)); iexact H3
  isplitl [H4]; · iapply (leaves_of m c 4 t rfl (.inl rfl)); iexact H4
  isplitl [H5]
  · iapply (leaves_of m c 5 t rfl (.inl (idle5 t)))
    rw [show left m c 5 t = _ from dif_neg h]; iexact H5
  iapply (leaves_of m c 6 t rfl (.inr (.inr ⟨left m c 6 t, before6 m c t h _⟩))); iexact H6

/-- The body's obligation at every point. -/
theorem body_obligation (c : Dev nD) : BodyObligationLoose (dats m 0 c) (defs₀ (F := F)) Variants.none () Set.univ := fun t => by
  by_cases h : t.val % 4 = 0
  · exact obligation_head m c t h
  · exact obligation_later m c t h

set_option backward.isDefEq.respectTransparency.types false in
/-- The launch: every window's array ends as the run of the grid leaves it, and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared cfgs (dats m) 0 launch₀0 defs₀ Variants.none m ρ main (body_obligation m)
    (fun _ _ _ => rfl) (fun _ _ => rfl) (V m) (hmain m Variants.none) (fun _ _ => rfl) (kept_in m) (fun c => kept_out m c _)
    (Q' := _) (hQ' := fun _ h => h)

/-- The arguments end as they were. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_with_sems (frame_of m ρ (dats m) (fun _ _ => rfl)) (run_main m ρ)

end Cert.Proof.SampleIn

end
-- ==== Proof.SampleIn.Frames.lean ====
/-
  The three programs of the sample path's in-projection run and leave their arguments as they were.
-/
module

public import proofs.«01_k».proof.Defs
public import proofs.«01_k».proof.Proof.Gen.Kernel9
public import proofs.«01_k».proof.Proof.Gen.Reference9Ideal.Run
public import proofs.«01_k».proof.Proof.SampleIn.Run

@[expose] public section

noncomputable section

namespace Cert.Proof.SampleIn

open Idealize.ShloMosaic Idealize.SL.Sem

/-- The two printings of the kernel have the same body. -/
theorem bodies_eq : Cert.Kernel9.defs₀ (F := Bits) = Cert.Kernel9Ideal.defs₀ (F := Bits) := by
  unfold Cert.Kernel9.defs₀ Cert.Kernel9Ideal.defs₀
  refine congrArg Defs.onTc (funext fun ℓ => funext fun a => ?_)
  match ℓ, a with
  | ⟨0, _⟩, (t, s) => rfl
  | ⟨_ + 1, h⟩, _ => exact absurd h (Nat.not_lt.2 (Nat.le_add_left _ _))

theorem defs_eq : Cert.Kernel9.defs (F := Bits) = Cert.Kernel9Ideal.defs (F := Bits) :=
  congrArg (Pipeline.defs Cert.Kernel9Ideal.pcfgs) bodies_eq

/-- The kernel at the bits: the same run, read there. -/
theorem frame_kernel : Cert.quiescent_Kernel9 := fun m ρ _ => by
  rw [defs_eq]
  exact frame_main (F := Bits) m ρ

/-- The kernel at the ideal instance. -/
theorem frame_kernelIdeal : Cert.quiescent_Kernel9Ideal := fun m ρ _ => frame_main (F := Ideal) m ρ

/-- The reference leaves its arguments as they were, and declares no semaphore. -/
theorem frame_reference : Cert.quiescent_Reference9Ideal := fun m ρ _ =>
  (θ_run Cert.Reference9Ideal.defs _ _).mono
    (fun r h => ⟨fun c => (h c).2.2, Idealize.ShloMosaic.sem_eq_zero_of_no_sems (by decide) r.2⟩)
    (Cert.Reference9Ideal.Value.run (F := Ideal) m ρ)

end Cert.Proof.SampleIn

end
-- ==== Proof.SampleIn.Rows.lean ====
/-
  The blocks of the sample path's in-projection at coordinates: the modulated rows, and their products with the blocks of
  the two weights.
-/
module

public import proofs.«01_k».proof.Proof.SampleIn.Run
public import proofs.«01_k».proof.Proof.Norm
public import Idealize.ShloMosaic.Lib.Pipeline.ValueKit

@[expose] public section

set_option maxRecDepth 16384

noncomputable section

namespace Cert.Proof.SampleIn

open Cert.Kernel9Ideal Cert.Kernel9Ideal.Gen Cert.Proof.Norm
open Idealize.ShloMosaic Idealize.ShloMosaic.TcCoe Idealize.SL.Sem
open Idealize.ShloMosaic.Pipeline (Dat)

/-! ## A stretch -/

/-- The modulated rows of a stretch, as both products read them. -/
theorem pay6_at (sh sc x : S128x2048.Idx → Elt Ideal .f32) (p : Fin 128) (n : Fin 2048) :
    k0_pay6 (F := Ideal) sh sc x (ix2 p n)
      = modulated (fun k => x (ix2 p k)) (fun k => sh (ix2 p k)) (fun k => sc (ix2 p k)) n := by
  pointwise [k0_pay6]
  rfl

theorem hPart_at (sh sc : S128x2048.Idx → Elt Ideal .f32) (x : S128x2048.Idx → Elt Ideal .f32) (p : Fin 128) (n : Fin 2048) :
    hPart sh sc x (ix2 p n) = modulated (fun k => x (ix2 p k)) (fun k => sh (ix2 p k)) (fun k => sc (ix2 p k)) n := by
  have h := pay6_at sh sc x p n
  unfold hPart k0_pay7
  generalize k0_pay6 (F := Ideal) sh sc x = z at h ⊢
  pointwise
  exact h

theorem zPart_at (sh sc : S128x2048.Idx → Elt Ideal .f32) (x : S128x2048.Idx → Elt Ideal .f32) (w : S2048x1792.Idx → Elt Ideal .bf16) (p : Fin 128) (l : Fin 1792) :
    zPart sh sc x w (ix2 p l) = ∑ k : Fin 2048, modulated (fun k => x (ix2 p k)) (fun k => sh (ix2 p k)) (fun k => sc (ix2 p k)) k * w (ix2 k l) := by
  have h := pay6_at sh sc x p
  unfold zPart k0_pay9
  generalize k0_pay6 (F := Ideal) sh sc x = z at h ⊢
  pointwise
  simp only [h]

theorem qPart_at (sh sc : S128x2048.Idx → Elt Ideal .f32) (x : S128x2048.Idx → Elt Ideal .f32) (w : S2048x128.Idx → Elt Ideal .bf16) (p : Fin 128) (l : Fin 128) :
    qPart sh sc x w (ix2 p l) = ∑ k : Fin 2048, modulated (fun k => x (ix2 p k)) (fun k => sh (ix2 p k)) (fun k => sc (ix2 p k)) k * w (ix2 k l) := by
  have h := pay6_at sh sc x p
  unfold qPart k0_pay8
  generalize k0_pay6 (F := Ideal) sh sc x = z at h ⊢
  pointwise
  simp only [h]

/-- The product of kept rows with a block of the main weight. -/
theorem pay5_at (h : S512x2048.Idx → Elt Ideal .bf16) (w : S2048x1792.Idx → Elt Ideal .bf16) (q : Fin 512) (l : Fin 1792) :
    k0_pay5 (F := Ideal) h w (ix2 q l) = ∑ k : Fin 2048, h (ix2 q k) * w (ix2 k l) := by
  pointwise [k0_pay5]

/-! ## A block -/

/-- The row of a stretch is the row of the block it is read from. -/
theorem stretch (X : S512x2048.Idx → Elt Ideal .f32) (o : ℕ) (inb) (p : Fin 128) (q : Fin 512) (hq : q.val = o + p.val) :
    (fun k => View.ld X (Rect.unit (s := S512x2048) ![o, 0] S128x2048.size inb) (ix2 p k)) = fun k => X (ix2 q k) :=
  funext fun k => ld_at X _ _ p k q k hq (Nat.zero_add _).symm

/-- An index of a matrix whose second coordinate is known. -/
theorem idx_of {A B : ℕ} (x : (⟨2, ![A, B]⟩ : Shape).Idx) (k : Fin B) (h : k.val = (x 1).val) : x = ix2 (x 0) k := by
  funext a
  fin_cases a
  · rfl
  · exact Fin.ext h.symm

/-- The sequence of a row of a stretch. -/
theorem seq_of (o : ℕ) (x g : Fin 128) (q : Fin 512) (h : q.val = o + x.val) (ho : o % 128 = 0) (hg : g.val = q.val % 128) : x = g :=
  Fin.ext (by omega)

theorem hBlock_at (sh sc : S128x2048.Idx → Elt Ideal .f32) (X : S512x2048.Idx → Elt Ideal .f32) (q : Fin 512) (n : Fin 2048) (g : Fin 128) (hg : g.val = q.val % 128) :
    hBlock sh sc X (ix2 q n) = modulated (fun k => X (ix2 q k)) (fun k => sh (ix2 g k)) (fun k => sc (ix2 g k)) n := by
  unfold hBlock
  canon_tiles x h
  all_goals
    rw [idx_of x n h1]
    refine (hPart_at _ _ _ (x 0) n).trans ?_
    have eg : x 0 = g := by first | exact seq_of _ (x 0) g q h0 rfl hg | exact seq_of 0 (x 0) g q (h0.trans (Nat.zero_add _).symm) rfl hg
    rw [stretch X _ _ (x 0) q (by first | exact h0 | exact h0.trans (Nat.zero_add _).symm), eg]

theorem zBlock_at (sh sc : S128x2048.Idx → Elt Ideal .f32) (X : S512x2048.Idx → Elt Ideal .f32) (w : S2048x1792.Idx → Elt Ideal .bf16) (q : Fin 512) (l : Fin 1792) (g : Fin 128) (hg : g.val = q.val % 128) :
    zBlock sh sc X w (ix2 q l) = ∑ k : Fin 2048, modulated (fun k => X (ix2 q k)) (fun k => sh (ix2 g k)) (fun k => sc (ix2 g k)) k * w (ix2 k l) := by
  unfold zBlock
  canon_tiles x h
  all_goals
    rw [idx_of x l h1]
    refine (zPart_at _ _ _ _ (x 0) l).trans ?_
    have eg : x 0 = g := by first | exact seq_of _ (x 0) g q h0 rfl hg | exact seq_of 0 (x 0) g q (h0.trans (Nat.zero_add _).symm) rfl hg
    rw [stretch X _ _ (x 0) q (by first | exact h0 | exact h0.trans (Nat.zero_add _).symm), eg]

theorem qBlock_at (sh sc : S128x2048.Idx → Elt Ideal .f32) (X : S512x2048.Idx → Elt Ideal .f32) (w : S2048x128.Idx → Elt Ideal .bf16) (q : Fin 512) (l : Fin 128) (g : Fin 128) (hg : g.val = q.val % 128) :
    qBlock sh sc X w (ix2 q l) = ∑ k : Fin 2048, modulated (fun k => X (ix2 q k)) (fun k => sh (ix2 g k)) (fun k => sc (ix2 g k)) k * w (ix2 k l) := by
  unfold qBlock
  canon_tiles x h
  all_goals
    rw [idx_of x l h1]
    refine (qPart_at _ _ _ _ (x 0) l).trans ?_
    have eg : x 0 = g := by first | exact seq_of _ (x 0) g q h0 rfl hg | exact seq_of 0 (x 0) g q (h0.trans (Nat.zero_add _).symm) rfl hg
    rw [stretch X _ _ (x 0) q (by first | exact h0 | exact h0.trans (Nat.zero_add _).symm), eg]

end Cert.Proof.SampleIn

end
-- ==== Proof.SampleIn.Reads.lean ====
/-
  What the input windows of the sample path's in-projection hold at a point of the grid, read off the arrays the launch is
  given.
-/
module

public import proofs.«01_k».proof.Proof.SampleIn.Rows

@[expose] public section

set_option maxRecDepth 16384

noncomputable section

namespace Cert.Proof.SampleIn

open Cert.Kernel9Ideal Cert.Kernel9Ideal.Gen Cert.Proof.Norm
open Idealize.ShloMosaic Idealize.ShloMosaic.TcCoe Idealize.SL.Sem
open Idealize.ShloMosaic.Pipeline (Dat)

variable (m : (ℓ : Loc nD τ sig) → Buf (Elt Ideal) ℓ)

/-! ## The arrays the launch is given -/

/-- The input, a row per time of a sequence. -/
def argX (c : Dev nD) : S128x4x2048.Idx → Elt Ideal .f32 := m ((c : Thread nD τ).loc main_arg0)
/-- The modulation, six stretches of columns. -/
def argM (c : Dev nD) : S128x12288.Idx → Elt Ideal .f32 := m ((c : Thread nD τ).loc main_arg1)
/-- The weight. -/
def argW (c : Dev nD) : S1x2048x7176.Idx → Elt Ideal .f32 := m ((c : Thread nD τ).loc main_arg2)

/-! ## The arrays the launch finds -/

/-- The input, a stretch per time. -/
theorem V6 (c : Dev nD) (s : Fin 128) (p : Fin 4) (r : Fin 512) (n : Fin 2048) (hr : r.val = 128 * p.val + s.val) : V m c main_v6 (ix2 r n) = argX m c (ix3 s p n) := by
  have e : V m c main_v6 = shapeCast (α := Elt Ideal .f32) S512x2048 (transpose S4x128x2048 [1, 0, 2] (argX m c) transposes_S128x4x2048_S4x128x2048_1_0_2) shapeCasts_S4x128x2048_S512x2048 := by
    simp only [V, hostOps0, List.flatten_cons, List.flatten_nil, List.append_nil, List.cons_append, List.nil_append, StableHlo.TRef.binary, StableHlo.TRef.unary, StableHlo.TRef.toBuf, StableHlo.TRef.ofBuf, cast_eq]
    after_results_simp <;> rfl
  have hp : r.val / 128 < 4 := by omega
  have hb : r.val % 128 < 128 := by omega
  have es : s = ⟨r.val % 128, hb⟩ := Fin.ext (by show s.val = r.val % 128; omega)
  have ep : p = ⟨r.val / 128, hp⟩ := Fin.ext (by show p.val = r.val / 128; omega)
  rw [e, es, ep]
  pointwise
/-- The weight's columns but the eight of the gates. -/
theorem V4 (c : Dev nD) (k : Fin 2048) (f : Fin 7168) (g : Fin 7176) (hg : g.val = if f.val < 2048 then f.val else f.val + 8) : V m c main_v4 (ix2 k f) = argW m c (ix3 0 k g) := by
  have e : V m c main_v4 = concatenate (α := Elt Ideal .bf16) S2048x7168 1
      [⟨S2048x2048, extractStridedSlice S2048x2048 ![0, 0] (truncf (F := Ideal) .bf16 (shapeCast (α := Elt Ideal .f32) _ (argW m c) shapeCasts_S1x2048x7176_S2048x7176) bitsLt_bf16_f32) slices_S2048x7176_S2048x2048_0_0⟩,
       ⟨S2048x5120, extractStridedSlice S2048x5120 ![0, 2056] (truncf (F := Ideal) .bf16 (shapeCast (α := Elt Ideal .f32) _ (argW m c) shapeCasts_S1x2048x7176_S2048x7176) bitsLt_bf16_f32) slices_S2048x7176_S2048x5120_0_2056⟩]
      concatenates_S2048x2048_S2048x5120_S2048x7168_d1 := by
    simp only [V, hostOps0, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  generalize argW m c = W
  pointwise
  split_ifs at hg ⊢ with h
  · exact congrArg W (congrArg (ix3 0 k) (Fin.ext hg.symm))
  · exact congrArg W (congrArg (ix3 0 k) (Fin.ext (by rw [hg]; show 2056 + (f.val - 2048) = f.val + 8; omega)))
  · rename_i e1
    exact absurd rfl e1
/-- The weight's 128 columns from the gates' first. -/
theorem V7 (c : Dev nD) (k : Fin 2048) (f : Fin 128) : V m c main_v7 (ix2 k f) = argW m c (ix3 0 k ⟨2048 + f.val, by omega⟩) := by
  have e : V m c main_v7 = extractStridedSlice (α := Elt Ideal .bf16) S2048x128 ![0, 2048] (truncf (F := Ideal) .bf16 (shapeCast (α := Elt Ideal .f32) _ (argW m c) shapeCasts_S1x2048x7176_S2048x7176) bitsLt_bf16_f32) slices_S2048x7176_S2048x128_0_2048 := by
    simp only [V, hostOps0, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise

/-! ## The blocks -/

/-- The block of each window at a point. -/
theorem widx : ∀ t : Fin cfg0.N, win0_0.index t = ![0, 0] ∧ win0_1.index t = ![0, 0] ∧ win0_2.index t = ![0, 1] ∧ win0_3.index t = ![0, t.val % 4] ∧ win0_4.index t = ![0, 0] ∧ win0_5.index t = ![0, t.val % 4] ∧ win0_6.index t = ![0, 0] := by decide +kernel

theorem blk0 (c : Dev nD) (t : Fin cfg0.N) (q : Fin 512) (n : Fin 2048) (s : Fin 128) (p : Fin 4) (hr : q.val = 128 * p.val + s.val) :
    (iblk m c 0 t : S512x2048.Idx → Elt Ideal .f32) (ix2 q n) = argX m c (ix3 s p n) := by
  refine Eq.trans ?_ (V6 m c s p q n hr)
  blk_simp [iblk]
  blk_ext [widx t]
theorem blk1 (c : Dev nD) (t : Fin cfg0.N) (g : Fin 128) (n : Fin 2048) :
    (iblk m c 1 t : S128x2048.Idx → Elt Ideal .f32) (ix2 g n) = argM m c (ix2 g ⟨n.val, by omega⟩) := by
  refine Eq.trans ?_ (congrFun (V_main_arg1 m c) (ix2 g ⟨n.val, by omega⟩))
  blk_simp [iblk]
  blk_ext [widx t]
theorem blk2 (c : Dev nD) (t : Fin cfg0.N) (g : Fin 128) (n : Fin 2048) :
    (iblk m c 2 t : S128x2048.Idx → Elt Ideal .f32) (ix2 g n) = argM m c (ix2 g ⟨2048 + n.val, by omega⟩) := by
  refine Eq.trans ?_ (congrFun (V_main_arg1 m c) (ix2 g ⟨2048 + n.val, by omega⟩))
  blk_simp [iblk]
  blk_ext [widx t]
theorem blk3 (c : Dev nD) (t : Fin cfg0.N) (k : Fin 2048) (l : Fin 1792) (f : Fin 7168) (hf : f.val = 1792 * (t.val % 4) + l.val) (g : Fin 7176) (hg : g.val = if f.val < 2048 then f.val else f.val + 8) :
    (iblk m c 3 t : S2048x1792.Idx → Elt Ideal .bf16) (ix2 k l) = argW m c (ix3 0 k g) := by
  refine Eq.trans ?_ (V4 m c k f g hg)
  blk_simp [iblk]
  blk_ext [widx t]
theorem blk4 (c : Dev nD) (t : Fin cfg0.N) (k : Fin 2048) (l : Fin 128) :
    (iblk m c 4 t : S2048x128.Idx → Elt Ideal .bf16) (ix2 k l) = argW m c (ix3 0 k ⟨2048 + l.val, by omega⟩) := by
  refine Eq.trans ?_ (V7 m c k l)
  blk_simp [iblk]
  blk_ext [widx t]

end Cert.Proof.SampleIn

end
-- ==== Proof.SampleIn.Plain.lean ====
/-
  The plain in-projection of the sample path: its two results at coordinates.
-/
module

public import proofs.«01_k».proof.Proof.Gen.Reference9Ideal.Run
public import proofs.«01_k».proof.Proof.SampleIn.Rows

@[expose] public section

set_option maxRecDepth 16384

noncomputable section

namespace Cert.Proof.SampleIn.Plain

open Cert.Reference9Ideal Cert.Reference9Ideal.Gen Cert.Proof.Norm
open Idealize.ShloMosaic Idealize.ShloMosaic.TcCoe Idealize.SL.Sem

/-- The rows less their means. -/
def cen (P : FVec Ideal S128x4x2048 .f32) : FVec Ideal S128x4x2048 .f32 :=
  subf P (broadcastInDim S128x4x2048 ![0, 1, 2] bcast_S128x4x1_S128x4x2048_0_1_2 (Host.divf (broadcastInDim S128x4x1 ![0, 1] bcast_S128x4_S128x4x1_0_1 (Host.reduceAdd P (constant (F := Ideal) S_ .f32 0x00000000#32) reducesTo_S128x4x2048_S128x4_d2 h_S_)) (broadcastInDim S128x4x1 ![] bcast_S_S128x4x1 (constant (F := Ideal) S_ .f32 0x45000000#32))))

/-- The modulated rows, from the centred ones. -/
def fin (C : FVec Ideal S128x4x2048 .f32) (M : FVec Ideal S128x12288 .f32) : FVec Ideal S128x4x2048 .f32 :=
  addf (mulf (mulf C (broadcastInDim S128x4x2048 ![0, 1, 2] bcast_S128x4x1_S128x4x2048_0_1_2 (Host.rsqrt (addf (Host.divf (broadcastInDim S128x4x1 ![0, 1] bcast_S128x4_S128x4x1_0_1 (Host.reduceAdd (mulf C C) (constant (F := Ideal) S_ .f32 0x00000000#32) reducesTo_S128x4x2048_S128x4_d2 h_S_)) (broadcastInDim S128x4x1 ![] bcast_S_S128x4x1 (constant (F := Ideal) S_ .f32 0x45000000#32))) (broadcastInDim S128x4x1 ![] bcast_S_S128x4x1 (constant (F := Ideal) S_ .f32 0x3727C5AC#32)))))) (broadcastInDim S128x4x2048 ![0, 1, 2] bcast_S128x1x2048_S128x4x2048_0_1_2 (addf (broadcastInDim S128x1x2048 ![] bcast_S_S128x1x2048 (constant (F := Ideal) S_ .f32 0x3F800000#32)) (extractStridedSlice S128x1x2048 ![0, 0, 2048] (broadcastInDim S128x1x12288 ![0, 2] bcast_S128x12288_S128x1x12288_0_2 M) slices_S128x1x12288_S128x1x2048_0_0_2048)))) (broadcastInDim S128x4x2048 ![0, 1, 2] bcast_S128x1x2048_S128x4x2048_0_1_2 (extractStridedSlice S128x1x2048 ![0, 0, 0] (broadcastInDim S128x1x12288 ![0, 2] bcast_S128x12288_S128x1x12288_0_2 M) slices_S128x1x12288_S128x1x2048_0_0_0))

/-- Their product with the whole weight, a row per token, in time-major order. -/
def prod (H : FVec Ideal S128x4x2048 .f32) (W : FVec Ideal S1x2048x7176 .f32) : FVec Ideal S512x7176 .f32 :=
  shapeCast _ (transpose S4x128x7176 [1, 0, 2] (Host.dotGeneral dot_S128x4x2048_S2048x7176_S128x4x7176_2_0_01_1_n_n none H (shapeCast _ W shapeCasts_S1x2048x7176_S2048x7176)) transposes_S128x4x7176_S4x128x7176_1_0_2) shapeCasts_S4x128x7176_S512x7176

/-- The first result: the product's columns but the eight of the gates. -/
def out0 (X : FVec Ideal S128x4x2048 .f32) (M : FVec Ideal S128x12288 .f32) (W : FVec Ideal S1x2048x7176 .f32) : FVec Ideal S512x7168 .f32 :=
  concatenate S512x7168 1 [⟨S512x2048, extractStridedSlice S512x2048 ![0, 0] (prod (fin (cen X) M) W) slices_S512x7176_S512x2048_0_0⟩, ⟨S512x5120, extractStridedSlice S512x5120 ![0, 2056] (prod (fin (cen X) M) W) slices_S512x7176_S512x5120_0_2056⟩] concatenates_S512x2048_S512x5120_S512x7168_d1

/-- The second: 128 columns from the gates' first. -/
def out1 (X : FVec Ideal S128x4x2048 .f32) (M : FVec Ideal S128x12288 .f32) (W : FVec Ideal S1x2048x7176 .f32) : FVec Ideal S512x128 .f32 :=
  extractStridedSlice S512x128 ![0, 2048] (prod (fin (cen X) M) W) slices_S512x7176_S512x128_0_2048

theorem res0 (m : (ℓ : Loc nD τ sig) → Buf (Elt Ideal) ℓ) (c : Dev nD) : Value.res_main_v37 m c
    = out0 (m ((c.tc : Thread nD τ).loc main_arg0)) (m ((c.tc : Thread nD τ).loc main_arg1)) (m ((c.tc : Thread nD τ).loc main_arg2)) := by
  unfold Value.res_main_v37; rfl

theorem cen_at (P : FVec Ideal S128x4x2048 .f32) (s : Fin 128) (p : Fin 4) (n : Fin 2048) : cen P (ix3 s p n) = centred (fun x => P (ix3 s p x)) n := by
  pointwise [cen]
  rfl

theorem fin_at (C : FVec Ideal S128x4x2048 .f32) (M : FVec Ideal S128x12288 .f32) (v : Fin 2048 → EReal) (s : Fin 128) (p : Fin 4) (n : Fin 2048) (hC : ∀ x, C (ix3 s p x) = centred v x) :
    fin C M (ix3 s p n) = modulated v (fun k => M (ix2 s ⟨k.val, by omega⟩)) (fun k => M (ix2 s ⟨2048 + k.val, by omega⟩)) n := by
  pointwise [fin]
  simp only [hC]
  rfl

/-- The product at a token's row. -/
theorem prod_at (X : FVec Ideal S128x4x2048 .f32) (M : FVec Ideal S128x12288 .f32) (W : FVec Ideal S1x2048x7176 .f32) (s : Fin 128) (p : Fin 4) (r : Fin 512) (hr : r.val = 128 * p.val + s.val) (f : Fin 7176) :
    prod (fin (cen X) M) W (ix2 r f)
      = ∑ k : Fin 2048, modulated (fun k => X (ix3 s p k)) (fun k => M (ix2 s ⟨k.val, by omega⟩)) (fun k => M (ix2 s ⟨2048 + k.val, by omega⟩)) k * W (ix3 0 k f) := by
  have h := fun n => fin_at (cen X) M _ s p n (cen_at X s p)
  generalize fin (cen X) M = H at h ⊢
  have hp : r.val / 128 < 4 := by omega
  have hb : r.val % 128 < 128 := by omega
  have es : s = ⟨r.val % 128, hb⟩ := Fin.ext (by show s.val = r.val % 128; omega)
  have ep : p = ⟨r.val / 128, hp⟩ := Fin.ext (by show p.val = r.val / 128; omega)
  simp only [← h]
  rw [es, ep]
  pointwise [prod]

theorem out0_at (X : FVec Ideal S128x4x2048 .f32) (M : FVec Ideal S128x12288 .f32) (W : FVec Ideal S1x2048x7176 .f32) (s : Fin 128) (p : Fin 4) (r : Fin 512) (hr : r.val = 128 * p.val + s.val)
    (f : Fin 7168) (g : Fin 7176) (hg : g.val = if f.val < 2048 then f.val else f.val + 8) :
    out0 X M W (ix2 r f)
      = ∑ k : Fin 2048, modulated (fun k => X (ix3 s p k)) (fun k => M (ix2 s ⟨k.val, by omega⟩)) (fun k => M (ix2 s ⟨2048 + k.val, by omega⟩)) k * W (ix3 0 k g) := by
  rw [← prod_at X M W s p r hr g]
  unfold out0
  generalize prod (fin (cen X) M) W = P
  pointwise
  split_ifs at hg ⊢ with h
  · exact congrArg P (congrArg (ix2 r) (Fin.ext hg.symm))
  · exact congrArg P (congrArg (ix2 r) (Fin.ext (by rw [hg]; show 2056 + (f.val - 2048) = f.val + 8; omega)))
  · rename_i e1
    exact absurd rfl e1

theorem out1_at (X : FVec Ideal S128x4x2048 .f32) (M : FVec Ideal S128x12288 .f32) (W : FVec Ideal S1x2048x7176 .f32) (s : Fin 128) (p : Fin 4) (r : Fin 512) (hr : r.val = 128 * p.val + s.val) (f : Fin 128) :
    out1 X M W (ix2 r f)
      = ∑ k : Fin 2048, modulated (fun k => X (ix3 s p k)) (fun k => M (ix2 s ⟨k.val, by omega⟩)) (fun k => M (ix2 s ⟨2048 + k.val, by omega⟩)) k * W (ix3 0 k ⟨2048 + f.val, by omega⟩) := by
  rw [← prod_at X M W s p r hr ⟨2048 + f.val, by omega⟩]
  unfold out1
  generalize prod (fin (cen X) M) W = P
  pointwise

end Cert.Proof.SampleIn.Plain

end
-- ==== Proof.SampleIn.Final.lean ====
/-
  The two arrays the sample path's in-projection leaves are the plain program's results.
-/
module

public import proofs.«01_k».proof.Proof.SampleIn.Reads
public import proofs.«01_k».proof.Proof.SampleIn.Plain

@[expose] public section

set_option maxRecDepth 16384

noncomputable section

namespace Cert.Proof.SampleIn

open Cert.Kernel9Ideal Cert.Kernel9Ideal.Gen Cert.Proof.Norm
open Idealize.ShloMosaic Idealize.ShloMosaic.TcCoe Idealize.SL.Sem
open Idealize.ShloMosaic.Pipeline (Dat)

variable (m : (ℓ : Loc nD τ sig) → Buf (Elt Ideal) ℓ)

/-- An entry of the modulated rows, from the arrays the launch is given. -/
def modRow (c : Dev nD) (s : Fin 128) (p : Fin 4) (k : Fin 2048) : EReal :=
  modulated (fun n => argX m c (ix3 s p n)) (fun n => argM m c (ix2 s ⟨n.val, by omega⟩)) (fun n => argM m c (ix2 s ⟨2048 + n.val, by omega⟩)) k

/-- The modulated rows that the first point computes. -/
theorem modulated_at (c : Dev nD) (t : Fin cfg0.N) (q : Fin 512) (s : Fin 128) (p : Fin 4) (hr : q.val = 128 * p.val + s.val) (k : Fin 2048) :
    modulated (fun n => (iblk m c 0 t : S512x2048.Idx → Elt Ideal .f32) (ix2 q n)) (fun n => (iblk m c 1 t : S128x2048.Idx → Elt Ideal .f32) (ix2 s n)) (fun n => (iblk m c 2 t : S128x2048.Idx → Elt Ideal .f32) (ix2 s n)) k = modRow m c s p k := by
  simp only [fun n => blk0 m c t q n s p hr, blk1 m c t s, blk2 m c t s]
  rfl

/-- The rows that the scratch holds. -/
theorem hs_at (c : Dev nD) (t : Fin cfg0.N) (q : Fin 512) (s : Fin 128) (p : Fin 4) (hr : q.val = 128 * p.val + s.val) (k : Fin 2048) :
    hs m c t (ix2 q k) = modRow m c s p k := by
  unfold hs hAt
  rw [hBlock_at _ _ _ q k s (by omega)]
  exact modulated_at m c (first t) q s p hr k

/-- A block of the main product. -/
theorem zs_at (c : Dev nD) (t : Fin cfg0.N) (q : Fin 512) (l : Fin 1792) (s : Fin 128) (p : Fin 4) (hr : q.val = 128 * p.val + s.val)
    (f : Fin 7168) (hf : f.val = 1792 * (t.val % 4) + l.val) (g : Fin 7176) (hg : g.val = if f.val < 2048 then f.val else f.val + 8) :
    zs m c t (ix2 q l) = ∑ k : Fin 2048, modRow m c s p k * argW m c (ix3 0 k g) := by
  unfold zs
  split
  · refine (zBlock_at _ _ _ _ q l s (by omega)).trans (Finset.sum_congr rfl fun k _ => ?_)
    rw [modulated_at m c t q s p hr k, blk3 m c t k l f hf g hg]
  · refine (pay5_at _ _ q l).trans (Finset.sum_congr rfl fun k _ => ?_)
    rw [hs_at m c t q s p hr k, blk3 m c t k l f hf g hg]

/-- The gates. -/
theorem qs_at (c : Dev nD) (t : Fin cfg0.N) (q : Fin 512) (l : Fin 128) (s : Fin 128) (p : Fin 4) (hr : q.val = 128 * p.val + s.val) :
    qs m c t (ix2 q l) = ∑ k : Fin 2048, modRow m c s p k * argW m c (ix3 0 k ⟨2048 + l.val, by omega⟩) := by
  unfold qs qAt
  rw [qBlock_at _ _ _ _ q l s (by omega)]
  refine Finset.sum_congr rfl fun k _ => ?_
  rw [modulated_at m c (first t) q s p hr k, blk4 m c (first t) k l]

/-- A point's block of the main product is the first result's, -/
theorem point5 (c : Dev nD) (t : Fin cfg0.N) (q : Fin 512) (l : Fin 1792) (f : Fin 7168) (h1 : f.val = 1792 * (t.val % 4) + l.val) :
    zs m c t (ix2 q l) = Plain.out0 (argX m c) (argM m c) (argW m c) (ix2 q f) := by
  have hs : q.val % 128 < 128 := by omega
  have hp : q.val / 128 < 4 := by omega
  have hq : q.val = 128 * (q.val / 128) + q.val % 128 := by omega
  have hg : (if f.val < 2048 then f.val else f.val + 8) < 7176 := by split <;> omega
  exact (zs_at m c t q l ⟨q.val % 128, hs⟩ ⟨q.val / 128, hp⟩ hq f h1 ⟨_, hg⟩ rfl).trans
    (Plain.out0_at (argX m c) (argM m c) (argW m c) ⟨q.val % 128, hs⟩ ⟨q.val / 128, hp⟩ q hq f ⟨_, hg⟩ rfl).symm

/-- and its gates are the second's. -/
theorem point6 (c : Dev nD) (t : Fin cfg0.N) (q : Fin 512) (l : Fin 128)  :
    qs m c t (ix2 q l) = Plain.out1 (argX m c) (argM m c) (argW m c) (ix2 q l) := by
  have hs : q.val % 128 < 128 := by omega
  have hp : q.val / 128 < 4 := by omega
  have hq : q.val = 128 * (q.val / 128) + q.val % 128 := by omega
  exact (qs_at m c t q l ⟨q.val % 128, hs⟩ ⟨q.val / 128, hp⟩ hq).trans
    (Plain.out1_at (argX m c) (argM m c) (argW m c) ⟨q.val % 128, hs⟩ ⟨q.val / 128, hp⟩ q hq l).symm

/-- The same at the indices of the buffers and of the arrays. -/
theorem point5At (c : Dev nD) (t : Fin cfg0.N) (y : S512x1792.Idx) (i : S512x7168.Idx) (h0 : (i 0).val = (y 0).val) (h1 : (i 1).val = 1792 * (t.val % 4) + (y 1).val) :
    zs m c t y = Plain.out0 (argX m c) (argM m c) (argW m c) i := by
  have hy : y = ix2 (y 0) (y 1) := by funext a; fin_cases a <;> rfl
  have hi : i = ix2 (y 0) (i 1) := by
    funext a
    fin_cases a
    · exact Fin.ext h0
    · rfl
  rw [hy, hi]
  exact point5 m c t (y 0) (y 1) (i 1) h1

theorem point6At (c : Dev nD) (t : Fin cfg0.N) (y : S512x128.Idx) (i : S512x128.Idx) (h0 : (i 0).val = (y 0).val) (h1 : (i 1).val = (y 1).val) :
    qs m c t y = Plain.out1 (argX m c) (argM m c) (argW m c) i := by
  have hy : y = ix2 (y 0) (y 1) := by funext a; fin_cases a <;> rfl
  have hi : i = ix2 (y 0) (y 1) := by
    funext a
    fin_cases a
    · exact Fin.ext h0
    · exact Fin.ext h1
  rw [hy, hi]
  exact point6 m c t (y 0) (y 1)

theorem final5 (c : Dev nD) : (dats m 0 c).arrAt 5 cfg0.N = Plain.out0 (argX m c) (argM m c) (argW m c) := by
  refine (dats m 0 c).arrAt_eq_of_covers 5 _ (by decide +kernel) fun t hf y => ?_
  blk_simp
  refine point5At m c t y _ ?_ ?_
  · blk_simp [widx t]
  · blk_simp [widx t]
    omega

theorem final6 (c : Dev nD) : (dats m 0 c).arrAt 6 cfg0.N = Plain.out1 (argX m c) (argM m c) (argW m c) := by
  refine (dats m 0 c).arrAt_eq_of_covers 6 _ (by decide +kernel) fun t hf y => ?_
  blk_simp
  refine point6At m c t y _ ?_ ?_
  · blk_simp [widx t]
  · blk_simp [widx t]

end Cert.Proof.SampleIn

end
-- ==== Proof.SampleIn.Algebraic.lean ====
/-
  The sample path's in-projection computes the plain program's two results, over the extended reals.
-/
module

public import proofs.«01_k».proof.Proof.SampleIn.Final
public import proofs.«01_k».proof.Proof.SampleIn.Frames

@[expose] public section

set_option maxRecDepth 16384

noncomputable section

namespace Cert.Proof.SampleIn

open Idealize.ShloMosaic Idealize.SL.Sem

/-- The run of the kernel, its results by name. -/
theorem run_kernel (m : (ℓ : Loc Cert.Kernel9Ideal.nD Cert.Kernel9Ideal.τ Cert.Kernel9Ideal.sig) → Buf (Elt Ideal) ℓ) (g : Dev Cert.Kernel9Ideal.nD → PrngReg) :
    θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
      r.2.mem ((c.tc : Thread Cert.Kernel9Ideal.nD Cert.Kernel9Ideal.τ).loc Cert.Kernel9Ideal.main_v8_0) = Plain.out0 (argX m c) (argM m c) (argW m c)
      ∧ r.2.mem ((c.tc : Thread Cert.Kernel9Ideal.nD Cert.Kernel9Ideal.τ).loc Cert.Kernel9Ideal.main_v8_1) = Plain.out1 (argX m c) (argM m c) (argW m c)
      ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)) :=
  (θ_run Cert.Kernel9Ideal.defs _ _).mono (fun r h c => ⟨((h.1 c).1 5).trans (final5 m c), ((h.1 c).1 6).trans (final6 m c),
      ((h.1 c).2 Cert.Kernel9Ideal.main_arg0 (Pipeline.mem_restRefs_of Cert.Kernel9Ideal.main_arg0 (by decide) (by decide))).trans (Cert.Kernel9Ideal.Gen.V_main_arg0 m c),
      ((h.1 c).1 2).trans (((dats m 0 c).arrAt_in 2 rfl _).trans (Cert.Kernel9Ideal.Gen.V_main_arg1 m c)),
      ((h.1 c).2 Cert.Kernel9Ideal.main_arg2 (Pipeline.mem_restRefs_of Cert.Kernel9Ideal.main_arg2 (by decide) (by decide))).trans (Cert.Kernel9Ideal.Gen.V_main_arg2 m c)⟩)
    (run_main (F := Ideal) m g)

theorem algebraic : Cert.algebraic_Kernel9Ideal_Reference9Ideal := by
  intro m g m' g' _ hargs
  refine ⟨fun c => Plain.out0 (argX m c) (argM m c) (argW m c), fun c => Plain.out1 (argX m c) (argM m c) (argW m c), run_kernel m g, ?_⟩
  refine (θ_run Cert.Reference9Ideal.defs _ _).mono (fun r h c => ?_) (Cert.Reference9Ideal.Value.run (F := Ideal) m' g')
  obtain ⟨r0, r1, ra⟩ := h c
  obtain ⟨e0, e1, e2⟩ := hargs c
  have e0' : m' ((c.tc : Thread Cert.Reference9Ideal.nD Cert.Reference9Ideal.τ).loc Cert.Reference9Ideal.main_arg0) = argX m c := e0
  have e1' : m' ((c.tc : Thread Cert.Reference9Ideal.nD Cert.Reference9Ideal.τ).loc Cert.Reference9Ideal.main_arg1) = argM m c := e1
  have e2' : m' ((c.tc : Thread Cert.Reference9Ideal.nD Cert.Reference9Ideal.τ).loc Cert.Reference9Ideal.main_arg2) = argW m c := e2
  refine ⟨(r0.trans (Plain.res0 m' c)).trans ?_, Eq.trans (r1.trans (by rfl : _ = Plain.out1 (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)))) ?_, ra⟩
  · rw [e0', e1', e2']
  · rw [e0', e1', e2']

end Cert.Proof.SampleIn

end
-- ==== Proof.Split.Body.lean ====
/-
  The body of the input weight's split at a point of the grid. A block of the transposed weight's rows is transposed and
  rounded, 256 rows at a time, into a block of columns: at the first two points from the rows in front of the gates', at the
  others from the rows behind them. The first point does the same with the 128 rows from the gates' first.
-/
module

public import proofs.«01_k».proof.Proof.Whole
public import proofs.«01_k».proof.Proof.Gen.Kernel10Ideal
public import proofs.«01_k».proof.Proof.Gen.Kernel10Ideal.Skeleton
public import proofs.«01_k».proof.Proof.Gen.Kernel10Ideal.Frame
public import Idealize.ShloMosaic.Lib.Pipeline.Frame
public import Idealize.ShloMosaic.Lib.Pipeline.FrameBody
public import Idealize.ShloMosaic.Lib.Pipeline.Value
public import Idealize.ShloMosaic.Lib.Tactic

@[expose] public section

set_option maxRecDepth 16384

noncomputable section

namespace Cert.Proof.Split

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The stretches of the rows of a block, -/
abbrev rX0 : Rect S1024x2048 := Rect.unit (s := S1024x2048) ![0, 0] S256x2048.size inb_S1024x2048_S256x2048_0_0
abbrev rX1 : Rect S1024x2048 := Rect.unit (s := S1024x2048) ![256, 0] S256x2048.size inb_S1024x2048_S256x2048_256_0
abbrev rX2 : Rect S1024x2048 := Rect.unit (s := S1024x2048) ![512, 0] S256x2048.size inb_S1024x2048_S256x2048_512_0
abbrev rX3 : Rect S1024x2048 := Rect.unit (s := S1024x2048) ![768, 0] S256x2048.size inb_S1024x2048_S256x2048_768_0
/-- and of the columns. -/
abbrev rO0 : Rect S2048x1024 := Rect.unit (s := S2048x1024) ![0, 0] S2048x256.size inb_S2048x1024_S2048x256_0_0
abbrev rO1 : Rect S2048x1024 := Rect.unit (s := S2048x1024) ![0, 256] S2048x256.size inb_S2048x1024_S2048x256_0_256
abbrev rO2 : Rect S2048x1024 := Rect.unit (s := S2048x1024) ![0, 512] S2048x256.size inb_S2048x1024_S2048x256_0_512
abbrev rO3 : Rect S2048x1024 := Rect.unit (s := S2048x1024) ![0, 768] S2048x256.size inb_S2048x1024_S2048x256_0_768

/-- A block of columns, from the rows `X`: the four stretches side by side. -/
def oBlock (X : S1024x2048.Idx → Elt F .f32) : S2048x1024.Idx → Elt F .bf16 :=
  View.canon [⟨rO3, k0_pay2 (View.ld X rX3)⟩, ⟨rO2, k0_pay2 (View.ld X rX2)⟩, ⟨rO1, k0_pay2 (View.ld X rX1)⟩, ⟨rO0, k0_pay2 (View.ld X rX0)⟩]

/-- The stretches cover the block. -/
theorem oCover (w0 w1 w2 w3 : S2048x256.Idx → Elt F .bf16) (y : S2048x1024.Idx) :
    ∃ p ∈ ([⟨rO3, w3⟩, ⟨rO2, w2⟩, ⟨rO1, w1⟩, ⟨rO0, w0⟩] : List (View.Piece (Elt F) S2048x1024 .bf16)), y ∈ p.1.set := by
  have h0 : (y 0).val < 2048 := (y 0).isLt
  have h1 : (y 1).val < 1024 := (y 1).isLt
  have key : ∀ (o : Nat) (inb), o ≤ (y 1).val → (y 1).val < o + 256 → y ∈ (Rect.unit (s := S2048x1024) ![0, o] S2048x256.size inb).set := by
    intro o inb ha hb
    refine Rect.mem_set_unit.mpr fun a => ?_
    fin_cases a
    · exact ⟨Nat.zero_le _, by simpa using h0⟩
    · exact ⟨ha, hb⟩
  by_cases hA : (y 1).val < 256
  · exact ⟨⟨rO0, w0⟩, by simp, key 0 inb_S2048x1024_S2048x256_0_0 (by omega) (by omega)⟩
  by_cases hB : (y 1).val < 512
  · exact ⟨⟨rO1, w1⟩, by simp, key 256 inb_S2048x1024_S2048x256_0_256 (by omega) (by omega)⟩
  by_cases hC : (y 1).val < 768
  · exact ⟨⟨rO2, w2⟩, by simp, key 512 inb_S2048x1024_S2048x256_0_512 (by omega) (by omega)⟩
  · exact ⟨⟨rO3, w3⟩, by simp, key 768 inb_S2048x1024_S2048x256_0_768 (by omega) (by omega)⟩

set_option maxHeartbeats 1000000 in
/-- The first point. -/
theorem body_first (c : Dev nD) (i : grid0.Coords) (h1 : k0_cond1 i = 1#1) (h2 : k0_cond2 i = 1#1) (h3 : ¬ k0_cond3 i = 1#1)
    (arg1 : Memref sig .tc .vmem S1024x2048 .f32) (harg1 : arg1.IsWhole) (arg2 : Memref sig .tc .vmem S1024x2048 .f32) (harg2 : arg2.IsWhole) (arg3 : Memref sig .tc .vmem S128x2048 .f32) (harg3 : arg3.IsWhole) (arg4 : Memref sig .tc .vmem S2048x1024 .bf16) (harg4 : arg4.IsWhole) (arg5 : Memref sig .tc .vmem S2048x128 .bf16) (harg5 : arg5.IsWhole)
    (X : S1024x2048.Idx → Elt F .f32) (G : S128x2048.Idx → Elt F .f32) (Q : PUnit → sProp 𝕄) :
    iprop(owns (c : Thread nD τ) arg1 fullShare X ∗ owns (c : Thread nD τ) arg3 fullShare G ∗ (∃ d, owns (c : Thread nD τ) arg4 fullShare d) ∗ (∃ d, owns (c : Thread nD τ) arg5 fullShare d)
        ∗ (iprop(owns (c : Thread nD τ) arg1 fullShare X ∗ owns (c : Thread nD τ) arg3 fullShare G
            ∗ owns (c : Thread nD τ) arg4 fullShare (oBlock X) ∗ owns (c : Thread nD τ) arg5 fullShare (k0_pay1 G)) -∗ Q ⟨⟩))
      ⊢ wp frame (wpE (defs₀ (F := F)) Variants.none c none) Set.univ (cc0_prep_w_in i arg1 harg1 arg2 harg2 arg3 harg3 arg4 harg4 arg5 harg5) Q := by
  simp only [cc0_prep_w_in_eq_skeleton]; unfold cc0_prep_w_in_skel
  unfold owns
  iintro ⟨⟨%f1, %hf1, H1⟩, ⟨%f3, %hf3, H3⟩, ⟨%d4, %f4, -, H4⟩, ⟨%d5, %f5, -, H5⟩, Hk⟩
  subst hf1 hf3
  sl_exec
  sl_unfold_run_names
  simp only [readAt_whole (S := S128x2048) _ _ zero2, View.readAt_eq_ld]
  rw [wp_ret]; imodintro
  iapply Hk
  isplitl [H1]
  · iexists _; isplitr; swap; · iexact H1
    ipureintro; rfl
  isplitl [H3]
  · iexists _; isplitr; swap; · iexact H3
    ipureintro; rfl
  isplitl [H4]
  · iexists _; isplitr; swap; · iexact H4
    ipureintro; exact View.read_writes_eq_canon _ _ _ (oCover _ _ _ _)
  iexists _; isplitr; swap; · iexact H5
  ipureintro; exact read_store_whole _ _ zero2 _ _ _

set_option maxHeartbeats 1000000 in
/-- The second point. -/
theorem body_front (c : Dev nD) (i : grid0.Coords) (h1 : ¬ k0_cond1 i = 1#1) (h2 : k0_cond2 i = 1#1) (h3 : ¬ k0_cond3 i = 1#1)
    (arg1 : Memref sig .tc .vmem S1024x2048 .f32) (harg1 : arg1.IsWhole) (arg2 : Memref sig .tc .vmem S1024x2048 .f32) (harg2 : arg2.IsWhole) (arg3 : Memref sig .tc .vmem S128x2048 .f32) (harg3 : arg3.IsWhole) (arg4 : Memref sig .tc .vmem S2048x1024 .bf16) (harg4 : arg4.IsWhole) (arg5 : Memref sig .tc .vmem S2048x128 .bf16) (harg5 : arg5.IsWhole)
    (X : S1024x2048.Idx → Elt F .f32) (Q : PUnit → sProp 𝕄) :
    iprop(owns (c : Thread nD τ) arg1 fullShare X ∗ (∃ d, owns (c : Thread nD τ) arg4 fullShare d)
        ∗ (iprop(owns (c : Thread nD τ) arg1 fullShare X ∗ owns (c : Thread nD τ) arg4 fullShare (oBlock X)) -∗ Q ⟨⟩))
      ⊢ wp frame (wpE (defs₀ (F := F)) Variants.none c none) Set.univ (cc0_prep_w_in i arg1 harg1 arg2 harg2 arg3 harg3 arg4 harg4 arg5 harg5) Q := by
  simp only [cc0_prep_w_in_eq_skeleton]; unfold cc0_prep_w_in_skel
  unfold owns
  iintro ⟨⟨%f1, %hf1, H1⟩, ⟨%d4, %f4, -, H4⟩, Hk⟩
  subst hf1
  sl_exec
  sl_unfold_run_names
  simp only [View.readAt_eq_ld]
  rw [wp_ret]; imodintro
  iapply Hk
  isplitl [H1]
  · iexists _; isplitr; swap; · iexact H1
    ipureintro; rfl
  iexists _; isplitr; swap; · iexact H4
  ipureintro; exact View.read_writes_eq_canon _ _ _ (oCover _ _ _ _)

set_option maxHeartbeats 1000000 in
/-- A later point. -/
theorem body_back (c : Dev nD) (i : grid0.Coords) (h1 : ¬ k0_cond1 i = 1#1) (h2 : ¬ k0_cond2 i = 1#1) (h3 : k0_cond3 i = 1#1)
    (arg1 : Memref sig .tc .vmem S1024x2048 .f32) (harg1 : arg1.IsWhole) (arg2 : Memref sig .tc .vmem S1024x2048 .f32) (harg2 : arg2.IsWhole) (arg3 : Memref sig .tc .vmem S128x2048 .f32) (harg3 : arg3.IsWhole) (arg4 : Memref sig .tc .vmem S2048x1024 .bf16) (harg4 : arg4.IsWhole) (arg5 : Memref sig .tc .vmem S2048x128 .bf16) (harg5 : arg5.IsWhole)
    (X : S1024x2048.Idx → Elt F .f32) (Q : PUnit → sProp 𝕄) :
    iprop(owns (c : Thread nD τ) arg2 fullShare X ∗ (∃ d, owns (c : Thread nD τ) arg4 fullShare d)
        ∗ (iprop(owns (c : Thread nD τ) arg2 fullShare X ∗ owns (c : Thread nD τ) arg4 fullShare (oBlock X)) -∗ Q ⟨⟩))
      ⊢ wp frame (wpE (defs₀ (F := F)) Variants.none c none) Set.univ (cc0_prep_w_in i arg1 harg1 arg2 harg2 arg3 harg3 arg4 harg4 arg5 harg5) Q := by
  simp only [cc0_prep_w_in_eq_skeleton]; unfold cc0_prep_w_in_skel
  unfold owns
  iintro ⟨⟨%f1, %hf1, H1⟩, ⟨%d4, %f4, -, H4⟩, Hk⟩
  subst hf1
  sl_exec
  sl_unfold_run_names
  simp only [View.readAt_eq_ld]
  rw [wp_ret]; imodintro
  iapply Hk
  isplitl [H1]
  · iexists _; isplitr; swap; · iexact H1
    ipureintro; rfl
  iexists _; isplitr; swap; · iexact H4
  ipureintro; exact View.read_writes_eq_canon _ _ _ (oCover _ _ _ _)

end Cert.Proof.Split

end
-- ==== Proof.Split.Run.lean ====
/-
  The run of the input weight's split: what every window's buffer holds at each of the grid's seven points, the body's
  obligation there, and the whole launch from it.
-/
module

public import proofs.«01_k».proof.Proof.Split.Body
public import proofs.«01_k».proof.Proof.Gen.Kernel10Ideal.Points
public import Idealize.ShloMosaic.Lib.Pipeline.TableIdle

@[expose] public section

set_option maxRecDepth 16384

noncomputable section

namespace Cert.Proof.Split

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

/-- The gates' rows are taken at the first point, -/
theorem first_iff : ∀ t : Fin cfg0.N, k0_cond1 (cfg0.grid.coords t) = 1#1 ↔ t.val = 0 := by decide +kernel
/-- the rows in front of the gates' at the first two, -/
theorem front_iff : ∀ t : Fin cfg0.N, k0_cond2 (cfg0.grid.coords t) = 1#1 ↔ t.val < 2 := by decide +kernel
/-- and those behind at the others. -/
theorem back_iff : ∀ t : Fin cfg0.N, k0_cond3 (cfg0.grid.coords t) = 1#1 ↔ ¬ t.val < 2 := by decide +kernel
/-- The block of columns is stored at every point, -/
theorem idle3 : ∀ t : Fin cfg0.N, cfg0.idle 3 (cfg0.grid.coords t) = false := by decide +kernel
/-- the gates' columns at the first. -/
theorem idle4 : ∀ t : Fin cfg0.N, cfg0.idle 4 (cfg0.grid.coords t) = decide (t.val ≠ 0) := by decide +kernel

/-! ## What the points leave -/

/-- The gates' columns, which the first point leaves, -/
def qs (c : Dev nD) : S2048x128.Idx → Elt F .bf16 := k0_pay1 (X0_2 m c t0_0 : S128x2048.Idx → Elt F .f32)
/-- and a point's block of columns. -/
def os (c : Dev nD) (t : Fin cfg0.N) : S2048x1024.Idx → Elt F .bf16 :=
  if t.val < 2 then oBlock (X0_0 m c t : S1024x2048.Idx → Elt F .f32) else oBlock (iblk m c 1 t : S1024x2048.Idx → Elt F .f32)

/-- What the body leaves in each window's buffer. -/
def left (c : Dev nD) : (w : Fin cfg0.W) → Fin cfg0.N → (cfg0.win w).block.Idx → Elt F (cfg0.win w).elt
  | ⟨0, _⟩ => fun t => X0_0 m c t
  | ⟨1, _⟩ => fun t => iblk m c 1 t
  | ⟨2, _⟩ => fun t => X0_2 m c t
  | ⟨3, _⟩ => fun t => os m c t
  | ⟨4, _⟩ => fun t => qs m c
  | ⟨_ + 5, h⟩ => absurd h (Nat.not_lt.2 (Nat.le_add_left _ _))

/-- The launch's data: the arrays as the region finds them and what the body leaves. -/
def dats (p : Fin 1) (c : Dev nD) : Dat τ (Elt F) Unit ℕ (UR sig nD τ) ℕ (cfgs p) c :=
  match p with
  | ⟨0, _⟩ =>
    { A := fun w => V m c (Pipeline.arrRef spec0 w)
      after := left m c
      Φ := fun _ => Pipeline.ΦA spec0 c
      q := fun w => Pipeline.shareOf spec0 w
      owed := fun _ => 0 }

/-! ## What the body finds -/

theorem A_eq (c : Dev nD) (w : Fin cfg0.W) : (dats m 0 c).A w = V m c (Pipeline.arrRef spec0 w) := rfl
theorem after_eq (c : Dev nD) (w : Fin cfg0.W) (t : Fin cfg0.N) : (dats m 0 c).after w t = left m c w t := rfl
theorem left0 (c : Dev nD) (t : Fin cfg0.N) : left m c 0 t = X0_0 m c t := rfl
theorem left2 (c : Dev nD) (t : Fin cfg0.N) : left m c 2 t = X0_2 m c t := rfl

theorem before0 (c : Dev nD) (t : Fin cfg0.N) (d) : (dats m 0 c).before 0 t d = X0_0 m c t :=
  before0_0_of m (dats m 0 c) (A_eq m c 0) (fun t => (after_eq m c 0 t).trans (left0 m c t)) t d
theorem before1 (c : Dev nD) (t : Fin cfg0.N) (d) : (dats m 0 c).before 1 t d = iblk m c 1 t := before0_1_of m (dats m 0 c) rfl (fun _ => rfl) t d
theorem before2 (c : Dev nD) (t : Fin cfg0.N) (d) : (dats m 0 c).before 2 t d = X0_2 m c t :=
  before0_2_of m (dats m 0 c) (A_eq m c 2) (fun t => (after_eq m c 2 t).trans (left2 m c t)) t d

/-- The gates' buffer is fresh at the first point only. -/
theorem fresh4 (n : ℕ) (h : n ≤ cfg0.N) : cfg0.fresh 4 n = decide (n % 7 = 0) :=
  Pipeline.Cfg.fresh_tab (cfg := cfg0) 4 (fun n => decide (n % 7 = 0)) rfl (by decide +kernel) n h

attribute [local irreducible] qs in
/-- After the first point the gates' columns are as it left them. -/
theorem before4 (c : Dev nD) (t : Fin cfg0.N) (h : t.val ≠ 0) (d) : (dats m 0 c).before 4 t d = qs m c := by
  have hN : t.val < 7 := lt_of_lt_of_eq t.isLt N_0
  rw [(dats m 0 c).before_out_traj 4 rfl (fun _ _ => rfl)
    (fun t _ _ _ => rfl) t.val t rfl d, fresh4 _ t.isLt.le, if_neg (by simp only [decide_eq_true_eq]; omega)]
  rfl

/-! ## What the body hands back -/

/-- A buffer left at what the data say is what the obligation asks of a window. -/
theorem leaves_of (c : Dev nD) (w : Fin cfg0.W) (t : Fin cfg0.N) (hl : cfg0.loose w = false) (hi : cfg0.idle w (cfg0.grid.coords t) = false ∨ (cfg0.win w).flush t = true
      ∨ ∃ d, (dats m 0 c).before w t d = left m c w t) :
    owns (c : Thread nD τ) ((cfg0.win w).stage (cfg0.slots t w)) fullShare (left m c w t) ⊢ ((dats m 0 c).leaves w t : sProp 𝕄) := by
  unfold Dat.leaves
  rw [hl]
  cases h1 : cfg0.idle w (cfg0.grid.coords t)
  · exact .rfl
  · cases h2 : (cfg0.win w).flush t
    · obtain ⟨d, hd⟩ := (hi.resolve_left (by rw [h1]; decide)).resolve_left (by rw [h2]; decide)
      iintro H; iexists d; rw [hd]; iexact H
    · exact .rfl

/-- A window whose block may overhang hands back its block, whatever is beside it. -/
theorem keeps_loose (c : Dev nD) (w : Fin cfg0.W) (t : Fin cfg0.N) (hl : cfg0.loose w = true) (hi : cfg0.idle w (cfg0.grid.coords t) = false)
    (X : (cfg0.win w).block.Idx → Elt F (cfg0.win w).elt)
    (hX : ∃ d, X = (cfg0.win w).fill (cfg0.grid.coords t) d ((cfg0.win w).cut (cfg0.grid.coords t) (left m c w t))) :
    owns (c : Thread nD τ) ((cfg0.win w).stage (cfg0.slots t w)) fullShare X ⊢ ((dats m 0 c).leaves w t : sProp 𝕄) := by
  obtain ⟨d, rfl⟩ := hX
  unfold Dat.leaves
  rw [hl, hi]
  iintro H; iexists d; iexact H

/-! ## The body's obligation -/

/-- The body's row of the launch is the body at the point. -/
theorem row_eq (t : Fin cfg0.N) : defs₀ (F := F) .tc cfg0.body (cfg0.bodyArgs t (cfg0.slots t)) = bodyAt0 t := by
  unfold defs₀; rw [Defs.onTc_tc]

/-- The first point. -/
theorem obligation_first (c : Dev nD) (t : Fin cfg0.N) (h : t.val = 0) :
    iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d)))
      ⊢ wp frame (wpE (defs₀ (F := F)) Variants.none c none) Set.univ (defs₀ (F := F) .tc cfg0.body (cfg0.bodyArgs t (cfg0.slots t))) fun _ =>
          iprop((dats m 0 c).Φ t.succ ∗ (dats m 0 c).owesAt () t.succ ∗ bigSep Finset.univ fun w : Fin cfg0.W => ((dats m 0 c).leaves w t : sProp 𝕄)) := by
  rw [bigSep_W0, bigSep_W0, row_eq]
  rw [show (dats m 0 c).Φ t.succ = (dats m 0 c).Φ t.castSucc from rfl,
    show (dats m 0 c).owesAt () t.succ = (dats m 0 c).owesAt () t.castSucc from rfl]
  iintro ⟨HR, Ho, ⟨%d0, H0⟩, ⟨%d1, H1⟩, ⟨%d2, H2⟩, ⟨%d3, H3⟩, ⟨%d4, H4⟩⟩
  rw [before0 m c t d0, before1 m c t d1, before2 m c t d2]
  iapply (body_first c (grid0.coords t) ((first_iff t).mpr h) ((front_iff t).mpr (by omega)) (fun e => (back_iff t).mp e (by omega)) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4))
    (X0_0 m c t) (X0_2 m c t) _)
  isplitl [H0]; · iexact H0
  isplitl [H2]; · iexact H2
  isplitl [H3]; · iexists _; iexact H3
  isplitl [H4]; · iexists _; iexact H4
  iintro ⟨H0, H2, H3, H4⟩
  isplitl [HR]; · iexact HR
  isplitl [Ho]; · iexact Ho
  isplitl [H0]; · iapply (keeps_loose m c 0 t rfl rfl _ ⟨X0_0 m c t, ((cfg0.win 0).fill_cut _ _).symm⟩); iexact H0
  isplitl [H1]; · iapply (leaves_of m c 1 t rfl (.inl rfl)); iexact H1
  isplitl [H2]; · iapply (keeps_loose m c 2 t rfl rfl _ ⟨X0_2 m c t, ((cfg0.win 2).fill_cut _ _).symm⟩); iexact H2
  isplitl [H3]
  · iapply (leaves_of m c 3 t rfl (.inl (idle3 t)))
    rw [show left m c 3 t = _ from if_pos (by omega)]; iexact H3
  iapply (leaves_of m c 4 t rfl (.inl (by rw [idle4]; simpa using h)))
  have e : t = t0_0 := Fin.ext h
  rw [show left m c 4 t = k0_pay1 (X0_2 m c t : S128x2048.Idx → Elt F .f32) by rw [e]; rfl]; iexact H4

/-- The second point. -/
theorem obligation_front (c : Dev nD) (t : Fin cfg0.N) (h : t.val ≠ 0) (h2 : t.val < 2) :
    iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d)))
      ⊢ wp frame (wpE (defs₀ (F := F)) Variants.none c none) Set.univ (defs₀ (F := F) .tc cfg0.body (cfg0.bodyArgs t (cfg0.slots t))) fun _ =>
          iprop((dats m 0 c).Φ t.succ ∗ (dats m 0 c).owesAt () t.succ ∗ bigSep Finset.univ fun w : Fin cfg0.W => ((dats m 0 c).leaves w t : sProp 𝕄)) := by
  rw [bigSep_W0, bigSep_W0, row_eq]
  rw [show (dats m 0 c).Φ t.succ = (dats m 0 c).Φ t.castSucc from rfl,
    show (dats m 0 c).owesAt () t.succ = (dats m 0 c).owesAt () t.castSucc from rfl]
  iintro ⟨HR, Ho, ⟨%d0, H0⟩, ⟨%d1, H1⟩, ⟨%d2, H2⟩, ⟨%d3, H3⟩, ⟨%d4, H4⟩⟩
  rw [before0 m c t d0, before1 m c t d1, before2 m c t d2, before4 m c t h d4]
  iapply (body_front c (grid0.coords t) (fun e => h ((first_iff t).mp e)) ((front_iff t).mpr h2) (fun e => (back_iff t).mp e h2) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4))
    (X0_0 m c t) _)
  isplitl [H0]; · iexact H0
  isplitl [H3]; · iexists _; iexact H3
  iintro ⟨H0, H3⟩
  isplitl [HR]; · iexact HR
  isplitl [Ho]; · iexact Ho
  isplitl [H0]; · iapply (keeps_loose m c 0 t rfl rfl _ ⟨X0_0 m c t, ((cfg0.win 0).fill_cut _ _).symm⟩); iexact H0
  isplitl [H1]; · iapply (leaves_of m c 1 t rfl (.inl rfl)); iexact H1
  isplitl [H2]; · iapply (keeps_loose m c 2 t rfl rfl _ ⟨X0_2 m c t, ((cfg0.win 2).fill_cut _ _).symm⟩); iexact H2
  isplitl [H3]
  · iapply (leaves_of m c 3 t rfl (.inl (idle3 t)))
    rw [show left m c 3 t = _ from if_pos h2]; iexact H3
  iapply (leaves_of m c 4 t rfl (.inr (.inr ⟨left m c 4 t, before4 m c t h _⟩))); iexact H4

/-- A later point. -/
theorem obligation_back (c : Dev nD) (t : Fin cfg0.N) (h : t.val ≠ 0) (h2 : ¬ t.val < 2) :
    iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d)))
      ⊢ wp frame (wpE (defs₀ (F := F)) Variants.none c none) Set.univ (defs₀ (F := F) .tc cfg0.body (cfg0.bodyArgs t (cfg0.slots t))) fun _ =>
          iprop((dats m 0 c).Φ t.succ ∗ (dats m 0 c).owesAt () t.succ ∗ bigSep Finset.univ fun w : Fin cfg0.W => ((dats m 0 c).leaves w t : sProp 𝕄)) := by
  rw [bigSep_W0, bigSep_W0, row_eq]
  rw [show (dats m 0 c).Φ t.succ = (dats m 0 c).Φ t.castSucc from rfl,
    show (dats m 0 c).owesAt () t.succ = (dats m 0 c).owesAt () t.castSucc from rfl]
  iintro ⟨HR, Ho, ⟨%d0, H0⟩, ⟨%d1, H1⟩, ⟨%d2, H2⟩, ⟨%d3, H3⟩, ⟨%d4, H4⟩⟩
  rw [before0 m c t d0, before1 m c t d1, before2 m c t d2, before4 m c t h d4]
  iapply (body_back c (grid0.coords t) (fun e => h ((first_iff t).mp e)) (fun e => h2 ((front_iff t).mp e)) ((back_iff t).mpr h2) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4))
    (iblk m c 1 t) _)
  isplitl [H1]; · iexact H1
  isplitl [H3]; · iexists _; iexact H3
  iintro ⟨H1, H3⟩
  isplitl [HR]; · iexact HR
  isplitl [Ho]; · iexact Ho
  isplitl [H0]; · iapply (keeps_loose m c 0 t rfl rfl _ ⟨X0_0 m c t, ((cfg0.win 0).fill_cut _ _).symm⟩); iexact H0
  isplitl [H1]; · iapply (leaves_of m c 1 t rfl (.inl rfl)); iexact H1
  isplitl [H2]; · iapply (keeps_loose m c 2 t rfl rfl _ ⟨X0_2 m c t, ((cfg0.win 2).fill_cut _ _).symm⟩); iexact H2
  isplitl [H3]
  · iapply (leaves_of m c 3 t rfl (.inl (idle3 t)))
    rw [show left m c 3 t = _ from if_neg h2]; iexact H3
  iapply (leaves_of m c 4 t rfl (.inr (.inr ⟨left m c 4 t, before4 m c t h _⟩))); iexact H4

/-- The body's obligation at every point. -/
theorem body_obligation (c : Dev nD) : BodyObligationLoose (dats m 0 c) (defs₀ (F := F)) Variants.none () Set.univ := fun t => by
  by_cases h : t.val = 0
  · exact obligation_first m c t h
  by_cases h2 : t.val < 2
  · exact obligation_front m c t h h2
  · exact obligation_back m c t h h2

set_option backward.isDefEq.respectTransparency.types false in
/-- The launch: every window's array ends as the run of the grid leaves it, and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared cfgs (dats m) 0 launch₀0 defs₀ Variants.none m ρ main (body_obligation m)
    (fun _ _ _ => rfl) (fun _ _ => rfl) (V m) (hmain m Variants.none) (fun _ _ => rfl) (fun _ => .rfl) (fun _ => .rfl)
    (Q' := _) (hQ' := fun _ h => h)

/-- The arguments end as they were. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_with_sems (frame_of m ρ (dats m) (fun _ _ => rfl)) (run_main m ρ)

end Cert.Proof.Split

end
-- ==== Proof.Split.Frames.lean ====
/-
  The three programs of the input weight's split run and leave their arguments as they were.
-/
module

public import proofs.«01_k».proof.Defs
public import proofs.«01_k».proof.Proof.Gen.Kernel10
public import proofs.«01_k».proof.Proof.Gen.Reference10Ideal.Run
public import proofs.«01_k».proof.Proof.Split.Run

@[expose] public section

noncomputable section

namespace Cert.Proof.Split

open Idealize.ShloMosaic Idealize.SL.Sem

/-- The two printings of the kernel have the same body. -/
theorem bodies_eq : Cert.Kernel10.defs₀ (F := Bits) = Cert.Kernel10Ideal.defs₀ (F := Bits) := by
  unfold Cert.Kernel10.defs₀ Cert.Kernel10Ideal.defs₀
  refine congrArg Defs.onTc (funext fun ℓ => funext fun a => ?_)
  match ℓ, a with
  | ⟨0, _⟩, (t, s) => rfl
  | ⟨_ + 1, h⟩, _ => exact absurd h (Nat.not_lt.2 (Nat.le_add_left _ _))

theorem defs_eq : Cert.Kernel10.defs (F := Bits) = Cert.Kernel10Ideal.defs (F := Bits) :=
  congrArg (Pipeline.defs Cert.Kernel10Ideal.pcfgs) bodies_eq

/-- The kernel at the bits: the same run, read there. -/
theorem frame_kernel : Cert.quiescent_Kernel10 := fun m ρ _ => by
  rw [defs_eq]
  exact frame_main (F := Bits) m ρ

/-- The kernel at the ideal instance. -/
theorem frame_kernelIdeal : Cert.quiescent_Kernel10Ideal := fun m ρ _ => frame_main (F := Ideal) m ρ

/-- The reference leaves its arguments as they were, and declares no semaphore. -/
theorem frame_reference : Cert.quiescent_Reference10Ideal := fun m ρ _ =>
  (θ_run Cert.Reference10Ideal.defs _ _).mono
    (fun r h => ⟨fun c => (h c).2.2, Idealize.ShloMosaic.sem_eq_zero_of_no_sems (by decide) r.2⟩)
    (Cert.Reference10Ideal.Value.run (F := Ideal) m ρ)

end Cert.Proof.Split

end
-- ==== Proof.Split.Reads.lean ====
/-
  What the windows of the input weight's split hold at a point of the grid, read off the weight, and what the point leaves.
-/
module

public import proofs.«01_k».proof.Proof.Split.Run
public import proofs.«01_k».proof.Proof.Norm

@[expose] public section

set_option maxRecDepth 16384

noncomputable section

namespace Cert.Proof.Split

open Cert.Kernel10Ideal Cert.Kernel10Ideal.Gen Cert.Proof.Norm
open Idealize.ShloMosaic Idealize.ShloMosaic.TcCoe Idealize.SL.Sem
open Idealize.ShloMosaic.Pipeline (Dat)

variable (m : (ℓ : Loc nD τ sig) → Buf (Elt Ideal) ℓ)

/-! ## The stores' values -/

theorem pay1_at (x : S128x2048.Idx → Elt Ideal .f32) (k : Fin 2048) (l : Fin 128) : k0_pay1 (F := Ideal) x (ix2 k l) = x (ix2 l k) := by
  pointwise [k0_pay1]

theorem pay2_at (x : S256x2048.Idx → Elt Ideal .f32) (k : Fin 2048) (l : Fin 256) : k0_pay2 (F := Ideal) x (ix2 k l) = x (ix2 l k) := by
  pointwise [k0_pay2]

/-- An index of a matrix whose first coordinate is known. -/
theorem idx_of {A B : ℕ} (x : (⟨2, ![A, B]⟩ : Shape).Idx) (k : Fin A) (h : k.val = (x 0).val) : x = ix2 k (x 1) := by
  funext a
  fin_cases a
  · exact Fin.ext h.symm
  · rfl

/-- A block of columns is the rows' block, transposed. -/
theorem oBlock_at (X : S1024x2048.Idx → Elt Ideal .f32) (k : Fin 2048) (l : Fin 1024) : oBlock X (ix2 k l) = X (ix2 l k) := by
  unfold oBlock
  canon_tiles x h
  all_goals
    rw [idx_of x k (by first | exact h0 | exact h0.trans (Nat.zero_add _))]
    refine (pay2_at _ k (x 1)).trans ?_
    exact ld_at X _ _ (x 1) k l k (by first | exact h1 | exact h1.trans (Nat.zero_add _).symm) (Nat.zero_add _).symm

/-! ## The array the launch is given -/

/-- The weight. -/
def argW (c : Dev nD) : S1x2048x7176.Idx → Elt Ideal .f32 := m ((c : Thread nD τ).loc main_arg0)

/-- The weight as the launch finds it, transposed. -/
theorem V1 (c : Dev nD) (g : Fin 7176) (k : Fin 2048) : V m c main_v1 (ix2 g k) = argW m c (ix3 0 k g) := by
  have e : V m c main_v1 = transpose (α := Elt Ideal .f32) S7176x2048 [1, 0] (shapeCast (α := Elt Ideal .f32) S2048x7176 (argW m c) shapeCasts_S1x2048x7176_S2048x7176) transposes_S2048x7176_S7176x2048_1_0 := by
    simp only [V, hostOps0, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise

/-! ## The blocks -/

/-- The block of each window at a point. -/
theorem widx : ∀ t : Fin cfg0.N, win0_0.index t = ![min t.val 1, 0] ∧ win0_2.index t = ![16, 0] ∧ win0_3.index t = ![0, t.val] ∧ win0_4.index t = ![0, 0] := by decide +kernel
/-- The offset of the block of rows behind the gates'. -/
theorem boff : ∀ t : Fin cfg0.N, cc0_transform_1 (cfg0.grid.coords t) = ![1024 * max t.val 2 + 8, 0] := by decide +kernel

/-- The rows in front of the gates'. -/
theorem blk0 (c : Dev nD) (t : Fin cfg0.N) (l : Fin 1024) (k : Fin 2048) (g : Fin 7176) (hg : g.val = 1024 * min t.val 1 + l.val) :
    (X0_0 m c t : S1024x2048.Idx → Elt Ideal .f32) (ix2 l k) = argW m c (ix3 0 k g) := by
  refine Eq.trans ?_ (V1 m c g k)
  have e : (X0_0 m c t : S1024x2048.Idx → Elt Ideal .f32) (ix2 l k) = (cfg0.win 0).fill (cfg0.grid.coords t) dflt0_0 (iblk m c 0 t) (ix2 l k) := rfl
  rw [e]
  unfold Pipeline.Window.fill
  rw [dif_pos (moved0_0 t _)]
  blk_simp [iblk]
  blk_ext [widx t]

/-- The rows behind the gates'. -/
theorem blk1 (c : Dev nD) (t : Fin cfg0.N) (l : Fin 1024) (k : Fin 2048) (g : Fin 7176) (hg : g.val = 1024 * max t.val 2 + 8 + l.val) :
    (iblk m c 1 t : S1024x2048.Idx → Elt Ideal .f32) (ix2 l k) = argW m c (ix3 0 k g) := by
  refine Eq.trans ?_ (V1 m c g k)
  have h1 := boff t
  have he : ∀ a, ((win0_1.blk t).view.emb (ix2 l k) a : Nat) = cc0_transform_1 (cfg0.grid.coords t) a + (ix2 l k) a := fun a =>
    Idealize.ShloMosaic.ValueKit.rect_emb_unit_val _ _ _ _ _
  blk_simp [iblk]
  congr 1
  funext a
  fin_cases a
  · apply Fin.ext
    refine (he 0).trans ?_
    rw [h1]; exact hg.symm
  · apply Fin.ext
    refine (he 1).trans ?_
    rw [h1]; exact Nat.zero_add _

/-- The rows from the gates' first. -/
theorem blk2 (c : Dev nD) (t : Fin cfg0.N) (l : Fin 128) (k : Fin 2048) :
    (X0_2 m c t : S128x2048.Idx → Elt Ideal .f32) (ix2 l k) = argW m c (ix3 0 k ⟨2048 + l.val, by omega⟩) := by
  refine Eq.trans ?_ (V1 m c ⟨2048 + l.val, by omega⟩ k)
  have e : (X0_2 m c t : S128x2048.Idx → Elt Ideal .f32) (ix2 l k) = (cfg0.win 2).fill (cfg0.grid.coords t) dflt0_2 (iblk m c 2 t) (ix2 l k) := rfl
  rw [e]
  unfold Pipeline.Window.fill
  rw [dif_pos (moved0_2 t _)]
  blk_simp [iblk]
  blk_ext [widx t]

/-! ## What a point leaves -/

/-- The gates' columns. -/
theorem qs_at (c : Dev nD) (k : Fin 2048) (l : Fin 128) : qs m c (ix2 k l) = argW m c (ix3 0 k ⟨2048 + l.val, by omega⟩) := by
  unfold qs
  rw [pay1_at]
  exact blk2 m c t0_0 l k

/-- A block of columns. -/
theorem os_at (c : Dev nD) (t : Fin cfg0.N) (k : Fin 2048) (l : Fin 1024) (g : Fin 7176) (hg : g.val = if 1024 * t.val + l.val < 2048 then 1024 * t.val + l.val else 1024 * t.val + l.val + 8) :
    os m c t (ix2 k l) = argW m c (ix3 0 k g) := by
  have hl := l.isLt
  unfold os
  by_cases h : t.val < 2
  · rw [if_pos h, oBlock_at]
    rw [if_pos (by omega)] at hg
    exact blk0 m c t l k g (by omega)
  · rw [if_neg h, oBlock_at]
    rw [if_neg (by omega)] at hg
    exact blk1 m c t l k g (by omega)

end Cert.Proof.Split

end
-- ==== Proof.Split.Plain.lean ====
/-
  The plain program's two results at coordinates: the weight's columns but the eight of the gates, and the 128 columns from
  the gates' first.
-/
module

public import proofs.«01_k».proof.Proof.Gen.Reference10Ideal.Run
public import Idealize.ShloMosaic.Lib.Pointwise
public import Idealize.ShloMosaic.PureOps.Ideal
public import Idealize.ShloMosaic.Lib.Pipeline.ValueKit

@[expose] public section

set_option maxRecDepth 16384

noncomputable section

namespace Cert.Proof.Split.Plain

open Cert.Reference10Ideal Cert.Reference10Ideal.Gen
open Idealize.ShloMosaic Idealize.ShloMosaic.TcCoe Idealize.SL.Sem

/-- The weight as a matrix, rounded. -/
def mat (W : FVec Ideal S1x2048x7176 .f32) : FVec Ideal S2048x7176 .bf16 :=
  truncf .bf16 (shapeCast _ W shapeCasts_S1x2048x7176_S2048x7176) bitsLt_bf16_f32

/-- The columns but the gates'. -/
def out0 (W : FVec Ideal S1x2048x7176 .f32) : FVec Ideal S2048x7168 .bf16 :=
  concatenate S2048x7168 1 [⟨S2048x2048, extractStridedSlice S2048x2048 ![0, 0] (mat W) slices_S2048x7176_S2048x2048_0_0⟩, ⟨S2048x5120, extractStridedSlice S2048x5120 ![0, 2056] (mat W) slices_S2048x7176_S2048x5120_0_2056⟩] concatenates_S2048x2048_S2048x5120_S2048x7168_d1

/-- The 128 columns from the gates' first. -/
def out1 (W : FVec Ideal S1x2048x7176 .f32) : FVec Ideal S2048x128 .bf16 :=
  extractStridedSlice S2048x128 ![0, 2048] (mat W) slices_S2048x7176_S2048x128_0_2048

theorem mat_at (W : FVec Ideal S1x2048x7176 .f32) (k : Fin 2048) (g : Fin 7176) : mat W (ix2 k g) = W (ix3 0 k g) := by
  pointwise [mat]

theorem out0_at (W : FVec Ideal S1x2048x7176 .f32) (k : Fin 2048) (f : Fin 7168) (g : Fin 7176) (hg : g.val = if f.val < 2048 then f.val else f.val + 8) :
    out0 W (ix2 k f) = W (ix3 0 k g) := by
  rw [← mat_at W k g]
  unfold out0
  generalize mat W = M
  pointwise
  split_ifs at hg ⊢ with h
  · exact congrArg M (congrArg (ix2 k) (Fin.ext hg.symm))
  · exact congrArg M (congrArg (ix2 k) (Fin.ext (by rw [hg]; show 2056 + (f.val - 2048) = f.val + 8; omega)))
  · rename_i e1
    exact absurd rfl e1

theorem out1_at (W : FVec Ideal S1x2048x7176 .f32) (k : Fin 2048) (f : Fin 128) : out1 W (ix2 k f) = W (ix3 0 k ⟨2048 + f.val, by omega⟩) := by
  rw [← mat_at W k ⟨2048 + f.val, by omega⟩]
  unfold out1
  generalize mat W = M
  pointwise

end Cert.Proof.Split.Plain

end
-- ==== Proof.Split.Final.lean ====
/-
  The two arrays the input weight's split leaves are the plain program's results.
-/
module

public import proofs.«01_k».proof.Proof.Split.Reads
public import proofs.«01_k».proof.Proof.Split.Plain

@[expose] public section

set_option maxRecDepth 16384

noncomputable section

namespace Cert.Proof.Split

open Cert.Kernel10Ideal Cert.Kernel10Ideal.Gen Cert.Proof.Norm
open Idealize.ShloMosaic Idealize.ShloMosaic.TcCoe Idealize.SL.Sem
open Idealize.ShloMosaic.Pipeline (Dat)

variable (m : (ℓ : Loc nD τ sig) → Buf (Elt Ideal) ℓ)

/-- A point's block of columns is the first result's, -/
theorem point3 (c : Dev nD) (t : Fin cfg0.N) (y : S2048x1024.Idx) (i : S2048x7168.Idx) (h0 : (i 0).val = (y 0).val) (h1 : (i 1).val = 1024 * t.val + (y 1).val) :
    os m c t y = Plain.out0 (argW m c) i := by
  have hy : y = ix2 (y 0) (y 1) := by funext a; fin_cases a <;> rfl
  have hi : i = ix2 (y 0) (i 1) := by
    funext a
    fin_cases a
    · exact Fin.ext h0
    · rfl
  have hb : (i 1).val < 7168 := (i 1).isLt
  have hg : (if (i 1).val < 2048 then (i 1).val else (i 1).val + 8) < 7176 := by split <;> omega
  rw [hy, hi]
  exact (os_at m c t (y 0) (y 1) ⟨_, hg⟩ (by rw [← h1])).trans (Plain.out0_at (argW m c) (y 0) (i 1) ⟨_, hg⟩ rfl).symm

/-- and the gates' columns are the second. -/
theorem point4 (c : Dev nD) (y i : S2048x128.Idx) (h0 : (i 0).val = (y 0).val) (h1 : (i 1).val = (y 1).val) :
    qs m c y = Plain.out1 (argW m c) i := by
  have hy : y = ix2 (y 0) (y 1) := by funext a; fin_cases a <;> rfl
  have hi : i = ix2 (y 0) (y 1) := by
    funext a
    fin_cases a
    · exact Fin.ext h0
    · exact Fin.ext h1
  rw [hy, hi]
  exact (qs_at m c (y 0) (y 1)).trans (Plain.out1_at (argW m c) (y 0) (y 1)).symm

theorem final3 (c : Dev nD) : (dats m 0 c).arrAt 3 cfg0.N = Plain.out0 (argW m c) := by
  refine (dats m 0 c).arrAt_eq_of_covers 3 _ (by decide +kernel) fun t hf y => ?_
  blk_simp
  refine point3 m c t y _ ?_ ?_
  · blk_simp [widx t]
  · blk_simp [widx t]
    omega

theorem final4 (c : Dev nD) : (dats m 0 c).arrAt 4 cfg0.N = Plain.out1 (argW m c) := by
  refine (dats m 0 c).arrAt_eq_of_covers 4 _ (by decide +kernel) fun t hf y => ?_
  blk_simp
  refine point4 m c y _ ?_ ?_
  · blk_simp [widx t]
  · blk_simp [widx t]

end Cert.Proof.Split

end
-- ==== Proof.Split.Algebraic.lean ====
/-
  The input weight's split computes the plain program's two results, over the extended reals.
-/
module

public import proofs.«01_k».proof.Proof.Split.Final
public import proofs.«01_k».proof.Proof.Split.Frames

@[expose] public section

set_option maxRecDepth 16384

noncomputable section

namespace Cert.Proof.Split

open Idealize.ShloMosaic Idealize.SL.Sem

/-- The run of the kernel, its results by name. -/
theorem run_kernel (m : (ℓ : Loc Cert.Kernel10Ideal.nD Cert.Kernel10Ideal.τ Cert.Kernel10Ideal.sig) → Buf (Elt Ideal) ℓ) (g : Dev Cert.Kernel10Ideal.nD → PrngReg) :
    θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
      r.2.mem ((c.tc : Thread Cert.Kernel10Ideal.nD Cert.Kernel10Ideal.τ).loc Cert.Kernel10Ideal.main_v2_0) = Plain.out0 (argW m c)
      ∧ r.2.mem ((c.tc : Thread Cert.Kernel10Ideal.nD Cert.Kernel10Ideal.τ).loc Cert.Kernel10Ideal.main_v2_1) = Plain.out1 (argW m c)
      ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)) :=
  (θ_run Cert.Kernel10Ideal.defs _ _).mono (fun r h c => ⟨((h.1 c).1 3).trans (final3 m c), ((h.1 c).1 4).trans (final4 m c),
      ((h.1 c).2 Cert.Kernel10Ideal.main_arg0 (Pipeline.mem_restRefs_of Cert.Kernel10Ideal.main_arg0 (by decide) (by decide))).trans (Cert.Kernel10Ideal.Gen.V_main_arg0 m c)⟩)
    (run_main (F := Ideal) m g)

theorem algebraic : Cert.algebraic_Kernel10Ideal_Reference10Ideal := by
  intro m g m' g' _ hargs
  refine ⟨fun c => Plain.out0 (argW m c), fun c => Plain.out1 (argW m c), run_kernel m g, ?_⟩
  refine (θ_run Cert.Reference10Ideal.defs _ _).mono (fun r h c => ?_) (Cert.Reference10Ideal.Value.run (F := Ideal) m' g')
  obtain ⟨r0, r1, ra⟩ := h c
  have e0' : m' ((c.tc : Thread Cert.Reference10Ideal.nD Cert.Reference10Ideal.τ).loc Cert.Reference10Ideal.main_arg0) = argW m c := hargs c
  refine ⟨r0.trans ?_, r1.trans ?_, ra⟩
  · rw [e0']
    rfl
  · rw [e0']
    rfl

end Cert.Proof.Split

end
-- ==== Proof.Mix.Body.lean ====
/-
  The body of the sample path's mixer at a point of the grid, run once on any contents of the windows' buffers. It reads the
  twelve inputs' buffers and leaves them as they were, and stores into the five outputs' and the scratch.
-/
module

public import proofs.«01_k».proof.Proof.Gen.Kernel11Ideal
public import proofs.«01_k».proof.Proof.Gen.Kernel11Ideal.Skeleton
public import proofs.«01_k».proof.Proof.Gen.Kernel11Ideal.Frame
public import Idealize.ShloMosaic.Lib.Pipeline.Frame
public import Idealize.ShloMosaic.Lib.Pipeline.FrameBody
public import Idealize.ShloMosaic.Lib.Tactic

@[expose] public section

set_option maxRecDepth 16384

noncomputable section

namespace Cert.Proof.Mix

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The scratch. -/
abbrev scM : Memref sig .tc .vmem S128x1024 .f32 := Memref.whole cc0_scratch0

set_option maxHeartbeats 8000000 in
/-- The body ends, with the inputs' buffers as they were. -/
theorem body_run (c : Dev nD) (i : grid0.Coords)
    (M1 : Memref sig .tc .vmem S4x8x7168 .f32) (h1 : M1.IsWhole)
    (M2 : Memref sig .tc .vmem S4x8x128 .f32) (h2 : M2.IsWhole)
    (M3 : Memref sig .tc .vmem S1x128 .f32) (h3 : M3.IsWhole)
    (M4 : Memref sig .tc .vmem S2x1024 .f32) (h4 : M4.IsWhole)
    (M5 : Memref sig .tc .vmem S1x1024 .f32) (h5 : M5.IsWhole)
    (M6 : Memref sig .tc .vmem S1x1024 .f32) (h6 : M6.IsWhole)
    (M7 : Memref sig .tc .vmem S128x96 .bf16) (h7 : M7.IsWhole)
    (M8 : Memref sig .tc .vmem S5x32x32 .f32) (h8 : M8.IsWhole)
    (M9 : Memref sig .tc .vmem S1x8x4x128x256 .f32) (h9 : M9.IsWhole)
    (M10 : Memref sig .tc .vmem S1x8x4x128 .f32) (h10 : M10.IsWhole)
    (M11 : Memref sig .tc .vmem S1x128x4 .f32) (h11 : M11.IsWhole)
    (M12 : Memref sig .tc .vmem S1x8x8x128x128 .f32) (h12 : M12.IsWhole)
    (M13 : Memref sig .tc .vmem S4x8x2048 .f32) (h13 : M13.IsWhole)
    (M14 : Memref sig .tc .vmem S1x8x4x128x256 .f32) (h14 : M14.IsWhole)
    (M15 : Memref sig .tc .vmem S1x8x4x128 .f32) (h15 : M15.IsWhole)
    (M16 : Memref sig .tc .vmem S1x128x4 .f32) (h16 : M16.IsWhole)
    (M17 : Memref sig .tc .vmem S1x8x8x128x128 .f32) (h17 : M17.IsWhole)
    (X1 : S4x8x7168.Idx → Elt F .f32) (X2 : S4x8x128.Idx → Elt F .f32) (X3 : S1x128.Idx → Elt F .f32) (X4 : S2x1024.Idx → Elt F .f32) (X5 : S1x1024.Idx → Elt F .f32) (X6 : S1x1024.Idx → Elt F .f32) (X7 : S128x96.Idx → Elt F .bf16) (X8 : S5x32x32.Idx → Elt F .f32) (X9 : S1x8x4x128x256.Idx → Elt F .f32) (X10 : S1x8x4x128.Idx → Elt F .f32) (X11 : S1x128x4.Idx → Elt F .f32) (X12 : S1x8x8x128x128.Idx → Elt F .f32)
    (Q : PUnit → sProp 𝕄) :
    iprop(owns (c : Thread nD τ) M1 fullShare X1
        ∗ owns (c : Thread nD τ) M2 fullShare X2
        ∗ owns (c : Thread nD τ) M3 fullShare X3
        ∗ owns (c : Thread nD τ) M4 fullShare X4
        ∗ owns (c : Thread nD τ) M5 fullShare X5
        ∗ owns (c : Thread nD τ) M6 fullShare X6
        ∗ owns (c : Thread nD τ) M7 fullShare X7
        ∗ owns (c : Thread nD τ) M8 fullShare X8
        ∗ owns (c : Thread nD τ) M9 fullShare X9
        ∗ owns (c : Thread nD τ) M10 fullShare X10
        ∗ owns (c : Thread nD τ) M11 fullShare X11
        ∗ owns (c : Thread nD τ) M12 fullShare X12
        ∗ (∃ d, owns (c : Thread nD τ) M13 fullShare d)
        ∗ (∃ d, owns (c : Thread nD τ) M14 fullShare d)
        ∗ (∃ d, owns (c : Thread nD τ) M15 fullShare d)
        ∗ (∃ d, owns (c : Thread nD τ) M16 fullShare d)
        ∗ (∃ d, owns (c : Thread nD τ) M17 fullShare d)
        ∗ (∃ d, owns (c : Thread nD τ) scM fullShare d)
        ∗ (iprop(owns (c : Thread nD τ) M1 fullShare X1
        ∗ owns (c : Thread nD τ) M2 fullShare X2
        ∗ owns (c : Thread nD τ) M3 fullShare X3
        ∗ owns (c : Thread nD τ) M4 fullShare X4
        ∗ owns (c : Thread nD τ) M5 fullShare X5
        ∗ owns (c : Thread nD τ) M6 fullShare X6
        ∗ owns (c : Thread nD τ) M7 fullShare X7
        ∗ owns (c : Thread nD τ) M8 fullShare X8
        ∗ owns (c : Thread nD τ) M9 fullShare X9
        ∗ owns (c : Thread nD τ) M10 fullShare X10
        ∗ owns (c : Thread nD τ) M11 fullShare X11
        ∗ owns (c : Thread nD τ) M12 fullShare X12
        ∗ (∃ d, owns (c : Thread nD τ) M13 fullShare d)
        ∗ (∃ d, owns (c : Thread nD τ) M14 fullShare d)
        ∗ (∃ d, owns (c : Thread nD τ) M15 fullShare d)
        ∗ (∃ d, owns (c : Thread nD τ) M16 fullShare d)
        ∗ (∃ d, owns (c : Thread nD τ) M17 fullShare d)
        ∗ (∃ d, owns (c : Thread nD τ) scM fullShare d)) -∗ Q ⟨⟩))
      ⊢ wp frame (wpE (defs₀ (F := F)) Variants.none c none) Set.univ (cc0_mixer_state i M1 h1 M2 h2 M3 h3 M4 h4 M5 h5 M6 h6 M7 h7 M8 h8 M9 h9 M10 h10 M11 h11 M12 h12 M13 h13 M14 h14 M15 h15 M16 h16 M17 h17 scM (Memref.isWhole_whole _)) Q := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  subst hf1 hf2 hf3 hf4 hf5 hf6 hf7 hf8 hf9 hf10 hf11 hf12
  sl_exec_parts!
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  iexists _, _; isplitr; swap; · iexact H18
  ipureintro; rfl

end Cert.Proof.Mix

end
-- ==== Proof.Mix.Run.lean ====
/-
  The run of the sample path's mixer: the body's obligation at each point of the grid, where what it stores into the outputs'
  buffers is not named, and the whole launch from it.
-/
module

public import proofs.«01_k».proof.Proof.Mix.Body

@[expose] public section

set_option maxRecDepth 16384

noncomputable section

namespace Cert.Proof.Mix

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents are not named: the outputs. -/
def fgt : Fin cfg0.W → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨_ + 17, h⟩ => absurd h (Nat.not_lt.2 (Nat.le_add_left _ _))

/-- What the body leaves in each input's buffer: the block it found. -/
def left (c : Dev nD) : (w : Fin cfg0.W) → Fin cfg0.N → (cfg0.win w).block.Idx → Elt F (cfg0.win w).elt
  | ⟨0, _⟩ => fun t => iblk m c 0 t
  | ⟨1, _⟩ => fun t => iblk m c 1 t
  | ⟨2, _⟩ => fun t => iblk m c 2 t
  | ⟨3, _⟩ => fun t => iblk m c 3 t
  | ⟨4, _⟩ => fun t => iblk m c 4 t
  | ⟨5, _⟩ => fun t => iblk m c 5 t
  | ⟨6, _⟩ => fun t => iblk m c 6 t
  | ⟨7, _⟩ => fun t => iblk m c 7 t
  | ⟨8, _⟩ => fun t => iblk m c 8 t
  | ⟨9, _⟩ => fun t => iblk m c 9 t
  | ⟨10, _⟩ => fun t => iblk m c 10 t
  | ⟨11, _⟩ => fun t => iblk m c 11 t
  | ⟨12, _⟩ => fun t => fun _ => Classical.choice inferInstance
  | ⟨13, _⟩ => fun t => fun _ => Classical.choice inferInstance
  | ⟨14, _⟩ => fun t => fun _ => Classical.choice inferInstance
  | ⟨15, _⟩ => fun t => fun _ => Classical.choice inferInstance
  | ⟨16, _⟩ => fun t => fun _ => Classical.choice inferInstance
  | ⟨_ + 17, h⟩ => absurd h (Nat.not_lt.2 (Nat.le_add_left _ _))

/-- The launch's data: the arrays as the region finds them, and what the body leaves. -/
def dats (p : Fin 1) (c : Dev nD) : Dat τ (Elt F) Unit ℕ (UR sig nD τ) ℕ (cfgs p) c :=
  match p with
  | ⟨0, _⟩ =>
    { A := fun w => V m c (Pipeline.arrRef spec0 w)
      after := left m c
      Φ := fun _ => Pipeline.ΦA spec0 c
      q := fun _ => fullShare
      owed := fun _ => 0 }

theorem before0 (c : Dev nD) (t : Fin cfg0.N) (d) : (dats m 0 c).before 0 t d = iblk m c 0 t := before0_0_of m (dats m 0 c) rfl (fun _ => rfl) t d
theorem before1 (c : Dev nD) (t : Fin cfg0.N) (d) : (dats m 0 c).before 1 t d = iblk m c 1 t := before0_1_of m (dats m 0 c) rfl (fun _ => rfl) t d
theorem before2 (c : Dev nD) (t : Fin cfg0.N) (d) : (dats m 0 c).before 2 t d = iblk m c 2 t := before0_2_of m (dats m 0 c) rfl (fun _ => rfl) t d
theorem before3 (c : Dev nD) (t : Fin cfg0.N) (d) : (dats m 0 c).before 3 t d = iblk m c 3 t := before0_3_of m (dats m 0 c) rfl (fun _ => rfl) t d
theorem before4 (c : Dev nD) (t : Fin cfg0.N) (d) : (dats m 0 c).before 4 t d = iblk m c 4 t := before0_4_of m (dats m 0 c) rfl (fun _ => rfl) t d
theorem before5 (c : Dev nD) (t : Fin cfg0.N) (d) : (dats m 0 c).before 5 t d = iblk m c 5 t := before0_5_of m (dats m 0 c) rfl (fun _ => rfl) t d
theorem before6 (c : Dev nD) (t : Fin cfg0.N) (d) : (dats m 0 c).before 6 t d = iblk m c 6 t := before0_6_of m (dats m 0 c) rfl (fun _ => rfl) t d
theorem before7 (c : Dev nD) (t : Fin cfg0.N) (d) : (dats m 0 c).before 7 t d = iblk m c 7 t := before0_7_of m (dats m 0 c) rfl (fun _ => rfl) t d
theorem before8 (c : Dev nD) (t : Fin cfg0.N) (d) : (dats m 0 c).before 8 t d = iblk m c 8 t := before0_8_of m (dats m 0 c) rfl (fun _ => rfl) t d
theorem before9 (c : Dev nD) (t : Fin cfg0.N) (d) : (dats m 0 c).before 9 t d = iblk m c 9 t := before0_9_of m (dats m 0 c) rfl (fun _ => rfl) t d
theorem before10 (c : Dev nD) (t : Fin cfg0.N) (d) : (dats m 0 c).before 10 t d = iblk m c 10 t := before0_10_of m (dats m 0 c) rfl (fun _ => rfl) t d
theorem before11 (c : Dev nD) (t : Fin cfg0.N) (d) : (dats m 0 c).before 11 t d = iblk m c 11 t := before0_11_of m (dats m 0 c) rfl (fun _ => rfl) t d

/-- The scratch and the generator's register. -/
theorem rest_eq (c : Dev nD) : (Pipeline.ΦA spec0 c : sProp 𝕄) = iprop((∃ d, owns (c : Thread nD τ) scM fullShare d) ∗ ∃ r, prngReg c r) := by
  rw [Pipeline.ΦA, scopedRest0_eq]; simp only [scM, owns_whole]; try rfl

/-- The body's row of the launch is the body at the point. -/
theorem row_eq (t : Fin cfg0.N) : defs₀ (F := F) .tc cfg0.body (cfg0.bodyArgs t (cfg0.slots t)) = bodyAt0 t := by
  unfold defs₀; rw [Defs.onTc_tc]

/-- The body at a point. -/
theorem body_at (c : Dev nD) (t : Fin cfg0.N) (Q : PUnit → sProp 𝕄) :
    iprop(owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ owns (c : Thread nD τ) (st0_3 t) fullShare (iblk m c 3 t)
        ∗ owns (c : Thread nD τ) (st0_4 t) fullShare (iblk m c 4 t)
        ∗ owns (c : Thread nD τ) (st0_5 t) fullShare (iblk m c 5 t)
        ∗ owns (c : Thread nD τ) (st0_6 t) fullShare (iblk m c 6 t)
        ∗ owns (c : Thread nD τ) (st0_7 t) fullShare (iblk m c 7 t)
        ∗ owns (c : Thread nD τ) (st0_8 t) fullShare (iblk m c 8 t)
        ∗ owns (c : Thread nD τ) (st0_9 t) fullShare (iblk m c 9 t)
        ∗ owns (c : Thread nD τ) (st0_10 t) fullShare (iblk m c 10 t)
        ∗ owns (c : Thread nD τ) (st0_11 t) fullShare (iblk m c 11 t)
        ∗ (∃ d, owns (c : Thread nD τ) (st0_12 t) fullShare d)
        ∗ (∃ d, owns (c : Thread nD τ) (st0_13 t) fullShare d)
        ∗ (∃ d, owns (c : Thread nD τ) (st0_14 t) fullShare d)
        ∗ (∃ d, owns (c : Thread nD τ) (st0_15 t) fullShare d)
        ∗ (∃ d, owns (c : Thread nD τ) (st0_16 t) fullShare d)
        ∗ (∃ d, owns (c : Thread nD τ) scM fullShare d)
        ∗ (iprop(owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ owns (c : Thread nD τ) (st0_3 t) fullShare (iblk m c 3 t)
        ∗ owns (c : Thread nD τ) (st0_4 t) fullShare (iblk m c 4 t)
        ∗ owns (c : Thread nD τ) (st0_5 t) fullShare (iblk m c 5 t)
        ∗ owns (c : Thread nD τ) (st0_6 t) fullShare (iblk m c 6 t)
        ∗ owns (c : Thread nD τ) (st0_7 t) fullShare (iblk m c 7 t)
        ∗ owns (c : Thread nD τ) (st0_8 t) fullShare (iblk m c 8 t)
        ∗ owns (c : Thread nD τ) (st0_9 t) fullShare (iblk m c 9 t)
        ∗ owns (c : Thread nD τ) (st0_10 t) fullShare (iblk m c 10 t)
        ∗ owns (c : Thread nD τ) (st0_11 t) fullShare (iblk m c 11 t)
        ∗ (∃ d, owns (c : Thread nD τ) (st0_12 t) fullShare d)
        ∗ (∃ d, owns (c : Thread nD τ) (st0_13 t) fullShare d)
        ∗ (∃ d, owns (c : Thread nD τ) (st0_14 t) fullShare d)
        ∗ (∃ d, owns (c : Thread nD τ) (st0_15 t) fullShare d)
        ∗ (∃ d, owns (c : Thread nD τ) (st0_16 t) fullShare d)
        ∗ (∃ d, owns (c : Thread nD τ) scM fullShare d)) -∗ Q ⟨⟩))
      ⊢ wp frame (wpE (defs₀ (F := F)) Variants.none c none) Set.univ (bodyAt0 (F := F) t) Q :=
  body_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Q

/-- The body's obligation at every point, the outputs not named. -/
theorem body_obligation (c : Dev nD) : BodyObligationLoose (dats m 0 c) (defs₀ (F := F)) Variants.none () Set.univ fgt := fun t => by
  rw [bigSep_W0, bigSep_W0, row_eq]
  rw [show (dats m 0 c).Φ t.castSucc = _ from rest_eq c, show (dats m 0 c).Φ t.succ = _ from rest_eq c,
    show (dats m 0 c).owesAt () t.succ = (dats m 0 c).owesAt () t.castSucc from rfl]
  simp only [show fgt 0 = false from rfl, show fgt 1 = false from rfl, show fgt 2 = false from rfl, show fgt 3 = false from rfl, show fgt 4 = false from rfl, show fgt 5 = false from rfl, show fgt 6 = false from rfl, show fgt 7 = false from rfl, show fgt 8 = false from rfl, show fgt 9 = false from rfl, show fgt 10 = false from rfl, show fgt 11 = false from rfl, show fgt 12 = true from rfl, show fgt 13 = true from rfl, show fgt 14 = true from rfl, show fgt 15 = true from rfl, show fgt 16 = true from rfl]
  iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, H13, H14, H15, H16⟩
  rw [before0 m c t d0, before1 m c t d1, before2 m c t d2, before3 m c t d3, before4 m c t d4, before5 m c t d5, before6 m c t d6, before7 m c t d7, before8 m c t d8, before9 m c t d9, before10 m c t d10, before11 m c t d11]
  iapply (body_at m c t _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS]; · iexact HS
  iintro ⟨H0, H1, H2, H3, H4, H5, H6, H7, H8, H9, H10, H11, H12, H13, H14, H15, H16, HS⟩
  isplitl [HS HR]
  · isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

set_option backward.isDefEq.respectTransparency.types false in
/-- The launch: every argument's array ends as it was, and every semaphore counter at zero. -/
theorem run_main : θ_run defs (onTc (τ := τ) (main (F := F))) (s₀ m ρ)
    (fun r => RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := fun _ _ => rfl) (hΦ := fun _ _ => rfl)

/-- The arguments end as they were. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun r h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    (h.1.arr_in c 3 rfl).trans (V_main_arg3 m c),
    (h.1.arr_in c 4 rfl).trans (V_main_arg4 m c),
    (h.1.arr_in c 5 rfl).trans (V_main_arg5 m c),
    (h.1.arr_in c 8 rfl).trans (V_main_arg6 m c),
    (h.1.arr_in c 9 rfl).trans (V_main_arg7 m c),
    (h.1.arr_in c 10 rfl).trans (V_main_arg8 m c),
    (h.1.arr_in c 11 rfl).trans (V_main_arg9 m c)⟩, h.2⟩) (run_main m ρ)

end Cert.Proof.Mix

end
-- ==== Proof.Mix.Frames.lean ====
/-
  The two programs of the sample path's mixer run and leave their arguments as they were.
-/
module

public import proofs.«01_k».proof.Defs
public import proofs.«01_k».proof.Proof.Gen.Kernel11
public import proofs.«01_k».proof.Proof.Mix.Run

@[expose] public section

noncomputable section

namespace Cert.Proof.Mix

open Idealize.ShloMosaic Idealize.SL.Sem

set_option maxRecDepth 65536 in
set_option maxHeartbeats 4000000 in
/-- The two printings of the kernel have the same body. -/
theorem bodies_eq : Cert.Kernel11.defs₀ (F := Bits) = Cert.Kernel11Ideal.defs₀ (F := Bits) := by
  unfold Cert.Kernel11.defs₀ Cert.Kernel11Ideal.defs₀
  refine congrArg Defs.onTc (funext fun ℓ => funext fun a => ?_)
  match ℓ, a with
  | ⟨0, _⟩, (t, s) => rfl
  | ⟨_ + 1, h⟩, _ => exact absurd h (Nat.not_lt.2 (Nat.le_add_left _ _))

theorem defs_eq : Cert.Kernel11.defs (F := Bits) = Cert.Kernel11Ideal.defs (F := Bits) :=
  congrArg (Pipeline.defs Cert.Kernel11Ideal.pcfgs) bodies_eq

/-- The kernel at the bits: the same run, read there. -/
theorem frame_kernel : Cert.quiescent_Kernel11 := fun m ρ _ => by
  rw [defs_eq]
  exact frame_main (F := Bits) m ρ

/-- The kernel at the ideal instance. -/
theorem frame_kernelIdeal : Cert.quiescent_Kernel11Ideal := fun m ρ _ => frame_main (F := Ideal) m ρ

end Cert.Proof.Mix

end
-- ==== Proof.lean ====
module

public import proofs.«01_k».proof.Proof.Gen.Kernel11
public import proofs.«01_k».proof.Proof.Gen.Kernel11Ideal
public import proofs.«01_k».proof.Proof.Gen.Kernel11Ideal.Skeleton
public import proofs.«01_k».proof.Proof.Gen.Kernel11Ideal.Frame
public import proofs.«01_k».proof.Proof.Gen.Kernel2
public import proofs.«01_k».proof.Proof.Gen.Kernel2Ideal
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal
public import proofs.«01_k».proof.Proof.Gen.Kernel9Ideal.Skeleton
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10Ideal
public import proofs.«01_k».proof.Proof.Gen.Kernel10Ideal.Skeleton
public import proofs.«01_k».proof.Proof.Gen.Kernel10Ideal.Frame
public import proofs.«01_k».proof.Proof.Gen.Reference10Ideal
public import proofs.«01_k».proof.Proof.Gen.Reference10Ideal.Run
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Up.Frames
public import proofs.«01_k».proof.Proof.Up.Algebraic
public import proofs.«01_k».proof.Proof.Down.Frames
public import proofs.«01_k».proof.Proof.Down.Algebraic
public import proofs.«01_k».proof.Proof.In.Frames
public import proofs.«01_k».proof.Proof.In.Algebraic
public import proofs.«01_k».proof.Proof.Sample.Frames
public import proofs.«01_k».proof.Proof.Sample.Algebraic
public import proofs.«01_k».proof.Proof.Out.Frames
public import proofs.«01_k».proof.Proof.Out.Algebraic
public import proofs.«01_k».proof.Proof.Cache.Frames
public import proofs.«01_k».proof.Proof.Cache.Algebraic
public import proofs.«01_k».proof.Proof.Ada.Frames
public import proofs.«01_k».proof.Proof.Ada.Algebraic
public import proofs.«01_k».proof.Proof.SampleOut.Frames
public import proofs.«01_k».proof.Proof.SampleOut.Algebraic
public import proofs.«01_k».proof.Proof.SampleIn.Frames
public import proofs.«01_k».proof.Proof.SampleIn.Algebraic
public import proofs.«01_k».proof.Proof.Split.Frames
public import proofs.«01_k».proof.Proof.Split.Algebraic
public import proofs.«01_k».proof.Proof.Mix.Frames

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts,
  Up.frame_kernel, Up.frame_kernelIdeal, Up.frame_reference, Down.frame_kernel, Down.frame_kernelIdeal, Down.frame_reference,
  In.frame_kernel, In.frame_kernelIdeal, In.frame_reference, Sample.frame_kernel, Sample.frame_kernelIdeal, Sample.frame_reference,
  Out.frame_kernel, Out.frame_kernelIdeal, Out.frame_reference, Cached.frame_kernel, Cached.frame_kernelIdeal, Cached.frame_reference,
  Ada.frame_kernel, Ada.frame_kernelIdeal, Ada.frame_reference,
  SampleOut.frame_kernel, SampleOut.frame_kernelIdeal, SampleOut.frame_reference,
  SampleIn.frame_kernel, SampleIn.frame_kernelIdeal, SampleIn.frame_reference,
  Split.frame_kernel, Split.frame_kernelIdeal, Split.frame_reference,
  Mix.frame_kernel, Mix.frame_kernelIdeal,
  trivial, Up.algebraic, trivial, Down.algebraic, trivial, In.algebraic, trivial, Sample.algebraic, trivial, Out.algebraic,
  trivial, Cached.algebraic, trivial, Ada.algebraic, trivial, SampleOut.algebraic, trivial, SampleIn.algebraic,
  trivial, Split.algebraic, trivial⟩

end Cert.Proof

end
